-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14)
      ∧ r.2.mem ((c.tc : Thread Cert.Kernel2.nD Cert.Kernel2.τ).loc Cert.Kernel2.main_arg15) = m ((c.tc : Thread Cert.Kernel2.nD Cert.Kernel2.τ).loc Cert.Kernel2.main_arg15)
      ∧ r.2.mem ((c.tc : Thread Cert.Kernel2.nD Cert.Kernel2.τ).loc Cert.Kernel2.main_arg16) = m ((c.tc : Thread Cert.Kernel2.nD Cert.Kernel2.τ).loc Cert.Kernel2.main_arg16))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
      ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15)
      ∧ r.2.mem ((c.tc : Thread Cert.Reference2Ideal.nD Cert.Reference2Ideal.τ).loc Cert.Reference2Ideal.main_arg16) = m ((c.tc : Thread Cert.Reference2Ideal.nD Cert.Reference2Ideal.τ).loc Cert.Reference2Ideal.main_arg16))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12)
      ∧ r.2.mem ((c.tc : Thread Cert.Kernel5.nD Cert.Kernel5.τ).loc Cert.Kernel5.main_arg13) = m ((c.tc : Thread Cert.Kernel5.nD Cert.Kernel5.τ).loc Cert.Kernel5.main_arg13)
      ∧ r.2.mem ((c.tc : Thread Cert.Kernel5.nD Cert.Kernel5.τ).loc Cert.Kernel5.main_arg14) = m ((c.tc : Thread Cert.Kernel5.nD Cert.Kernel5.τ).loc Cert.Kernel5.main_arg14)
      ∧ r.2.mem ((c.tc : Thread Cert.Kernel5.nD Cert.Kernel5.τ).loc Cert.Kernel5.main_arg15) = m ((c.tc : Thread Cert.Kernel5.nD Cert.Kernel5.τ).loc Cert.Kernel5.main_arg15)
      ∧ r.2.mem ((c.tc : Thread Cert.Kernel5.nD Cert.Kernel5.τ).loc Cert.Kernel5.main_arg16) = m ((c.tc : Thread Cert.Kernel5.nD Cert.Kernel5.τ).loc Cert.Kernel5.main_arg16))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
      ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14)
      ∧ r.2.mem ((c.tc : Thread Cert.Kernel5Ideal.nD Cert.Kernel5Ideal.τ).loc Cert.Kernel5Ideal.main_arg15) = m ((c.tc : Thread Cert.Kernel5Ideal.nD Cert.Kernel5Ideal.τ).loc Cert.Kernel5Ideal.main_arg15)
      ∧ r.2.mem ((c.tc : Thread Cert.Kernel5Ideal.nD Cert.Kernel5Ideal.τ).loc Cert.Kernel5Ideal.main_arg16) = m ((c.tc : Thread Cert.Kernel5Ideal.nD Cert.Kernel5Ideal.τ).loc Cert.Kernel5Ideal.main_arg16))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13)
      ∧ r.2.mem ((c.tc : Thread Cert.Reference5Ideal.nD Cert.Reference5Ideal.τ).loc Cert.Reference5Ideal.main_arg14) = m ((c.tc : Thread Cert.Reference5Ideal.nD Cert.Reference5Ideal.τ).loc Cert.Reference5Ideal.main_arg14)
      ∧ r.2.mem ((c.tc : Thread Cert.Reference5Ideal.nD Cert.Reference5Ideal.τ).loc Cert.Reference5Ideal.main_arg15) = m ((c.tc : Thread Cert.Reference5Ideal.nD Cert.Reference5Ideal.τ).loc Cert.Reference5Ideal.main_arg15)
      ∧ r.2.mem ((c.tc : Thread Cert.Reference5Ideal.nD Cert.Reference5Ideal.τ).loc Cert.Reference5Ideal.main_arg16) = m ((c.tc : Thread Cert.Reference5Ideal.nD Cert.Reference5Ideal.τ).loc Cert.Reference5Ideal.main_arg16))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v87_0)) (v1 : (c : Dev Cert.KernelIdeal.nD) → Buf (Elt Ideal) ((c.tc : Thread Cert.KernelIdeal.nD Cert.KernelIdeal.τ).loc Cert.KernelIdeal.main_v87_1)) (v2 : (c : Dev Cert.KernelIdeal.nD) → Buf (Elt Ideal) ((c.tc : Thread Cert.KernelIdeal.nD Cert.KernelIdeal.τ).loc Cert.KernelIdeal.main_v87_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87_0) = v0 c
          ∧ r.2.mem ((c.tc : Thread Cert.KernelIdeal.nD Cert.KernelIdeal.τ).loc Cert.KernelIdeal.main_v87_1) = v1 c
          ∧ r.2.mem ((c.tc : Thread Cert.KernelIdeal.nD Cert.KernelIdeal.τ).loc Cert.KernelIdeal.main_v87_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v178) = v0 c
          ∧ r.2.mem ((c.tc : Thread Cert.ReferenceIdeal.nD Cert.ReferenceIdeal.τ).loc Cert.ReferenceIdeal.main_v179) = v1 c
          ∧ r.2.mem ((c.tc : Thread Cert.ReferenceIdeal.nD Cert.ReferenceIdeal.τ).loc Cert.ReferenceIdeal.main_v180) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)
      ∧ m' ((c.tc : Thread Cert.Reference2Ideal.nD Cert.Reference2Ideal.τ).loc Cert.Reference2Ideal.main_arg15) = m ((c.tc : Thread Cert.Kernel2Ideal.nD Cert.Kernel2Ideal.τ).loc Cert.Kernel2Ideal.main_arg15)
      ∧ m' ((c.tc : Thread Cert.Reference2Ideal.nD Cert.Reference2Ideal.τ).loc Cert.Reference2Ideal.main_arg16) = m ((c.tc : Thread Cert.Kernel2Ideal.nD Cert.Kernel2Ideal.τ).loc Cert.Kernel2Ideal.main_arg16)) →
    ∃ (v0 : (c : Dev Cert.Kernel2Ideal.nD) → Buf (Elt Ideal) ((c.tc : Thread Cert.Kernel2Ideal.nD Cert.Kernel2Ideal.τ).loc Cert.Kernel2Ideal.main_v20)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v20) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
          ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
          ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v87) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14)
          ∧ r.2.mem ((c.tc : Thread Cert.Reference2Ideal.nD Cert.Reference2Ideal.τ).loc Cert.Reference2Ideal.main_arg15) = m' ((c.tc : Thread Cert.Reference2Ideal.nD Cert.Reference2Ideal.τ).loc Cert.Reference2Ideal.main_arg15)
          ∧ r.2.mem ((c.tc : Thread Cert.Reference2Ideal.nD Cert.Reference2Ideal.τ).loc Cert.Reference2Ideal.main_arg16) = m' ((c.tc : Thread Cert.Reference2Ideal.nD Cert.Reference2Ideal.τ).loc Cert.Reference2Ideal.main_arg16))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v28_0)) (v1 : (c : Dev Cert.Kernel3Ideal.nD) → Buf (Elt Ideal) ((c.tc : Thread Cert.Kernel3Ideal.nD Cert.Kernel3Ideal.τ).loc Cert.Kernel3Ideal.main_v28_2)) (v2 : (c : Dev Cert.Kernel3Ideal.nD) → Buf (Elt Ideal) ((c.tc : Thread Cert.Kernel3Ideal.nD Cert.Kernel3Ideal.τ).loc Cert.Kernel3Ideal.main_v28_3)) (v3 : (c : Dev Cert.Kernel3Ideal.nD) → Buf (Elt Ideal) ((c.tc : Thread Cert.Kernel3Ideal.nD Cert.Kernel3Ideal.τ).loc Cert.Kernel3Ideal.main_v28_4)) (v4 : (c : Dev Cert.Kernel3Ideal.nD) → Buf (Elt Ideal) ((c.tc : Thread Cert.Kernel3Ideal.nD Cert.Kernel3Ideal.τ).loc Cert.Kernel3Ideal.main_v28_7)) (v5 : (c : Dev Cert.Kernel3Ideal.nD) → Buf (Elt Ideal) ((c.tc : Thread Cert.Kernel3Ideal.nD Cert.Kernel3Ideal.τ).loc Cert.Kernel3Ideal.main_v28_10)) (v6 : (c : Dev Cert.Kernel3Ideal.nD) → Buf (Elt Ideal) ((c.tc : Thread Cert.Kernel3Ideal.nD Cert.Kernel3Ideal.τ).loc Cert.Kernel3Ideal.main_v28_11)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v28_0) = v0 c
          ∧ r.2.mem ((c.tc : Thread Cert.Kernel3Ideal.nD Cert.Kernel3Ideal.τ).loc Cert.Kernel3Ideal.main_v28_2) = v1 c
          ∧ r.2.mem ((c.tc : Thread Cert.Kernel3Ideal.nD Cert.Kernel3Ideal.τ).loc Cert.Kernel3Ideal.main_v28_3) = v2 c
          ∧ r.2.mem ((c.tc : Thread Cert.Kernel3Ideal.nD Cert.Kernel3Ideal.τ).loc Cert.Kernel3Ideal.main_v28_4) = v3 c
          ∧ r.2.mem ((c.tc : Thread Cert.Kernel3Ideal.nD Cert.Kernel3Ideal.τ).loc Cert.Kernel3Ideal.main_v28_7) = v4 c
          ∧ r.2.mem ((c.tc : Thread Cert.Kernel3Ideal.nD Cert.Kernel3Ideal.τ).loc Cert.Kernel3Ideal.main_v28_10) = v5 c
          ∧ r.2.mem ((c.tc : Thread Cert.Kernel3Ideal.nD Cert.Kernel3Ideal.τ).loc Cert.Kernel3Ideal.main_v28_11) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v49) = v0 c
          ∧ r.2.mem ((c.tc : Thread Cert.Reference3Ideal.nD Cert.Reference3Ideal.τ).loc Cert.Reference3Ideal.main_v50) = v1 c
          ∧ r.2.mem ((c.tc : Thread Cert.Reference3Ideal.nD Cert.Reference3Ideal.τ).loc Cert.Reference3Ideal.main_v51) = v2 c
          ∧ r.2.mem ((c.tc : Thread Cert.Reference3Ideal.nD Cert.Reference3Ideal.τ).loc Cert.Reference3Ideal.main_v52) = v3 c
          ∧ r.2.mem ((c.tc : Thread Cert.Reference3Ideal.nD Cert.Reference3Ideal.τ).loc Cert.Reference3Ideal.main_v53) = v4 c
          ∧ r.2.mem ((c.tc : Thread Cert.Reference3Ideal.nD Cert.Reference3Ideal.τ).loc Cert.Reference3Ideal.main_v55) = v5 c
          ∧ r.2.mem ((c.tc : Thread Cert.Reference3Ideal.nD Cert.Reference3Ideal.τ).loc Cert.Reference3Ideal.main_v56) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v23_0)) (v1 : (c : Dev Cert.Kernel4Ideal.nD) → Buf (Elt Ideal) ((c.tc : Thread Cert.Kernel4Ideal.nD Cert.Kernel4Ideal.τ).loc Cert.Kernel4Ideal.main_v23_2)) (v2 : (c : Dev Cert.Kernel4Ideal.nD) → Buf (Elt Ideal) ((c.tc : Thread Cert.Kernel4Ideal.nD Cert.Kernel4Ideal.τ).loc Cert.Kernel4Ideal.main_v23_3)) (v3 : (c : Dev Cert.Kernel4Ideal.nD) → Buf (Elt Ideal) ((c.tc : Thread Cert.Kernel4Ideal.nD Cert.Kernel4Ideal.τ).loc Cert.Kernel4Ideal.main_v23_4)) (v4 : (c : Dev Cert.Kernel4Ideal.nD) → Buf (Elt Ideal) ((c.tc : Thread Cert.Kernel4Ideal.nD Cert.Kernel4Ideal.τ).loc Cert.Kernel4Ideal.main_v23_5)) (v5 : (c : Dev Cert.Kernel4Ideal.nD) → Buf (Elt Ideal) ((c.tc : Thread Cert.Kernel4Ideal.nD Cert.Kernel4Ideal.τ).loc Cert.Kernel4Ideal.main_v23_6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v23_0) = v0 c
          ∧ r.2.mem ((c.tc : Thread Cert.Kernel4Ideal.nD Cert.Kernel4Ideal.τ).loc Cert.Kernel4Ideal.main_v23_2) = v1 c
          ∧ r.2.mem ((c.tc : Thread Cert.Kernel4Ideal.nD Cert.Kernel4Ideal.τ).loc Cert.Kernel4Ideal.main_v23_3) = v2 c
          ∧ r.2.mem ((c.tc : Thread Cert.Kernel4Ideal.nD Cert.Kernel4Ideal.τ).loc Cert.Kernel4Ideal.main_v23_4) = v3 c
          ∧ r.2.mem ((c.tc : Thread Cert.Kernel4Ideal.nD Cert.Kernel4Ideal.τ).loc Cert.Kernel4Ideal.main_v23_5) = v4 c
          ∧ r.2.mem ((c.tc : Thread Cert.Kernel4Ideal.nD Cert.Kernel4Ideal.τ).loc Cert.Kernel4Ideal.main_v23_6) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v49) = v0 c
          ∧ r.2.mem ((c.tc : Thread Cert.Reference4Ideal.nD Cert.Reference4Ideal.τ).loc Cert.Reference4Ideal.main_v50) = v1 c
          ∧ r.2.mem ((c.tc : Thread Cert.Reference4Ideal.nD Cert.Reference4Ideal.τ).loc Cert.Reference4Ideal.main_v51) = v2 c
          ∧ r.2.mem ((c.tc : Thread Cert.Reference4Ideal.nD Cert.Reference4Ideal.τ).loc Cert.Reference4Ideal.main_v52) = v3 c
          ∧ r.2.mem ((c.tc : Thread Cert.Reference4Ideal.nD Cert.Reference4Ideal.τ).loc Cert.Reference4Ideal.main_v53) = v4 c
          ∧ r.2.mem ((c.tc : Thread Cert.Reference4Ideal.nD Cert.Reference4Ideal.τ).loc Cert.Reference4Ideal.main_v54) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)
      ∧ m' ((c.tc : Thread Cert.Reference5Ideal.nD Cert.Reference5Ideal.τ).loc Cert.Reference5Ideal.main_arg13) = m ((c.tc : Thread Cert.Kernel5Ideal.nD Cert.Kernel5Ideal.τ).loc Cert.Kernel5Ideal.main_arg13)
      ∧ m' ((c.tc : Thread Cert.Reference5Ideal.nD Cert.Reference5Ideal.τ).loc Cert.Reference5Ideal.main_arg14) = m ((c.tc : Thread Cert.Kernel5Ideal.nD Cert.Kernel5Ideal.τ).loc Cert.Kernel5Ideal.main_arg14)
      ∧ m' ((c.tc : Thread Cert.Reference5Ideal.nD Cert.Reference5Ideal.τ).loc Cert.Reference5Ideal.main_arg15) = m ((c.tc : Thread Cert.Kernel5Ideal.nD Cert.Kernel5Ideal.τ).loc Cert.Kernel5Ideal.main_arg15)
      ∧ m' ((c.tc : Thread Cert.Reference5Ideal.nD Cert.Reference5Ideal.τ).loc Cert.Reference5Ideal.main_arg16) = m ((c.tc : Thread Cert.Kernel5Ideal.nD Cert.Kernel5Ideal.τ).loc Cert.Kernel5Ideal.main_arg16)) →
    ∃ (v0 : (c : Dev Cert.Kernel5Ideal.nD) → Buf (Elt Ideal) ((c.tc : Thread Cert.Kernel5Ideal.nD Cert.Kernel5Ideal.τ).loc Cert.Kernel5Ideal.main_v25)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v25) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
          ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
          ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14)
          ∧ r.2.mem ((c.tc : Thread Cert.Kernel5Ideal.nD Cert.Kernel5Ideal.τ).loc Cert.Kernel5Ideal.main_arg15) = m ((c.tc : Thread Cert.Kernel5Ideal.nD Cert.Kernel5Ideal.τ).loc Cert.Kernel5Ideal.main_arg15)
          ∧ r.2.mem ((c.tc : Thread Cert.Kernel5Ideal.nD Cert.Kernel5Ideal.τ).loc Cert.Kernel5Ideal.main_arg16) = m ((c.tc : Thread Cert.Kernel5Ideal.nD Cert.Kernel5Ideal.τ).loc Cert.Kernel5Ideal.main_arg16))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v93) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12)
          ∧ r.2.mem ((c.tc : Thread Cert.Reference5Ideal.nD Cert.Reference5Ideal.τ).loc Cert.Reference5Ideal.main_arg13) = m' ((c.tc : Thread Cert.Reference5Ideal.nD Cert.Reference5Ideal.τ).loc Cert.Reference5Ideal.main_arg13)
          ∧ r.2.mem ((c.tc : Thread Cert.Reference5Ideal.nD Cert.Reference5Ideal.τ).loc Cert.Reference5Ideal.main_arg14) = m' ((c.tc : Thread Cert.Reference5Ideal.nD Cert.Reference5Ideal.τ).loc Cert.Reference5Ideal.main_arg14)
          ∧ r.2.mem ((c.tc : Thread Cert.Reference5Ideal.nD Cert.Reference5Ideal.τ).loc Cert.Reference5Ideal.main_arg15) = m' ((c.tc : Thread Cert.Reference5Ideal.nD Cert.Reference5Ideal.τ).loc Cert.Reference5Ideal.main_arg15)
          ∧ r.2.mem ((c.tc : Thread Cert.Reference5Ideal.nD Cert.Reference5Ideal.τ).loc Cert.Reference5Ideal.main_arg16) = m' ((c.tc : Thread Cert.Reference5Ideal.nD Cert.Reference5Ideal.τ).loc Cert.Reference5Ideal.main_arg16))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Kernel.lean ====
abbrev S128x4x512 : Shape := ⟨3, ![128, 4, 512]⟩
abbrev S128x32x64 : Shape := ⟨3, ![128, 32, 64]⟩
abbrev S32x64 : Shape := ⟨2, ![32, 64]⟩
abbrev S32 : Shape := ⟨1, ![32]⟩
abbrev S32x64x16 : Shape := ⟨3, ![32, 64, 16]⟩
abbrev S32x16x64 : Shape := ⟨3, ![32, 16, 64]⟩
abbrev S512 : Shape := ⟨1, ![512]⟩
abbrev S512x512 : Shape := ⟨2, ![512, 512]⟩
abbrev S4x128x512 : Shape := ⟨3, ![4, 128, 512]⟩
abbrev S32x1 : Shape := ⟨2, ![32, 1]⟩
abbrev S_ : Shape := ⟨0, ![]⟩
abbrev S32x64x1 : Shape := ⟨3, ![32, 64, 1]⟩
abbrev S16x16 : Shape := ⟨2, ![16, 16]⟩
abbrev S1x2048 : Shape := ⟨2, ![1, 2048]⟩
abbrev S2x16x16x1x64 : Shape := ⟨5, ![2, 16, 16, 1, 64]⟩
abbrev S1x16x1x16x1 : Shape := ⟨5, ![1, 16, 1, 16, 1]⟩
abbrev S2x16x16x16x64 : Shape := ⟨5, ![2, 16, 16, 16, 64]⟩
abbrev S2x256x1024 : Shape := ⟨3, ![2, 256, 1024]⟩
abbrev S2x16x64x1x16 : Shape := ⟨5, ![2, 16, 64, 1, 16]⟩
abbrev S2x16x64x16x16 : Shape := ⟨5, ![2, 16, 64, 16, 16]⟩
abbrev S2x1024x256 : Shape := ⟨3, ![2, 1024, 256]⟩
abbrev S1x512 : Shape := ⟨2, ![1, 512]⟩
abbrev S128x2048 : Shape := ⟨2, ![128, 2048]⟩
abbrev S512x2048 : Shape := ⟨2, ![512, 2048]⟩
abbrev S512x256 : Shape := ⟨2, ![512, 256]⟩
abbrev S1x256x1024 : Shape := ⟨3, ![1, 256, 1024]⟩
abbrev S256x1024 : Shape := ⟨2, ![256, 1024]⟩
abbrev S512x1024 : Shape := ⟨2, ![512, 1024]⟩
abbrev S8x512 : Shape := ⟨2, ![8, 512]⟩
abbrev S1x1024x256 : Shape := ⟨3, ![1, 1024, 256]⟩
abbrev S1024x256 : Shape := ⟨2, ![1024, 256]⟩

abbrev nBuf : Space → Nat
  | .hbm => 105
  | .vmem => 18
  | .smem => 0
  | _ => 0

abbrev bufTy : (tb : Table) → Fin (tcTables nBuf tb) → BufTy
  | .hbm, ⟨0, _⟩ => ⟨S128x4x512, .f32⟩
  | .hbm, ⟨1, _⟩ => ⟨S128x32x64, .f32⟩
  | .hbm, ⟨2, _⟩ => ⟨S128x32x64, .f32⟩
  | .hbm, ⟨3, _⟩ => ⟨S32x64, .f32⟩
  | .hbm, ⟨4, _⟩ => ⟨S32x64, .f32⟩
  | .hbm, ⟨5, _⟩ => ⟨S32, .f32⟩
  | .hbm, ⟨6, _⟩ => ⟨S32x64x16, .f32⟩
  | .hbm, ⟨7, _⟩ => ⟨S32x64x16, .f32⟩
  | .hbm, ⟨8, _⟩ => ⟨S32x16x64, .f32⟩
  | .hbm, ⟨9, _⟩ => ⟨S32x16x64, .f32⟩
  | .hbm, ⟨10, _⟩ => ⟨S512, .f32⟩
  | .hbm, ⟨11, _⟩ => ⟨S512x512, .f32⟩
  | .hbm, ⟨12, _⟩ => ⟨S4x128x512, .f32⟩
  | .hbm, ⟨13, _⟩ => ⟨S32, .f32⟩
  | .hbm, ⟨14, _⟩ => ⟨S32x1, .f32⟩
  | .hbm, ⟨15, _⟩ => ⟨S32x64, .f32⟩
  | .hbm, ⟨16, _⟩ => ⟨S32x64, .f32⟩
  | .hbm, ⟨17, _⟩ => ⟨S32x64, .f32⟩
  | .hbm, ⟨18, _⟩ => ⟨S32x64, .f32⟩
  | .hbm, ⟨19, _⟩ => ⟨S32x64, .f32⟩
  | .hbm, ⟨20, _⟩ => ⟨S32x64, .f32⟩
  | .hbm, ⟨21, _⟩ => ⟨S32x64, .f32⟩
  | .hbm, ⟨22, _⟩ => ⟨S32x64, .f32⟩
  | .hbm, ⟨23, _⟩ => ⟨S32x64, .f32⟩
  | .hbm, ⟨24, _⟩ => ⟨S32x64, .f32⟩
  | .hbm, ⟨25, _⟩ => ⟨S32x64, .f32⟩
  | .hbm, ⟨26, _⟩ => ⟨S32x64, .f32⟩
  | .hbm, ⟨27, _⟩ => ⟨S32x64, .f32⟩
  | .hbm, ⟨28, _⟩ => ⟨S32x64, .f32⟩
  | .hbm, ⟨29, _⟩ => ⟨S_, .f32⟩
  | .hbm, ⟨30, _⟩ => ⟨S32x64, .f32⟩
  | .hbm, ⟨31, _⟩ => ⟨S32x64, .f32⟩
  | .hbm, ⟨32, _⟩ => ⟨S32x64, .f32⟩
  | .hbm, ⟨33, _⟩ => ⟨S32x64, .f32⟩
  | .hbm, ⟨34, _⟩ => ⟨S32x64, .f32⟩
  | .hbm, ⟨35, _⟩ => ⟨S32x64, .f32⟩
  | .hbm, ⟨36, _⟩ => ⟨S32x64, .f32⟩
  | .hbm, ⟨37, _⟩ => ⟨S_, .f32⟩
  | .hbm, ⟨38, _⟩ => ⟨S32x64, .f32⟩
  | .hbm, ⟨39, _⟩ => ⟨S32x64, .f32⟩
  | .hbm, ⟨40, _⟩ => ⟨S32x64, .f32⟩
  | .hbm, ⟨41, _⟩ => ⟨S32x64, .f32⟩
  | .hbm, ⟨42, _⟩ => ⟨S32x64, .f32⟩
  | .hbm, ⟨43, _⟩ => ⟨S32x64x1, .f32⟩
  | .hbm, ⟨44, _⟩ => ⟨S32x64x16, .f32⟩
  | .hbm, ⟨45, _⟩ => ⟨S32x64x16, .f32⟩
  | .hbm, ⟨46, _⟩ => ⟨S32x64x1, .f32⟩
  | .hbm, ⟨47, _⟩ => ⟨S32x64x16, .f32⟩
  | .hbm, ⟨48, _⟩ => ⟨S32x64x16, .f32⟩
  | .hbm, ⟨49, _⟩ => ⟨S32x64x16, .f32⟩
  | .hbm, ⟨50, _⟩ => ⟨S32x64x1, .f32⟩
  | .hbm, ⟨51, _⟩ => ⟨S32x64x16, .f32⟩
  | .hbm, ⟨52, _⟩ => ⟨S32x64x16, .f32⟩
  | .hbm, ⟨53, _⟩ => ⟨S32x64x1, .f32⟩
  | .hbm, ⟨54, _⟩ => ⟨S32x64x16, .f32⟩
  | .hbm, ⟨55, _⟩ => ⟨S32x64x16, .f32⟩
  | .hbm, ⟨56, _⟩ => ⟨S32x64x16, .f32⟩
  | .hbm, ⟨57, _⟩ => ⟨S16x16, .i32⟩
  | .hbm, ⟨58, _⟩ => ⟨S16x16, .i32⟩
  | .hbm, ⟨59, _⟩ => ⟨S_, .i32⟩
  | .hbm, ⟨60, _⟩ => ⟨S16x16, .i32⟩
  | .hbm, ⟨61, _⟩ => ⟨S16x16, .i32⟩
  | .hbm, ⟨62, _⟩ => ⟨S16x16, .i1⟩
  | .hbm, ⟨63, _⟩ => ⟨S16x16, .f32⟩
  | .hbm, ⟨64, _⟩ => ⟨S1x2048, .f32⟩
  | .hbm, ⟨65, _⟩ => ⟨S1x2048, .f32⟩
  | .hbm, ⟨66, _⟩ => ⟨S32x16x64, .f32⟩
  | .hbm, ⟨67, _⟩ => ⟨S2x16x16x1x64, .f32⟩
  | .hbm, ⟨68, _⟩ => ⟨S1x16x1x16x1, .f32⟩
  | .hbm, ⟨69, _⟩ => ⟨S2x16x16x16x64, .f32⟩
  | .hbm, ⟨70, _⟩ => ⟨S2x16x16x16x64, .f32⟩
  | .hbm, ⟨71, _⟩ => ⟨S2x16x16x16x64, .f32⟩
  | .hbm, ⟨72, _⟩ => ⟨S2x256x1024, .f32⟩
  | .hbm, ⟨73, _⟩ => ⟨S2x256x1024, .bf16⟩
  | .hbm, ⟨74, _⟩ => ⟨S32x16x64, .f32⟩
  | .hbm, ⟨75, _⟩ => ⟨S2x16x16x1x64, .f32⟩
  | .hbm, ⟨76, _⟩ => ⟨S1x16x1x16x1, .f32⟩
  | .hbm, ⟨77, _⟩ => ⟨S2x16x16x16x64, .f32⟩
  | .hbm, ⟨78, _⟩ => ⟨S2x16x16x16x64, .f32⟩
  | .hbm, ⟨79, _⟩ => ⟨S2x16x16x16x64, .f32⟩
  | .hbm, ⟨80, _⟩ => ⟨S2x256x1024, .f32⟩
  | .hbm, ⟨81, _⟩ => ⟨S2x256x1024, .bf16⟩
  | .hbm, ⟨82, _⟩ => ⟨S32x64x16, .f32⟩
  | .hbm, ⟨83, _⟩ => ⟨S2x16x64x1x16, .f32⟩
  | .hbm, ⟨84, _⟩ => ⟨S1x16x1x16x1, .f32⟩
  | .hbm, ⟨85, _⟩ => ⟨S2x16x64x16x16, .f32⟩
  | .hbm, ⟨86, _⟩ => ⟨S2x16x64x16x16, .f32⟩
  | .hbm, ⟨87, _⟩ => ⟨S2x16x64x16x16, .f32⟩
  | .hbm, ⟨88, _⟩ => ⟨S2x1024x256, .f32⟩
  | .hbm, ⟨89, _⟩ => ⟨S2x1024x256, .bf16⟩
  | .hbm, ⟨90, _⟩ => ⟨S32x64x16, .f32⟩
  | .hbm, ⟨91, _⟩ => ⟨S2x16x64x1x16, .f32⟩
  | .hbm, ⟨92, _⟩ => ⟨S1x16x1x16x1, .f32⟩
  | .hbm, ⟨93, _⟩ => ⟨S2x16x64x16x16, .f32⟩
  | .hbm, ⟨94, _⟩ => ⟨S2x16x64x16x16, .f32⟩
  | .hbm, ⟨95, _⟩ => ⟨S2x16x64x16x16, .f32⟩
  | .hbm, ⟨96, _⟩ => ⟨S2x1024x256, .f32⟩
  | .hbm, ⟨97, _⟩ => ⟨S2x1024x256, .bf16⟩
  | .hbm, ⟨98, _⟩ => ⟨S1x512, .f32⟩
  | .hbm, ⟨99, _⟩ => ⟨S512x512, .bf16⟩
  | .hbm, ⟨100, _⟩ => ⟨S128x2048, .f32⟩
  | .hbm, ⟨101, _⟩ => ⟨S128x2048, .f32⟩
  | .hbm, ⟨102, _⟩ => ⟨S4x128x512, .f32⟩
  | .hbm, ⟨103, _⟩ => ⟨S128x2048, .f32⟩
  | .hbm, ⟨104, _⟩ => ⟨S128x2048, .f32⟩
  | .local _ .vmem, ⟨0, _⟩ => ⟨S4x128x512, .f32⟩
  | .local _ .vmem, ⟨1, _⟩ => ⟨S128x2048, .f32⟩
  | .local _ .vmem, ⟨2, _⟩ => ⟨S128x2048, .f32⟩
  | .local _ .vmem, ⟨3, _⟩ => ⟨S1x2048, .f32⟩
  | .local _ .vmem, ⟨4, _⟩ => ⟨S1x2048, .f32⟩
  | .local _ .vmem, ⟨5, _⟩ => ⟨S2x256x1024, .bf16⟩
  | .local _ .vmem, ⟨6, _⟩ => ⟨S2x256x1024, .bf16⟩
  | .local _ .vmem, ⟨7, _⟩ => ⟨S2x1024x256, .bf16⟩
  | .local _ .vmem, ⟨8, _⟩ => ⟨S2x1024x256, .bf16⟩
  | .local _ .vmem, ⟨9, _⟩ => ⟨S1x512, .f32⟩
  | .local _ .vmem, ⟨10, _⟩ => ⟨S512x512, .bf16⟩
  | .local _ .vmem, ⟨11, _⟩ => ⟨S4x128x512, .f32⟩
  | .local _ .vmem, ⟨12, _⟩ => ⟨S128x2048, .f32⟩
  | .local _ .vmem, ⟨13, _⟩ => ⟨S128x2048, .f32⟩
  | .local _ .vmem, ⟨14, _⟩ => ⟨S512x2048, .f32⟩
  | .local _ .vmem, ⟨15, _⟩ => ⟨S512x2048, .f32⟩
  | .local _ .vmem, ⟨16, _⟩ => ⟨S128x2048, .f32⟩
  | .local _ .vmem, ⟨17, _⟩ => ⟨S128x2048, .f32⟩
  | _, _ => ⟨S128x4x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_0 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_c : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87_0 : Ref sig .tc := ⟨.hbm, 102, rfl⟩
abbrev main_v87_1 : Ref sig .tc := ⟨.hbm, 103, rfl⟩
abbrev main_v87_2 : Ref sig .tc := ⟨.hbm, 104, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := ⟨1, ![1], ![false]⟩

@[reducible] def k0_t1_loop : Scf.Loop 32 :=
  let c0_i32_24 : BitVec 32 := 0#32
  let c16_i32 : BitVec 32 := 16#32
  let v33 : BitVec 32 := Scalar.addi c0_i32_24 c16_i32
  let c1_i32 : BitVec 32 := 1#32
  ⟨c0_i32_24, v33, c1_i32⟩
def k0_mult1 (k0_t1 : Fin k0_t1_loop.trips) : BitVec 32 :=
  let c0_i32_24 : BitVec 32 := 0#32
  let c1_i32 : BitVec 32 := 1#32
  let arg19 : BitVec 32 := Scf.iv c0_i32_24 c1_i32 k0_t1
  let c8_i32 : BitVec 32 := 8#32
  let v86 : BitVec 32 := Scalar.muli arg19 c8_i32
  v86
def k0_off1 (k0_t1 : Fin k0_t1_loop.trips) : Fin 2 → Nat :=
  let c0_i32_24 : BitVec 32 := 0#32
  let c1_i32 : BitVec 32 := 1#32
  let arg19 : BitVec 32 := Scf.iv c0_i32_24 c1_i32 k0_t1
  let c8_i32 : BitVec 32 := 8#32
  let v86 : BitVec 32 := Scalar.muli arg19 c8_i32
  let v87 : BitVec 32 := v86
  let v96 : Index := Scalar.indexCast v87
  let c0_68 : Index := 0#32
  ![v96.toNat, 0]
def k0_mult2 (k0_t1 : Fin k0_t1_loop.trips) : BitVec 32 :=
  let c0_i32_70 : BitVec 32 := 0#32
  let c128_i32 : BitVec 32 := 128#32
  let v100 : BitVec 32 := Scalar.muli c0_i32_70 c128_i32
  let c0_i32_24 : BitVec 32 := 0#32
  let c1_i32 : BitVec 32 := 1#32
  let arg19 : BitVec 32 := Scf.iv c0_i32_24 c1_i32 k0_t1
  let c8_i32 : BitVec 32 := 8#32
  let v86 : BitVec 32 := Scalar.muli arg19 c8_i32
  let v87 : BitVec 32 := v86
  let v101 : BitVec 32 := Scalar.addi v100 v87
  v101
def k0_off2 (k0_t1 : Fin k0_t1_loop.trips) (c0_i32_70 : BitVec 32) : Fin 2 → Nat :=
  let c128_i32 : BitVec 32 := 128#32
  let v100 : BitVec 32 := Scalar.muli c0_i32_70 c128_i32
  let c0_i32_24 : BitVec 32 := 0#32
  let c1_i32 : BitVec 32 := 1#32
  let arg19 : BitVec 32 := Scf.iv c0_i32_24 c1_i32 k0_t1
  let c8_i32 : BitVec 32 := 8#32
  let v86 : BitVec 32 := Scalar.muli arg19 c8_i32
  let v87 : BitVec 32 := v86
  let v101 : BitVec 32 := Scalar.addi v100 v87
  let v102 : BitVec 32 := v101
  let v106 : Index := Scalar.indexCast v102
  let c0_71 : Index := 0#32
  ![v106.toNat, 0]
def k0_mult3 (k0_t1 : Fin k0_t1_loop.trips) : BitVec 32 :=
  let c1_i32_75 : BitVec 32 := 1#32
  let c128_i32_76 : BitVec 32 := 128#32
  let v123 : BitVec 32 := Scalar.muli c1_i32_75 c128_i32_76
  let c0_i32_24 : BitVec 32 := 0#32
  let c1_i32 : BitVec 32 := 1#32
  let arg19 : BitVec 32 := Scf.iv c0_i32_24 c1_i32 k0_t1
  let c8_i32 : BitVec 32 := 8#32
  let v86 : BitVec 32 := Scalar.muli arg19 c8_i32
  let v87 : BitVec 32 := v86
  let v124 : BitVec 32 := Scalar.addi v123 v87
  v124
def k0_mult4 (k0_t1 : Fin k0_t1_loop.trips) : BitVec 32 :=
  let c2_i32 : BitVec 32 := 2#32
  let c128_i32_81 : BitVec 32 := 128#32
  let v146 : BitVec 32 := Scalar.muli c2_i32 c128_i32_81
  let c0_i32_24 : BitVec 32 := 0#32
  let c1_i32 : BitVec 32 := 1#32
  let arg19 : BitVec 32 := Scf.iv c0_i32_24 c1_i32 k0_t1
  let c8_i32 : BitVec 32 := 8#32
  let v86 : BitVec 32 := Scalar.muli arg19 c8_i32
  let v87 : BitVec 32 := v86
  let v147 : BitVec 32 := Scalar.addi v146 v87
  v147
def k0_mult5 (k0_t1 : Fin k0_t1_loop.trips) : BitVec 32 :=
  let c3_i32 : BitVec 32 := 3#32
  let c128_i32_86 : BitVec 32 := 128#32
  let v169 : BitVec 32 := Scalar.muli c3_i32 c128_i32_86
  let c0_i32_24 : BitVec 32 := 0#32
  let c1_i32 : BitVec 32 := 1#32
  let arg19 : BitVec 32 := Scf.iv c0_i32_24 c1_i32 k0_t1
  let c8_i32 : BitVec 32 := 8#32
  let v86 : BitVec 32 := Scalar.muli arg19 c8_i32
  let v87 : BitVec 32 := v86
  let v170 : BitVec 32 := Scalar.addi v169 v87
  v170
def k0_off3 (k0_t1 : Fin k0_t1_loop.trips) : Fin 2 → Nat :=
  let c0_i32_24 : BitVec 32 := 0#32
  let c1_i32 : BitVec 32 := 1#32
  let arg19 : BitVec 32 := Scf.iv c0_i32_24 c1_i32 k0_t1
  let c8_i32 : BitVec 32 := 8#32
  let v86 : BitVec 32 := Scalar.muli arg19 c8_i32
  let v87 : BitVec 32 := v86
  let v208 : Index := Scalar.indexCast v87
  let c512_96 : Index := 512#32
  ![v208.toNat, 512]
def k0_mult6 (k0_t1 : Fin k0_t1_loop.trips) : BitVec 32 :=
  let c0_i32_98 : BitVec 32 := 0#32
  let c128_i32_99 : BitVec 32 := 128#32
  let v212 : BitVec 32 := Scalar.muli c0_i32_98 c128_i32_99
  let c0_i32_24 : BitVec 32 := 0#32
  let c1_i32 : BitVec 32 := 1#32
  let arg19 : BitVec 32 := Scf.iv c0_i32_24 c1_i32 k0_t1
  let c8_i32 : BitVec 32 := 8#32
  let v86 : BitVec 32 := Scalar.muli arg19 c8_i32
  let v87 : BitVec 32 := v86
  let v213 : BitVec 32 := Scalar.addi v212 v87
  v213
def k0_off4 (k0_t1 : Fin k0_t1_loop.trips) (c0_i32_98 : BitVec 32) : Fin 2 → Nat :=
  let c128_i32_99 : BitVec 32 := 128#32
  let v212 : BitVec 32 := Scalar.muli c0_i32_98 c128_i32_99
  let c0_i32_24 : BitVec 32 := 0#32
  let c1_i32 : BitVec 32 := 1#32
  let arg19 : BitVec 32 := Scf.iv c0_i32_24 c1_i32 k0_t1
  let c8_i32 : BitVec 32 := 8#32
  let v86 : BitVec 32 := Scalar.muli arg19 c8_i32
  let v87 : BitVec 32 := v86
  let v213 : BitVec 32 := Scalar.addi v212 v87
  let v214 : BitVec 32 := v213
  let v218 : Index := Scalar.indexCast v214
  let c512_100 : Index := 512#32
  ![v218.toNat, 512]
def k0_mult7 (k0_t1 : Fin k0_t1_loop.trips) : BitVec 32 :=
  let c1_i32_104 : BitVec 32 := 1#32
  let c128_i32_105 : BitVec 32 := 128#32
  let v235 : BitVec 32 := Scalar.muli c1_i32_104 c128_i32_105
  let c0_i32_24 : BitVec 32 := 0#32
  let c1_i32 : BitVec 32 := 1#32
  let arg19 : BitVec 32 := Scf.iv c0_i32_24 c1_i32 k0_t1
  let c8_i32 : BitVec 32 := 8#32
  let v86 : BitVec 32 := Scalar.muli arg19 c8_i32
  let v87 : BitVec 32 := v86
  let v236 : BitVec 32 := Scalar.addi v235 v87
  v236
def k0_mult8 (k0_t1 : Fin k0_t1_loop.trips) : BitVec 32 :=
  let c2_i32_110 : BitVec 32 := 2#32
  let c128_i32_111 : BitVec 32 := 128#32
  let v258 : BitVec 32 := Scalar.muli c2_i32_110 c128_i32_111
  let c0_i32_24 : BitVec 32 := 0#32
  let c1_i32 : BitVec 32 := 1#32
  let arg19 : BitVec 32 := Scf.iv c0_i32_24 c1_i32 k0_t1
  let c8_i32 : BitVec 32 := 8#32
  let v86 : BitVec 32 := Scalar.muli arg19 c8_i32
  let v87 : BitVec 32 := v86
  let v259 : BitVec 32 := Scalar.addi v258 v87
  v259
def k0_mult9 (k0_t1 : Fin k0_t1_loop.trips) : BitVec 32 :=
  let c3_i32_116 : BitVec 32 := 3#32
  let c128_i32_117 : BitVec 32 := 128#32
  let v281 : BitVec 32 := Scalar.muli c3_i32_116 c128_i32_117
  let c0_i32_24 : BitVec 32 := 0#32
  let c1_i32 : BitVec 32 := 1#32
  let arg19 : BitVec 32 := Scf.iv c0_i32_24 c1_i32 k0_t1
  let c8_i32 : BitVec 32 := 8#32
  let v86 : BitVec 32 := Scalar.muli arg19 c8_i32
  let v87 : BitVec 32 := v86
  let v282 : BitVec 32 := Scalar.addi v281 v87
  v282
def k0_off5 (k0_t1 : Fin k0_t1_loop.trips) : Fin 2 → Nat :=
  let c0_i32_24 : BitVec 32 := 0#32
  let c1_i32 : BitVec 32 := 1#32
  let arg19 : BitVec 32 := Scf.iv c0_i32_24 c1_i32 k0_t1
  let c8_i32 : BitVec 32 := 8#32
  let v86 : BitVec 32 := Scalar.muli arg19 c8_i32
  let v87 : BitVec 32 := v86
  let v320 : Index := Scalar.indexCast v87
  let c1024_129 : Index := 1024#32
  ![v320.toNat, 1024]
def k0_mult10 (k0_t1 : Fin k0_t1_loop.trips) : BitVec 32 :=
  let c0_i32_131 : BitVec 32 := 0#32
  let c128_i32_132 : BitVec 32 := 128#32
  let v324 : BitVec 32 := Scalar.muli c0_i32_131 c128_i32_132
  let c0_i32_24 : BitVec 32 := 0#32
  let c1_i32 : BitVec 32 := 1#32
  let arg19 : BitVec 32 := Scf.iv c0_i32_24 c1_i32 k0_t1
  let c8_i32 : BitVec 32 := 8#32
  let v86 : BitVec 32 := Scalar.muli arg19 c8_i32
  let v87 : BitVec 32 := v86
  let v325 : BitVec 32 := Scalar.addi v324 v87
  v325
def k0_off6 (k0_t1 : Fin k0_t1_loop.trips) (c0_i32_131 : BitVec 32) : Fin 2 → Nat :=
  let c128_i32_132 : BitVec 32 := 128#32
  let v324 : BitVec 32 := Scalar.muli c0_i32_131 c128_i32_132
  let c0_i32_24 : BitVec 32 := 0#32
  let c1_i32 : BitVec 32 := 1#32
  let arg19 : BitVec 32 := Scf.iv c0_i32_24 c1_i32 k0_t1
  let c8_i32 : BitVec 32 := 8#32
  let v86 : BitVec 32 := Scalar.muli arg19 c8_i32
  let v87 : BitVec 32 := v86
  let v325 : BitVec 32 := Scalar.addi v324 v87
  let v326 : BitVec 32 := v325
  let v330 : Index := Scalar.indexCast v326
  let c1024_133 : Index := 1024#32
  ![v330.toNat, 1024]
def k0_mult11 (k0_t1 : Fin k0_t1_loop.trips) : BitVec 32 :=
  let c1_i32_137 : BitVec 32 := 1#32
  let c128_i32_138 : BitVec 32 := 128#32
  let v347 : BitVec 32 := Scalar.muli c1_i32_137 c128_i32_138
  let c0_i32_24 : BitVec 32 := 0#32
  let c1_i32 : BitVec 32 := 1#32
  let arg19 : BitVec 32 := Scf.iv c0_i32_24 c1_i32 k0_t1
  let c8_i32 : BitVec 32 := 8#32
  let v86 : BitVec 32 := Scalar.muli arg19 c8_i32
  let v87 : BitVec 32 := v86
  let v348 : BitVec 32 := Scalar.addi v347 v87
  v348
def k0_mult12 (k0_t1 : Fin k0_t1_loop.trips) : BitVec 32 :=
  let c2_i32_143 : BitVec 32 := 2#32
  let c128_i32_144 : BitVec 32 := 128#32
  let v370 : BitVec 32 := Scalar.muli c2_i32_143 c128_i32_144
  let c0_i32_24 : BitVec 32 := 0#32
  let c1_i32 : BitVec 32 := 1#32
  let arg19 : BitVec 32 := Scf.iv c0_i32_24 c1_i32 k0_t1
  let c8_i32 : BitVec 32 := 8#32
  let v86 : BitVec 32 := Scalar.muli arg19 c8_i32
  let v87 : BitVec 32 := v86
  let v371 : BitVec 32 := Scalar.addi v370 v87
  v371
def k0_mult13 (k0_t1 : Fin k0_t1_loop.trips) : BitVec 32 :=
  let c3_i32_149 : BitVec 32 := 3#32
  let c128_i32_150 : BitVec 32 := 128#32
  let v393 : BitVec 32 := Scalar.muli c3_i32_149 c128_i32_150
  let c0_i32_24 : BitVec 32 := 0#32
  let c1_i32 : BitVec 32 := 1#32
  let arg19 : BitVec 32 := Scf.iv c0_i32_24 c1_i32 k0_t1
  let c8_i32 : BitVec 32 := 8#32
  let v86 : BitVec 32 := Scalar.muli arg19 c8_i32
  let v87 : BitVec 32 := v86
  let v394 : BitVec 32 := Scalar.addi v393 v87
  v394
def k0_off7 (k0_t1 : Fin k0_t1_loop.trips) : Fin 2 → Nat :=
  let c0_i32_24 : BitVec 32 := 0#32
  let c1_i32 : BitVec 32 := 1#32
  let arg19 : BitVec 32 := Scf.iv c0_i32_24 c1_i32 k0_t1
  let c8_i32 : BitVec 32 := 8#32
  let v86 : BitVec 32 := Scalar.muli arg19 c8_i32
  let v87 : BitVec 32 := v86
  let v432 : Index := Scalar.indexCast v87
  let c1536_161 : Index := 1536#32
  ![v432.toNat, 1536]
def k0_mult14 (k0_t1 : Fin k0_t1_loop.trips) : BitVec 32 :=
  let c0_i32_163 : BitVec 32 := 0#32
  let c128_i32_164 : BitVec 32 := 128#32
  let v436 : BitVec 32 := Scalar.muli c0_i32_163 c128_i32_164
  let c0_i32_24 : BitVec 32 := 0#32
  let c1_i32 : BitVec 32 := 1#32
  let arg19 : BitVec 32 := Scf.iv c0_i32_24 c1_i32 k0_t1
  let c8_i32 : BitVec 32 := 8#32
  let v86 : BitVec 32 := Scalar.muli arg19 c8_i32
  let v87 : BitVec 32 := v86
  let v437 : BitVec 32 := Scalar.addi v436 v87
  v437
def k0_off8 (k0_t1 : Fin k0_t1_loop.trips) (c0_i32_163 : BitVec 32) : Fin 2 → Nat :=
  let c128_i32_164 : BitVec 32 := 128#32
  let v436 : BitVec 32 := Scalar.muli c0_i32_163 c128_i32_164
  let c0_i32_24 : BitVec 32 := 0#32
  let c1_i32 : BitVec 32 := 1#32
  let arg19 : BitVec 32 := Scf.iv c0_i32_24 c1_i32 k0_t1
  let c8_i32 : BitVec 32 := 8#32
  let v86 : BitVec 32 := Scalar.muli arg19 c8_i32
  let v87 : BitVec 32 := v86
  let v437 : BitVec 32 := Scalar.addi v436 v87
  let v438 : BitVec 32 := v437
  let v442 : Index := Scalar.indexCast v438
  let c1536_165 : Index := 1536#32
  ![v442.toNat, 1536]
def k0_mult15 (k0_t1 : Fin k0_t1_loop.trips) : BitVec 32 :=
  let c1_i32_169 : BitVec 32 := 1#32
  let c128_i32_170 : BitVec 32 := 128#32
  let v459 : BitVec 32 := Scalar.muli c1_i32_169 c128_i32_170
  let c0_i32_24 : BitVec 32 := 0#32
  let c1_i32 : BitVec 32 := 1#32
  let arg19 : BitVec 32 := Scf.iv c0_i32_24 c1_i32 k0_t1
  let c8_i32 : BitVec 32 := 8#32
  let v86 : BitVec 32 := Scalar.muli arg19 c8_i32
  let v87 : BitVec 32 := v86
  let v460 : BitVec 32 := Scalar.addi v459 v87
  v460
def k0_mult16 (k0_t1 : Fin k0_t1_loop.trips) : BitVec 32 :=
  let c2_i32_175 : BitVec 32 := 2#32
  let c128_i32_176 : BitVec 32 := 128#32
  let v482 : BitVec 32 := Scalar.muli c2_i32_175 c128_i32_176
  let c0_i32_24 : BitVec 32 := 0#32
  let c1_i32 : BitVec 32 := 1#32
  let arg19 : BitVec 32 := Scf.iv c0_i32_24 c1_i32 k0_t1
  let c8_i32 : BitVec 32 := 8#32
  let v86 : BitVec 32 := Scalar.muli arg19 c8_i32
  let v87 : BitVec 32 := v86
  let v483 : BitVec 32 := Scalar.addi v482 v87
  v483
def k0_mult17 (k0_t1 : Fin k0_t1_loop.trips) : BitVec 32 :=
  let c3_i32_181 : BitVec 32 := 3#32
  let c128_i32_182 : BitVec 32 := 128#32
  let v505 : BitVec 32 := Scalar.muli c3_i32_181 c128_i32_182
  let c0_i32_24 : BitVec 32 := 0#32
  let c1_i32 : BitVec 32 := 1#32
  let arg19 : BitVec 32 := Scf.iv c0_i32_24 c1_i32 k0_t1
  let c8_i32 : BitVec 32 := 8#32
  let v86 : BitVec 32 := Scalar.muli arg19 c8_i32
  let v87 : BitVec 32 := v86
  let v506 : BitVec 32 := Scalar.addi v505 v87
  v506
def k0_cond2 (i : grid0.Coords) : BitVec 1 :=
  let arg0 : BitVec 32 := BitVec.ofNat 32 (i 0).val
  let c0_i32_62 : BitVec 32 := 0#32
  let v83 : BitVec 1 := Scalar.cmpi .eq arg0 c0_i32_62
  let v84 : BitVec 32 := Scalar.extui v83
  let c0_i32_63 : BitVec 32 := 0#32
  let v85 : BitVec 1 := Scalar.cmpi .ne v84 c0_i32_63
  v85

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x1024x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x1024x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x128x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S128x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceIdeal.lean ====
abbrev S128x4x512 : Shape := ⟨3, ![128, 4, 512]⟩
abbrev S128x32x64 : Shape := ⟨3, ![128, 32, 64]⟩
abbrev S32x64 : Shape := ⟨2, ![32, 64]⟩
abbrev S32 : Shape := ⟨1, ![32]⟩
abbrev S32x64x16 : Shape := ⟨3, ![32, 64, 16]⟩
abbrev S32x16x64 : Shape := ⟨3, ![32, 16, 64]⟩
abbrev S512 : Shape := ⟨1, ![512]⟩
abbrev S512x512 : Shape := ⟨2, ![512, 512]⟩
abbrev S128x4x32x16 : Shape := ⟨4, ![128, 4, 32, 16]⟩
abbrev S32x1 : Shape := ⟨2, ![32, 1]⟩
abbrev S_ : Shape := ⟨0, ![]⟩
abbrev S32x64x1 : Shape := ⟨3, ![32, 64, 1]⟩
abbrev S32x64x128x4 : Shape := ⟨4, ![32, 64, 128, 4]⟩
abbrev S128x4x32x64 : Shape := ⟨4, ![128, 4, 32, 64]⟩
abbrev S1x32x64 : Shape := ⟨3, ![1, 32, 64]⟩
abbrev S128x1x32x64 : Shape := ⟨4, ![128, 1, 32, 64]⟩
abbrev S32x16x128 : Shape := ⟨3, ![32, 16, 128]⟩
abbrev S128x32x16 : Shape := ⟨3, ![128, 32, 16]⟩
abbrev S1x128x32x16 : Shape := ⟨4, ![1, 128, 32, 16]⟩
abbrev S4x128x32x16 : Shape := ⟨4, ![4, 128, 32, 16]⟩
abbrev S4x128x512 : Shape := ⟨3, ![4, 128, 512]⟩
abbrev S1x1x512 : Shape := ⟨3, ![1, 1, 512]⟩
abbrev S128x2048 : Shape := ⟨2, ![128, 2048]⟩

abbrev nBuf : Space → Nat
  | .hbm => 201
  | .vmem => 0
  | .smem => 0
  | _ => 0

abbrev hbmTy0_0 (i : Nat) : BufTy := match i % 128 with
  | 0 => ⟨S128x4x512, .f32⟩
  | 1 => ⟨S128x32x64, .f32⟩
  | 2 => ⟨S128x32x64, .f32⟩
  | 3 => ⟨S32x64, .f32⟩
  | 4 => ⟨S32x64, .f32⟩
  | 5 => ⟨S32, .f32⟩
  | 6 => ⟨S32x64x16, .f32⟩
  | 7 => ⟨S32x64x16, .f32⟩
  | 8 => ⟨S32x16x64, .f32⟩
  | 9 => ⟨S32x16x64, .f32⟩
  | 10 => ⟨S512, .f32⟩
  | 11 => ⟨S512x512, .f32⟩
  | 12 => ⟨S128x4x32x16, .f32⟩
  | 13 => ⟨S32, .f32⟩
  | 14 => ⟨S32x1, .f32⟩
  | 15 => ⟨S32x64, .f32⟩
  | 16 => ⟨S32x64, .f32⟩
  | 17 => ⟨S32x64, .f32⟩
  | 18 => ⟨S32x64, .f32⟩
  | 19 => ⟨S32x64, .f32⟩
  | 20 => ⟨S32x64, .f32⟩
  | 21 => ⟨S32x64, .f32⟩
  | 22 => ⟨S32x64, .f32⟩
  | 23 => ⟨S32x64, .f32⟩
  | 24 => ⟨S32x64, .f32⟩
  | 25 => ⟨S32x64, .f32⟩
  | 26 => ⟨S32x64, .f32⟩
  | 27 => ⟨S32x64, .f32⟩
  | 28 => ⟨S32x64, .f32⟩
  | 29 => ⟨S_, .f32⟩
  | 30 => ⟨S32x64, .f32⟩
  | 31 => ⟨S32x64, .f32⟩
  | 32 => ⟨S32x64, .f32⟩
  | 33 => ⟨S32x64, .f32⟩
  | 34 => ⟨S32x64, .f32⟩
  | 35 => ⟨S32x64, .f32⟩
  | 36 => ⟨S32x64, .f32⟩
  | 37 => ⟨S_, .f32⟩
  | 38 => ⟨S32x64, .f32⟩
  | 39 => ⟨S32x64, .f32⟩
  | 40 => ⟨S32x64, .f32⟩
  | 41 => ⟨S32x64, .f32⟩
  | 42 => ⟨S32x64, .f32⟩
  | 43 => ⟨S32x64x1, .f32⟩
  | 44 => ⟨S32x64x16, .f32⟩
  | 45 => ⟨S32x64x16, .f32⟩
  | 46 => ⟨S32x64x1, .f32⟩
  | 47 => ⟨S32x64x16, .f32⟩
  | 48 => ⟨S32x64x16, .f32⟩
  | 49 => ⟨S32x64x16, .f32⟩
  | 50 => ⟨S32x64x1, .f32⟩
  | 51 => ⟨S32x64x16, .f32⟩
  | 52 => ⟨S32x64x16, .f32⟩
  | 53 => ⟨S32x64x1, .f32⟩
  | 54 => ⟨S32x64x16, .f32⟩
  | 55 => ⟨S32x64x16, .f32⟩
  | 56 => ⟨S32x64x16, .f32⟩
  | 57 => ⟨S32x64x128x4, .f32⟩
  | 58 => ⟨S128x4x32x64, .f32⟩
  | 59 => ⟨S32x64x128x4, .f32⟩
  | 60 => ⟨S128x4x32x64, .f32⟩
  | 61 => ⟨S1x32x64, .f32⟩
  | 62 => ⟨S128x32x64, .f32⟩
  | 63 => ⟨S128x32x64, .f32⟩
  | 64 => ⟨S1x32x64, .f32⟩
  | 65 => ⟨S128x32x64, .f32⟩
  | 66 => ⟨S128x32x64, .f32⟩
  | 67 => ⟨S128x32x64, .f32⟩
  | 68 => ⟨S128x1x32x64, .f32⟩
  | 69 => ⟨S128x32x64, .f32⟩
  | 70 => ⟨S128x32x64, .f32⟩
  | 71 => ⟨S1x32x64, .f32⟩
  | 72 => ⟨S128x32x64, .f32⟩
  | 73 => ⟨S128x32x64, .f32⟩
  | 74 => ⟨S1x32x64, .f32⟩
  | 75 => ⟨S128x32x64, .f32⟩
  | 76 => ⟨S128x32x64, .f32⟩
  | 77 => ⟨S128x32x64, .f32⟩
  | 78 => ⟨S128x1x32x64, .f32⟩
  | 79 => ⟨S128x32x64, .f32⟩
  | 80 => ⟨S128x32x64, .f32⟩
  | 81 => ⟨S32x16x128, .f32⟩
  | 82 => ⟨S128x32x16, .f32⟩
  | 83 => ⟨S32x16x128, .f32⟩
  | 84 => ⟨S128x32x16, .f32⟩
  | 85 => ⟨S128x32x16, .f32⟩
  | 86 => ⟨S1x32x64, .f32⟩
  | 87 => ⟨S128x32x64, .f32⟩
  | 88 => ⟨S128x32x64, .f32⟩
  | 89 => ⟨S1x32x64, .f32⟩
  | 90 => ⟨S128x32x64, .f32⟩
  | 91 => ⟨S128x32x64, .f32⟩
  | 92 => ⟨S128x32x64, .f32⟩
  | 93 => ⟨S128x1x32x64, .f32⟩
  | 94 => ⟨S128x32x64, .f32⟩
  | 95 => ⟨S128x32x64, .f32⟩
  | 96 => ⟨S1x32x64, .f32⟩
  | 97 => ⟨S128x32x64, .f32⟩
  | 98 => ⟨S128x32x64, .f32⟩
  | 99 => ⟨S1x32x64, .f32⟩
  | 100 => ⟨S128x32x64, .f32⟩
  | 101 => ⟨S128x32x64, .f32⟩
  | 102 => ⟨S128x32x64, .f32⟩
  | 103 => ⟨S128x1x32x64, .f32⟩
  | 104 => ⟨S128x32x64, .f32⟩
  | 105 => ⟨S128x32x64, .f32⟩
  | 106 => ⟨S32x16x128, .f32⟩
  | 107 => ⟨S128x32x16, .f32⟩
  | 108 => ⟨S32x16x128, .f32⟩
  | 109 => ⟨S128x32x16, .f32⟩
  | 110 => ⟨S128x32x16, .f32⟩
  | 111 => ⟨S1x32x64, .f32⟩
  | 112 => ⟨S128x32x64, .f32⟩
  | 113 => ⟨S128x32x64, .f32⟩
  | 114 => ⟨S1x32x64, .f32⟩
  | 115 => ⟨S128x32x64, .f32⟩
  | 116 => ⟨S128x32x64, .f32⟩
  | 117 => ⟨S128x32x64, .f32⟩
  | 118 => ⟨S128x1x32x64, .f32⟩
  | 119 => ⟨S128x32x64, .f32⟩
  | 120 => ⟨S128x32x64, .f32⟩
  | 121 => ⟨S1x32x64, .f32⟩
  | 122 => ⟨S128x32x64, .f32⟩
  | 123 => ⟨S128x32x64, .f32⟩
  | 124 => ⟨S1x32x64, .f32⟩
  | 125 => ⟨S128x32x64, .f32⟩
  | 126 => ⟨S128x32x64, .f32⟩
  | 127 => ⟨S128x32x64, .f32⟩
  | _ => ⟨S128x4x512, .f32⟩

abbrev hbmTy0_1 (i : Nat) : BufTy := match i % 128 with
  | 0 => ⟨S128x1x32x64, .f32⟩
  | 1 => ⟨S128x32x64, .f32⟩
  | 2 => ⟨S128x32x64, .f32⟩
  | 3 => ⟨S32x16x128, .f32⟩
  | 4 => ⟨S128x32x16, .f32⟩
  | 5 => ⟨S32x16x128, .f32⟩
  | 6 => ⟨S128x32x16, .f32⟩
  | 7 => ⟨S128x32x16, .f32⟩
  | 8 => ⟨S1x32x64, .f32⟩
  | 9 => ⟨S128x32x64, .f32⟩
  | 10 => ⟨S128x32x64, .f32⟩
  | 11 => ⟨S1x32x64, .f32⟩
  | 12 => ⟨S128x32x64, .f32⟩
  | 13 => ⟨S128x32x64, .f32⟩
  | 14 => ⟨S128x32x64, .f32⟩
  | 15 => ⟨S128x1x32x64, .f32⟩
  | 16 => ⟨S128x32x64, .f32⟩
  | 17 => ⟨S128x32x64, .f32⟩
  | 18 => ⟨S1x32x64, .f32⟩
  | 19 => ⟨S128x32x64, .f32⟩
  | 20 => ⟨S128x32x64, .f32⟩
  | 21 => ⟨S1x32x64, .f32⟩
  | 22 => ⟨S128x32x64, .f32⟩
  | 23 => ⟨S128x32x64, .f32⟩
  | 24 => ⟨S128x32x64, .f32⟩
  | 25 => ⟨S128x1x32x64, .f32⟩
  | 26 => ⟨S128x32x64, .f32⟩
  | 27 => ⟨S128x32x64, .f32⟩
  | 28 => ⟨S32x16x128, .f32⟩
  | 29 => ⟨S128x32x16, .f32⟩
  | 30 => ⟨S32x16x128, .f32⟩
  | 31 => ⟨S128x32x16, .f32⟩
  | 32 => ⟨S128x32x16, .f32⟩
  | 33 => ⟨S1x128x32x16, .f32⟩
  | 34 => ⟨S1x128x32x16, .f32⟩
  | 35 => ⟨S1x128x32x16, .f32⟩
  | 36 => ⟨S1x128x32x16, .f32⟩
  | 37 => ⟨S4x128x32x16, .f32⟩
  | 38 => ⟨S4x128x512, .f32⟩
  | 39 => ⟨S4x128x512, .f32⟩
  | 40 => ⟨S1x1x512, .f32⟩
  | 41 => ⟨S4x128x512, .f32⟩
  | 42 => ⟨S4x128x512, .f32⟩
  | 43 => ⟨S4x128x512, .f32⟩
  | 44 => ⟨S4x128x512, .f32⟩
  | 45 => ⟨S4x128x512, .f32⟩
  | 46 => ⟨S_, .f32⟩
  | 47 => ⟨S4x128x512, .f32⟩
  | 48 => ⟨S4x128x512, .f32⟩
  | 49 => ⟨S4x128x512, .f32⟩
  | 50 => ⟨S_, .f32⟩
  | 51 => ⟨S4x128x512, .f32⟩
  | 52 => ⟨S4x128x512, .f32⟩
  | 53 => ⟨S4x128x512, .f32⟩
  | 54 => ⟨S_, .f32⟩
  | 55 => ⟨S4x128x512, .f32⟩
  | 56 => ⟨S4x128x512, .f32⟩
  | 57 => ⟨S_, .f32⟩
  | 58 => ⟨S4x128x512, .f32⟩
  | 59 => ⟨S4x128x512, .f32⟩
  | 60 => ⟨S4x128x512, .f32⟩
  | 61 => ⟨S4x128x512, .f32⟩
  | 62 => ⟨S4x128x512, .f32⟩
  | 63 => ⟨S4x128x512, .f32⟩
  | 64 => ⟨S_, .f32⟩
  | 65 => ⟨S4x128x512, .f32⟩
  | 66 => ⟨S4x128x512, .f32⟩
  | 67 => ⟨S_, .f32⟩
  | 68 => ⟨S4x128x512, .f32⟩
  | 69 => ⟨S4x128x512, .f32⟩
  | 70 => ⟨S4x128x512, .f32⟩
  | 71 => ⟨S128x2048, .f32⟩
  | 72 => ⟨S128x2048, .f32⟩
  | _ => ⟨S128x4x512, .f32⟩

abbrev hbmTy (i : Nat) : BufTy := match i / 128 with
  | 0 => hbmTy0_0 i
  | 1 => hbmTy0_1 i
  | _ => ⟨S128x4x512, .f32⟩

abbrev bufTy : (tb : Table) → Fin (tcTables nBuf tb) → BufTy
  | .hbm, ⟨i, _⟩ => hbmTy i
  | _, _ => ⟨S128x4x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_0 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_v130 : Ref sig .tc := ⟨.hbm, 144, rfl⟩
abbrev main_v131 : Ref sig .tc := ⟨.hbm, 145, rfl⟩
abbrev main_v132 : Ref sig .tc := ⟨.hbm, 146, rfl⟩
abbrev main_v133 : Ref sig .tc := ⟨.hbm, 147, rfl⟩
abbrev main_v134 : Ref sig .tc := ⟨.hbm, 148, rfl⟩
abbrev main_v135 : Ref sig .tc := ⟨.hbm, 149, rfl⟩
abbrev main_v136 : Ref sig .tc := ⟨.hbm, 150, rfl⟩
abbrev main_v137 : Ref sig .tc := ⟨.hbm, 151, rfl⟩
abbrev main_v138 : Ref sig .tc := ⟨.hbm, 152, rfl⟩
abbrev main_v139 : Ref sig .tc := ⟨.hbm, 153, rfl⟩
abbrev main_v140 : Ref sig .tc := ⟨.hbm, 154, rfl⟩
abbrev main_v141 : Ref sig .tc := ⟨.hbm, 155, rfl⟩
abbrev main_v142 : Ref sig .tc := ⟨.hbm, 156, rfl⟩
abbrev main_v143 : Ref sig .tc := ⟨.hbm, 157, rfl⟩
abbrev main_v144 : Ref sig .tc := ⟨.hbm, 158, rfl⟩
abbrev main_v145 : Ref sig .tc := ⟨.hbm, 159, rfl⟩
abbrev main_v146 : Ref sig .tc := ⟨.hbm, 160, rfl⟩
abbrev main_v147 : Ref sig .tc := ⟨.hbm, 161, rfl⟩
abbrev main_v148 : Ref sig .tc := ⟨.hbm, 162, rfl⟩
abbrev main_v149 : Ref sig .tc := ⟨.hbm, 163, rfl⟩
abbrev main_v150 : Ref sig .tc := ⟨.hbm, 164, rfl⟩
abbrev main_v151 : Ref sig .tc := ⟨.hbm, 165, rfl⟩
abbrev main_v152 : Ref sig .tc := ⟨.hbm, 166, rfl⟩
abbrev main_v153 : Ref sig .tc := ⟨.hbm, 167, rfl⟩
abbrev main_v154 : Ref sig .tc := ⟨.hbm, 168, rfl⟩
abbrev main_v155 : Ref sig .tc := ⟨.hbm, 169, rfl⟩
abbrev main_v156 : Ref sig .tc := ⟨.hbm, 170, rfl⟩
abbrev main_v157 : Ref sig .tc := ⟨.hbm, 171, rfl⟩
abbrev main_v158 : Ref sig .tc := ⟨.hbm, 172, rfl⟩
abbrev main_v159 : Ref sig .tc := ⟨.hbm, 173, rfl⟩
abbrev main_cst_1 : Ref sig .tc := ⟨.hbm, 174, rfl⟩
abbrev main_v160 : Ref sig .tc := ⟨.hbm, 175, rfl⟩
abbrev main_v161 : Ref sig .tc := ⟨.hbm, 176, rfl⟩
abbrev main_v162 : Ref sig .tc := ⟨.hbm, 177, rfl⟩
abbrev main_cst_2 : Ref sig .tc := ⟨.hbm, 178, rfl⟩
abbrev main_v163 : Ref sig .tc := ⟨.hbm, 179, rfl⟩
abbrev main_v164 : Ref sig .tc := ⟨.hbm, 180, rfl⟩
abbrev main_v165 : Ref sig .tc := ⟨.hbm, 181, rfl⟩
abbrev main_cst_3 : Ref sig .tc := ⟨.hbm, 182, rfl⟩
abbrev main_v166 : Ref sig .tc := ⟨.hbm, 183, rfl⟩
abbrev main_v167 : Ref sig .tc := ⟨.hbm, 184, rfl⟩
abbrev main_cst_4 : Ref sig .tc := ⟨.hbm, 185, rfl⟩
abbrev main_v168 : Ref sig .tc := ⟨.hbm, 186, rfl⟩
abbrev main_v169 : Ref sig .tc := ⟨.hbm, 187, rfl⟩
abbrev main_v170 : Ref sig .tc := ⟨.hbm, 188, rfl⟩
abbrev main_v171 : Ref sig .tc := ⟨.hbm, 189, rfl⟩
abbrev main_v172 : Ref sig .tc := ⟨.hbm, 190, rfl⟩
abbrev main_v173 : Ref sig .tc := ⟨.hbm, 191, rfl⟩
abbrev main_cst_5 : Ref sig .tc := ⟨.hbm, 192, rfl⟩
abbrev main_v174 : Ref sig .tc := ⟨.hbm, 193, rfl⟩
abbrev main_v175 : Ref sig .tc := ⟨.hbm, 194, rfl⟩
abbrev main_cst_6 : Ref sig .tc := ⟨.hbm, 195, rfl⟩
abbrev main_v176 : Ref sig .tc := ⟨.hbm, 196, rfl⟩
abbrev main_v177 : Ref sig .tc := ⟨.hbm, 197, rfl⟩
abbrev main_v178 : Ref sig .tc := ⟨.hbm, 198, rfl⟩
abbrev main_v179 : Ref sig .tc := ⟨.hbm, 199, rfl⟩
abbrev main_v180 : Ref sig .tc := ⟨.hbm, 200, rfl⟩

abbrev nD : Nat := 1
abbrev τ : Topo := Topo.v7x

variable {F : FTy → Type} [FloatOps F]
-- ==== Kernel2.lean ====
abbrev S8x2048x1024 : Shape := ⟨3, ![8, 2048, 1024]⟩
abbrev S8x2048x512 : Shape := ⟨3, ![8, 2048, 512]⟩
abbrev S8x2048x256 : Shape := ⟨3, ![8, 2048, 256]⟩
abbrev S1024 : Shape := ⟨1, ![1024]⟩
abbrev S1024x3864 : Shape := ⟨2, ![1024, 3864]⟩
abbrev S512x1024 : Shape := ⟨2, ![512, 1024]⟩
abbrev S1024x1024 : Shape := ⟨2, ![1024, 1024]⟩
abbrev S1024x2816 : Shape := ⟨2, ![1024, 2816]⟩
abbrev S2816x1024 : Shape := ⟨2, ![2816, 1024]⟩
abbrev S256x1024 : Shape := ⟨2, ![256, 1024]⟩
abbrev S16384x1024 : Shape := ⟨2, ![16384, 1024]⟩
abbrev S16384x512 : Shape := ⟨2, ![16384, 512]⟩
abbrev S2048x8x512 : Shape := ⟨3, ![2048, 8, 512]⟩
abbrev S2048x4096 : Shape := ⟨2, ![2048, 4096]⟩
abbrev S1x1024 : Shape := ⟨2, ![1, 1024]⟩
abbrev S16384x256 : Shape := ⟨2, ![16384, 256]⟩
abbrev S1024x2048 : Shape := ⟨2, ![1024, 2048]⟩
abbrev S512x512 : Shape := ⟨2, ![512, 512]⟩
abbrev S512x256 : Shape := ⟨2, ![512, 256]⟩
abbrev S512 : Shape := ⟨1, ![512]⟩
abbrev S512x1 : Shape := ⟨2, ![512, 1]⟩
abbrev S512x2048 : Shape := ⟨2, ![512, 2048]⟩
abbrev S1024x256 : Shape := ⟨2, ![1024, 256]⟩

abbrev nBuf : Space → Nat
  | .hbm => 38
  | .vmem => 23
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .f32⟩
  | .hbm, ⟨2, _⟩ => ⟨S8x2048x512, .f32⟩
  | .hbm, ⟨3, _⟩ => ⟨S8x2048x256, .f32⟩
  | .hbm, ⟨4, _⟩ => ⟨S1024, .f32⟩
  | .hbm, ⟨5, _⟩ => ⟨S1024x3864, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S1024x2816, .f32⟩
  | .hbm, ⟨11, _⟩ => ⟨S1024x2816, .f32⟩
  | .hbm, ⟨12, _⟩ => ⟨S2816x1024, .f32⟩
  | .hbm, ⟨13, _⟩ => ⟨S1024, .f32⟩
  | .hbm, ⟨14, _⟩ => ⟨S1024x1024, .f32⟩
  | .hbm, ⟨15, _⟩ => ⟨S256x1024, .f32⟩
  | .hbm, ⟨16, _⟩ => ⟨S1024, .f32⟩
  | .hbm, ⟨17, _⟩ => ⟨S16384x1024, .f32⟩
  | .hbm, ⟨18, _⟩ => ⟨S16384x512, .f32⟩
  | .hbm, ⟨19, _⟩ => ⟨S16384x512, .bf16⟩
  | .hbm, ⟨20, _⟩ => ⟨S2048x8x512, .f32⟩
  | .hbm, ⟨21, _⟩ => ⟨S2048x4096, .f32⟩
  | .hbm, ⟨22, _⟩ => ⟨S1x1024, .f32⟩
  | .hbm, ⟨23, _⟩ => ⟨S1024x2816, .bf16⟩
  | .hbm, ⟨24, _⟩ => ⟨S1024x2816, .bf16⟩
  | .hbm, ⟨25, _⟩ => ⟨S2816x1024, .bf16⟩
  | .hbm, ⟨26, _⟩ => ⟨S1x1024, .f32⟩
  | .hbm, ⟨27, _⟩ => ⟨S1024x1024, .bf16⟩
  | .hbm, ⟨28, _⟩ => ⟨S256x1024, .bf16⟩
  | .hbm, ⟨29, _⟩ => ⟨S16384x256, .f32⟩
  | .hbm, ⟨30, _⟩ => ⟨S1x1024, .f32⟩
  | .hbm, ⟨31, _⟩ => ⟨S1024x2048, .f32⟩
  | .hbm, ⟨32, _⟩ => ⟨S1024x2048, .bf16⟩
  | .hbm, ⟨33, _⟩ => ⟨S512x1024, .bf16⟩
  | .hbm, ⟨34, _⟩ => ⟨S512x1024, .bf16⟩
  | .hbm, ⟨35, _⟩ => ⟨S1024x1024, .bf16⟩
  | .hbm, ⟨36, _⟩ => ⟨S1x1024, .f32⟩
  | .hbm, ⟨37, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S512x256, .f32⟩
  | .local _ .vmem, ⟨7, _⟩ => ⟨S512x256, .f32⟩
  | .local _ .vmem, ⟨8, _⟩ => ⟨S1x1024, .f32⟩
  | .local _ .vmem, ⟨9, _⟩ => ⟨S1024x2048, .bf16⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1x1024, .f32⟩
  | .local _ .vmem, ⟨14, _⟩ => ⟨S1024x2816, .bf16⟩
  | .local _ .vmem, ⟨15, _⟩ => ⟨S1024x2816, .bf16⟩
  | .local _ .vmem, ⟨16, _⟩ => ⟨S2816x1024, .bf16⟩
  | .local _ .vmem, ⟨17, _⟩ => ⟨S1x1024, .f32⟩
  | .local _ .vmem, ⟨18, _⟩ => ⟨S1024x1024, .bf16⟩
  | .local _ .vmem, ⟨19, _⟩ => ⟨S256x1024, .bf16⟩
  | .local _ .vmem, ⟨20, _⟩ => ⟨S1x1024, .f32⟩
  | .local _ .vmem, ⟨21, _⟩ => ⟨S512x1024, .f32⟩
  | .local _ .vmem, ⟨22, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg17_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem17_0 : DmaSem sig := 21
abbrev cc0_sem17_1 : DmaSem sig := 22

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x2816 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x2816 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S2816x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S256x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 2 → Memref sig .tc .vmem S512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== Reference2Ideal.lean ====
abbrev S8x2048x1024 : Shape := ⟨3, ![8, 2048, 1024]⟩
abbrev S8x2048x512 : Shape := ⟨3, ![8, 2048, 512]⟩
abbrev S8x2048x256 : Shape := ⟨3, ![8, 2048, 256]⟩
abbrev S1024 : Shape := ⟨1, ![1024]⟩
abbrev S1024x3864 : Shape := ⟨2, ![1024, 3864]⟩
abbrev S512x1024 : Shape := ⟨2, ![512, 1024]⟩
abbrev S1024x1024 : Shape := ⟨2, ![1024, 1024]⟩
abbrev S1024x2816 : Shape := ⟨2, ![1024, 2816]⟩
abbrev S2816x1024 : Shape := ⟨2, ![2816, 1024]⟩
abbrev S256x1024 : Shape := ⟨2, ![256, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x3864 : Shape := ⟨3, ![8, 2048, 3864]⟩
abbrev S8x2048x2048 : Shape := ⟨3, ![8, 2048, 2048]⟩
abbrev S8x2048x2816 : Shape := ⟨3, ![8, 2048, 2816]⟩
abbrev S16384x1024 : Shape := ⟨2, ![16384, 1024]⟩

abbrev nBuf : Space → Nat
  | .hbm => 130
  | .vmem => 0
  | .smem => 0
  | _ => 0

abbrev hbmTy0_0 (i : Nat) : BufTy := match i % 128 with
  | 0 => ⟨S8x2048x1024, .f32⟩
  | 1 => ⟨S8x2048x512, .f32⟩
  | 2 => ⟨S8x2048x512, .f32⟩
  | 3 => ⟨S8x2048x256, .f32⟩
  | 4 => ⟨S1024, .f32⟩
  | 5 => ⟨S1024x3864, .f32⟩
  | 6 => ⟨S512x1024, .f32⟩
  | 7 => ⟨S512x1024, .f32⟩
  | 8 => ⟨S1024x1024, .f32⟩
  | 9 => ⟨S1024, .f32⟩
  | 10 => ⟨S1024x2816, .f32⟩
  | 11 => ⟨S1024x2816, .f32⟩
  | 12 => ⟨S2816x1024, .f32⟩
  | 13 => ⟨S1024, .f32⟩
  | 14 => ⟨S1024x1024, .f32⟩
  | 15 => ⟨S256x1024, .f32⟩
  | 16 => ⟨S1024, .f32⟩
  | 17 => ⟨S8x2048x1024, .f32⟩
  | 18 => ⟨S_, .f32⟩
  | 19 => ⟨S8x2048, .f32⟩
  | 20 => ⟨S8x2048x1, .f32⟩
  | 21 => ⟨S_, .f32⟩
  | 22 => ⟨S8x2048x1, .f32⟩
  | 23 => ⟨S8x2048x1, .f32⟩
  | 24 => ⟨S_, .f32⟩
  | 25 => ⟨S8x2048x1, .f32⟩
  | 26 => ⟨S8x2048x1, .f32⟩
  | 27 => ⟨S8x2048x1, .f32⟩
  | 28 => ⟨S8x2048x1024, .f32⟩
  | 29 => ⟨S8x2048x1024, .f32⟩
  | 30 => ⟨S1x1x1024, .f32⟩
  | 31 => ⟨S8x2048x1024, .f32⟩
  | 32 => ⟨S8x2048x1024, .f32⟩
  | 33 => ⟨S8x2048x3864, .f32⟩
  | 34 => ⟨S8x2048x2048, .f32⟩
  | 35 => ⟨S8x2048x2048, .f32⟩
  | 36 => ⟨S8x2048x2048, .f32⟩
  | 37 => ⟨S_, .f32⟩
  | 38 => ⟨S8x2048x2048, .f32⟩
  | 39 => ⟨S8x2048x2048, .f32⟩
  | 40 => ⟨S_, .f32⟩
  | 41 => ⟨S8x2048x2048, .f32⟩
  | 42 => ⟨S8x2048x2048, .f32⟩
  | 43 => ⟨S8x2048x1024, .f32⟩
  | 44 => ⟨S8x2048x1024, .f32⟩
  | 45 => ⟨S8x2048x1024, .f32⟩
  | 46 => ⟨S8x2048x1024, .f32⟩
  | 47 => ⟨S8x2048x1024, .f32⟩
  | 48 => ⟨S8x2048x1024, .f32⟩
  | 49 => ⟨S8x2048x1024, .f32⟩
  | 50 => ⟨S8x2048x1024, .f32⟩
  | 51 => ⟨S8x2048x1024, .f32⟩
  | 52 => ⟨S8x2048x1024, .f32⟩
  | 53 => ⟨S_, .f32⟩
  | 54 => ⟨S8x2048, .f32⟩
  | 55 => ⟨S8x2048x1, .f32⟩
  | 56 => ⟨S_, .f32⟩
  | 57 => ⟨S8x2048x1, .f32⟩
  | 58 => ⟨S8x2048x1, .f32⟩
  | 59 => ⟨S_, .f32⟩
  | 60 => ⟨S8x2048x1, .f32⟩
  | 61 => ⟨S8x2048x1, .f32⟩
  | 62 => ⟨S8x2048x1, .f32⟩
  | 63 => ⟨S8x2048x1024, .f32⟩
  | 64 => ⟨S8x2048x1024, .f32⟩
  | 65 => ⟨S1x1x1024, .f32⟩
  | 66 => ⟨S8x2048x1024, .f32⟩
  | 67 => ⟨S8x2048x1024, .f32⟩
  | 68 => ⟨S8x2048x2816, .f32⟩
  | 69 => ⟨S8x2048x2816, .f32⟩
  | 70 => ⟨S8x2048x2816, .f32⟩
  | 71 => ⟨S_, .f32⟩
  | 72 => ⟨S8x2048x2816, .f32⟩
  | 73 => ⟨S8x2048x2816, .f32⟩
  | 74 => ⟨S_, .f32⟩
  | 75 => ⟨S8x2048x2816, .f32⟩
  | 76 => ⟨S8x2048x2816, .f32⟩
  | 77 => ⟨S8x2048x2816, .f32⟩
  | 78 => ⟨S8x2048x2816, .f32⟩
  | 79 => ⟨S8x2048x2816, .f32⟩
  | 80 => ⟨S8x2048x1024, .f32⟩
  | 81 => ⟨S_, .f32⟩
  | 82 => ⟨S8x2048x1024, .f32⟩
  | 83 => ⟨S8x2048x1024, .f32⟩
  | 84 => ⟨S8x2048x1024, .f32⟩
  | 85 => ⟨S8x2048x1024, .f32⟩
  | 86 => ⟨S_, .f32⟩
  | 87 => ⟨S8x2048, .f32⟩
  | 88 => ⟨S8x2048x1, .f32⟩
  | 89 => ⟨S_, .f32⟩
  | 90 => ⟨S8x2048x1, .f32⟩
  | 91 => ⟨S8x2048x1, .f32⟩
  | 92 => ⟨S_, .f32⟩
  | 93 => ⟨S8x2048x1, .f32⟩
  | 94 => ⟨S8x2048x1, .f32⟩
  | 95 => ⟨S8x2048x1, .f32⟩
  | 96 => ⟨S8x2048x1024, .f32⟩
  | 97 => ⟨S8x2048x1024, .f32⟩
  | 98 => ⟨S1x1x1024, .f32⟩
  | 99 => ⟨S8x2048x1024, .f32⟩
  | 100 => ⟨S8x2048x1024, .f32⟩
  | 101 => ⟨S8x2048x1024, .f32⟩
  | 102 => ⟨S8x2048x1024, .f32⟩
  | 103 => ⟨S8x2048x1024, .f32⟩
  | 104 => ⟨S_, .f32⟩
  | 105 => ⟨S8x2048x1024, .f32⟩
  | 106 => ⟨S8x2048x1024, .f32⟩
  | 107 => ⟨S_, .f32⟩
  | 108 => ⟨S8x2048x1024, .f32⟩
  | 109 => ⟨S8x2048x1024, .f32⟩
  | 110 => ⟨S8x2048x1024, .f32⟩
  | 111 => ⟨S8x2048x1024, .f32⟩
  | 112 => ⟨S8x2048x1024, .f32⟩
  | 113 => ⟨S8x2048x1024, .f32⟩
  | 114 => ⟨S_, .f32⟩
  | 115 => ⟨S8x2048, .f32⟩
  | 116 => ⟨S8x2048x1, .f32⟩
  | 117 => ⟨S_, .f32⟩
  | 118 => ⟨S8x2048x1, .f32⟩
  | 119 => ⟨S8x2048x1, .f32⟩
  | 120 => ⟨S_, .f32⟩
  | 121 => ⟨S8x2048x1, .f32⟩
  | 122 => ⟨S8x2048x1, .f32⟩
  | 123 => ⟨S8x2048x1, .f32⟩
  | 124 => ⟨S8x2048x1024, .f32⟩
  | 125 => ⟨S8x2048x1024, .f32⟩
  | 126 => ⟨S1x1x1024, .f32⟩
  | 127 => ⟨S8x2048x1024, .f32⟩
  | _ => ⟨S8x2048x1024, .f32⟩

abbrev hbmTy0_1 (i : Nat) : BufTy := match i % 128 with
  | 0 => ⟨S8x2048x1024, .f32⟩
  | 1 => ⟨S16384x1024, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_cst : Ref sig .tc := ⟨.hbm, 18, rfl⟩
abbrev main_v1 : Ref sig .tc := ⟨.hbm, 19, rfl⟩
abbrev main_v2 : Ref sig .tc := ⟨.hbm, 20, rfl⟩
abbrev main_cst_0 : Ref sig .tc := ⟨.hbm, 21, rfl⟩
abbrev main_v3 : Ref sig .tc := ⟨.hbm, 22, rfl⟩
abbrev main_v4 : Ref sig .tc := ⟨.hbm, 23, rfl⟩
abbrev main_cst_1 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_2 : Ref sig .tc := ⟨.hbm, 37, rfl⟩
abbrev main_v17 : Ref sig .tc := ⟨.hbm, 38, rfl⟩
abbrev main_v18 : Ref sig .tc := ⟨.hbm, 39, rfl⟩
abbrev main_cst_3 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_4 : Ref sig .tc := ⟨.hbm, 53, rfl⟩
abbrev main_v31 : Ref sig .tc := ⟨.hbm, 54, rfl⟩
abbrev main_v32 : Ref sig .tc := ⟨.hbm, 55, rfl⟩
abbrev main_cst_5 : Ref sig .tc := ⟨.hbm, 56, rfl⟩
abbrev main_v33 : Ref sig .tc := ⟨.hbm, 57, rfl⟩
abbrev main_v34 : Ref sig .tc := ⟨.hbm, 58, rfl⟩
abbrev main_cst_6 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_call0_v0 : Ref sig .tc := ⟨.hbm, 69, rfl⟩
abbrev main_call0_v1 : Ref sig .tc := ⟨.hbm, 70, rfl⟩
abbrev main_call0_cst : Ref sig .tc := ⟨.hbm, 71, rfl⟩
abbrev main_call0_v2 : Ref sig .tc := ⟨.hbm, 72, rfl⟩
abbrev main_call0_v3 : Ref sig .tc := ⟨.hbm, 73, rfl⟩
abbrev main_call0_cst_0 : Ref sig .tc := ⟨.hbm, 74, rfl⟩
abbrev main_call0_v4 : Ref sig .tc := ⟨.hbm, 75, rfl⟩
abbrev main_call0_v5 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_cst_7 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_cst_8 : Ref sig .tc := ⟨.hbm, 86, rfl⟩
abbrev main_v52 : Ref sig .tc := ⟨.hbm, 87, rfl⟩
abbrev main_v53 : Ref sig .tc := ⟨.hbm, 88, rfl⟩
abbrev main_cst_9 : Ref sig .tc := ⟨.hbm, 89, rfl⟩
abbrev main_v54 : Ref sig .tc := ⟨.hbm, 90, rfl⟩
abbrev main_v55 : Ref sig .tc := ⟨.hbm, 91, rfl⟩
abbrev main_cst_10 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_11 : Ref sig .tc := ⟨.hbm, 104, rfl⟩
abbrev main_v67 : Ref sig .tc := ⟨.hbm, 105, rfl⟩
abbrev main_v68 : Ref sig .tc := ⟨.hbm, 106, rfl⟩
abbrev main_cst_12 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_cst_13 : Ref sig .tc := ⟨.hbm, 114, rfl⟩
abbrev main_v75 : Ref sig .tc := ⟨.hbm, 115, rfl⟩
abbrev main_v76 : Ref sig .tc := ⟨.hbm, 116, rfl⟩
abbrev main_cst_14 : Ref sig .tc := ⟨.hbm, 117, rfl⟩
abbrev main_v77 : Ref sig .tc := ⟨.hbm, 118, rfl⟩
abbrev main_v78 : Ref sig .tc := ⟨.hbm, 119, rfl⟩
abbrev main_cst_15 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩

abbrev nD : Nat := 1
abbrev τ : Topo := Topo.v7x

variable {F : FTy → Type} [FloatOps F]
-- ==== Kernel3.lean ====
abbrev S8x2048x1024 : Shape := ⟨3, ![8, 2048, 1024]⟩
abbrev S1024 : Shape := ⟨1, ![1024]⟩
abbrev S1024x2816 : Shape := ⟨2, ![1024, 2816]⟩
abbrev S2816x1024 : Shape := ⟨2, ![2816, 1024]⟩
abbrev S1024x3864 : Shape := ⟨2, ![1024, 3864]⟩
abbrev S8x2 : Shape := ⟨2, ![8, 2]⟩
abbrev S3864x1024 : Shape := ⟨2, ![3864, 1024]⟩
abbrev S512x1024 : Shape := ⟨2, ![512, 1024]⟩
abbrev S_ : Shape := ⟨0, ![]⟩
abbrev S8x1x64x1024 : Shape := ⟨4, ![8, 1, 64, 1024]⟩
abbrev S8x2x1x1 : Shape := ⟨4, ![8, 2, 1, 1]⟩
abbrev S8x2x64x1024 : Shape := ⟨4, ![8, 2, 64, 1024]⟩
abbrev S1024x1024 : Shape := ⟨2, ![1024, 1024]⟩
abbrev S24x1024 : Shape := ⟨2, ![24, 1024]⟩
abbrev S128x1024 : Shape := ⟨2, ![128, 1024]⟩
abbrev S768x1024 : Shape := ⟨2, ![768, 1024]⟩
abbrev S1792x1024 : Shape := ⟨2, ![1792, 1024]⟩
abbrev S256x1024 : Shape := ⟨2, ![256, 1024]⟩
abbrev S1152x1024 : Shape := ⟨2, ![1152, 1024]⟩
abbrev S1024x1152 : Shape := ⟨2, ![1024, 1152]⟩
abbrev S1x1024 : Shape := ⟨2, ![1, 1024]⟩
abbrev S16384x1024 : Shape := ⟨2, ![16384, 1024]⟩
abbrev S8x1024x2048 : Shape := ⟨3, ![8, 1024, 2048]⟩
abbrev S8x256x2048 : Shape := ⟨3, ![8, 256, 2048]⟩
abbrev S8x16x2x80x128 : Shape := ⟨5, ![8, 16, 2, 80, 128]⟩
abbrev S16384x256 : Shape := ⟨2, ![16384, 256]⟩
abbrev S16384x128 : Shape := ⟨2, ![16384, 128]⟩
abbrev S2048x4096 : Shape := ⟨2, ![2048, 4096]⟩
abbrev S1x1024x512 : Shape := ⟨3, ![1, 1024, 512]⟩
abbrev S1x256x512 : Shape := ⟨3, ![1, 256, 512]⟩
abbrev S1x4x2x80x128 : Shape := ⟨5, ![1, 4, 2, 80, 128]⟩
abbrev S512x256 : Shape := ⟨2, ![512, 256]⟩
abbrev S512x128 : Shape := ⟨2, ![512, 128]⟩
abbrev S512x512 : Shape := ⟨2, ![512, 512]⟩
abbrev S512 : Shape := ⟨1, ![512]⟩
abbrev S512x1 : Shape := ⟨2, ![512, 1]⟩
abbrev S1024x256 : Shape := ⟨2, ![1024, 256]⟩
abbrev S1024x128 : Shape := ⟨2, ![1024, 128]⟩
abbrev S1024x512 : Shape := ⟨2, ![1024, 512]⟩
abbrev S256x512 : Shape := ⟨2, ![256, 512]⟩
abbrev S16x128 : Shape := ⟨2, ![16, 128]⟩
abbrev S64x128 : Shape := ⟨2, ![64, 128]⟩
abbrev S80x128 : Shape := ⟨2, ![80, 128]⟩
abbrev S1x1x1x80x128 : Shape := ⟨5, ![1, 1, 1, 80, 128]⟩

abbrev nBuf : Space → Nat
  | .hbm => 51
  | .vmem => 33
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S1024x3864, .f32⟩
  | .hbm, ⟨7, _⟩ => ⟨S8x2, .f32⟩
  | .hbm, ⟨8, _⟩ => ⟨S3864x1024, .f32⟩
  | .hbm, ⟨9, _⟩ => ⟨S512x1024, .f32⟩
  | .hbm, ⟨10, _⟩ => ⟨S_, .f32⟩
  | .hbm, ⟨11, _⟩ => ⟨S512x1024, .f32⟩
  | .hbm, ⟨12, _⟩ => ⟨S512x1024, .f32⟩
  | .hbm, ⟨13, _⟩ => ⟨S8x1x64x1024, .f32⟩
  | .hbm, ⟨14, _⟩ => ⟨S8x2x1x1, .f32⟩
  | .hbm, ⟨15, _⟩ => ⟨S8x2x64x1024, .f32⟩
  | .hbm, ⟨16, _⟩ => ⟨S8x2x64x1024, .f32⟩
  | .hbm, ⟨17, _⟩ => ⟨S8x2x64x1024, .f32⟩
  | .hbm, ⟨18, _⟩ => ⟨S1024x1024, .f32⟩
  | .hbm, ⟨19, _⟩ => ⟨S24x1024, .f32⟩
  | .hbm, ⟨20, _⟩ => ⟨S_, .i32⟩
  | .hbm, ⟨21, _⟩ => ⟨S_, .f32⟩
  | .hbm, ⟨22, _⟩ => ⟨S128x1024, .f32⟩
  | .hbm, ⟨23, _⟩ => ⟨S768x1024, .f32⟩
  | .hbm, ⟨24, _⟩ => ⟨S1792x1024, .f32⟩
  | .hbm, ⟨25, _⟩ => ⟨S256x1024, .f32⟩
  | .hbm, ⟨26, _⟩ => ⟨S128x1024, .f32⟩
  | .hbm, ⟨27, _⟩ => ⟨S128x1024, .f32⟩
  | .hbm, ⟨28, _⟩ => ⟨S512x1024, .f32⟩
  | .hbm, ⟨29, _⟩ => ⟨S1152x1024, .f32⟩
  | .hbm, ⟨30, _⟩ => ⟨S1024x1152, .f32⟩
  | .hbm, ⟨31, _⟩ => ⟨S1x1024, .f32⟩
  | .hbm, ⟨32, _⟩ => ⟨S1024x2816, .bf16⟩
  | .hbm, ⟨33, _⟩ => ⟨S1024x2816, .bf16⟩
  | .hbm, ⟨34, _⟩ => ⟨S2816x1024, .bf16⟩
  | .hbm, ⟨35, _⟩ => ⟨S16384x1024, .f32⟩
  | .hbm, ⟨36, _⟩ => ⟨S1x1024, .f32⟩
  | .hbm, ⟨37, _⟩ => ⟨S1024x1152, .bf16⟩
  | .hbm, ⟨38, _⟩ => ⟨S1792x1024, .bf16⟩
  | .hbm, ⟨39, _⟩ => ⟨S16384x1024, .f32⟩
  | .hbm, ⟨40, _⟩ => ⟨S8x1024x2048, .bf16⟩
  | .hbm, ⟨41, _⟩ => ⟨S8x256x2048, .f32⟩
  | .hbm, ⟨42, _⟩ => ⟨S8x256x2048, .f32⟩
  | .hbm, ⟨43, _⟩ => ⟨S8x256x2048, .f32⟩
  | .hbm, ⟨44, _⟩ => ⟨S8x16x2x80x128, .bf16⟩
  | .hbm, ⟨45, _⟩ => ⟨S8x16x2x80x128, .bf16⟩
  | .hbm, ⟨46, _⟩ => ⟨S16384x256, .f32⟩
  | .hbm, ⟨47, _⟩ => ⟨S16384x256, .bf16⟩
  | .hbm, ⟨48, _⟩ => ⟨S16384x128, .bf16⟩
  | .hbm, ⟨49, _⟩ => ⟨S2048x4096, .f32⟩
  | .hbm, ⟨50, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S1024x1152, .bf16⟩
  | .local _ .vmem, ⟨8, _⟩ => ⟨S1792x1024, .bf16⟩
  | .local _ .vmem, ⟨9, _⟩ => ⟨S512x1024, .f32⟩
  | .local _ .vmem, ⟨10, _⟩ => ⟨S512x1024, .f32⟩
  | .local _ .vmem, ⟨11, _⟩ => ⟨S1x1024x512, .bf16⟩
  | .local _ .vmem, ⟨12, _⟩ => ⟨S1x1024x512, .bf16⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | .local _ .vmem, ⟨16, _⟩ => ⟨S1x256x512, .f32⟩
  | .local _ .vmem, ⟨17, _⟩ => ⟨S1x256x512, .f32⟩
  | .local _ .vmem, ⟨18, _⟩ => ⟨S1x256x512, .f32⟩
  | .local _ .vmem, ⟨19, _⟩ => ⟨S1x4x2x80x128, .bf16⟩
  | .local _ .vmem, ⟨20, _⟩ => ⟨S1x4x2x80x128, .bf16⟩
  | .local _ .vmem, ⟨21, _⟩ => ⟨S1x4x2x80x128, .bf16⟩
  | .local _ .vmem, ⟨22, _⟩ => ⟨S1x4x2x80x128, .bf16⟩
  | .local _ .vmem, ⟨23, _⟩ => ⟨S512x256, .f32⟩
  | .local _ .vmem, ⟨24, _⟩ => ⟨S512x256, .f32⟩
  | .local _ .vmem, ⟨25, _⟩ => ⟨S512x256, .bf16⟩
  | .local _ .vmem, ⟨26, _⟩ => ⟨S512x256, .bf16⟩
  | .local _ .vmem, ⟨27, _⟩ => ⟨S512x128, .bf16⟩
  | .local _ .vmem, ⟨28, _⟩ => ⟨S512x128, .bf16⟩
  | .local _ .vmem, ⟨29, _⟩ => ⟨S512x512, .f32⟩
  | .local _ .vmem, ⟨30, _⟩ => ⟨S512x512, .f32⟩
  | .local _ .vmem, ⟨31, _⟩ => ⟨S512x128, .f32⟩
  | .local _ .vmem, ⟨32, _⟩ => ⟨S512x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_call0_v0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28_0 : Ref sig .tc := ⟨.hbm, 39, rfl⟩
abbrev main_v28_1 : Ref sig .tc := ⟨.hbm, 40, rfl⟩
abbrev main_v28_2 : Ref sig .tc := ⟨.hbm, 41, rfl⟩
abbrev main_v28_3 : Ref sig .tc := ⟨.hbm, 42, rfl⟩
abbrev main_v28_4 : Ref sig .tc := ⟨.hbm, 43, rfl⟩
abbrev main_v28_5 : Ref sig .tc := ⟨.hbm, 44, rfl⟩
abbrev main_v28_6 : Ref sig .tc := ⟨.hbm, 45, rfl⟩
abbrev main_v28_7 : Ref sig .tc := ⟨.hbm, 46, rfl⟩
abbrev main_v28_8 : Ref sig .tc := ⟨.hbm, 47, rfl⟩
abbrev main_v28_9 : Ref sig .tc := ⟨.hbm, 48, rfl⟩
abbrev main_v28_10 : Ref sig .tc := ⟨.hbm, 49, rfl⟩
abbrev main_v28_11 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_13 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_14 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_15 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_16 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_17 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_19 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1152 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1792x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x4x2x80x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x4x2x80x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S512x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S512x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S512x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S512x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S512x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== Reference3Ideal.lean ====
abbrev S8x2048x1024 : Shape := ⟨3, ![8, 2048, 1024]⟩
abbrev S1024 : Shape := ⟨1, ![1024]⟩
abbrev S1024x2816 : Shape := ⟨2, ![1024, 2816]⟩
abbrev S2816x1024 : Shape := ⟨2, ![2816, 1024]⟩
abbrev S1024x3864 : Shape := ⟨2, ![1024, 3864]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x2816 : Shape := ⟨3, ![8, 2048, 2816]⟩
abbrev S8x2048x3864 : Shape := ⟨3, ![8, 2048, 3864]⟩
abbrev S8x2048x512 : Shape := ⟨3, ![8, 2048, 512]⟩
abbrev S8x2048x256 : Shape := ⟨3, ![8, 2048, 256]⟩
abbrev S8x2048x24 : Shape := ⟨3, ![8, 2048, 24]⟩
abbrev S8x2048x2048 : Shape := ⟨3, ![8, 2048, 2048]⟩
abbrev S8x2048x128 : Shape := ⟨3, ![8, 2048, 128]⟩
abbrev S16384x1024 : Shape := ⟨2, ![16384, 1024]⟩
abbrev S8x256x2048 : Shape := ⟨3, ![8, 256, 2048]⟩
abbrev S16384x256 : Shape := ⟨2, ![16384, 256]⟩
abbrev S2048x8x512 : Shape := ⟨3, ![2048, 8, 512]⟩
abbrev S2048x4096 : Shape := ⟨2, ![2048, 4096]⟩
abbrev S16384x128 : Shape := ⟨2, ![16384, 128]⟩

abbrev nBuf : Space → Nat
  | .hbm => 83
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S1024x3864, .f32⟩
  | .hbm, ⟨7, _⟩ => ⟨S8x2048x1024, .f32⟩
  | .hbm, ⟨8, _⟩ => ⟨S_, .f32⟩
  | .hbm, ⟨9, _⟩ => ⟨S8x2048, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S8x2048x1, .f32⟩
  | .hbm, ⟨18, _⟩ => ⟨S8x2048x1024, .f32⟩
  | .hbm, ⟨19, _⟩ => ⟨S8x2048x1024, .f32⟩
  | .hbm, ⟨20, _⟩ => ⟨S1x1x1024, .f32⟩
  | .hbm, ⟨21, _⟩ => ⟨S8x2048x1024, .f32⟩
  | .hbm, ⟨22, _⟩ => ⟨S8x2048x1024, .f32⟩
  | .hbm, ⟨23, _⟩ => ⟨S8x2048x2816, .f32⟩
  | .hbm, ⟨24, _⟩ => ⟨S8x2048x2816, .f32⟩
  | .hbm, ⟨25, _⟩ => ⟨S8x2048x2816, .f32⟩
  | .hbm, ⟨26, _⟩ => ⟨S_, .f32⟩
  | .hbm, ⟨27, _⟩ => ⟨S8x2048x2816, .f32⟩
  | .hbm, ⟨28, _⟩ => ⟨S8x2048x2816, .f32⟩
  | .hbm, ⟨29, _⟩ => ⟨S_, .f32⟩
  | .hbm, ⟨30, _⟩ => ⟨S8x2048x2816, .f32⟩
  | .hbm, ⟨31, _⟩ => ⟨S8x2048x2816, .f32⟩
  | .hbm, ⟨32, _⟩ => ⟨S8x2048x2816, .f32⟩
  | .hbm, ⟨33, _⟩ => ⟨S8x2048x2816, .f32⟩
  | .hbm, ⟨34, _⟩ => ⟨S8x2048x2816, .f32⟩
  | .hbm, ⟨35, _⟩ => ⟨S8x2048x1024, .f32⟩
  | .hbm, ⟨36, _⟩ => ⟨S_, .f32⟩
  | .hbm, ⟨37, _⟩ => ⟨S8x2048x1024, .f32⟩
  | .hbm, ⟨38, _⟩ => ⟨S8x2048x1024, .f32⟩
  | .hbm, ⟨39, _⟩ => ⟨S8x2048x1024, .f32⟩
  | .hbm, ⟨40, _⟩ => ⟨S8x2048x1024, .f32⟩
  | .hbm, ⟨41, _⟩ => ⟨S_, .f32⟩
  | .hbm, ⟨42, _⟩ => ⟨S8x2048, .f32⟩
  | .hbm, ⟨43, _⟩ => ⟨S8x2048x1, .f32⟩
  | .hbm, ⟨44, _⟩ => ⟨S_, .f32⟩
  | .hbm, ⟨45, _⟩ => ⟨S8x2048x1, .f32⟩
  | .hbm, ⟨46, _⟩ => ⟨S8x2048x1, .f32⟩
  | .hbm, ⟨47, _⟩ => ⟨S_, .f32⟩
  | .hbm, ⟨48, _⟩ => ⟨S8x2048x1, .f32⟩
  | .hbm, ⟨49, _⟩ => ⟨S8x2048x1, .f32⟩
  | .hbm, ⟨50, _⟩ => ⟨S8x2048x1, .f32⟩
  | .hbm, ⟨51, _⟩ => ⟨S8x2048x1024, .f32⟩
  | .hbm, ⟨52, _⟩ => ⟨S8x2048x1024, .f32⟩
  | .hbm, ⟨53, _⟩ => ⟨S1x1x1024, .f32⟩
  | .hbm, ⟨54, _⟩ => ⟨S8x2048x1024, .f32⟩
  | .hbm, ⟨55, _⟩ => ⟨S8x2048x1024, .f32⟩
  | .hbm, ⟨56, _⟩ => ⟨S8x2048x3864, .f32⟩
  | .hbm, ⟨57, _⟩ => ⟨S8x2048x512, .f32⟩
  | .hbm, ⟨58, _⟩ => ⟨S8x2048x256, .f32⟩
  | .hbm, ⟨59, _⟩ => ⟨S8x2048x256, .f32⟩
  | .hbm, ⟨60, _⟩ => ⟨S8x2048x256, .f32⟩
  | .hbm, ⟨61, _⟩ => ⟨S8x2048x24, .f32⟩
  | .hbm, ⟨62, _⟩ => ⟨S8x2048x512, .f32⟩
  | .hbm, ⟨63, _⟩ => ⟨S8x2048x2048, .f32⟩
  | .hbm, ⟨64, _⟩ => ⟨S_, .i32⟩
  | .hbm, ⟨65, _⟩ => ⟨S_, .f32⟩
  | .hbm, ⟨66, _⟩ => ⟨S8x2048x128, .f32⟩
  | .hbm, ⟨67, _⟩ => ⟨S8x2048x128, .f32⟩
  | .hbm, ⟨68, _⟩ => ⟨S8x2048x128, .f32⟩
  | .hbm, ⟨69, _⟩ => ⟨S_, .f32⟩
  | .hbm, ⟨70, _⟩ => ⟨S8x2048x128, .f32⟩
  | .hbm, ⟨71, _⟩ => ⟨S8x2048x128, .f32⟩
  | .hbm, ⟨72, _⟩ => ⟨S_, .f32⟩
  | .hbm, ⟨73, _⟩ => ⟨S8x2048x128, .f32⟩
  | .hbm, ⟨74, _⟩ => ⟨S8x2048x128, .f32⟩
  | .hbm, ⟨75, _⟩ => ⟨S16384x1024, .f32⟩
  | .hbm, ⟨76, _⟩ => ⟨S8x256x2048, .f32⟩
  | .hbm, ⟨77, _⟩ => ⟨S8x256x2048, .f32⟩
  | .hbm, ⟨78, _⟩ => ⟨S8x256x2048, .f32⟩
  | .hbm, ⟨79, _⟩ => ⟨S16384x256, .f32⟩
  | .hbm, ⟨80, _⟩ => ⟨S2048x8x512, .f32⟩
  | .hbm, ⟨81, _⟩ => ⟨S2048x4096, .f32⟩
  | .hbm, ⟨82, _⟩ => ⟨S16384x128, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_2 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_3 : Ref sig .tc := ⟨.hbm, 41, rfl⟩
abbrev main_v22 : Ref sig .tc := ⟨.hbm, 42, rfl⟩
abbrev main_v23 : Ref sig .tc := ⟨.hbm, 43, rfl⟩
abbrev main_cst_4 : Ref sig .tc := ⟨.hbm, 44, rfl⟩
abbrev main_v24 : Ref sig .tc := ⟨.hbm, 45, rfl⟩
abbrev main_v25 : Ref sig .tc := ⟨.hbm, 46, rfl⟩
abbrev main_cst_5 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_c : Ref sig .tc := ⟨.hbm, 64, rfl⟩
abbrev main_call1_v0 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_6 : Ref sig .tc := ⟨.hbm, 69, rfl⟩
abbrev main_v45 : Ref sig .tc := ⟨.hbm, 70, rfl⟩
abbrev main_v46 : Ref sig .tc := ⟨.hbm, 71, rfl⟩
abbrev main_cst_7 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩

abbrev nD : Nat := 1
abbrev τ : Topo := Topo.v7x

variable {F : FTy → Type} [FloatOps F]
-- ==== Kernel4.lean ====
abbrev S128x4x1024 : Shape := ⟨3, ![128, 4, 1024]⟩
abbrev S1024 : Shape := ⟨1, ![1024]⟩
abbrev S1024x2816 : Shape := ⟨2, ![1024, 2816]⟩
abbrev S2816x1024 : Shape := ⟨2, ![2816, 1024]⟩
abbrev S1024x3864 : Shape := ⟨2, ![1024, 3864]⟩
abbrev S8x2 : Shape := ⟨2, ![8, 2]⟩
abbrev S3864x1024 : Shape := ⟨2, ![3864, 1024]⟩
abbrev S512x1024 : Shape := ⟨2, ![512, 1024]⟩
abbrev S_ : Shape := ⟨0, ![]⟩
abbrev S8x1x64x1024 : Shape := ⟨4, ![8, 1, 64, 1024]⟩
abbrev S8x2x1x1 : Shape := ⟨4, ![8, 2, 1, 1]⟩
abbrev S8x2x64x1024 : Shape := ⟨4, ![8, 2, 64, 1024]⟩
abbrev S1024x1024 : Shape := ⟨2, ![1024, 1024]⟩
abbrev S24x1024 : Shape := ⟨2, ![24, 1024]⟩
abbrev S128x1024 : Shape := ⟨2, ![128, 1024]⟩
abbrev S768x1024 : Shape := ⟨2, ![768, 1024]⟩
abbrev S2432x1024 : Shape := ⟨2, ![2432, 1024]⟩
abbrev S1024x2432 : Shape := ⟨2, ![1024, 2432]⟩
abbrev S1x1024 : Shape := ⟨2, ![1, 1024]⟩
abbrev S512x256 : Shape := ⟨2, ![512, 256]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S1024x256 : Shape := ⟨2, ![1024, 256]⟩
abbrev S256x1024 : Shape := ⟨2, ![256, 1024]⟩
abbrev S1024x512 : Shape := ⟨2, ![1024, 512]⟩
abbrev S1024x128 : Shape := ⟨2, ![1024, 128]⟩

abbrev nBuf : Space → Nat
  | .hbm => 41
  | .vmem => 14
  | .smem => 0
  | _ => 0

abbrev bufTy : (tb : Table) → Fin (tcTables nBuf tb) → BufTy
  | .hbm, ⟨0, _⟩ => ⟨S128x4x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S1024x3864, .f32⟩
  | .hbm, ⟨7, _⟩ => ⟨S8x2, .f32⟩
  | .hbm, ⟨8, _⟩ => ⟨S3864x1024, .f32⟩
  | .hbm, ⟨9, _⟩ => ⟨S512x1024, .f32⟩
  | .hbm, ⟨10, _⟩ => ⟨S_, .f32⟩
  | .hbm, ⟨11, _⟩ => ⟨S512x1024, .f32⟩
  | .hbm, ⟨12, _⟩ => ⟨S512x1024, .f32⟩
  | .hbm, ⟨13, _⟩ => ⟨S8x1x64x1024, .f32⟩
  | .hbm, ⟨14, _⟩ => ⟨S8x2x1x1, .f32⟩
  | .hbm, ⟨15, _⟩ => ⟨S8x2x64x1024, .f32⟩
  | .hbm, ⟨16, _⟩ => ⟨S8x2x64x1024, .f32⟩
  | .hbm, ⟨17, _⟩ => ⟨S8x2x64x1024, .f32⟩
  | .hbm, ⟨18, _⟩ => ⟨S1024x1024, .f32⟩
  | .hbm, ⟨19, _⟩ => ⟨S24x1024, .f32⟩
  | .hbm, ⟨20, _⟩ => ⟨S_, .i32⟩
  | .hbm, ⟨21, _⟩ => ⟨S_, .f32⟩
  | .hbm, ⟨22, _⟩ => ⟨S128x1024, .f32⟩
  | .hbm, ⟨23, _⟩ => ⟨S768x1024, .f32⟩
  | .hbm, ⟨24, _⟩ => ⟨S512x1024, .f32⟩
  | .hbm, ⟨25, _⟩ => ⟨S2432x1024, .f32⟩
  | .hbm, ⟨26, _⟩ => ⟨S1024x2432, .f32⟩
  | .hbm, ⟨27, _⟩ => ⟨S1x1024, .f32⟩
  | .hbm, ⟨28, _⟩ => ⟨S1024x2816, .bf16⟩
  | .hbm, ⟨29, _⟩ => ⟨S1024x2816, .bf16⟩
  | .hbm, ⟨30, _⟩ => ⟨S2816x1024, .bf16⟩
  | .hbm, ⟨31, _⟩ => ⟨S512x1024, .f32⟩
  | .hbm, ⟨32, _⟩ => ⟨S1x1024, .f32⟩
  | .hbm, ⟨33, _⟩ => ⟨S1024x2432, .bf16⟩
  | .hbm, ⟨34, _⟩ => ⟨S512x1024, .f32⟩
  | .hbm, ⟨35, _⟩ => ⟨S512x1024, .bf16⟩
  | .hbm, ⟨36, _⟩ => ⟨S512x256, .f32⟩
  | .hbm, ⟨37, _⟩ => ⟨S512x256, .f32⟩
  | .hbm, ⟨38, _⟩ => ⟨S512x256, .f32⟩
  | .hbm, ⟨39, _⟩ => ⟨S512x512, .f32⟩
  | .hbm, ⟨40, _⟩ => ⟨S512x128, .f32⟩
  | .local _ .vmem, ⟨0, _⟩ => ⟨S512x1024, .f32⟩
  | .local _ .vmem, ⟨1, _⟩ => ⟨S1x1024, .f32⟩
  | .local _ .vmem, ⟨2, _⟩ => ⟨S1024x2816, .bf16⟩
  | .local _ .vmem, ⟨3, _⟩ => ⟨S1024x2816, .bf16⟩
  | .local _ .vmem, ⟨4, _⟩ => ⟨S2816x1024, .bf16⟩
  | .local _ .vmem, ⟨5, _⟩ => ⟨S1x1024, .f32⟩
  | .local _ .vmem, ⟨6, _⟩ => ⟨S1024x2432, .bf16⟩
  | .local _ .vmem, ⟨7, _⟩ => ⟨S512x1024, .f32⟩
  | .local _ .vmem, ⟨8, _⟩ => ⟨S512x1024, .bf16⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x512, .f32⟩
  | .local _ .vmem, ⟨13, _⟩ => ⟨S512x128, .f32⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_call0_v0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23_0 : Ref sig .tc := ⟨.hbm, 34, rfl⟩
abbrev main_v23_1 : Ref sig .tc := ⟨.hbm, 35, rfl⟩
abbrev main_v23_2 : Ref sig .tc := ⟨.hbm, 36, rfl⟩
abbrev main_v23_3 : Ref sig .tc := ⟨.hbm, 37, rfl⟩
abbrev main_v23_4 : Ref sig .tc := ⟨.hbm, 38, rfl⟩
abbrev main_v23_5 : Ref sig .tc := ⟨.hbm, 39, rfl⟩
abbrev main_v23_6 : Ref sig .tc := ⟨.hbm, 40, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_13 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x2432 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]

abbrev stage0_9 : Fin 1 → Memref sig .tc .vmem S512x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, true]

abbrev stage0_10 : Fin 1 → Memref sig .tc .vmem S512x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, true]

abbrev stage0_11 : Fin 1 → Memref sig .tc .vmem S512x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, true]

abbrev stage0_12 : Fin 1 → Memref sig .tc .vmem S512x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true, true]

abbrev stage0_13 : Fin 1 → Memref sig .tc .vmem S512x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true, true]
-- ==== Reference4Ideal.lean ====
abbrev S128x4x1024 : Shape := ⟨3, ![128, 4, 1024]⟩
abbrev S1024 : Shape := ⟨1, ![1024]⟩
abbrev S1024x2816 : Shape := ⟨2, ![1024, 2816]⟩
abbrev S2816x1024 : Shape := ⟨2, ![2816, 1024]⟩
abbrev S1024x3864 : Shape := ⟨2, ![1024, 3864]⟩
abbrev S_ : Shape := ⟨0, ![]⟩
abbrev S128x4 : Shape := ⟨2, ![128, 4]⟩
abbrev S128x4x1 : Shape := ⟨3, ![128, 4, 1]⟩
abbrev S1x1x1024 : Shape := ⟨3, ![1, 1, 1024]⟩
abbrev S128x4x2816 : Shape := ⟨3, ![128, 4, 2816]⟩
abbrev S128x4x3864 : Shape := ⟨3, ![128, 4, 3864]⟩
abbrev S128x4x512 : Shape := ⟨3, ![128, 4, 512]⟩
abbrev S128x4x256 : Shape := ⟨3, ![128, 4, 256]⟩
abbrev S128x4x24 : Shape := ⟨3, ![128, 4, 24]⟩
abbrev S128x4x2048 : Shape := ⟨3, ![128, 4, 2048]⟩
abbrev S128x4x128 : Shape := ⟨3, ![128, 4, 128]⟩
abbrev S512x1024 : Shape := ⟨2, ![512, 1024]⟩
abbrev S512x256 : Shape := ⟨2, ![512, 256]⟩
abbrev S512x512 : Shape := ⟨2, ![512, 512]⟩
abbrev S512x128 : Shape := ⟨2, ![512, 128]⟩

abbrev nBuf : Space → Nat
  | .hbm => 81
  | .vmem => 0
  | .smem => 0
  | _ => 0

abbrev bufTy : (tb : Table) → Fin (tcTables nBuf tb) → BufTy
  | .hbm, ⟨0, _⟩ => ⟨S128x4x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S1024x3864, .f32⟩
  | .hbm, ⟨7, _⟩ => ⟨S128x4x1024, .f32⟩
  | .hbm, ⟨8, _⟩ => ⟨S_, .f32⟩
  | .hbm, ⟨9, _⟩ => ⟨S128x4, .f32⟩
  | .hbm, ⟨10, _⟩ => ⟨S128x4x1, .f32⟩
  | .hbm, ⟨11, _⟩ => ⟨S_, .f32⟩
  | .hbm, ⟨12, _⟩ => ⟨S128x4x1, .f32⟩
  | .hbm, ⟨13, _⟩ => ⟨S128x4x1, .f32⟩
  | .hbm, ⟨14, _⟩ => ⟨S_, .f32⟩
  | .hbm, ⟨15, _⟩ => ⟨S128x4x1, .f32⟩
  | .hbm, ⟨16, _⟩ => ⟨S128x4x1, .f32⟩
  | .hbm, ⟨17, _⟩ => ⟨S128x4x1, .f32⟩
  | .hbm, ⟨18, _⟩ => ⟨S128x4x1024, .f32⟩
  | .hbm, ⟨19, _⟩ => ⟨S128x4x1024, .f32⟩
  | .hbm, ⟨20, _⟩ => ⟨S1x1x1024, .f32⟩
  | .hbm, ⟨21, _⟩ => ⟨S128x4x1024, .f32⟩
  | .hbm, ⟨22, _⟩ => ⟨S128x4x1024, .f32⟩
  | .hbm, ⟨23, _⟩ => ⟨S128x4x2816, .f32⟩
  | .hbm, ⟨24, _⟩ => ⟨S128x4x2816, .f32⟩
  | .hbm, ⟨25, _⟩ => ⟨S128x4x2816, .f32⟩
  | .hbm, ⟨26, _⟩ => ⟨S_, .f32⟩
  | .hbm, ⟨27, _⟩ => ⟨S128x4x2816, .f32⟩
  | .hbm, ⟨28, _⟩ => ⟨S128x4x2816, .f32⟩
  | .hbm, ⟨29, _⟩ => ⟨S_, .f32⟩
  | .hbm, ⟨30, _⟩ => ⟨S128x4x2816, .f32⟩
  | .hbm, ⟨31, _⟩ => ⟨S128x4x2816, .f32⟩
  | .hbm, ⟨32, _⟩ => ⟨S128x4x2816, .f32⟩
  | .hbm, ⟨33, _⟩ => ⟨S128x4x2816, .f32⟩
  | .hbm, ⟨34, _⟩ => ⟨S128x4x2816, .f32⟩
  | .hbm, ⟨35, _⟩ => ⟨S128x4x1024, .f32⟩
  | .hbm, ⟨36, _⟩ => ⟨S_, .f32⟩
  | .hbm, ⟨37, _⟩ => ⟨S128x4x1024, .f32⟩
  | .hbm, ⟨38, _⟩ => ⟨S128x4x1024, .f32⟩
  | .hbm, ⟨39, _⟩ => ⟨S128x4x1024, .f32⟩
  | .hbm, ⟨40, _⟩ => ⟨S128x4x1024, .f32⟩
  | .hbm, ⟨41, _⟩ => ⟨S_, .f32⟩
  | .hbm, ⟨42, _⟩ => ⟨S128x4, .f32⟩
  | .hbm, ⟨43, _⟩ => ⟨S128x4x1, .f32⟩
  | .hbm, ⟨44, _⟩ => ⟨S_, .f32⟩
  | .hbm, ⟨45, _⟩ => ⟨S128x4x1, .f32⟩
  | .hbm, ⟨46, _⟩ => ⟨S128x4x1, .f32⟩
  | .hbm, ⟨47, _⟩ => ⟨S_, .f32⟩
  | .hbm, ⟨48, _⟩ => ⟨S128x4x1, .f32⟩
  | .hbm, ⟨49, _⟩ => ⟨S128x4x1, .f32⟩
  | .hbm, ⟨50, _⟩ => ⟨S128x4x1, .f32⟩
  | .hbm, ⟨51, _⟩ => ⟨S128x4x1024, .f32⟩
  | .hbm, ⟨52, _⟩ => ⟨S128x4x1024, .f32⟩
  | .hbm, ⟨53, _⟩ => ⟨S1x1x1024, .f32⟩
  | .hbm, ⟨54, _⟩ => ⟨S128x4x1024, .f32⟩
  | .hbm, ⟨55, _⟩ => ⟨S128x4x1024, .f32⟩
  | .hbm, ⟨56, _⟩ => ⟨S128x4x3864, .f32⟩
  | .hbm, ⟨57, _⟩ => ⟨S128x4x512, .f32⟩
  | .hbm, ⟨58, _⟩ => ⟨S128x4x256, .f32⟩
  | .hbm, ⟨59, _⟩ => ⟨S128x4x256, .f32⟩
  | .hbm, ⟨60, _⟩ => ⟨S128x4x256, .f32⟩
  | .hbm, ⟨61, _⟩ => ⟨S128x4x24, .f32⟩
  | .hbm, ⟨62, _⟩ => ⟨S128x4x512, .f32⟩
  | .hbm, ⟨63, _⟩ => ⟨S128x4x2048, .f32⟩
  | .hbm, ⟨64, _⟩ => ⟨S_, .i32⟩
  | .hbm, ⟨65, _⟩ => ⟨S_, .f32⟩
  | .hbm, ⟨66, _⟩ => ⟨S128x4x128, .f32⟩
  | .hbm, ⟨67, _⟩ => ⟨S128x4x128, .f32⟩
  | .hbm, ⟨68, _⟩ => ⟨S128x4x128, .f32⟩
  | .hbm, ⟨69, _⟩ => ⟨S_, .f32⟩
  | .hbm, ⟨70, _⟩ => ⟨S128x4x128, .f32⟩
  | .hbm, ⟨71, _⟩ => ⟨S128x4x128, .f32⟩
  | .hbm, ⟨72, _⟩ => ⟨S_, .f32⟩
  | .hbm, ⟨73, _⟩ => ⟨S128x4x128, .f32⟩
  | .hbm, ⟨74, _⟩ => ⟨S128x4x128, .f32⟩
  | .hbm, ⟨75, _⟩ => ⟨S512x1024, .f32⟩
  | .hbm, ⟨76, _⟩ => ⟨S512x256, .f32⟩
  | .hbm, ⟨77, _⟩ => ⟨S512x256, .f32⟩
  | .hbm, ⟨78, _⟩ => ⟨S512x256, .f32⟩
  | .hbm, ⟨79, _⟩ => ⟨S512x512, .f32⟩
  | .hbm, ⟨80, _⟩ => ⟨S512x128, .f32⟩
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_2 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_3 : Ref sig .tc := ⟨.hbm, 41, rfl⟩
abbrev main_v22 : Ref sig .tc := ⟨.hbm, 42, rfl⟩
abbrev main_v23 : Ref sig .tc := ⟨.hbm, 43, rfl⟩
abbrev main_cst_4 : Ref sig .tc := ⟨.hbm, 44, rfl⟩
abbrev main_v24 : Ref sig .tc := ⟨.hbm, 45, rfl⟩
abbrev main_v25 : Ref sig .tc := ⟨.hbm, 46, rfl⟩
abbrev main_cst_5 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_c : Ref sig .tc := ⟨.hbm, 64, rfl⟩
abbrev main_call1_v0 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_6 : Ref sig .tc := ⟨.hbm, 69, rfl⟩
abbrev main_v45 : Ref sig .tc := ⟨.hbm, 70, rfl⟩
abbrev main_v46 : Ref sig .tc := ⟨.hbm, 71, rfl⟩
abbrev main_cst_7 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩

abbrev nD : Nat := 1
abbrev τ : Topo := Topo.v7x

variable {F : FTy → Type} [FloatOps F]
-- ==== Kernel5.lean ====
abbrev S128x4x1024 : Shape := ⟨3, ![128, 4, 1024]⟩
abbrev S128x4x8x2x64 : Shape := ⟨5, ![128, 4, 8, 2, 64]⟩
abbrev S128x4x512 : Shape := ⟨3, ![128, 4, 512]⟩
abbrev S128x4x256 : Shape := ⟨3, ![128, 4, 256]⟩
abbrev S1024 : Shape := ⟨1, ![1024]⟩
abbrev S1024x3864 : Shape := ⟨2, ![1024, 3864]⟩
abbrev S512x1024 : Shape := ⟨2, ![512, 1024]⟩
abbrev S1024x1024 : Shape := ⟨2, ![1024, 1024]⟩
abbrev S1024x2816 : Shape := ⟨2, ![1024, 2816]⟩
abbrev S2816x1024 : Shape := ⟨2, ![2816, 1024]⟩
abbrev S256x1024 : Shape := ⟨2, ![256, 1024]⟩
abbrev S8x2 : Shape := ⟨2, ![8, 2]⟩
abbrev S8x1x64x1024 : Shape := ⟨4, ![8, 1, 64, 1024]⟩
abbrev S8x2x1x1 : Shape := ⟨4, ![8, 2, 1, 1]⟩
abbrev S8x2x64x1024 : Shape := ⟨4, ![8, 2, 64, 1024]⟩
abbrev S1x1024 : Shape := ⟨2, ![1, 1024]⟩
abbrev S512x512 : Shape := ⟨2, ![512, 512]⟩
abbrev S512x256 : Shape := ⟨2, ![512, 256]⟩
abbrev S1024x2048 : Shape := ⟨2, ![1024, 2048]⟩
abbrev S512 : Shape := ⟨1, ![512]⟩
abbrev S512x1 : Shape := ⟨2, ![512, 1]⟩
abbrev S512x2048 : Shape := ⟨2, ![512, 2048]⟩
abbrev S1024x256 : Shape := ⟨2, ![1024, 256]⟩

abbrev nBuf : Space → Nat
  | .hbm => 44
  | .vmem => 18
  | .smem => 0
  | _ => 0

abbrev bufTy : (tb : Table) → Fin (tcTables nBuf tb) → BufTy
  | .hbm, ⟨0, _⟩ => ⟨S128x4x1024, .f32⟩
  | .hbm, ⟨1, _⟩ => ⟨S128x4x8x2x64, .f32⟩
  | .hbm, ⟨2, _⟩ => ⟨S128x4x512, .f32⟩
  | .hbm, ⟨3, _⟩ => ⟨S128x4x256, .f32⟩
  | .hbm, ⟨4, _⟩ => ⟨S1024, .f32⟩
  | .hbm, ⟨5, _⟩ => ⟨S1024x3864, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S1024x2816, .f32⟩
  | .hbm, ⟨11, _⟩ => ⟨S1024x2816, .f32⟩
  | .hbm, ⟨12, _⟩ => ⟨S2816x1024, .f32⟩
  | .hbm, ⟨13, _⟩ => ⟨S1024, .f32⟩
  | .hbm, ⟨14, _⟩ => ⟨S1024x1024, .f32⟩
  | .hbm, ⟨15, _⟩ => ⟨S256x1024, .f32⟩
  | .hbm, ⟨16, _⟩ => ⟨S1024, .f32⟩
  | .hbm, ⟨17, _⟩ => ⟨S8x2, .f32⟩
  | .hbm, ⟨18, _⟩ => ⟨S8x1x64x1024, .f32⟩
  | .hbm, ⟨19, _⟩ => ⟨S8x2x1x1, .f32⟩
  | .hbm, ⟨20, _⟩ => ⟨S8x2x64x1024, .f32⟩
  | .hbm, ⟨21, _⟩ => ⟨S8x2x64x1024, .f32⟩
  | .hbm, ⟨22, _⟩ => ⟨S8x2x64x1024, .f32⟩
  | .hbm, ⟨23, _⟩ => ⟨S1024x1024, .f32⟩
  | .hbm, ⟨24, _⟩ => ⟨S1x1024, .f32⟩
  | .hbm, ⟨25, _⟩ => ⟨S1024x2816, .bf16⟩
  | .hbm, ⟨26, _⟩ => ⟨S1024x2816, .bf16⟩
  | .hbm, ⟨27, _⟩ => ⟨S2816x1024, .bf16⟩
  | .hbm, ⟨28, _⟩ => ⟨S1x1024, .f32⟩
  | .hbm, ⟨29, _⟩ => ⟨S1024x1024, .bf16⟩
  | .hbm, ⟨30, _⟩ => ⟨S256x1024, .bf16⟩
  | .hbm, ⟨31, _⟩ => ⟨S512x1024, .f32⟩
  | .hbm, ⟨32, _⟩ => ⟨S512x1024, .f32⟩
  | .hbm, ⟨33, _⟩ => ⟨S512x1024, .bf16⟩
  | .hbm, ⟨34, _⟩ => ⟨S512x512, .f32⟩
  | .hbm, ⟨35, _⟩ => ⟨S512x256, .f32⟩
  | .hbm, ⟨36, _⟩ => ⟨S1x1024, .f32⟩
  | .hbm, ⟨37, _⟩ => ⟨S1024x2048, .f32⟩
  | .hbm, ⟨38, _⟩ => ⟨S1024x2048, .bf16⟩
  | .hbm, ⟨39, _⟩ => ⟨S1024x1024, .bf16⟩
  | .hbm, ⟨40, _⟩ => ⟨S512x1024, .bf16⟩
  | .hbm, ⟨41, _⟩ => ⟨S1024x1024, .bf16⟩
  | .hbm, ⟨42, _⟩ => ⟨S1x1024, .f32⟩
  | .hbm, ⟨43, _⟩ => ⟨S512x1024, .f32⟩
  | .local _ .vmem, ⟨0, _⟩ => ⟨S512x1024, .f32⟩
  | .local _ .vmem, ⟨1, _⟩ => ⟨S512x1024, .bf16⟩
  | .local _ .vmem, ⟨2, _⟩ => ⟨S512x512, .f32⟩
  | .local _ .vmem, ⟨3, _⟩ => ⟨S512x256, .f32⟩
  | .local _ .vmem, ⟨4, _⟩ => ⟨S1x1024, .f32⟩
  | .local _ .vmem, ⟨5, _⟩ => ⟨S1024x2048, .bf16⟩
  | .local _ .vmem, ⟨6, _⟩ => ⟨S1024x1024, .bf16⟩
  | .local _ .vmem, ⟨7, _⟩ => ⟨S512x1024, .bf16⟩
  | .local _ .vmem, ⟨8, _⟩ => ⟨S1024x1024, .bf16⟩
  | .local _ .vmem, ⟨9, _⟩ => ⟨S1x1024, .f32⟩
  | .local _ .vmem, ⟨10, _⟩ => ⟨S1024x2816, .bf16⟩
  | .local _ .vmem, ⟨11, _⟩ => ⟨S1024x2816, .bf16⟩
  | .local _ .vmem, ⟨12, _⟩ => ⟨S2816x1024, .bf16⟩
  | .local _ .vmem, ⟨13, _⟩ => ⟨S1x1024, .f32⟩
  | .local _ .vmem, ⟨14, _⟩ => ⟨S1024x1024, .bf16⟩
  | .local _ .vmem, ⟨15, _⟩ => ⟨S256x1024, .bf16⟩
  | .local _ .vmem, ⟨16, _⟩ => ⟨S1x1024, .f32⟩
  | .local _ .vmem, ⟨17, _⟩ => ⟨S512x1024, .f32⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x2816 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x2816 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S2816x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S256x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S512x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true, true]
-- ==== Reference5Ideal.lean ====
abbrev S128x4x1024 : Shape := ⟨3, ![128, 4, 1024]⟩
abbrev S128x4x8x2x64 : Shape := ⟨5, ![128, 4, 8, 2, 64]⟩
abbrev S128x4x512 : Shape := ⟨3, ![128, 4, 512]⟩
abbrev S128x4x256 : Shape := ⟨3, ![128, 4, 256]⟩
abbrev S1024 : Shape := ⟨1, ![1024]⟩
abbrev S1024x3864 : Shape := ⟨2, ![1024, 3864]⟩
abbrev S512x1024 : Shape := ⟨2, ![512, 1024]⟩
abbrev S1024x1024 : Shape := ⟨2, ![1024, 1024]⟩
abbrev S1024x2816 : Shape := ⟨2, ![1024, 2816]⟩
abbrev S2816x1024 : Shape := ⟨2, ![2816, 1024]⟩
abbrev S256x1024 : Shape := ⟨2, ![256, 1024]⟩
abbrev S128x4x4x1x64 : Shape := ⟨5, ![128, 4, 4, 1, 64]⟩
abbrev S128x4x4x64 : Shape := ⟨4, ![128, 4, 4, 64]⟩
abbrev S128x4x8x64 : Shape := ⟨4, ![128, 4, 8, 64]⟩
abbrev S_ : Shape := ⟨0, ![]⟩
abbrev S128x4 : Shape := ⟨2, ![128, 4]⟩
abbrev S128x4x1 : Shape := ⟨3, ![128, 4, 1]⟩
abbrev S1x1x1024 : Shape := ⟨3, ![1, 1, 1024]⟩
abbrev S128x4x3864 : Shape := ⟨3, ![128, 4, 3864]⟩
abbrev S128x4x2048 : Shape := ⟨3, ![128, 4, 2048]⟩
abbrev S128x4x2816 : Shape := ⟨3, ![128, 4, 2816]⟩

abbrev nBuf : Space → Nat
  | .hbm => 136
  | .vmem => 0
  | .smem => 0
  | _ => 0

abbrev hbmTy0_0 (i : Nat) : BufTy := match i % 128 with
  | 0 => ⟨S128x4x1024, .f32⟩
  | 1 => ⟨S128x4x8x2x64, .f32⟩
  | 2 => ⟨S128x4x512, .f32⟩
  | 3 => ⟨S128x4x256, .f32⟩
  | 4 => ⟨S1024, .f32⟩
  | 5 => ⟨S1024x3864, .f32⟩
  | 6 => ⟨S512x1024, .f32⟩
  | 7 => ⟨S512x1024, .f32⟩
  | 8 => ⟨S1024x1024, .f32⟩
  | 9 => ⟨S1024, .f32⟩
  | 10 => ⟨S1024x2816, .f32⟩
  | 11 => ⟨S1024x2816, .f32⟩
  | 12 => ⟨S2816x1024, .f32⟩
  | 13 => ⟨S1024, .f32⟩
  | 14 => ⟨S1024x1024, .f32⟩
  | 15 => ⟨S256x1024, .f32⟩
  | 16 => ⟨S1024, .f32⟩
  | 17 => ⟨S128x4x4x1x64, .f32⟩
  | 18 => ⟨S128x4x4x64, .f32⟩
  | 19 => ⟨S128x4x4x1x64, .f32⟩
  | 20 => ⟨S128x4x4x64, .f32⟩
  | 21 => ⟨S128x4x8x64, .f32⟩
  | 22 => ⟨S128x4x512, .f32⟩
  | 23 => ⟨S128x4x1024, .f32⟩
  | 24 => ⟨S_, .f32⟩
  | 25 => ⟨S128x4, .f32⟩
  | 26 => ⟨S128x4x1, .f32⟩
  | 27 => ⟨S_, .f32⟩
  | 28 => ⟨S128x4x1, .f32⟩
  | 29 => ⟨S128x4x1, .f32⟩
  | 30 => ⟨S_, .f32⟩
  | 31 => ⟨S128x4x1, .f32⟩
  | 32 => ⟨S128x4x1, .f32⟩
  | 33 => ⟨S128x4x1, .f32⟩
  | 34 => ⟨S128x4x1024, .f32⟩
  | 35 => ⟨S128x4x1024, .f32⟩
  | 36 => ⟨S1x1x1024, .f32⟩
  | 37 => ⟨S128x4x1024, .f32⟩
  | 38 => ⟨S128x4x1024, .f32⟩
  | 39 => ⟨S128x4x3864, .f32⟩
  | 40 => ⟨S128x4x2048, .f32⟩
  | 41 => ⟨S128x4x2048, .f32⟩
  | 42 => ⟨S128x4x2048, .f32⟩
  | 43 => ⟨S_, .f32⟩
  | 44 => ⟨S128x4x2048, .f32⟩
  | 45 => ⟨S128x4x2048, .f32⟩
  | 46 => ⟨S_, .f32⟩
  | 47 => ⟨S128x4x2048, .f32⟩
  | 48 => ⟨S128x4x2048, .f32⟩
  | 49 => ⟨S128x4x1024, .f32⟩
  | 50 => ⟨S128x4x1024, .f32⟩
  | 51 => ⟨S128x4x1024, .f32⟩
  | 52 => ⟨S128x4x1024, .f32⟩
  | 53 => ⟨S128x4x1024, .f32⟩
  | 54 => ⟨S128x4x1024, .f32⟩
  | 55 => ⟨S128x4x1024, .f32⟩
  | 56 => ⟨S128x4x1024, .f32⟩
  | 57 => ⟨S128x4x1024, .f32⟩
  | 58 => ⟨S128x4x1024, .f32⟩
  | 59 => ⟨S_, .f32⟩
  | 60 => ⟨S128x4, .f32⟩
  | 61 => ⟨S128x4x1, .f32⟩
  | 62 => ⟨S_, .f32⟩
  | 63 => ⟨S128x4x1, .f32⟩
  | 64 => ⟨S128x4x1, .f32⟩
  | 65 => ⟨S_, .f32⟩
  | 66 => ⟨S128x4x1, .f32⟩
  | 67 => ⟨S128x4x1, .f32⟩
  | 68 => ⟨S128x4x1, .f32⟩
  | 69 => ⟨S128x4x1024, .f32⟩
  | 70 => ⟨S128x4x1024, .f32⟩
  | 71 => ⟨S1x1x1024, .f32⟩
  | 72 => ⟨S128x4x1024, .f32⟩
  | 73 => ⟨S128x4x1024, .f32⟩
  | 74 => ⟨S128x4x2816, .f32⟩
  | 75 => ⟨S128x4x2816, .f32⟩
  | 76 => ⟨S128x4x2816, .f32⟩
  | 77 => ⟨S_, .f32⟩
  | 78 => ⟨S128x4x2816, .f32⟩
  | 79 => ⟨S128x4x2816, .f32⟩
  | 80 => ⟨S_, .f32⟩
  | 81 => ⟨S128x4x2816, .f32⟩
  | 82 => ⟨S128x4x2816, .f32⟩
  | 83 => ⟨S128x4x2816, .f32⟩
  | 84 => ⟨S128x4x2816, .f32⟩
  | 85 => ⟨S128x4x2816, .f32⟩
  | 86 => ⟨S128x4x1024, .f32⟩
  | 87 => ⟨S_, .f32⟩
  | 88 => ⟨S128x4x1024, .f32⟩
  | 89 => ⟨S128x4x1024, .f32⟩
  | 90 => ⟨S128x4x1024, .f32⟩
  | 91 => ⟨S128x4x1024, .f32⟩
  | 92 => ⟨S_, .f32⟩
  | 93 => ⟨S128x4, .f32⟩
  | 94 => ⟨S128x4x1, .f32⟩
  | 95 => ⟨S_, .f32⟩
  | 96 => ⟨S128x4x1, .f32⟩
  | 97 => ⟨S128x4x1, .f32⟩
  | 98 => ⟨S_, .f32⟩
  | 99 => ⟨S128x4x1, .f32⟩
  | 100 => ⟨S128x4x1, .f32⟩
  | 101 => ⟨S128x4x1, .f32⟩
  | 102 => ⟨S128x4x1024, .f32⟩
  | 103 => ⟨S128x4x1024, .f32⟩
  | 104 => ⟨S1x1x1024, .f32⟩
  | 105 => ⟨S128x4x1024, .f32⟩
  | 106 => ⟨S128x4x1024, .f32⟩
  | 107 => ⟨S128x4x1024, .f32⟩
  | 108 => ⟨S128x4x1024, .f32⟩
  | 109 => ⟨S128x4x1024, .f32⟩
  | 110 => ⟨S_, .f32⟩
  | 111 => ⟨S128x4x1024, .f32⟩
  | 112 => ⟨S128x4x1024, .f32⟩
  | 113 => ⟨S_, .f32⟩
  | 114 => ⟨S128x4x1024, .f32⟩
  | 115 => ⟨S128x4x1024, .f32⟩
  | 116 => ⟨S128x4x1024, .f32⟩
  | 117 => ⟨S128x4x1024, .f32⟩
  | 118 => ⟨S128x4x1024, .f32⟩
  | 119 => ⟨S128x4x1024, .f32⟩
  | 120 => ⟨S_, .f32⟩
  | 121 => ⟨S128x4, .f32⟩
  | 122 => ⟨S128x4x1, .f32⟩
  | 123 => ⟨S_, .f32⟩
  | 124 => ⟨S128x4x1, .f32⟩
  | 125 => ⟨S128x4x1, .f32⟩
  | 126 => ⟨S_, .f32⟩
  | 127 => ⟨S128x4x1, .f32⟩
  | _ => ⟨S128x4x1024, .f32⟩

abbrev hbmTy0_1 (i : Nat) : BufTy := match i % 128 with
  | 0 => ⟨S128x4x1, .f32⟩
  | 1 => ⟨S128x4x1, .f32⟩
  | 2 => ⟨S128x4x1024, .f32⟩
  | 3 => ⟨S128x4x1024, .f32⟩
  | 4 => ⟨S1x1x1024, .f32⟩
  | 5 => ⟨S128x4x1024, .f32⟩
  | 6 => ⟨S128x4x1024, .f32⟩
  | 7 => ⟨S512x1024, .f32⟩
  | _ => ⟨S128x4x1024, .f32⟩

abbrev hbmTy (i : Nat) : BufTy := match i / 128 with
  | 0 => hbmTy0_0 i
  | 1 => hbmTy0_1 i
  | _ => ⟨S128x4x1024, .f32⟩

abbrev bufTy : (tb : Table) → Fin (tcTables nBuf tb) → BufTy
  | .hbm, ⟨i, _⟩ => hbmTy i
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_v8 : Ref sig .tc := ⟨.hbm, 26, rfl⟩
abbrev main_cst_0 : Ref sig .tc := ⟨.hbm, 27, rfl⟩
abbrev main_v9 : Ref sig .tc := ⟨.hbm, 28, rfl⟩
abbrev main_v10 : Ref sig .tc := ⟨.hbm, 29, rfl⟩
abbrev main_cst_1 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_2 : Ref sig .tc := ⟨.hbm, 43, rfl⟩
abbrev main_v23 : Ref sig .tc := ⟨.hbm, 44, rfl⟩
abbrev main_v24 : Ref sig .tc := ⟨.hbm, 45, rfl⟩
abbrev main_cst_3 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_4 : Ref sig .tc := ⟨.hbm, 59, rfl⟩
abbrev main_v37 : Ref sig .tc := ⟨.hbm, 60, rfl⟩
abbrev main_v38 : Ref sig .tc := ⟨.hbm, 61, rfl⟩
abbrev main_cst_5 : Ref sig .tc := ⟨.hbm, 62, rfl⟩
abbrev main_v39 : Ref sig .tc := ⟨.hbm, 63, rfl⟩
abbrev main_v40 : Ref sig .tc := ⟨.hbm, 64, rfl⟩
abbrev main_cst_6 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_call0_v0 : Ref sig .tc := ⟨.hbm, 75, rfl⟩
abbrev main_call0_v1 : Ref sig .tc := ⟨.hbm, 76, rfl⟩
abbrev main_call0_cst : Ref sig .tc := ⟨.hbm, 77, rfl⟩
abbrev main_call0_v2 : Ref sig .tc := ⟨.hbm, 78, rfl⟩
abbrev main_call0_v3 : Ref sig .tc := ⟨.hbm, 79, rfl⟩
abbrev main_call0_cst_0 : Ref sig .tc := ⟨.hbm, 80, rfl⟩
abbrev main_call0_v4 : Ref sig .tc := ⟨.hbm, 81, rfl⟩
abbrev main_call0_v5 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_cst_7 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_cst_8 : Ref sig .tc := ⟨.hbm, 92, rfl⟩
abbrev main_v58 : Ref sig .tc := ⟨.hbm, 93, rfl⟩
abbrev main_v59 : Ref sig .tc := ⟨.hbm, 94, rfl⟩
abbrev main_cst_9 : Ref sig .tc := ⟨.hbm, 95, rfl⟩
abbrev main_v60 : Ref sig .tc := ⟨.hbm, 96, rfl⟩
abbrev main_v61 : Ref sig .tc := ⟨.hbm, 97, rfl⟩
abbrev main_cst_10 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_cst_11 : Ref sig .tc := ⟨.hbm, 110, rfl⟩
abbrev main_v73 : Ref sig .tc := ⟨.hbm, 111, rfl⟩
abbrev main_v74 : Ref sig .tc := ⟨.hbm, 112, rfl⟩
abbrev main_cst_12 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_cst_13 : Ref sig .tc := ⟨.hbm, 120, rfl⟩
abbrev main_v81 : Ref sig .tc := ⟨.hbm, 121, rfl⟩
abbrev main_v82 : Ref sig .tc := ⟨.hbm, 122, rfl⟩
abbrev main_cst_14 : Ref sig .tc := ⟨.hbm, 123, rfl⟩
abbrev main_v83 : Ref sig .tc := ⟨.hbm, 124, rfl⟩
abbrev main_v84 : Ref sig .tc := ⟨.hbm, 125, rfl⟩
abbrev main_cst_15 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩

abbrev nD : Nat := 1
abbrev τ : Topo := Topo.v7x

variable {F : FTy → Type} [FloatOps F]
-- ==== Proof.Rows.lean ====
/-
  A TOKEN'S ROW THROUGH THE LAYER. Everything the layer does outside the recurrence and the attention is done to each
  token's row by itself: normalise it, multiply it by a matrix, gate it. This module names those functions of one row of
  extended reals, and reads the kernel's vector operations and the host's array operations at one row as those functions.
-/
module

public import Idealize.ShloMosaic.Lib.ValueIdx
public import Idealize.ShloMosaic.Lib.MatmulPlain
public import Idealize.ShloMosaic.Lib.Pipeline.Value
public import Idealize.ShloMosaic.PureOps.Ideal.Laws

@[expose] public section

noncomputable section

namespace Cert.Rows

open Idealize.ShloMosaic Idealize.ShloMosaic.ValueIdx
open scoped BigOperators

variable {M N K B T : ℕ} {φ ψ : FTy}

/-! ## Rows, and what the layer does to one -/

/-- Row `r` of a matrix. -/
def row (x : FVec Ideal ⟨2, ![M, N]⟩ φ) (r : Fin M) : Fin N → EReal := fun j => x (ix2 r j)
/-- Row `(b, t)` of a stack of matrices. -/
def row3 (x : FVec Ideal ⟨3, ![B, T, N]⟩ φ) (b : Fin B) (t : Fin T) : Fin N → EReal := fun j => x (ix3 b t j)
/-- A matrix as a function of its two coordinates. -/
def mat (x : FVec Ideal ⟨2, ![M, N]⟩ φ) : Fin M → Fin N → EReal := fun i j => x (ix2 i j)
/-- A vector as a function of its coordinate. -/
def vec (x : FVec Ideal ⟨1, ![N]⟩ φ) : Fin N → EReal := fun j => x (ix1 j)

/-- A row times a matrix. -/
def mv (x : Fin K → EReal) (w : Fin K → Fin N → EReal) : Fin N → EReal := fun j => ∑ k, x k * w k j
/-- The sum of two rows. -/
def add (x y : Fin N → EReal) : Fin N → EReal := fun j => x j + y j
/-- The elementwise product of two rows. -/
def mul (x y : Fin N → EReal) : Fin N → EReal := fun j => x j * y j
/-- The logistic function of every element. -/
def sig (x : Fin N → EReal) : Fin N → EReal := fun j => Ideal.logistic (x j)
/-- A multiple of a row. -/
def scale (c : EReal) (x : Fin N → EReal) : Fin N → EReal := fun j => c * x j
/-- One over the root mean square (of 1024 elements, with the layer's epsilon), at every element. -/
def inv (x : Fin N → EReal) : Fin M → EReal := fun _ =>
  Ideal.rsqrt (Ideal.div (∑ k, x k * x k) (Ideal.ofBits .f32 0x44800000#32) + Ideal.ofBits .f32 0x358637BD#32)
/-- The RMS norm of a row with gains `g`. -/
def rms (x g : Fin N → EReal) : Fin N → EReal := mul (mul x (inv x)) g
/-- The gated linear unit: silu of one row times another. -/
def glu (a b : Fin N → EReal) : Fin N → EReal := mul (mul a (sig a)) b
/-- The columns of a matrix from `o` on. -/
def cols (o : ℕ) {L : ℕ} (h : o + L ≤ N) (w : Fin K → Fin N → EReal) : Fin K → Fin L → EReal :=
  fun k j => w k ⟨o + j.val, by omega⟩
/-- The rows of a matrix from `o` on. -/
def rowsFrom (o : ℕ) {L : ℕ} (h : o + L ≤ K) (w : Fin K → Fin N → EReal) : Fin L → Fin N → EReal :=
  fun k j => w ⟨o + k.val, by omega⟩ j
/-- The elements of a row from `o` on. -/
def part (o : ℕ) {L : ℕ} (h : o + L ≤ N) (x : Fin N → EReal) : Fin L → EReal := fun j => x ⟨o + j.val, by omega⟩

/-! ## The kernel's operations read at a row -/

theorem row_mulf (a b : FVec Ideal ⟨2, ![M, N]⟩ φ) (r : Fin M) : row (mulf a b) r = mul (row a r) (row b r) := rfl
theorem row_addf (a b : FVec Ideal ⟨2, ![M, N]⟩ φ) (r : Fin M) : row (addf a b) r = add (row a r) (row b r) := rfl
theorem row_logistic (a : FVec Ideal ⟨2, ![M, N]⟩ φ) (r : Fin M) : row (logistic a) r = sig (row a r) := rfl
theorem row_truncf (a : FVec Ideal ⟨2, ![M, N]⟩ φ) (h : ψ.bits < φ.bits) (r : Fin M) :
    row (truncf ψ a h : FVec Ideal ⟨2, ![M, N]⟩ ψ) r = row a r := rfl
theorem mat_truncf (a : FVec Ideal ⟨2, ![M, N]⟩ φ) (h : ψ.bits < φ.bits) :
    mat (truncf ψ a h : FVec Ideal ⟨2, ![M, N]⟩ ψ) = mat a := rfl
theorem row_shapeCast (a : FVec Ideal ⟨2, ![M, N]⟩ φ) (h) (r : Fin M) :
    row (shapeCast (⟨2, ![M, N]⟩ : Shape) a h : FVec Ideal ⟨2, ![M, N]⟩ φ) r = row a r := by rw [shapeCast_self]
theorem mat_shapeCast (a : FVec Ideal ⟨2, ![M, N]⟩ φ) (h) :
    mat (shapeCast (⟨2, ![M, N]⟩ : Shape) a h : FVec Ideal ⟨2, ![M, N]⟩ φ) = mat a := by rw [shapeCast_self]
/-- A splat times a matrix. -/
theorem row_scale (c : BitVec 32) (a : FVec Ideal ⟨2, ![M, N]⟩ .f32) (r : Fin M) :
    row (mulf (broadcast (⟨2, ![M, N]⟩ : Shape) (Scalar.ofBits (F := Ideal) .f32 c)) a) r = scale (Ideal.ofBits .f32 c) (row a r) := rfl

/-- A matrix product onto a zero accumulator. -/
theorem row_matmul (d : DotDims ⟨2, ![M, K]⟩ ⟨2, ![K, N]⟩ ⟨2, ![M, N]⟩) (hd : d = DotDims.plain M K N) (p)
    (a : FVec Ideal ⟨2, ![M, K]⟩ φ) (b : FVec Ideal ⟨2, ![K, N]⟩ ψ) (r : Fin M) :
    row (matmul d p a b (constant (F := Ideal) (⟨2, ![M, N]⟩ : Shape) .f32 0x00000000#32)) r = mv (row a r) (mat b) := by
  subst hd
  funext j
  refine (Ideal.matmul_plain_apply p a b _ r j).trans ?_
  rw [constant_apply, show Ideal.ofBits .f32 0x00000000#32 = 0 from by simp [Ideal.ofBits_zero_f32], zero_add]
  rfl

/-- A row vector laid under every row. -/
theorem row_broadcastTo (g : FVec Ideal ⟨2, ![1, N]⟩ φ) (h) (r : Fin M) :
    row (broadcastTo (⟨2, ![M, N]⟩ : Shape) g h : FVec Ideal ⟨2, ![M, N]⟩ φ) r = row g 0 := by
  funext j
  refine broadcastTo_apply g h (ix2 r j) (ix2 0 j) fun a => ?_
  match a with
  | ⟨0, _⟩ => exact (if_pos rfl).symm
  | ⟨1, _⟩ =>
    show j.val = if N = 1 then 0 else j.val
    split
    · have := j.isLt; omega
    · rfl

theorem slices_le {L o : ℕ} (h : (⟨2, ![M, N]⟩ : Shape).Slices ![0, o] ⟨2, ![M, L]⟩) : o + L ≤ N := h.2 1

/-- The columns of a matrix from `o` on, at a row. -/
theorem row_slice {L : ℕ} (o : ℕ) (x : FVec Ideal ⟨2, ![M, N]⟩ φ) (h : (⟨2, ![M, N]⟩ : Shape).Slices ![0, o] ⟨2, ![M, L]⟩) (r : Fin M) :
    row (extractStridedSlice (⟨2, ![M, L]⟩ : Shape) ![0, o] x h : FVec Ideal ⟨2, ![M, L]⟩ φ) r = part o (slices_le h) (row x r) := by
  have ho : o + L ≤ N := h.2 1
  funext j
  refine extractStridedSlice_apply _ x h (ix2 r j) (ix2 r ⟨o + j.val, by omega⟩) fun a => ?_
  match a with
  | ⟨0, _⟩ => exact (Nat.zero_add _).symm
  | ⟨1, _⟩ => rfl

/-- The kernel's root mean square of every row, laid along the row. -/
theorem row_inv {L : ℕ} (x : FVec Ideal ⟨2, ![M, N]⟩ .f32) (hr hk hn hs hb) (r : Fin M) :
    row (broadcastTo (⟨2, ![M, L]⟩ : Shape) (rsqrt (addf (divf
      (shapeCast (⟨2, ![M, 1]⟩ : Shape) (multiReduction (F := Ideal) .add [(1 : Fin 2)] (⟨1, ![M]⟩ : Shape) (mulf x x) 0x00000000#32 hr hk hn) hs)
      (broadcast (⟨2, ![M, 1]⟩ : Shape) (Scalar.ofBits (F := Ideal) .f32 0x44800000#32)))
      (broadcast (⟨2, ![M, 1]⟩ : Shape) (Scalar.ofBits (F := Ideal) .f32 0x358637BD#32)))) hb : FVec Ideal ⟨2, ![M, L]⟩ .f32) r
      = inv (row x r) := by
  funext j
  refine (broadcastTo_apply _ hb (ix2 r j) (ix2 r 0) fun a => ?_).trans ?_
  · match a with
    | ⟨0, _⟩ =>
      show r.val = if M = 1 then 0 else r.val
      split
      · have := r.isLt; omega
      · rfl
    | ⟨1, _⟩ => exact (if_pos rfl).symm
  · have hc := shapeCast_apply (multiReduction (F := Ideal) .add [(1 : Fin 2)] (⟨1, ![M]⟩ : Shape) (mulf x x) 0x00000000#32 hr hk hn) hs
      (ix2 r 0) (ix1 r) (by
        rw [Shape.rowMajor_val_two]
        show _ = r.val * 1 + 0
        rw [Shape.rowMajor_val_one]
        show r.val = _
        omega)
    have hm : multiReduction (F := Ideal) .add [(1 : Fin 2)] (⟨1, ![M]⟩ : Shape) (mulf x x) 0x00000000#32 hr hk hn (ix1 r)
        = ∑ k : Fin N, x (ix2 r k) * x (ix2 r k) := by
      refine (Ideal.multiReduction_add_single (mulf x x) _ hr hk hn (ix1 r)).trans (Finset.sum_congr rfl fun k _ => ?_)
      rw [show hr.lift (ix1 r) k = ix2 r k from funext fun a => Fin.ext (by match a with | ⟨0, _⟩ => rfl | ⟨1, _⟩ => rfl)]
      rfl
    show Ideal.rsqrt (Ideal.div (shapeCast _ _ hs (ix2 r 0)) _ + _) = _
    rw [hc, hm]
    rfl

/-- An element of a matrix whose row is known. -/
theorem at_of_row (X : FVec Ideal ⟨2, ![M, N]⟩ φ) (y : (⟨2, ![M, N]⟩ : Shape).Idx) (r : Fin M) (j : Fin N) (f : Fin N → EReal)
    (h : row X r = f) (hr : (y 0).val = r.val) (hj : (y 1).val = j.val) : X y = f j := by
  subst h
  exact congrArg X (funext fun a => Fin.ext (by match a with | ⟨0, _⟩ => exact hr | ⟨1, _⟩ => exact hj))

/-! ## The host's reshapes at an index -/

/-- A stack of matrices laid row under row, at row `b * T + t`. -/
theorem shapeCast_flat {α : Type} {R : ℕ} (x : (⟨3, ![B, T, N]⟩ : Shape).Idx → α) (h : (⟨3, ![B, T, N]⟩ : Shape).ShapeCasts ⟨2, ![R, N]⟩)
    (i : (⟨2, ![R, N]⟩ : Shape).Idx) (b : Fin B) (t : Fin T) (j : Fin N) (hi : (i 0).val = b.val * T + t.val) (hj : (i 1).val = j.val) :
    shapeCast ⟨2, ![R, N]⟩ x h i = x (ix3 b t j) := by
  refine shapeCast_apply x h i (ix3 b t j) ?_
  rw [Shape.rowMajor_val_three, Shape.rowMajor_val_two, hi, hj]
  rfl

/-- A stack of matrices with each matrix laid out as one row, at column `t * N + j`. -/
theorem shapeCast_wide {α : Type} {L : ℕ} (x : (⟨3, ![B, T, N]⟩ : Shape).Idx → α) (h : (⟨3, ![B, T, N]⟩ : Shape).ShapeCasts ⟨2, ![B, L]⟩)
    (i : (⟨2, ![B, L]⟩ : Shape).Idx) (b : Fin B) (t : Fin T) (j : Fin N) (hL : L = T * N) (hi : (i 0).val = b.val) (hj : (i 1).val = t.val * N + j.val) :
    shapeCast ⟨2, ![B, L]⟩ x h i = x (ix3 b t j) := by
  refine shapeCast_apply x h i (ix3 b t j) ?_
  rw [Shape.rowMajor_val_three, Shape.rowMajor_val_two, hi, hj]
  show (b.val * T + t.val) * N + j.val = b.val * L + (t.val * N + j.val)
  subst hL
  ring

/-- A vector as a one-row matrix. -/
theorem shapeCast_vec {α : Type} (x : (⟨1, ![N]⟩ : Shape).Idx → α) (h : (⟨1, ![N]⟩ : Shape).ShapeCasts ⟨2, ![1, N]⟩)
    (i : (⟨2, ![1, N]⟩ : Shape).Idx) (j : Fin N) (hj : (i 1).val = j.val) :
    shapeCast ⟨2, ![1, N]⟩ x h i = x (ix1 j) := by
  refine shapeCast_apply x h i (ix1 j) ?_
  rw [Shape.rowMajor_val_one, Shape.rowMajor_val_two, hj]
  show j.val = (i 0).val * N + j.val
  have : (i 0).val = 0 := by have := (i 0).isLt; simp at this; omega
  rw [this]; omega

/-- The columns from `o` on, at an index. -/
theorem slice_at {α : Type} {L : ℕ} (o : ℕ) (x : (⟨2, ![M, N]⟩ : Shape).Idx → α) (h : (⟨2, ![M, N]⟩ : Shape).Slices ![0, o] ⟨2, ![M, L]⟩)
    (i : (⟨2, ![M, L]⟩ : Shape).Idx) (r : Fin M) (j : Fin N) (hr : (i 0).val = r.val) (hj : o + (i 1).val = j.val) :
    extractStridedSlice (⟨2, ![M, L]⟩ : Shape) ![0, o] x h i = x (ix2 r j) := by
  refine extractStridedSlice_apply _ x h i (ix2 r j) fun a => ?_
  match a with
  | ⟨0, _⟩ => exact hr.symm.trans (Nat.zero_add _).symm
  | ⟨1, _⟩ => exact hj.symm

/-- The exchange of a stack's first two axes, at an index. -/
theorem transpose_swap {α : Type} (x : (⟨3, ![B, T, N]⟩ : Shape).Idx → α)
    (h : (⟨3, ![B, T, N]⟩ : Shape).Transposes [1, 0, 2] ⟨3, ![T, B, N]⟩) (b : Fin B) (t : Fin T) (j : Fin N) :
    transpose (⟨3, ![T, B, N]⟩ : Shape) [1, 0, 2] x h (ix3 t b j) = x (ix3 b t j) :=
  transpose_apply _ x h (ix3 t b j) (ix3 b t j) fun a => by
    match a with
    | ⟨0, _⟩ => rfl
    | ⟨1, _⟩ => rfl
    | ⟨2, _⟩ => rfl

/-! ## Loads of a column band or a row band of a matrix -/

theorem mat_ld_cols {L : ℕ} (o : ℕ) (x : Vec Ideal ⟨2, ![K, N]⟩ .bf16)
    (inb : ∀ a : Fin 2, (![0, o] : Fin 2 → ℕ) a + (![K, L] : Fin 2 → ℕ) a ≤ (![K, N] : Fin 2 → ℕ) a) (h : o + L ≤ N) :
    mat (M := K) (N := L) (φ := .bf16) (View.ld x (Rect.unit (s := ⟨2, ![K, N]⟩) ![0, o] ![K, L] inb))
      = cols o h (mat (φ := .bf16) x) := by
  funext k j
  refine congrArg x (funext fun a => Fin.ext ?_)
  match a with
  | ⟨0, _⟩ => show 0 + 1 * k.val = k.val; omega
  | ⟨1, _⟩ => show o + 1 * j.val = o + j.val; omega

theorem mat_ld_rows {L : ℕ} (o : ℕ) (x : Vec Ideal ⟨2, ![K, N]⟩ .bf16)
    (inb : ∀ a : Fin 2, (![o, 0] : Fin 2 → ℕ) a + (![L, N] : Fin 2 → ℕ) a ≤ (![K, N] : Fin 2 → ℕ) a) (h : o + L ≤ K) :
    mat (M := L) (N := N) (φ := .bf16) (View.ld x (Rect.unit (s := ⟨2, ![K, N]⟩) ![o, 0] ![L, N] inb))
      = rowsFrom o h (mat (φ := .bf16) x) := by
  funext k j
  refine congrArg x (funext fun a => Fin.ext ?_)
  match a with
  | ⟨0, _⟩ => show o + 1 * k.val = o + k.val; omega
  | ⟨1, _⟩ => show 0 + 1 * j.val = j.val; omega

/-! ## The feed-forward block, a band of hidden columns at a time -/

/-- A band of the feed-forward block: its gate and value products, and their gated product times the band's rows. -/
def band {H : ℕ} (h : Fin K → EReal) (wg wu : Fin K → Fin H → EReal) (wd : Fin H → Fin N → EReal) : Fin N → EReal :=
  mv (glu (mv h wg) (mv h wu)) wd

/-- A sum over `o + L` terms is the sum of its first `o` and its last `L`. -/
theorem sum_split (o L : ℕ) {n : ℕ} (e : o + L = n) (f : Fin n → EReal) :
    ∑ k, f k = (∑ k : Fin o, f ⟨k.val, by omega⟩) + ∑ k : Fin L, f ⟨o + k.val, by omega⟩ := by
  subst e
  exact Fin.sum_univ_add f

/-- The first `o` columns and the next `L` columns of the hidden layer make the first `o + L`. -/
theorem band_split {H : ℕ} (o L p : ℕ) (e : o + L = p) (hp : 0 + p ≤ H) (h : Fin K → EReal) (wg wu : Fin K → Fin H → EReal)
    (wd : Fin H → Fin N → EReal) :
    add (band h (cols 0 (L := o) (by omega) wg) (cols 0 (L := o) (by omega) wu) (rowsFrom 0 (L := o) (by omega) wd))
        (band h (cols o (L := L) (by omega) wg) (cols o (L := L) (by omega) wu) (rowsFrom o (L := L) (by omega) wd))
      = band h (cols 0 (L := p) hp wg) (cols 0 (L := p) hp wu) (rowsFrom 0 (L := p) hp wd) := by
  subst e
  funext j
  refine Eq.symm ((sum_split o L rfl _).trans ?_)
  refine congrArg₂ (· + ·) rfl (Finset.sum_congr rfl fun k _ => ?_)
  have e : ∀ (q : 0 + (o + k.val) < H), (⟨0 + (o + k.val), q⟩ : Fin H) = ⟨o + k.val, by omega⟩ := fun q => Fin.ext (Nat.zero_add _)
  simp only [glu, mul, mv, cols, rowsFrom, Rows.sig, e]

/-- The whole of the hidden layer is its first `H` columns. -/
theorem band_whole {H : ℕ} (h : Fin K → EReal) (wg wu : Fin K → Fin H → EReal) (wd : Fin H → Fin N → EReal) (hp : 0 + H ≤ H) :
    band h (cols 0 hp wg) (cols 0 hp wu) (rowsFrom 0 hp wd) = band h wg wu wd := by
  have e : ∀ (k : Fin H) (q : 0 + k.val < H), (⟨0 + k.val, q⟩ : Fin H) = k := fun k q => Fin.ext (Nat.zero_add _)
  have c : ∀ w : Fin K → Fin H → EReal, cols 0 hp w = w := fun w => funext fun k => funext fun j => congrArg (w k) (e j _)
  have r : rowsFrom 0 hp wd = wd := funext fun k => congrArg wd (e k _)
  rw [c, c, r]

/-- Half the feed-forward block's output, added to the row. -/
def halfFfn {H : ℕ} (x : Fin N → EReal) (g : Fin N → EReal) (wg wu : Fin N → Fin H → EReal) (wd : Fin H → Fin N → EReal) : Fin N → EReal :=
  add x (scale (Ideal.ofBits .f32 0x3F000000#32) (band (rms x g) wg wu wd))

/-- The two branches mixed by their gates. -/
def mixRow {P S : ℕ} (x g : Fin 1024 → EReal) (w : Fin 1024 → Fin 2048 → EReal) (a : Fin P → EReal) (wa : Fin P → Fin 1024 → EReal)
    (s : Fin S → EReal) (ws : Fin S → Fin 1024 → EReal) : Fin 1024 → EReal :=
  add (mul (part 0 (L := 1024) (by decide) (sig (mv (rms x g) w))) (mv a wa))
    (mul (part 1024 (L := 1024) (by decide) (sig (mv (rms x g) w))) (mv s ws))

/-- The per-layer embedding added to the row, through its gate. -/
def pleRow (x g : Fin 1024 → EReal) (w : Fin 1024 → Fin 1024 → EReal) (p : Fin 256 → EReal) (wp : Fin 256 → Fin 1024 → EReal) :
    Fin 1024 → EReal := add x (mul (sig (mv (rms x g) w)) (mv p wp))

/-- What follows the mixers, for one token: the gated mix and its output product, half a feed-forward block, the per-layer
    embedding, and the final norm. -/
def postRow (x : Fin 1024 → EReal) (a s : Fin 512 → EReal) (p : Fin 256 → EReal) (gm : Fin 1024 → EReal) (w : Fin 1024 → Fin 2048 → EReal)
    (wa ws : Fin 512 → Fin 1024 → EReal) (wo : Fin 1024 → Fin 1024 → EReal) (g2 : Fin 1024 → EReal) (wg wu : Fin 1024 → Fin 2816 → EReal)
    (wd : Fin 2816 → Fin 1024 → EReal) (gp : Fin 1024 → EReal) (wpg : Fin 1024 → Fin 1024 → EReal) (wpp : Fin 256 → Fin 1024 → EReal)
    (gf : Fin 1024 → EReal) : Fin 1024 → EReal :=
  rms (pleRow (halfFfn (add x (mv (mixRow x gm w a wa s ws) wo)) g2 wg wu wd) gp wpg p wpp) gf

end Cert.Rows

end
-- ==== Proof.PostBlock.lean ====
/-
  WHAT ONE BLOCK OF THE POST-MIXER HOLDS. The body's one store is read at a row of the block: the layer's function
  `postRow` of that token's rows of the residual stream, the attention's output, the recurrence's output and the
  per-layer embedding, and of the weights. The feed-forward part is computed 256 hidden columns at a time, and the
  eleven partial products add up to the whole product (`mv_chunks`).
-/
module

public import proofs.«01_k».proof.Proof.Rows
public import proofs.«01_k».proof.Proof.Gen.Kernel2Ideal.Value

@[expose] public section

noncomputable section

namespace Cert.Proof.PostBlock

open Idealize.ShloMosaic Idealize.ShloMosaic.ValueIdx Cert.Rows Cert.Kernel2Ideal Cert.Kernel2Ideal.Gen
open scoped BigOperators

/-! ## The body's pieces at a row -/

theorem mm0 {φ ψ : FTy} (a : FVec Ideal S512x1024 φ) (b : FVec Ideal S1024x1024 ψ) (r : Fin 512) :
    row (matmul dot_S512x1024_S1024x1024_S512x1024_1_0_0_1_n_n none a b (constant (F := Ideal) S512x1024 .f32 0x00000000#32)) r = mv (row a r) (mat b) := row_matmul _ rfl _ a b r
theorem mm1 {φ ψ : FTy} (a : FVec Ideal S512x1024 φ) (b : FVec Ideal S1024x2048 ψ) (r : Fin 512) :
    row (matmul dot_S512x1024_S1024x2048_S512x2048_1_0_0_1_n_n none a b (constant (F := Ideal) S512x2048 .f32 0x00000000#32)) r = mv (row a r) (mat b) := row_matmul _ rfl _ a b r
theorem mm2 {φ ψ : FTy} (a : FVec Ideal S512x1024 φ) (b : FVec Ideal S1024x256 ψ) (r : Fin 512) :
    row (matmul dot_S512x1024_S1024x256_S512x256_1_0_0_1_n_n none a b (constant (F := Ideal) S512x256 .f32 0x00000000#32)) r = mv (row a r) (mat b) := row_matmul _ rfl _ a b r
theorem mm3 {φ ψ : FTy} (a : FVec Ideal S512x256 φ) (b : FVec Ideal S256x1024 ψ) (r : Fin 512) :
    row (matmul dot_S512x256_S256x1024_S512x1024_1_0_0_1_n_n none a b (constant (F := Ideal) S512x1024 .f32 0x00000000#32)) r = mv (row a r) (mat b) := row_matmul _ rfl _ a b r
theorem mm4 {φ ψ : FTy} (a : FVec Ideal S512x512 φ) (b : FVec Ideal S512x1024 ψ) (r : Fin 512) :
    row (matmul dot_S512x512_S512x1024_S512x1024_1_0_0_1_n_n none a b (constant (F := Ideal) S512x1024 .f32 0x00000000#32)) r = mv (row a r) (mat b) := row_matmul _ rfl _ a b r

theorem invB (x : FVec Ideal S512x1024 .f32) (r : Fin 512) :
    row (broadcastTo S512x1024 (rsqrt (addf (divf (shapeCast S512x1 (multiReduction .add [1] S512 (mulf x x) 0x00000000#32
      reduces_S512x1024_S512 (.inl rfl) rfl) shapeCasts_S512_S512x1) (broadcast S512x1 (FloatOps.ofBits (F := Ideal) .f32 0x44800000#32)))
      (broadcast S512x1 (FloatOps.ofBits (F := Ideal) .f32 0x358637BD#32)))) broadcasts_S512x1_S512x1024) r = inv (row x r) :=
  row_inv x _ _ _ _ _ r

theorem pay2_row (v0 : FVec Ideal S512x1024 .f32) (r : Fin 512) : row (k0_pay2 v0) r = row v0 r := by
  unfold k0_pay2; exact row_shapeCast _ _ _

theorem pay3_row (v0 : FVec Ideal S512x1024 .f32) (v2 : FVec Ideal S1x1024 .f32) (v17 : FVec Ideal S1024x2048 .bf16)
    (v21 : FVec Ideal S512x512 .bf16) (v23 : FVec Ideal S512x1024 .bf16) (v26 : FVec Ideal S512x512 .f32)
    (v29 : FVec Ideal S512x1024 .bf16) (r : Fin 512) :
    row (k0_pay3 v0 v2 v17 v21 v23 v26 v29) r
      = mixRow (row v0 r) (row v2 0) (mat v17) (row v21 r) (mat v23) (row v26 r) (mat v29) := by
  unfold k0_pay3
  dsimp only
  simp only [row_truncf, row_addf, row_mulf, row_slice, row_logistic, mm0, mm1, mm2, mm3, mm4, row_broadcastTo, row_shapeCast, mat_shapeCast, invB, pay2_row]
  rw [invB]
  simp only [mixRow, rms, pay2_row]

theorem scale_eq {n : ℕ} (c : EReal) (x : Fin n → EReal) : mul (fun _ => c) x = scale c x := rfl
theorem row_half (r : Fin 512) :
    row (broadcast S512x1024 (FloatOps.ofBits (F := Ideal) .f32 0x3F000000#32) : FVec Ideal S512x1024 .f32) r
      = fun _ => Ideal.ofBits .f32 0x3F000000#32 := rfl

theorem pay4_row (v1 : FVec Ideal S512x1024 .f32) (v37 : FVec Ideal S512x1024 .bf16) (v38 : FVec Ideal S1024x1024 .bf16) (r : Fin 512) :
    row (k0_pay4 v1 v37 v38) r
      = add (row v1 r) (mv (row v37 r) (mat v38)) := by
  unfold k0_pay4
  dsimp only
  simp only [row_truncf, row_addf, row_mulf, row_slice, row_logistic, mm0, mm1, mm2, mm3, mm4, row_broadcastTo, row_shapeCast, mat_shapeCast]

theorem pay5_row (v1 : FVec Ideal S512x1024 .f32) (v37 : FVec Ideal S512x1024 .bf16) (v38 : FVec Ideal S1024x1024 .bf16) (v42 : FVec Ideal S1x1024 .f32) (r : Fin 512) :
    row (k0_pay5 v1 v37 v38 v42) r
      = rms (row (k0_pay4 v1 v37 v38) r) (row v42 0) := by
  unfold k0_pay5
  dsimp only
  simp only [row_truncf, row_addf, row_mulf, row_slice, row_logistic, mm0, mm1, mm2, mm3, mm4, row_broadcastTo, row_shapeCast, mat_shapeCast]
  rw [invB]
  simp only [rms]

theorem pay6_row (v1 : FVec Ideal S512x1024 .f32) (v37 : FVec Ideal S512x1024 .bf16) (v38 : FVec Ideal S1024x1024 .bf16) (v42 : FVec Ideal S1x1024 .f32) (v57 : FVec Ideal S1024x256 .bf16) (v60 : FVec Ideal S1024x256 .bf16) (v67 : FVec Ideal S256x1024 .bf16) (r : Fin 512) :
    row (k0_pay6 v1 v37 v38 v42 v57 v60 v67) r
      = band (row (k0_pay5 v1 v37 v38 v42) r) (mat v57) (mat v60) (mat v67) := by
  unfold k0_pay6
  dsimp only
  simp only [row_truncf, row_addf, row_mulf, row_slice, row_logistic, mm0, mm1, mm2, mm3, mm4, row_broadcastTo, row_shapeCast, mat_shapeCast]
  simp only [band, glu]

theorem pay7_row (v1 : FVec Ideal S512x1024 .f32) (v37 : FVec Ideal S512x1024 .bf16) (v38 : FVec Ideal S1024x1024 .bf16) (v42 : FVec Ideal S1x1024 .f32) (v70 : FVec Ideal S1024x256 .bf16) (r : Fin 512) :
    row (k0_pay7 v1 v37 v38 v42 v70) r
      = mv (row (k0_pay5 v1 v37 v38 v42) r) (mat v70) := by
  unfold k0_pay7
  dsimp only
  simp only [row_truncf, row_addf, row_mulf, row_slice, row_logistic, mm0, mm1, mm2, mm3, mm4, row_broadcastTo, row_shapeCast, mat_shapeCast]

theorem pay9_row (v56 : FVec Ideal S512x1024 .bf16) (v69 : FVec Ideal S512x1024 .f32) (v72 : FVec Ideal S512x256 .f32) (v74 : FVec Ideal S1024x256 .bf16) (v80 : FVec Ideal S256x1024 .bf16) (v84 : FVec Ideal S1024x256 .bf16) (v87 : FVec Ideal S1024x256 .bf16) (v94 : FVec Ideal S256x1024 .bf16) (v98 : FVec Ideal S1024x256 .bf16) (v101 : FVec Ideal S1024x256 .bf16) (v108 : FVec Ideal S256x1024 .bf16) (r : Fin 512) :
    row (k0_pay9 v56 v69 v72 v74 (constant (F := Ideal) S512x256 .f32 0x00000000#32) v80 v84 v87 v94 v98 v101 v108) r
      = add (add (add (row v69 r) (mv (glu (row v72 r) (mv (row v56 r) (mat v74))) (mat v80))) (band (row v56 r) (mat v84) (mat v87) (mat v94))) (band (row v56 r) (mat v98) (mat v101) (mat v108)) := by
  unfold k0_pay9
  dsimp only
  simp only [row_truncf, row_addf, row_mulf, row_slice, row_logistic, mm0, mm1, mm2, mm3, mm4, row_broadcastTo, row_shapeCast, mat_shapeCast]
  simp only [band, glu]

theorem pay10_row (v56 : FVec Ideal S512x1024 .bf16) (v111 : FVec Ideal S512x1024 .f32) (v112 : FVec Ideal S1024x256 .bf16) (v115 : FVec Ideal S1024x256 .bf16) (v122 : FVec Ideal S256x1024 .bf16) (v126 : FVec Ideal S1024x256 .bf16) (v129 : FVec Ideal S1024x256 .bf16) (v136 : FVec Ideal S256x1024 .bf16) (r : Fin 512) :
    row (k0_pay10 v56 v111 v112 v115 v122 v126 v129 v136) r
      = add (add (row v111 r) (band (row v56 r) (mat v112) (mat v115) (mat v122))) (band (row v56 r) (mat v126) (mat v129) (mat v136)) := by
  unfold k0_pay10
  dsimp only
  simp only [row_truncf, row_addf, row_mulf, row_slice, row_logistic, mm0, mm1, mm2, mm3, mm4, row_broadcastTo, row_shapeCast, mat_shapeCast]
  simp only [band, glu]

theorem pay11_row (v56 : FVec Ideal S512x1024 .bf16) (v140 : FVec Ideal S1024x256 .bf16) (v143 : FVec Ideal S1024x256 .bf16) (r : Fin 512) :
    row (k0_pay11 v56 v140 v143) r
      = glu (mv (row v56 r) (mat v140)) (mv (row v56 r) (mat v143)) := by
  unfold k0_pay11
  dsimp only
  simp only [row_truncf, row_addf, row_mulf, row_slice, row_logistic, mm0, mm1, mm2, mm3, mm4, row_broadcastTo, row_shapeCast, mat_shapeCast]
  simp only [glu]

theorem pay12_row (v56 : FVec Ideal S512x1024 .bf16) (v139 : FVec Ideal S512x1024 .f32) (v149 : FVec Ideal S512x256 .bf16) (v150 : FVec Ideal S256x1024 .bf16) (v154 : FVec Ideal S1024x256 .bf16) (v157 : FVec Ideal S1024x256 .bf16) (v164 : FVec Ideal S256x1024 .bf16) (v168 : FVec Ideal S1024x256 .bf16) (v171 : FVec Ideal S1024x256 .bf16) (v178 : FVec Ideal S256x1024 .bf16) (r : Fin 512) :
    row (k0_pay12 v56 v139 v149 v150 v154 v157 v164 v168 v171 v178) r
      = add (add (add (row v139 r) (mv (row v149 r) (mat v150))) (band (row v56 r) (mat v154) (mat v157) (mat v164))) (band (row v56 r) (mat v168) (mat v171) (mat v178)) := by
  unfold k0_pay12
  dsimp only
  simp only [row_truncf, row_addf, row_mulf, row_slice, row_logistic, mm0, mm1, mm2, mm3, mm4, row_broadcastTo, row_shapeCast, mat_shapeCast]
  simp only [band, glu]

theorem pay13_row (v56 : FVec Ideal S512x1024 .bf16) (v182 : FVec Ideal S1024x256 .bf16) (r : Fin 512) :
    row (k0_pay13 v56 v182) r
      = mv (row v56 r) (mat v182) := by
  unfold k0_pay13
  dsimp only
  simp only [row_truncf, row_addf, row_mulf, row_slice, row_logistic, mm0, mm1, mm2, mm3, mm4, row_broadcastTo, row_shapeCast, mat_shapeCast]

theorem pay14_row (v41 : FVec Ideal S512x1024 .f32) (v56 : FVec Ideal S512x1024 .bf16) (v181 : FVec Ideal S512x1024 .f32) (v184 : FVec Ideal S512x256 .f32) (v185 : FVec Ideal S1024x256 .bf16) (v192 : FVec Ideal S256x1024 .bf16) (v196 : FVec Ideal S1024x256 .bf16) (v199 : FVec Ideal S1024x256 .bf16) (v206 : FVec Ideal S256x1024 .bf16) (r : Fin 512) :
    row (k0_pay14 v41 v56 v181 v184 v185 v192 v196 v199 v206) r
      = add (row v41 r) (scale (Ideal.ofBits .f32 0x3F000000#32) (add (add (row v181 r) (mv (glu (row v184 r) (mv (row v56 r) (mat v185))) (mat v192))) (band (row v56 r) (mat v196) (mat v199) (mat v206)))) := by
  unfold k0_pay14
  dsimp only
  simp only [row_truncf, row_addf, row_mulf, row_slice, row_logistic, mm0, mm1, mm2, mm3, mm4, row_broadcastTo, row_shapeCast, mat_shapeCast]
  simp only [band, glu, row_half, scale_eq]

theorem pay16_row (v41 : FVec Ideal S512x1024 .f32) (v56 : FVec Ideal S512x1024 .bf16) (v181 : FVec Ideal S512x1024 .f32) (v184 : FVec Ideal S512x256 .f32) (v185 : FVec Ideal S1024x256 .bf16) (v192 : FVec Ideal S256x1024 .bf16) (v196 : FVec Ideal S1024x256 .bf16) (v199 : FVec Ideal S1024x256 .bf16) (v206 : FVec Ideal S256x1024 .bf16) (r : Fin 512) :
    row (k0_pay16 v41 v56 v181 v184 v185 v192 v196 v199 v206) r
      = mul (row (k0_pay14 v41 v56 v181 v184 v185 v192 v196 v199 v206) r) (inv (row (k0_pay14 v41 v56 v181 v184 v185 v192 v196 v199 v206) r)) := by
  unfold k0_pay16
  dsimp only
  simp only [row_truncf, row_addf, row_mulf, row_slice, row_logistic, mm0, mm1, mm2, mm3, mm4, row_broadcastTo, row_shapeCast, mat_shapeCast]
  rw [invB]

theorem pay1_row (v212 : FVec Ideal S512x1024 .f32) (v214 : FVec Ideal S1x1024 .f32) (v224 : FVec Ideal S512x1024 .f32) (v228 : FVec Ideal S1024x1024 .bf16) (v232 : FVec Ideal S512x256 .f32) (v235 : FVec Ideal S256x1024 .bf16) (v240 : FVec Ideal S1x1024 .f32) (r : Fin 512) :
    row (k0_pay1 v212 v214 v224 v228 v232 v235 v240) r
      = rms (add (row v212 r) (mul (sig (mv (mul (row v224 r) (row v214 0)) (mat v228))) (mv (row v232 r) (mat v235)))) (row v240 0) := by
  unfold k0_pay1
  dsimp only
  simp only [row_truncf, row_addf, row_mulf, row_slice, row_logistic, mm0, mm1, mm2, mm3, mm4, row_broadcastTo, row_shapeCast, mat_shapeCast]
  rw [invB]
  simp only [row_truncf, row_addf, row_mulf, row_slice, row_logistic, mm0, mm1, mm2, mm3, mm4, row_broadcastTo, row_shapeCast, mat_shapeCast]
  simp only [rms]

theorem pay8_mat (v73 : FVec Ideal S1024x256 .bf16) : mat (k0_pay8 v73) = mat v73 := by
  unfold k0_pay8; exact mat_shapeCast _ _

theorem pay15_row (v213 : FVec Ideal S1x1024 .f32) (r : Fin 1) : row (k0_pay15 v213) r = row v213 r := by
  unfold k0_pay15; exact row_shapeCast _ _ _

/-! ## The whole block -/

theorem zero2 : (![0, 0] : Fin 2 → Nat) = fun _ => 0 := funext fun a => by fin_cases a <;> rfl

theorem wide0 (x : Vec Ideal S1024x2816 .bf16) : mat (M := 1024) (N := 256) (φ := .bf16) (View.ld x r0_5) = cols 0 (by decide) (mat (φ := .bf16) x) :=
  mat_ld_cols _ _ _ _
theorem tall0 (x : Vec Ideal S2816x1024 .bf16) : mat (M := 256) (N := 1024) (φ := .bf16) (View.ld x r0_6) = rowsFrom 0 (by decide) (mat (φ := .bf16) x) :=
  mat_ld_rows _ _ _ _
theorem wide1 (x : Vec Ideal S1024x2816 .bf16) : mat (M := 1024) (N := 256) (φ := .bf16) (View.ld x r0_7) = cols 256 (by decide) (mat (φ := .bf16) x) :=
  mat_ld_cols _ _ _ _
theorem tall1 (x : Vec Ideal S2816x1024 .bf16) : mat (M := 256) (N := 1024) (φ := .bf16) (View.ld x r0_8) = rowsFrom 256 (by decide) (mat (φ := .bf16) x) :=
  mat_ld_rows _ _ _ _
theorem wide2 (x : Vec Ideal S1024x2816 .bf16) : mat (M := 1024) (N := 256) (φ := .bf16) (View.ld x r0_9) = cols 512 (by decide) (mat (φ := .bf16) x) :=
  mat_ld_cols _ _ _ _
theorem tall2 (x : Vec Ideal S2816x1024 .bf16) : mat (M := 256) (N := 1024) (φ := .bf16) (View.ld x r0_10) = rowsFrom 512 (by decide) (mat (φ := .bf16) x) :=
  mat_ld_rows _ _ _ _
theorem wide3 (x : Vec Ideal S1024x2816 .bf16) : mat (M := 1024) (N := 256) (φ := .bf16) (View.ld x r0_11) = cols 768 (by decide) (mat (φ := .bf16) x) :=
  mat_ld_cols _ _ _ _
theorem tall3 (x : Vec Ideal S2816x1024 .bf16) : mat (M := 256) (N := 1024) (φ := .bf16) (View.ld x r0_12) = rowsFrom 768 (by decide) (mat (φ := .bf16) x) :=
  mat_ld_rows _ _ _ _
theorem wide4 (x : Vec Ideal S1024x2816 .bf16) : mat (M := 1024) (N := 256) (φ := .bf16) (View.ld x r0_13) = cols 1024 (by decide) (mat (φ := .bf16) x) :=
  mat_ld_cols _ _ _ _
theorem tall4 (x : Vec Ideal S2816x1024 .bf16) : mat (M := 256) (N := 1024) (φ := .bf16) (View.ld x r0_14) = rowsFrom 1024 (by decide) (mat (φ := .bf16) x) :=
  mat_ld_rows _ _ _ _
theorem wide5 (x : Vec Ideal S1024x2816 .bf16) : mat (M := 1024) (N := 256) (φ := .bf16) (View.ld x r0_15) = cols 1280 (by decide) (mat (φ := .bf16) x) :=
  mat_ld_cols _ _ _ _
theorem tall5 (x : Vec Ideal S2816x1024 .bf16) : mat (M := 256) (N := 1024) (φ := .bf16) (View.ld x r0_16) = rowsFrom 1280 (by decide) (mat (φ := .bf16) x) :=
  mat_ld_rows _ _ _ _
theorem wide6 (x : Vec Ideal S1024x2816 .bf16) : mat (M := 1024) (N := 256) (φ := .bf16) (View.ld x r0_17) = cols 1536 (by decide) (mat (φ := .bf16) x) :=
  mat_ld_cols _ _ _ _
theorem tall6 (x : Vec Ideal S2816x1024 .bf16) : mat (M := 256) (N := 1024) (φ := .bf16) (View.ld x r0_18) = rowsFrom 1536 (by decide) (mat (φ := .bf16) x) :=
  mat_ld_rows _ _ _ _
theorem wide7 (x : Vec Ideal S1024x2816 .bf16) : mat (M := 1024) (N := 256) (φ := .bf16) (View.ld x r0_19) = cols 1792 (by decide) (mat (φ := .bf16) x) :=
  mat_ld_cols _ _ _ _
theorem tall7 (x : Vec Ideal S2816x1024 .bf16) : mat (M := 256) (N := 1024) (φ := .bf16) (View.ld x r0_20) = rowsFrom 1792 (by decide) (mat (φ := .bf16) x) :=
  mat_ld_rows _ _ _ _
theorem wide8 (x : Vec Ideal S1024x2816 .bf16) : mat (M := 1024) (N := 256) (φ := .bf16) (View.ld x r0_21) = cols 2048 (by decide) (mat (φ := .bf16) x) :=
  mat_ld_cols _ _ _ _
theorem tall8 (x : Vec Ideal S2816x1024 .bf16) : mat (M := 256) (N := 1024) (φ := .bf16) (View.ld x r0_22) = rowsFrom 2048 (by decide) (mat (φ := .bf16) x) :=
  mat_ld_rows _ _ _ _
theorem wide9 (x : Vec Ideal S1024x2816 .bf16) : mat (M := 1024) (N := 256) (φ := .bf16) (View.ld x r0_23) = cols 2304 (by decide) (mat (φ := .bf16) x) :=
  mat_ld_cols _ _ _ _
theorem tall9 (x : Vec Ideal S2816x1024 .bf16) : mat (M := 256) (N := 1024) (φ := .bf16) (View.ld x r0_24) = rowsFrom 2304 (by decide) (mat (φ := .bf16) x) :=
  mat_ld_rows _ _ _ _
theorem wide10 (x : Vec Ideal S1024x2816 .bf16) : mat (M := 1024) (N := 256) (φ := .bf16) (View.ld x r0_25) = cols 2560 (by decide) (mat (φ := .bf16) x) :=
  mat_ld_cols _ _ _ _
theorem tall10 (x : Vec Ideal S2816x1024 .bf16) : mat (M := 256) (N := 1024) (φ := .bf16) (View.ld x r0_26) = rowsFrom 2560 (by decide) (mat (φ := .bf16) x) :=
  mat_ld_rows _ _ _ _
theorem whole0 {e : EltTy} (x : Vec Ideal S512x1024 e) : View.ld x r0_0 = x := View.ld_unit_zero (S := S512x1024) zero2 _ x
theorem whole1 {e : EltTy} (x : Vec Ideal S1x1024 e) : View.ld x r0_1 = x := View.ld_unit_zero (S := S1x1024) zero2 _ x
theorem whole2 {e : EltTy} (x : Vec Ideal S1024x2048 e) : View.ld x r0_2 = x := View.ld_unit_zero (S := S1024x2048) zero2 _ x
theorem whole3 {e : EltTy} (x : Vec Ideal S512x512 e) : View.ld x r0_3 = x := View.ld_unit_zero (S := S512x512) zero2 _ x
theorem whole4 {e : EltTy} (x : Vec Ideal S1024x1024 e) : View.ld x r0_4 = x := View.ld_unit_zero (S := S1024x1024) zero2 _ x
theorem whole27 {e : EltTy} (x : Vec Ideal S512x256 e) : View.ld x r0_27 = x := View.ld_unit_zero (S := S512x256) zero2 _ x
theorem whole28 {e : EltTy} (x : Vec Ideal S256x1024 e) : View.ld x r0_28 = x := View.ld_unit_zero (S := S256x1024) zero2 _ x

/-- The eleven bands of 256 hidden columns, added in order, are the whole hidden layer. -/
theorem bands (h : Fin 1024 → EReal) (wg wu : Fin 1024 → Fin 2816 → EReal) (wd : Fin 2816 → Fin 1024 → EReal) :
    (add (add (add (add (add (add (add (add (add (add (band h (cols 0 (L := 256) (by decide) wg) (cols 0 (L := 256) (by decide) wu) (rowsFrom 0 (L := 256) (by decide) wd))
      (band h (cols 256 (L := 256) (by decide) wg) (cols 256 (L := 256) (by decide) wu) (rowsFrom 256 (L := 256) (by decide) wd)))
      (band h (cols 512 (L := 256) (by decide) wg) (cols 512 (L := 256) (by decide) wu) (rowsFrom 512 (L := 256) (by decide) wd)))
      (band h (cols 768 (L := 256) (by decide) wg) (cols 768 (L := 256) (by decide) wu) (rowsFrom 768 (L := 256) (by decide) wd)))
      (band h (cols 1024 (L := 256) (by decide) wg) (cols 1024 (L := 256) (by decide) wu) (rowsFrom 1024 (L := 256) (by decide) wd)))
      (band h (cols 1280 (L := 256) (by decide) wg) (cols 1280 (L := 256) (by decide) wu) (rowsFrom 1280 (L := 256) (by decide) wd)))
      (band h (cols 1536 (L := 256) (by decide) wg) (cols 1536 (L := 256) (by decide) wu) (rowsFrom 1536 (L := 256) (by decide) wd)))
      (band h (cols 1792 (L := 256) (by decide) wg) (cols 1792 (L := 256) (by decide) wu) (rowsFrom 1792 (L := 256) (by decide) wd)))
      (band h (cols 2048 (L := 256) (by decide) wg) (cols 2048 (L := 256) (by decide) wu) (rowsFrom 2048 (L := 256) (by decide) wd)))
      (band h (cols 2304 (L := 256) (by decide) wg) (cols 2304 (L := 256) (by decide) wu) (rowsFrom 2304 (L := 256) (by decide) wd)))
      (band h (cols 2560 (L := 256) (by decide) wg) (cols 2560 (L := 256) (by decide) wu) (rowsFrom 2560 (L := 256) (by decide) wd)))
      = band h wg wu wd := by
  rw [band_split 256 256 512 rfl (by decide),
    band_split 512 256 768 rfl (by decide),
    band_split 768 256 1024 rfl (by decide),
    band_split 1024 256 1280 rfl (by decide),
    band_split 1280 256 1536 rfl (by decide),
    band_split 1536 256 1792 rfl (by decide),
    band_split 1792 256 2048 rfl (by decide),
    band_split 2048 256 2304 rfl (by decide),
    band_split 2304 256 2560 rfl (by decide),
    band_split 2560 256 2816 rfl (by decide)]
  exact band_whole _ _ _ _ _

/-- A row of the stored block is the post-mixer's function of that row's inputs. -/
theorem block_row (x0 : Vec Ideal S512x1024 .f32) (x1 : Vec Ideal S512x512 .bf16) (x2 : Vec Ideal S512x512 .f32) (x3 : Vec Ideal S512x256 .f32) (x4 : Vec Ideal S1x1024 .f32) (x5 : Vec Ideal S1024x2048 .bf16) (x6 : Vec Ideal S512x1024 .bf16) (x7 : Vec Ideal S512x1024 .bf16) (x8 : Vec Ideal S1024x1024 .bf16) (x9 : Vec Ideal S1x1024 .f32) (x10 : Vec Ideal S1024x2816 .bf16) (x11 : Vec Ideal S1024x2816 .bf16) (x12 : Vec Ideal S2816x1024 .bf16) (x13 : Vec Ideal S1x1024 .f32) (x14 : Vec Ideal S1024x1024 .bf16) (x15 : Vec Ideal S256x1024 .bf16) (x16 : Vec Ideal S1x1024 .f32) (r : Fin 512) :
    row (M := 512) (N := 1024) (φ := .f32) (out0_17 x0 x1 x2 x3 x4 x5 x6 x7 x8 x9 x10 x11 x12 x13 x14 x15 x16) r
      = postRow (row (φ := .f32) x0 r) (row (φ := .bf16) x1 r) (row (φ := .f32) x2 r) (row (φ := .f32) x3 r) (row (φ := .f32) x4 0) (mat (φ := .bf16) x5) (mat (φ := .bf16) x6) (mat (φ := .bf16) x7) (mat (φ := .bf16) x8) (row (φ := .f32) x9 0) (mat (φ := .bf16) x10) (mat (φ := .bf16) x11)
        (mat (φ := .bf16) x12) (row (φ := .f32) x13 0) (mat (φ := .bf16) x14) (mat (φ := .bf16) x15) (row (φ := .f32) x16 0) := by
  unfold out0_17
  rw [View.canon_unit_zero (S := S512x1024) zero2]
  unfold k0_pay22 k0_pay21 k0_pay20 k0_pay19 k0_pay18 k0_pay17
  simp only [whole0, whole1, whole2, whole3, whole4, whole27, whole28]
  simp only [pay1_row, pay2_row, pay3_row, pay4_row, pay5_row, pay6_row, pay7_row, pay9_row, pay10_row, pay11_row, pay12_row, pay13_row, pay14_row, pay15_row, pay16_row, pay8_mat, wide0, tall0, wide1, tall1, wide2, tall2, wide3, tall3, wide4, tall4, wide5, tall5, wide6, tall6, wide7, tall7, wide8, tall8, wide9, tall9, wide10, tall10]
  simp only [postRow, pleRow, halfFfn, ← bands]
  rfl

end Cert.Proof.PostBlock

end
-- ==== Proof.PostIn.lean ====
/-
  THE POST-MIXER'S BLOCKS READ OFF ITS ARGUMENTS. The grid's 32 points are the 8 sequences by the 4 blocks of 512 tokens; each point reads one
  block of rows. The host prepares the arguments by
  reshapes, casts, one transpose of the recurrence's output to time-major order, and the slice of the merge gates' columns.
-/
module

public import proofs.«01_k».proof.Proof.PostBlock
public import Idealize.ShloMosaic.Lib.Pipeline.ValueKit

@[expose] public section

noncomputable section

namespace Cert.Proof.PostIn

open Idealize.ShloMosaic Idealize.SL.Sem Cert.Rows Cert.Kernel2Ideal Cert.Kernel2Ideal.Gen
open Idealize.ShloMosaic.TcCoe

variable (m : (ℓ : Loc nD τ sig) → Buf (Elt Ideal) ℓ) (c : Dev nD)

/-- The windows' block indices at each point: the row blocks in order, the recurrence's block by time and sequence. -/
theorem idx_facts : ∀ t : Fin cfg0.N, t.val < 32 ∧
    win0_0.index t (0 : Fin 2) = t.val ∧ win0_0.index t (1 : Fin 2) = 0 ∧
    win0_1.index t (0 : Fin 2) = t.val ∧ win0_1.index t (1 : Fin 2) = 0 ∧
    win0_2.index t (0 : Fin 2) = t.val % 4 ∧ win0_2.index t (1 : Fin 2) = t.val / 4 ∧
    win0_3.index t (0 : Fin 2) = t.val ∧ win0_3.index t (1 : Fin 2) = 0 ∧
    win0_17.index t (0 : Fin 2) = t.val ∧ win0_17.index t (1 : Fin 2) = 0 :=
  (by decide +kernel : ∀ t : Fin grid0.N, _)

theorem iblk0 (t : Fin cfg0.N) (r : Fin 512) (b : Fin 8) (s : Fin 2048) (h : b.val * 2048 + s.val = t.val * 512 + r.val) :
    row (M := 512) (N := 1024) (φ := .f32) (iblk m c 0 t) r = row3 (B := 8) (T := 2048) (N := 1024) (φ := .f32) (m ((c : Thread nD τ).loc main_arg0)) b s := by
  obtain ⟨ht, h0, h1, -⟩ := idx_facts t
  funext j
  unfold row row3
  blk_simp [iblk]
  entry_read
  exact shapeCast_flat _ _ _ b s j (by blk_simp [h0]; show _ + r.val = _; omega) (by blk_simp [h1])

theorem iblk1 (t : Fin cfg0.N) (r : Fin 512) (b : Fin 8) (s : Fin 2048) (h : b.val * 2048 + s.val = t.val * 512 + r.val) :
    row (M := 512) (N := 512) (φ := .bf16) (iblk m c 1 t) r = row3 (B := 8) (T := 2048) (N := 512) (φ := .f32) (m ((c : Thread nD τ).loc main_arg1)) b s := by
  obtain ⟨ht, -, -, h0, h1, -⟩ := idx_facts t
  funext j
  unfold row row3
  blk_simp [iblk]
  entry_read
  exact shapeCast_flat _ _ _ b s j (by blk_simp [h0]; show _ + r.val = _; omega) (by blk_simp [h1])

theorem iblk3 (t : Fin cfg0.N) (r : Fin 512) (b : Fin 8) (s : Fin 2048) (h : b.val * 2048 + s.val = t.val * 512 + r.val) :
    row (M := 512) (N := 256) (φ := .f32) (iblk m c 3 t) r = row3 (B := 8) (T := 2048) (N := 256) (φ := .f32) (m ((c : Thread nD τ).loc main_arg3)) b s := by
  obtain ⟨ht, -, -, -, -, -, -, h0, h1, -⟩ := idx_facts t
  funext j
  unfold row row3
  blk_simp [iblk]
  entry_read
  exact shapeCast_flat _ _ _ b s j (by blk_simp [h0]; show _ + r.val = _; omega) (by blk_simp [h1])

theorem iblk2 (t : Fin cfg0.N) (r : Fin 512) (b : Fin 8) (s : Fin 2048) (h : b.val * 2048 + s.val = t.val * 512 + r.val) :
    row (M := 512) (N := 512) (φ := .f32) (iblk m c 2 t) r = row3 (B := 8) (T := 2048) (N := 512) (φ := .f32) (m ((c : Thread nD τ).loc main_arg2)) b s := by
  obtain ⟨ht, -, -, -, -, h0, h1, -⟩ := idx_facts t
  funext j
  unfold row row3
  blk_simp [iblk]
  entry_read
  refine (shapeCast_wide _ _ _ s b j rfl (by blk_simp [h0]; show _ + r.val = _; omega) (by blk_simp [h1]; show _ + j.val = _; omega)).trans ?_
  exact transpose_swap _ _ b s j

/-- The weights' windows are whole arrays. -/
theorem idx_zero : ∀ t : Fin cfg0.N,
    win0_4.index t (0 : Fin 2) = 0 ∧ win0_4.index t (1 : Fin 2) = 0 ∧
    win0_5.index t (0 : Fin 2) = 0 ∧ win0_5.index t (1 : Fin 2) = 0 ∧
    win0_6.index t (0 : Fin 2) = 0 ∧ win0_6.index t (1 : Fin 2) = 0 ∧
    win0_7.index t (0 : Fin 2) = 0 ∧ win0_7.index t (1 : Fin 2) = 0 ∧
    win0_8.index t (0 : Fin 2) = 0 ∧ win0_8.index t (1 : Fin 2) = 0 ∧
    win0_9.index t (0 : Fin 2) = 0 ∧ win0_9.index t (1 : Fin 2) = 0 ∧
    win0_10.index t (0 : Fin 2) = 0 ∧ win0_10.index t (1 : Fin 2) = 0 ∧
    win0_11.index t (0 : Fin 2) = 0 ∧ win0_11.index t (1 : Fin 2) = 0 ∧
    win0_12.index t (0 : Fin 2) = 0 ∧ win0_12.index t (1 : Fin 2) = 0 ∧
    win0_13.index t (0 : Fin 2) = 0 ∧ win0_13.index t (1 : Fin 2) = 0 ∧
    win0_14.index t (0 : Fin 2) = 0 ∧ win0_14.index t (1 : Fin 2) = 0 ∧
    win0_15.index t (0 : Fin 2) = 0 ∧ win0_15.index t (1 : Fin 2) = 0 ∧
    win0_16.index t (0 : Fin 2) = 0 ∧ win0_16.index t (1 : Fin 2) = 0 :=
  (by decide +kernel : ∀ t : Fin grid0.N, _)

theorem iblk4 (t : Fin cfg0.N) :
    row (M := 1) (N := 1024) (φ := .f32) (iblk m c 4 t) 0 = vec (N := 1024) (φ := .f32) (m ((c : Thread nD τ).loc main_arg4)) := by
  obtain ⟨h0, h1, -⟩ := idx_zero t
  funext j
  unfold row vec
  blk_simp [iblk]
  entry_read
  exact shapeCast_vec _ _ _ j (by blk_simp [h1])

theorem iblk5 (t : Fin cfg0.N) :
    mat (M := 1024) (N := 2048) (φ := .bf16) (iblk m c 5 t) = cols 1816 (by decide) (mat (M := 1024) (N := 3864) (φ := .f32) (m ((c : Thread nD τ).loc main_arg5))) := by
  obtain ⟨-, -, h0, h1, -⟩ := idx_zero t
  funext i j
  unfold mat cols
  blk_simp [iblk]
  entry_read
  exact slice_at 1816 _ slices_S1024x3864_S1024x2048_0_1816 _ i ⟨1816 + j.val, by omega⟩ (by blk_simp [h0]) (by blk_simp [h1])

theorem iblk6 (t : Fin cfg0.N) :
    mat (M := 512) (N := 1024) (φ := .bf16) (iblk m c 6 t) = mat (M := 512) (N := 1024) (φ := .f32) (m ((c : Thread nD τ).loc main_arg6)) := by
  obtain ⟨-, -, -, -, h0, h1, -⟩ := idx_zero t
  funext i j
  unfold mat
  blk_simp [iblk]
  entry_read
  exact congrArg (m ((c : Thread nD τ).loc main_arg6)) (by blk_ext [h0, h1])

theorem iblk7 (t : Fin cfg0.N) :
    mat (M := 512) (N := 1024) (φ := .bf16) (iblk m c 7 t) = mat (M := 512) (N := 1024) (φ := .f32) (m ((c : Thread nD τ).loc main_arg7)) := by
  obtain ⟨-, -, -, -, -, -, h0, h1, -⟩ := idx_zero t
  funext i j
  unfold mat
  blk_simp [iblk]
  entry_read
  exact congrArg (m ((c : Thread nD τ).loc main_arg7)) (by blk_ext [h0, h1])

theorem iblk8 (t : Fin cfg0.N) :
    mat (M := 1024) (N := 1024) (φ := .bf16) (iblk m c 8 t) = mat (M := 1024) (N := 1024) (φ := .f32) (m ((c : Thread nD τ).loc main_arg8)) := by
  obtain ⟨-, -, -, -, -, -, -, -, h0, h1, -⟩ := idx_zero t
  funext i j
  unfold mat
  blk_simp [iblk]
  entry_read
  exact congrArg (m ((c : Thread nD τ).loc main_arg8)) (by blk_ext [h0, h1])

theorem iblk9 (t : Fin cfg0.N) :
    row (M := 1) (N := 1024) (φ := .f32) (iblk m c 9 t) 0 = vec (N := 1024) (φ := .f32) (m ((c : Thread nD τ).loc main_arg9)) := by
  obtain ⟨-, -, -, -, -, -, -, -, -, -, h0, h1, -⟩ := idx_zero t
  funext j
  unfold row vec
  blk_simp [iblk]
  entry_read
  exact shapeCast_vec _ _ _ j (by blk_simp [h1])

theorem iblk10 (t : Fin cfg0.N) :
    mat (M := 1024) (N := 2816) (φ := .bf16) (iblk m c 10 t) = mat (M := 1024) (N := 2816) (φ := .f32) (m ((c : Thread nD τ).loc main_arg10)) := by
  obtain ⟨-, -, -, -, -, -, -, -, -, -, -, -, h0, h1, -⟩ := idx_zero t
  funext i j
  unfold mat
  blk_simp [iblk]
  entry_read
  exact congrArg (m ((c : Thread nD τ).loc main_arg10)) (by blk_ext [h0, h1])

theorem iblk11 (t : Fin cfg0.N) :
    mat (M := 1024) (N := 2816) (φ := .bf16) (iblk m c 11 t) = mat (M := 1024) (N := 2816) (φ := .f32) (m ((c : Thread nD τ).loc main_arg11)) := by
  obtain ⟨-, -, -, -, -, -, -, -, -, -, -, -, -, -, h0, h1, -⟩ := idx_zero t
  funext i j
  unfold mat
  blk_simp [iblk]
  entry_read
  exact congrArg (m ((c : Thread nD τ).loc main_arg11)) (by blk_ext [h0, h1])

theorem iblk12 (t : Fin cfg0.N) :
    mat (M := 2816) (N := 1024) (φ := .bf16) (iblk m c 12 t) = mat (M := 2816) (N := 1024) (φ := .f32) (m ((c : Thread nD τ).loc main_arg12)) := by
  obtain ⟨-, -, -, -, -, -, -, -, -, -, -, -, -, -, -, -, h0, h1, -⟩ := idx_zero t
  funext i j
  unfold mat
  blk_simp [iblk]
  entry_read
  exact congrArg (m ((c : Thread nD τ).loc main_arg12)) (by blk_ext [h0, h1])

theorem iblk13 (t : Fin cfg0.N) :
    row (M := 1) (N := 1024) (φ := .f32) (iblk m c 13 t) 0 = vec (N := 1024) (φ := .f32) (m ((c : Thread nD τ).loc main_arg13)) := by
  obtain ⟨-, -, -, -, -, -, -, -, -, -, -, -, -, -, -, -, -, -, h0, h1, -⟩ := idx_zero t
  funext j
  unfold row vec
  blk_simp [iblk]
  entry_read
  exact shapeCast_vec _ _ _ j (by blk_simp [h1])

theorem iblk14 (t : Fin cfg0.N) :
    mat (M := 1024) (N := 1024) (φ := .bf16) (iblk m c 14 t) = mat (M := 1024) (N := 1024) (φ := .f32) (m ((c : Thread nD τ).loc main_arg14)) := by
  obtain ⟨-, -, -, -, -, -, -, -, -, -, -, -, -, -, -, -, -, -, -, -, h0, h1, -⟩ := idx_zero t
  funext i j
  unfold mat
  blk_simp [iblk]
  entry_read
  exact congrArg (m ((c : Thread nD τ).loc main_arg14)) (by blk_ext [h0, h1])

theorem iblk15 (t : Fin cfg0.N) :
    mat (M := 256) (N := 1024) (φ := .bf16) (iblk m c 15 t) = mat (M := 256) (N := 1024) (φ := .f32) (m ((c : Thread nD τ).loc main_arg15)) := by
  obtain ⟨-, -, -, -, -, -, -, -, -, -, -, -, -, -, -, -, -, -, -, -, -, -, h0, h1, -⟩ := idx_zero t
  funext i j
  unfold mat
  blk_simp [iblk]
  entry_read
  exact congrArg (m ((c : Thread nD τ).loc main_arg15)) (by blk_ext [h0, h1])

theorem iblk16 (t : Fin cfg0.N) :
    row (M := 1) (N := 1024) (φ := .f32) (iblk m c 16 t) 0 = vec (N := 1024) (φ := .f32) (m ((c : Thread nD τ).loc main_arg16)) := by
  obtain ⟨-, -, -, -, -, -, -, -, -, -, -, -, -, -, -, -, -, -, -, -, -, -, -, -, h0, h1⟩ := idx_zero t
  funext j
  unfold row vec
  blk_simp [iblk]
  entry_read
  exact shapeCast_vec _ _ _ j (by blk_simp [h1])

end Cert.Proof.PostIn

end
-- ==== Proof.PostArray.lean ====
/-
  THE POST-MIXER'S RESULT ARRAY. The grid's 32 points are the 8 sequences by the 4 blocks of 512 tokens; each point stores one
  block of rows, so the array holds `postRow` of every token's rows of the arguments. The host prepares the arguments by
  reshapes, casts, one transpose of the recurrence's output to time-major order, and the slice of the merge gates' columns.
-/
module

public import proofs.«01_k».proof.Proof.PostIn
public import Idealize.ShloMosaic.Lib.Pipeline.ValueKit

@[expose] public section

noncomputable section

namespace Cert.Proof.PostArray

open Idealize.ShloMosaic Idealize.SL.Sem Cert.Rows Cert.Kernel2Ideal Cert.Kernel2Ideal.Gen
open Idealize.ShloMosaic.TcCoe Cert.Proof.PostIn

variable (m : (ℓ : Loc nD τ sig) → Buf (Elt Ideal) ℓ) (c : Dev nD)

/-- The post-mixer's function of token `s` of sequence `b`. -/
def outRow (b : Fin 8) (s : Fin 2048) : Fin 1024 → EReal :=
  postRow (row3 (B := 8) (T := 2048) (N := 1024) (φ := .f32) (m ((c : Thread nD τ).loc main_arg0)) b s) (row3 (B := 8) (T := 2048) (N := 512) (φ := .f32) (m ((c : Thread nD τ).loc main_arg1)) b s)
    (row3 (B := 8) (T := 2048) (N := 512) (φ := .f32) (m ((c : Thread nD τ).loc main_arg2)) b s) (row3 (B := 8) (T := 2048) (N := 256) (φ := .f32) (m ((c : Thread nD τ).loc main_arg3)) b s)
    (vec (N := 1024) (φ := .f32) (m ((c : Thread nD τ).loc main_arg4))) (cols 1816 (by decide) (mat (M := 1024) (N := 3864) (φ := .f32) (m ((c : Thread nD τ).loc main_arg5))))
    (mat (M := 512) (N := 1024) (φ := .f32) (m ((c : Thread nD τ).loc main_arg6))) (mat (M := 512) (N := 1024) (φ := .f32) (m ((c : Thread nD τ).loc main_arg7)))
    (mat (M := 1024) (N := 1024) (φ := .f32) (m ((c : Thread nD τ).loc main_arg8))) (vec (N := 1024) (φ := .f32) (m ((c : Thread nD τ).loc main_arg9)))
    (mat (M := 1024) (N := 2816) (φ := .f32) (m ((c : Thread nD τ).loc main_arg10))) (mat (M := 1024) (N := 2816) (φ := .f32) (m ((c : Thread nD τ).loc main_arg11)))
    (mat (M := 2816) (N := 1024) (φ := .f32) (m ((c : Thread nD τ).loc main_arg12))) (vec (N := 1024) (φ := .f32) (m ((c : Thread nD τ).loc main_arg13)))
    (mat (M := 1024) (N := 1024) (φ := .f32) (m ((c : Thread nD τ).loc main_arg14))) (mat (M := 256) (N := 1024) (φ := .f32) (m ((c : Thread nD τ).loc main_arg15)))
    (vec (N := 1024) (φ := .f32) (m ((c : Thread nD τ).loc main_arg16)))

/-- What the result array holds: row `b * 2048 + s` is token `s` of sequence `b`. -/
def out : S16384x1024.Idx → EReal := fun i =>
  outRow m c ⟨(i 0).val / 2048, by have : (i 0).val < 16384 := (i 0).isLt; omega⟩ ⟨(i 0).val % 2048, by omega⟩ (i 1)

/-- A block's row is the function of its token. -/
theorem block_out (t : Fin cfg0.N) (r : Fin 512) (b : Fin 8) (s : Fin 2048) (h : b.val * 2048 + s.val = t.val * 512 + r.val) :
    row (M := 512) (N := 1024) (φ := .f32) (out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) r = outRow m c b s := by
  rw [PostBlock.block_row]
  rw [iblk0 m c t r b s h, iblk1 m c t r b s h, iblk2 m c t r b s h, iblk3 m c t r b s h, iblk4, iblk5, iblk6, iblk7, iblk8, iblk9,
    iblk10, iblk11, iblk12, iblk13, iblk14, iblk15, iblk16]
  rfl

/-- An element of a block is the element of `out` it is written to. -/
theorem block_at (t : Fin cfg0.N) (y : S512x1024.Idx) (i : S16384x1024.Idx) (h0 : (i 0).val = t.val * 512 + (y 0).val)
    (h1 : (i 1).val = (y 1).val) : out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) y = out m c i := by
  have hR : (i 0).val < 16384 := (i 0).isLt
  have e := block_out m c t (y 0) ⟨(i 0).val / 2048, by omega⟩ ⟨(i 0).val % 2048, by omega⟩ (by show (i 0).val / 2048 * 2048 + (i 0).val % 2048 = _; omega)
  generalize out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) = X at e ⊢
  exact at_of_row (M := 512) (N := 1024) (φ := .f32) X y (y 0) (i 1) _ e rfl h1.symm

/-- The result array after the run. -/
theorem final_out : (dats m 0 c).arrAt 17 cfg0.N = out m c := by
  refine (dats m 0 c).arrAt_eq_of_covers 17 _ (by decide +kernel) fun t hf y => ?_
  obtain ⟨ht, -, -, -, -, -, -, -, -, h0, h1⟩ := idx_facts t
  blk_simp
  rw [after0_17]
  exact block_at m c t y _ (by blk_simp [h0]) (by blk_simp [h1])

/-- The run: the result array holds `out`, and the arguments end unchanged. -/
theorem run (ρ : Dev nD → PrngReg) : θ_run (defs (F := Ideal)) (onTc (τ := τ) (main (F := Ideal))) ⟨m, fun _ => 0, ρ⟩ (fun r => ∀ c : Dev nD,
    r.2.mem ((c : Thread nD τ).loc main_v20) = out m c
    ∧ r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) ∧ r.2.mem ((c : Thread nD τ).loc main_arg3) = m ((c : Thread nD τ).loc main_arg3) ∧ r.2.mem ((c : Thread nD τ).loc main_arg4) = m ((c : Thread nD τ).loc main_arg4) ∧ r.2.mem ((c : Thread nD τ).loc main_arg5) = m ((c : Thread nD τ).loc main_arg5) ∧ r.2.mem ((c : Thread nD τ).loc main_arg6) = m ((c : Thread nD τ).loc main_arg6) ∧ r.2.mem ((c : Thread nD τ).loc main_arg7) = m ((c : Thread nD τ).loc main_arg7) ∧ r.2.mem ((c : Thread nD τ).loc main_arg8) = m ((c : Thread nD τ).loc main_arg8) ∧ r.2.mem ((c : Thread nD τ).loc main_arg9) = m ((c : Thread nD τ).loc main_arg9) ∧ r.2.mem ((c : Thread nD τ).loc main_arg10) = m ((c : Thread nD τ).loc main_arg10) ∧ r.2.mem ((c : Thread nD τ).loc main_arg11) = m ((c : Thread nD τ).loc main_arg11) ∧ r.2.mem ((c : Thread nD τ).loc main_arg12) = m ((c : Thread nD τ).loc main_arg12) ∧ r.2.mem ((c : Thread nD τ).loc main_arg13) = m ((c : Thread nD τ).loc main_arg13) ∧ r.2.mem ((c : Thread nD τ).loc main_arg14) = m ((c : Thread nD τ).loc main_arg14) ∧ r.2.mem ((c : Thread nD τ).loc main_arg15) = m ((c : Thread nD τ).loc main_arg15) ∧ r.2.mem ((c : Thread nD τ).loc main_arg16) = m ((c : Thread nD τ).loc main_arg16)) :=
  (θ_run defs _ _).mono (fun r h c => ⟨(h c).1.trans (final_out m c), (h c).2⟩) (Value.run_blocks m ρ)

end Cert.Proof.PostArray

end
-- ==== Proof.HostRows.lean ====
/-
  A TOKEN'S ROW THROUGH THE HOST'S ARRAY OPERATIONS. The reference works on arrays of sequences by tokens by features; this
  module reads its norm, its logistic function, its slices and its matrix products at one token's row.
-/
module

public import proofs.«01_k».proof.Proof.Rows
public import Idealize.ShloMosaic.Lib.IdealHost

@[expose] public section

noncomputable section

namespace Cert.Rows

open Idealize.ShloMosaic Idealize.ShloMosaic.ValueIdx
open scoped BigOperators

variable {N K B T : ℕ} {φ ψ : FTy}

theorem row3_mulf (x y : FVec Ideal ⟨3, ![B, T, N]⟩ φ) (b : Fin B) (t : Fin T) : row3 (mulf x y) b t = mul (row3 x b t) (row3 y b t) := rfl
theorem row3_addf (x y : FVec Ideal ⟨3, ![B, T, N]⟩ φ) (b : Fin B) (t : Fin T) : row3 (addf x y) b t = add (row3 x b t) (row3 y b t) := rfl

/-- The columns from `o` on. -/
theorem row3_slice {L : ℕ} (o : ℕ) (x : FVec Ideal ⟨3, ![B, T, N]⟩ φ)
    (h : (⟨3, ![B, T, N]⟩ : Shape).Slices ![0, 0, o] ⟨3, ![B, T, L]⟩) (b : Fin B) (t : Fin T) :
    row3 (extractStridedSlice (⟨3, ![B, T, L]⟩ : Shape) ![0, 0, o] x h : FVec Ideal ⟨3, ![B, T, L]⟩ φ) b t = part o (h.2 2) (row3 x b t) := by
  have ho : o + L ≤ N := h.2 2
  funext j
  refine extractStridedSlice_apply _ x h (ix3 b t j) (ix3 b t ⟨o + j.val, by omega⟩) fun a => ?_
  match a with
  | ⟨0, _⟩ => exact (Nat.zero_add _).symm
  | ⟨1, _⟩ => exact (Nat.zero_add _).symm
  | ⟨2, _⟩ => rfl

/-- One over one plus the exponential of the negated argument. -/
theorem row3_sigmoid (x : FVec Ideal ⟨3, ![B, T, N]⟩ .f32) (h h') (b : Fin B) (t : Fin T) :
    row3 (Host.divf (broadcastInDim (⟨3, ![B, T, N]⟩ : Shape) ![] h (constant (F := Ideal) (⟨0, ![]⟩ : Shape) .f32 0x3F800000#32))
      (addf (broadcastInDim (⟨3, ![B, T, N]⟩ : Shape) ![] h' (constant (F := Ideal) (⟨0, ![]⟩ : Shape) .f32 0x3F800000#32)) (Host.exp (Host.negf x)))) b t
      = sig (row3 x b t) := by
  have one : Ideal.ofBits .f32 0x3F800000#32 = 1 := by simp
  funext j
  show Ideal.div (Ideal.ofBits .f32 0x3F800000#32) (Ideal.ofBits .f32 0x3F800000#32 + Ideal.exp (-(x (ix3 b t j)))) = _
  rw [one]
  rfl

/-- A splat times an array. -/
theorem row3_scale (c : BitVec 32) (x : FVec Ideal ⟨3, ![B, T, N]⟩ .f32) (h) (b : Fin B) (t : Fin T) :
    row3 (mulf (broadcastInDim (⟨3, ![B, T, N]⟩ : Shape) ![] h (constant (F := Ideal) (⟨0, ![]⟩ : Shape) .f32 c)) x) b t
      = scale (Ideal.ofBits .f32 c) (row3 x b t) := rfl

/-- The host's RMS norm. -/
theorem row3_rms (x : FVec Ideal ⟨3, ![B, T, N]⟩ .f32) (g : FVec Ideal ⟨1, ![N]⟩ .f32)
    (hR : (⟨3, ![B, T, N]⟩ : Shape).Reduces [(2 : Fin 3)] ⟨2, ![B, T]⟩)
    (hr : (⟨3, ![B, T, N]⟩ : Shape).ReducesTo [(2 : Fin 3)] ⟨2, ![B, T]⟩) (hS h2 h3 h5 h8 h10 h11) (b : Fin B) (t : Fin T) :
    row3 (mulf (mulf x (broadcastInDim (⟨3, ![B, T, N]⟩ : Shape) ![0, 1, 2] h8 (Host.rsqrt (addf (Host.divf
        (broadcastInDim (⟨3, ![B, T, 1]⟩ : Shape) ![0, 1] h2 (Host.reduceAdd (mulf x x) (constant (F := Ideal) (⟨0, ![]⟩ : Shape) .f32 0x00000000#32) hr hS))
        (broadcastInDim (⟨3, ![B, T, 1]⟩ : Shape) ![] h3 (constant (F := Ideal) (⟨0, ![]⟩ : Shape) .f32 0x44800000#32)))
        (broadcastInDim (⟨3, ![B, T, 1]⟩ : Shape) ![] h5 (constant (F := Ideal) (⟨0, ![]⟩ : Shape) .f32 0x358637BD#32))))))
      (broadcastInDim (⟨3, ![B, T, N]⟩ : Shape) ![0, 1, 2] h11 (broadcastInDim (⟨3, ![1, 1, N]⟩ : Shape) ![2] h10 g))) b t
      = rms (row3 x b t) (vec g) := by
  funext j
  refine congrArg₂ (· * ·) (congrArg (x (ix3 b t j) * ·) ?_) ?_
  · refine (broadcastInDim_apply _ h8 _ (ix3 b t j) (ix3 b t 0) fun a => ?_).trans ?_
    · match a with
      | ⟨0, _⟩ => show b.val = if B = 1 then 0 else b.val; split <;> omega
      | ⟨1, _⟩ => show t.val = if T = 1 then 0 else t.val; split <;> omega
      | ⟨2, _⟩ => exact (if_pos rfl).symm
    · have e2 := broadcastInDim_apply _ h2 (Host.reduceAdd (mulf x x) (constant (F := Ideal) (⟨0, ![]⟩ : Shape) .f32 0x00000000#32) hr hS) (ix3 b t 0) (ix2 b t) fun a => by
        match a with
        | ⟨0, _⟩ => show b.val = if B = 1 then 0 else b.val; split <;> omega
        | ⟨1, _⟩ => show t.val = if T = 1 then 0 else t.val; split <;> omega
      have e1 : Host.reduceAdd (mulf x x) (constant (F := Ideal) (⟨0, ![]⟩ : Shape) .f32 0x00000000#32) hr hS (ix2 b t) = ∑ k, row3 x b t k * row3 x b t k := by
        simp only [Host.reduceAdd, Ideal.hostReduceAdd_def]
        rw [Ideal.hostReduceAdd_single hr hR, constant_apply, show Ideal.ofBits .f32 0x00000000#32 = 0 from by simp [Ideal.ofBits_zero_f32], zero_add]
        refine Finset.sum_congr rfl fun k _ => ?_
        rw [show hR.lift (ix2 b t) k = ix3 b t k from funext fun a => Fin.ext (by match a with | ⟨0, _⟩ => rfl | ⟨1, _⟩ => rfl | ⟨2, _⟩ => rfl)]
        rfl
      show Ideal.rsqrt (Ideal.div (broadcastInDim _ _ h2 _ (ix3 b t 0)) _ + _) = _
      rw [e2, e1]
      rfl
  · refine (broadcastInDim_apply _ h11 _ (ix3 b t j) (ix3 0 0 j) fun a => ?_).trans (broadcastInDim_apply _ h10 g (ix3 0 0 j) (ix1 j) fun a => ?_)
    · match a with
      | ⟨0, _⟩ => exact (if_pos rfl).symm
      | ⟨1, _⟩ => exact (if_pos rfl).symm
      | ⟨2, _⟩ => show j.val = if N = 1 then 0 else j.val; split <;> omega
    · match a with
      | ⟨0, _⟩ => show j.val = if N = 1 then 0 else j.val; split <;> omega

/-- The dimension numbers of a stack of matrices times a matrix. -/
abbrev stackDims (B T K N : ℕ) (wf : DotDims.WF ⟨3, ![B, T, K]⟩ ⟨2, ![K, N]⟩ ⟨3, ![B, T, N]⟩ [2] [0] [0, 1] [1] [] []) : DotDims ⟨3, ![B, T, K]⟩ ⟨2, ![K, N]⟩ ⟨3, ![B, T, N]⟩ :=
  { lhsContracting := [2], rhsContracting := [0], lhsNonContracting := [0, 1], rhsNonContracting := [1], lhsBatch := [], rhsBatch := [], wf := wf }

/-- A stack of matrices times a matrix, at a row. -/
theorem row3_dot (d : DotDims ⟨3, ![B, T, K]⟩ ⟨2, ![K, N]⟩ ⟨3, ![B, T, N]⟩)
    (wf : DotDims.WF ⟨3, ![B, T, K]⟩ ⟨2, ![K, N]⟩ ⟨3, ![B, T, N]⟩ [2] [0] [0, 1] [1] [] []) (hd : d = stackDims B T K N wf) (p)
    (x : FVec Ideal ⟨3, ![B, T, K]⟩ φ) (w : FVec Ideal ⟨2, ![K, N]⟩ ψ) (b : Fin B) (t : Fin T) :
    row3 (Host.dotGeneral (F := Ideal) d p x w) b t = mv (row3 x b t) (mat w) := by
  subst hd
  funext j
  simp only [Host.dotGeneral, row3]
  rw [Ideal.dotGeneral_apply, ← Equiv.sum_comp (contrEquiv1 (stackDims B T K N wf) K rfl rfl).symm]
  refine Finset.sum_congr rfl fun k _ => ?_
  have hk := contrEquiv1_symm_val (stackDims B T K N wf) K rfl rfl k
  refine congrArg₂ (· * ·) (congrArg x (funext fun a => Fin.ext ?_)) (congrArg w (funext fun a => Fin.ext ?_))
  · match a with
    | ⟨0, _⟩ => rfl
    | ⟨1, _⟩ => rfl
    | ⟨2, _⟩ => exact hk
  · match a with
    | ⟨0, _⟩ => exact hk
    | ⟨1, _⟩ => rfl

end Cert.Rows

end
-- ==== Proof.PostRef.lean ====
/-
  THE REFERENCE'S POST-MIXER AT A TOKEN. Every array the reference forms holds, in each token's row, a function of that token's
  rows of the arguments; composed, they are `postRow`.
-/
module

public import proofs.«01_k».proof.Proof.HostRows
public import proofs.«01_k».proof.Proof.Gen.Reference2Ideal.Read

@[expose] public section

noncomputable section

namespace Cert.Proof.PostRef

open Idealize.ShloMosaic Cert.Rows Cert.Reference2Ideal Cert.Reference2Ideal.Gen Cert.Reference2Ideal.Read

theorem r_main_v12 (x0 : (⟨S8x2048x1024, .f32⟩ : BufTy).Contents (Elt Ideal)) (x4 : (⟨S1024, .f32⟩ : BufTy).Contents (Elt Ideal)) (b : Fin 8) (t : Fin 2048) : row3 (B := 8) (T := 2048) (N := 1024) (φ := .f32) (val_main_v12 (F := Ideal) x0 x4) b t = rms (row3 (B := 8) (T := 2048) (N := 1024) (φ := .f32) x0 b t) (vec (N := 1024) (φ := .f32) x4) :=
  row3_rms _ _ (by decide) _ _ _ _ _ _ _ _ b t

theorem r_main_v13 (x0 : (⟨S8x2048x1024, .f32⟩ : BufTy).Contents (Elt Ideal)) (x4 : (⟨S1024, .f32⟩ : BufTy).Contents (Elt Ideal)) (x5 : (⟨S1024x3864, .f32⟩ : BufTy).Contents (Elt Ideal)) (b : Fin 8) (t : Fin 2048) : row3 (B := 8) (T := 2048) (N := 3864) (φ := .f32) (val_main_v13 (F := Ideal) x0 x4 x5) b t = mv (row3 (B := 8) (T := 2048) (N := 1024) (φ := .f32) (val_main_v12 (F := Ideal) x0 x4) b t) (mat (M := 1024) (N := 3864) (φ := .f32) x5) :=
  row3_dot _ _ rfl _ _ _ b t

theorem r_main_v14 (x0 : (⟨S8x2048x1024, .f32⟩ : BufTy).Contents (Elt Ideal)) (x4 : (⟨S1024, .f32⟩ : BufTy).Contents (Elt Ideal)) (x5 : (⟨S1024x3864, .f32⟩ : BufTy).Contents (Elt Ideal)) (b : Fin 8) (t : Fin 2048) : row3 (B := 8) (T := 2048) (N := 2048) (φ := .f32) (val_main_v14 (F := Ideal) x0 x4 x5) b t = part 1816 (by decide) (row3 (B := 8) (T := 2048) (N := 3864) (φ := .f32) (val_main_v13 (F := Ideal) x0 x4 x5) b t) :=
  row3_slice _ _ _ b t

theorem r_main_v20 (x0 : (⟨S8x2048x1024, .f32⟩ : BufTy).Contents (Elt Ideal)) (x4 : (⟨S1024, .f32⟩ : BufTy).Contents (Elt Ideal)) (x5 : (⟨S1024x3864, .f32⟩ : BufTy).Contents (Elt Ideal)) (b : Fin 8) (t : Fin 2048) : row3 (B := 8) (T := 2048) (N := 2048) (φ := .f32) (val_main_v20 (F := Ideal) x0 x4 x5) b t = sig (row3 (B := 8) (T := 2048) (N := 2048) (φ := .f32) (val_main_v14 (F := Ideal) x0 x4 x5) b t) :=
  row3_sigmoid _ _ _ b t

theorem r_main_v21 (x0 : (⟨S8x2048x1024, .f32⟩ : BufTy).Contents (Elt Ideal)) (x4 : (⟨S1024, .f32⟩ : BufTy).Contents (Elt Ideal)) (x5 : (⟨S1024x3864, .f32⟩ : BufTy).Contents (Elt Ideal)) (b : Fin 8) (t : Fin 2048) : row3 (B := 8) (T := 2048) (N := 1024) (φ := .f32) (val_main_v21 (F := Ideal) x0 x4 x5) b t = part 0 (by decide) (row3 (B := 8) (T := 2048) (N := 2048) (φ := .f32) (val_main_v20 (F := Ideal) x0 x4 x5) b t) :=
  row3_slice _ _ _ b t

theorem r_main_v22 (x0 : (⟨S8x2048x1024, .f32⟩ : BufTy).Contents (Elt Ideal)) (x4 : (⟨S1024, .f32⟩ : BufTy).Contents (Elt Ideal)) (x5 : (⟨S1024x3864, .f32⟩ : BufTy).Contents (Elt Ideal)) (b : Fin 8) (t : Fin 2048) : row3 (B := 8) (T := 2048) (N := 1024) (φ := .f32) (val_main_v22 (F := Ideal) x0 x4 x5) b t = part 1024 (by decide) (row3 (B := 8) (T := 2048) (N := 2048) (φ := .f32) (val_main_v20 (F := Ideal) x0 x4 x5) b t) :=
  row3_slice _ _ _ b t

theorem r_main_v23 (x1 : (⟨S8x2048x512, .f32⟩ : BufTy).Contents (Elt Ideal)) (x6 : (⟨S512x1024, .f32⟩ : BufTy).Contents (Elt Ideal)) (b : Fin 8) (t : Fin 2048) : row3 (B := 8) (T := 2048) (N := 1024) (φ := .f32) (val_main_v23 (F := Ideal) x1 x6) b t = mv (row3 (B := 8) (T := 2048) (N := 512) (φ := .f32) x1 b t) (mat (M := 512) (N := 1024) (φ := .f32) x6) :=
  row3_dot _ _ rfl _ _ _ b t

theorem r_main_v24 (x0 : (⟨S8x2048x1024, .f32⟩ : BufTy).Contents (Elt Ideal)) (x1 : (⟨S8x2048x512, .f32⟩ : BufTy).Contents (Elt Ideal)) (x4 : (⟨S1024, .f32⟩ : BufTy).Contents (Elt Ideal)) (x5 : (⟨S1024x3864, .f32⟩ : BufTy).Contents (Elt Ideal)) (x6 : (⟨S512x1024, .f32⟩ : BufTy).Contents (Elt Ideal)) (b : Fin 8) (t : Fin 2048) : row3 (B := 8) (T := 2048) (N := 1024) (φ := .f32) (val_main_v24 (F := Ideal) x0 x1 x4 x5 x6) b t = mul (row3 (B := 8) (T := 2048) (N := 1024) (φ := .f32) (val_main_v21 (F := Ideal) x0 x4 x5) b t) (row3 (B := 8) (T := 2048) (N := 1024) (φ := .f32) (val_main_v23 (F := Ideal) x1 x6) b t) :=
  rfl

theorem r_main_v25 (x2 : (⟨S8x2048x512, .f32⟩ : BufTy).Contents (Elt Ideal)) (x7 : (⟨S512x1024, .f32⟩ : BufTy).Contents (Elt Ideal)) (b : Fin 8) (t : Fin 2048) : row3 (B := 8) (T := 2048) (N := 1024) (φ := .f32) (val_main_v25 (F := Ideal) x2 x7) b t = mv (row3 (B := 8) (T := 2048) (N := 512) (φ := .f32) x2 b t) (mat (M := 512) (N := 1024) (φ := .f32) x7) :=
  row3_dot _ _ rfl _ _ _ b t

theorem r_main_v26 (x0 : (⟨S8x2048x1024, .f32⟩ : BufTy).Contents (Elt Ideal)) (x2 : (⟨S8x2048x512, .f32⟩ : BufTy).Contents (Elt Ideal)) (x4 : (⟨S1024, .f32⟩ : BufTy).Contents (Elt Ideal)) (x5 : (⟨S1024x3864, .f32⟩ : BufTy).Contents (Elt Ideal)) (x7 : (⟨S512x1024, .f32⟩ : BufTy).Contents (Elt Ideal)) (b : Fin 8) (t : Fin 2048) : row3 (B := 8) (T := 2048) (N := 1024) (φ := .f32) (val_main_v26 (F := Ideal) x0 x2 x4 x5 x7) b t = mul (row3 (B := 8) (T := 2048) (N := 1024) (φ := .f32) (val_main_v22 (F := Ideal) x0 x4 x5) b t) (row3 (B := 8) (T := 2048) (N := 1024) (φ := .f32) (val_main_v25 (F := Ideal) x2 x7) b t) :=
  rfl

theorem r_main_v27 (x0 : (⟨S8x2048x1024, .f32⟩ : BufTy).Contents (Elt Ideal)) (x1 : (⟨S8x2048x512, .f32⟩ : BufTy).Contents (Elt Ideal)) (x2 : (⟨S8x2048x512, .f32⟩ : BufTy).Contents (Elt Ideal)) (x4 : (⟨S1024, .f32⟩ : BufTy).Contents (Elt Ideal)) (x5 : (⟨S1024x3864, .f32⟩ : BufTy).Contents (Elt Ideal)) (x6 : (⟨S512x1024, .f32⟩ : BufTy).Contents (Elt Ideal)) (x7 : (⟨S512x1024, .f32⟩ : BufTy).Contents (Elt Ideal)) (b : Fin 8) (t : Fin 2048) : row3 (B := 8) (T := 2048) (N := 1024) (φ := .f32) (val_main_v27 (F := Ideal) x0 x1 x2 x4 x5 x6 x7) b t = add (row3 (B := 8) (T := 2048) (N := 1024) (φ := .f32) (val_main_v24 (F := Ideal) x0 x1 x4 x5 x6) b t) (row3 (B := 8) (T := 2048) (N := 1024) (φ := .f32) (val_main_v26 (F := Ideal) x0 x2 x4 x5 x7) b t) :=
  rfl

theorem r_main_v28 (x0 : (⟨S8x2048x1024, .f32⟩ : BufTy).Contents (Elt Ideal)) (x1 : (⟨S8x2048x512, .f32⟩ : BufTy).Contents (Elt Ideal)) (x2 : (⟨S8x2048x512, .f32⟩ : BufTy).Contents (Elt Ideal)) (x4 : (⟨S1024, .f32⟩ : BufTy).Contents (Elt Ideal)) (x5 : (⟨S1024x3864, .f32⟩ : BufTy).Contents (Elt Ideal)) (x6 : (⟨S512x1024, .f32⟩ : BufTy).Contents (Elt Ideal)) (x7 : (⟨S512x1024, .f32⟩ : BufTy).Contents (Elt Ideal)) (x8 : (⟨S1024x1024, .f32⟩ : BufTy).Contents (Elt Ideal)) (b : Fin 8) (t : Fin 2048) : row3 (B := 8) (T := 2048) (N := 1024) (φ := .f32) (val_main_v28 (F := Ideal) x0 x1 x2 x4 x5 x6 x7 x8) b t = mv (row3 (B := 8) (T := 2048) (N := 1024) (φ := .f32) (val_main_v27 (F := Ideal) x0 x1 x2 x4 x5 x6 x7) b t) (mat (M := 1024) (N := 1024) (φ := .f32) x8) :=
  row3_dot _ _ rfl _ _ _ b t

theorem r_main_v29 (x0 : (⟨S8x2048x1024, .f32⟩ : BufTy).Contents (Elt Ideal)) (x1 : (⟨S8x2048x512, .f32⟩ : BufTy).Contents (Elt Ideal)) (x2 : (⟨S8x2048x512, .f32⟩ : BufTy).Contents (Elt Ideal)) (x4 : (⟨S1024, .f32⟩ : BufTy).Contents (Elt Ideal)) (x5 : (⟨S1024x3864, .f32⟩ : BufTy).Contents (Elt Ideal)) (x6 : (⟨S512x1024, .f32⟩ : BufTy).Contents (Elt Ideal)) (x7 : (⟨S512x1024, .f32⟩ : BufTy).Contents (Elt Ideal)) (x8 : (⟨S1024x1024, .f32⟩ : BufTy).Contents (Elt Ideal)) (b : Fin 8) (t : Fin 2048) : row3 (B := 8) (T := 2048) (N := 1024) (φ := .f32) (val_main_v29 (F := Ideal) x0 x1 x2 x4 x5 x6 x7 x8) b t = add (row3 (B := 8) (T := 2048) (N := 1024) (φ := .f32) x0 b t) (row3 (B := 8) (T := 2048) (N := 1024) (φ := .f32) (val_main_v28 (F := Ideal) x0 x1 x2 x4 x5 x6 x7 x8) b t) :=
  rfl

theorem r_main_v42 (x0 : (⟨S8x2048x1024, .f32⟩ : BufTy).Contents (Elt Ideal)) (x1 : (⟨S8x2048x512, .f32⟩ : BufTy).Contents (Elt Ideal)) (x2 : (⟨S8x2048x512, .f32⟩ : BufTy).Contents (Elt Ideal)) (x4 : (⟨S1024, .f32⟩ : BufTy).Contents (Elt Ideal)) (x5 : (⟨S1024x3864, .f32⟩ : BufTy).Contents (Elt Ideal)) (x6 : (⟨S512x1024, .f32⟩ : BufTy).Contents (Elt Ideal)) (x7 : (⟨S512x1024, .f32⟩ : BufTy).Contents (Elt Ideal)) (x8 : (⟨S1024x1024, .f32⟩ : BufTy).Contents (Elt Ideal)) (x9 : (⟨S1024, .f32⟩ : BufTy).Contents (Elt Ideal)) (b : Fin 8) (t : Fin 2048) : row3 (B := 8) (T := 2048) (N := 1024) (φ := .f32) (val_main_v42 (F := Ideal) x0 x1 x2 x4 x5 x6 x7 x8 x9) b t = rms (row3 (B := 8) (T := 2048) (N := 1024) (φ := .f32) (val_main_v29 (F := Ideal) x0 x1 x2 x4 x5 x6 x7 x8) b t) (vec (N := 1024) (φ := .f32) x9) :=
  row3_rms _ _ (by decide) _ _ _ _ _ _ _ _ b t

theorem r_main_v43 (x0 : (⟨S8x2048x1024, .f32⟩ : BufTy).Contents (Elt Ideal)) (x1 : (⟨S8x2048x512, .f32⟩ : BufTy).Contents (Elt Ideal)) (x2 : (⟨S8x2048x512, .f32⟩ : BufTy).Contents (Elt Ideal)) (x4 : (⟨S1024, .f32⟩ : BufTy).Contents (Elt Ideal)) (x5 : (⟨S1024x3864, .f32⟩ : BufTy).Contents (Elt Ideal)) (x6 : (⟨S512x1024, .f32⟩ : BufTy).Contents (Elt Ideal)) (x7 : (⟨S512x1024, .f32⟩ : BufTy).Contents (Elt Ideal)) (x8 : (⟨S1024x1024, .f32⟩ : BufTy).Contents (Elt Ideal)) (x9 : (⟨S1024, .f32⟩ : BufTy).Contents (Elt Ideal)) (x10 : (⟨S1024x2816, .f32⟩ : BufTy).Contents (Elt Ideal)) (b : Fin 8) (t : Fin 2048) : row3 (B := 8) (T := 2048) (N := 2816) (φ := .f32) (val_main_v43 (F := Ideal) x0 x1 x2 x4 x5 x6 x7 x8 x9 x10) b t = mv (row3 (B := 8) (T := 2048) (N := 1024) (φ := .f32) (val_main_v42 (F := Ideal) x0 x1 x2 x4 x5 x6 x7 x8 x9) b t) (mat (M := 1024) (N := 2816) (φ := .f32) x10) :=
  row3_dot _ _ rfl _ _ _ b t

theorem r_main_call0_v5 (x0 : (⟨S8x2048x1024, .f32⟩ : BufTy).Contents (Elt Ideal)) (x1 : (⟨S8x2048x512, .f32⟩ : BufTy).Contents (Elt Ideal)) (x2 : (⟨S8x2048x512, .f32⟩ : BufTy).Contents (Elt Ideal)) (x4 : (⟨S1024, .f32⟩ : BufTy).Contents (Elt Ideal)) (x5 : (⟨S1024x3864, .f32⟩ : BufTy).Contents (Elt Ideal)) (x6 : (⟨S512x1024, .f32⟩ : BufTy).Contents (Elt Ideal)) (x7 : (⟨S512x1024, .f32⟩ : BufTy).Contents (Elt Ideal)) (x8 : (⟨S1024x1024, .f32⟩ : BufTy).Contents (Elt Ideal)) (x9 : (⟨S1024, .f32⟩ : BufTy).Contents (Elt Ideal)) (x10 : (⟨S1024x2816, .f32⟩ : BufTy).Contents (Elt Ideal)) (b : Fin 8) (t : Fin 2048) : row3 (B := 8) (T := 2048) (N := 2816) (φ := .f32) (val_main_call0_v5 (F := Ideal) x0 x1 x2 x4 x5 x6 x7 x8 x9 x10) b t = sig (row3 (B := 8) (T := 2048) (N := 2816) (φ := .f32) (val_main_v43 (F := Ideal) x0 x1 x2 x4 x5 x6 x7 x8 x9 x10) b t) :=
  row3_sigmoid _ _ _ b t

theorem r_main_v44 (x0 : (⟨S8x2048x1024, .f32⟩ : BufTy).Contents (Elt Ideal)) (x1 : (⟨S8x2048x512, .f32⟩ : BufTy).Contents (Elt Ideal)) (x2 : (⟨S8x2048x512, .f32⟩ : BufTy).Contents (Elt Ideal)) (x4 : (⟨S1024, .f32⟩ : BufTy).Contents (Elt Ideal)) (x5 : (⟨S1024x3864, .f32⟩ : BufTy).Contents (Elt Ideal)) (x6 : (⟨S512x1024, .f32⟩ : BufTy).Contents (Elt Ideal)) (x7 : (⟨S512x1024, .f32⟩ : BufTy).Contents (Elt Ideal)) (x8 : (⟨S1024x1024, .f32⟩ : BufTy).Contents (Elt Ideal)) (x9 : (⟨S1024, .f32⟩ : BufTy).Contents (Elt Ideal)) (x10 : (⟨S1024x2816, .f32⟩ : BufTy).Contents (Elt Ideal)) (b : Fin 8) (t : Fin 2048) : row3 (B := 8) (T := 2048) (N := 2816) (φ := .f32) (val_main_v44 (F := Ideal) x0 x1 x2 x4 x5 x6 x7 x8 x9 x10) b t = mul (row3 (B := 8) (T := 2048) (N := 2816) (φ := .f32) (val_main_v43 (F := Ideal) x0 x1 x2 x4 x5 x6 x7 x8 x9 x10) b t) (row3 (B := 8) (T := 2048) (N := 2816) (φ := .f32) (val_main_call0_v5 (F := Ideal) x0 x1 x2 x4 x5 x6 x7 x8 x9 x10) b t) :=
  rfl

theorem r_main_v45 (x0 : (⟨S8x2048x1024, .f32⟩ : BufTy).Contents (Elt Ideal)) (x1 : (⟨S8x2048x512, .f32⟩ : BufTy).Contents (Elt Ideal)) (x2 : (⟨S8x2048x512, .f32⟩ : BufTy).Contents (Elt Ideal)) (x4 : (⟨S1024, .f32⟩ : BufTy).Contents (Elt Ideal)) (x5 : (⟨S1024x3864, .f32⟩ : BufTy).Contents (Elt Ideal)) (x6 : (⟨S512x1024, .f32⟩ : BufTy).Contents (Elt Ideal)) (x7 : (⟨S512x1024, .f32⟩ : BufTy).Contents (Elt Ideal)) (x8 : (⟨S1024x1024, .f32⟩ : BufTy).Contents (Elt Ideal)) (x9 : (⟨S1024, .f32⟩ : BufTy).Contents (Elt Ideal)) (x11 : (⟨S1024x2816, .f32⟩ : BufTy).Contents (Elt Ideal)) (b : Fin 8) (t : Fin 2048) : row3 (B := 8) (T := 2048) (N := 2816) (φ := .f32) (val_main_v45 (F := Ideal) x0 x1 x2 x4 x5 x6 x7 x8 x9 x11) b t = mv (row3 (B := 8) (T := 2048) (N := 1024) (φ := .f32) (val_main_v42 (F := Ideal) x0 x1 x2 x4 x5 x6 x7 x8 x9) b t) (mat (M := 1024) (N := 2816) (φ := .f32) x11) :=
  row3_dot _ _ rfl _ _ _ b t

theorem r_main_v46 (x0 : (⟨S8x2048x1024, .f32⟩ : BufTy).Contents (Elt Ideal)) (x1 : (⟨S8x2048x512, .f32⟩ : BufTy).Contents (Elt Ideal)) (x2 : (⟨S8x2048x512, .f32⟩ : BufTy).Contents (Elt Ideal)) (x4 : (⟨S1024, .f32⟩ : BufTy).Contents (Elt Ideal)) (x5 : (⟨S1024x3864, .f32⟩ : BufTy).Contents (Elt Ideal)) (x6 : (⟨S512x1024, .f32⟩ : BufTy).Contents (Elt Ideal)) (x7 : (⟨S512x1024, .f32⟩ : BufTy).Contents (Elt Ideal)) (x8 : (⟨S1024x1024, .f32⟩ : BufTy).Contents (Elt Ideal)) (x9 : (⟨S1024, .f32⟩ : BufTy).Contents (Elt Ideal)) (x10 : (⟨S1024x2816, .f32⟩ : BufTy).Contents (Elt Ideal)) (x11 : (⟨S1024x2816, .f32⟩ : BufTy).Contents (Elt Ideal)) (b : Fin 8) (t : Fin 2048) : row3 (B := 8) (T := 2048) (N := 2816) (φ := .f32) (val_main_v46 (F := Ideal) x0 x1 x2 x4 x5 x6 x7 x8 x9 x10 x11) b t = mul (row3 (B := 8) (T := 2048) (N := 2816) (φ := .f32) (val_main_v44 (F := Ideal) x0 x1 x2 x4 x5 x6 x7 x8 x9 x10) b t) (row3 (B := 8) (T := 2048) (N := 2816) (φ := .f32) (val_main_v45 (F := Ideal) x0 x1 x2 x4 x5 x6 x7 x8 x9 x11) b t) :=
  rfl

theorem r_main_v47 (x0 : (⟨S8x2048x1024, .f32⟩ : BufTy).Contents (Elt Ideal)) (x1 : (⟨S8x2048x512, .f32⟩ : BufTy).Contents (Elt Ideal)) (x2 : (⟨S8x2048x512, .f32⟩ : BufTy).Contents (Elt Ideal)) (x4 : (⟨S1024, .f32⟩ : BufTy).Contents (Elt Ideal)) (x5 : (⟨S1024x3864, .f32⟩ : BufTy).Contents (Elt Ideal)) (x6 : (⟨S512x1024, .f32⟩ : BufTy).Contents (Elt Ideal)) (x7 : (⟨S512x1024, .f32⟩ : BufTy).Contents (Elt Ideal)) (x8 : (⟨S1024x1024, .f32⟩ : BufTy).Contents (Elt Ideal)) (x9 : (⟨S1024, .f32⟩ : BufTy).Contents (Elt Ideal)) (x10 : (⟨S1024x2816, .f32⟩ : BufTy).Contents (Elt Ideal)) (x11 : (⟨S1024x2816, .f32⟩ : BufTy).Contents (Elt Ideal)) (x12 : (⟨S2816x1024, .f32⟩ : BufTy).Contents (Elt Ideal)) (b : Fin 8) (t : Fin 2048) : row3 (B := 8) (T := 2048) (N := 1024) (φ := .f32) (val_main_v47 (F := Ideal) x0 x1 x2 x4 x5 x6 x7 x8 x9 x10 x11 x12) b t = mv (row3 (B := 8) (T := 2048) (N := 2816) (φ := .f32) (val_main_v46 (F := Ideal) x0 x1 x2 x4 x5 x6 x7 x8 x9 x10 x11) b t) (mat (M := 2816) (N := 1024) (φ := .f32) x12) :=
  row3_dot _ _ rfl _ _ _ b t

theorem r_main_v49 (x0 : (⟨S8x2048x1024, .f32⟩ : BufTy).Contents (Elt Ideal)) (x1 : (⟨S8x2048x512, .f32⟩ : BufTy).Contents (Elt Ideal)) (x2 : (⟨S8x2048x512, .f32⟩ : BufTy).Contents (Elt Ideal)) (x4 : (⟨S1024, .f32⟩ : BufTy).Contents (Elt Ideal)) (x5 : (⟨S1024x3864, .f32⟩ : BufTy).Contents (Elt Ideal)) (x6 : (⟨S512x1024, .f32⟩ : BufTy).Contents (Elt Ideal)) (x7 : (⟨S512x1024, .f32⟩ : BufTy).Contents (Elt Ideal)) (x8 : (⟨S1024x1024, .f32⟩ : BufTy).Contents (Elt Ideal)) (x9 : (⟨S1024, .f32⟩ : BufTy).Contents (Elt Ideal)) (x10 : (⟨S1024x2816, .f32⟩ : BufTy).Contents (Elt Ideal)) (x11 : (⟨S1024x2816, .f32⟩ : BufTy).Contents (Elt Ideal)) (x12 : (⟨S2816x1024, .f32⟩ : BufTy).Contents (Elt Ideal)) (b : Fin 8) (t : Fin 2048) : row3 (B := 8) (T := 2048) (N := 1024) (φ := .f32) (val_main_v49 (F := Ideal) x0 x1 x2 x4 x5 x6 x7 x8 x9 x10 x11 x12) b t = scale (Ideal.ofBits .f32 0x3F000000#32) (row3 (B := 8) (T := 2048) (N := 1024) (φ := .f32) (val_main_v47 (F := Ideal) x0 x1 x2 x4 x5 x6 x7 x8 x9 x10 x11 x12) b t) :=
  rfl

theorem r_main_v50 (x0 : (⟨S8x2048x1024, .f32⟩ : BufTy).Contents (Elt Ideal)) (x1 : (⟨S8x2048x512, .f32⟩ : BufTy).Contents (Elt Ideal)) (x2 : (⟨S8x2048x512, .f32⟩ : BufTy).Contents (Elt Ideal)) (x4 : (⟨S1024, .f32⟩ : BufTy).Contents (Elt Ideal)) (x5 : (⟨S1024x3864, .f32⟩ : BufTy).Contents (Elt Ideal)) (x6 : (⟨S512x1024, .f32⟩ : BufTy).Contents (Elt Ideal)) (x7 : (⟨S512x1024, .f32⟩ : BufTy).Contents (Elt Ideal)) (x8 : (⟨S1024x1024, .f32⟩ : BufTy).Contents (Elt Ideal)) (x9 : (⟨S1024, .f32⟩ : BufTy).Contents (Elt Ideal)) (x10 : (⟨S1024x2816, .f32⟩ : BufTy).Contents (Elt Ideal)) (x11 : (⟨S1024x2816, .f32⟩ : BufTy).Contents (Elt Ideal)) (x12 : (⟨S2816x1024, .f32⟩ : BufTy).Contents (Elt Ideal)) (b : Fin 8) (t : Fin 2048) : row3 (B := 8) (T := 2048) (N := 1024) (φ := .f32) (val_main_v50 (F := Ideal) x0 x1 x2 x4 x5 x6 x7 x8 x9 x10 x11 x12) b t = add (row3 (B := 8) (T := 2048) (N := 1024) (φ := .f32) (val_main_v29 (F := Ideal) x0 x1 x2 x4 x5 x6 x7 x8) b t) (row3 (B := 8) (T := 2048) (N := 1024) (φ := .f32) (val_main_v49 (F := Ideal) x0 x1 x2 x4 x5 x6 x7 x8 x9 x10 x11 x12) b t) :=
  rfl

theorem r_main_v63 (x0 : (⟨S8x2048x1024, .f32⟩ : BufTy).Contents (Elt Ideal)) (x1 : (⟨S8x2048x512, .f32⟩ : BufTy).Contents (Elt Ideal)) (x2 : (⟨S8x2048x512, .f32⟩ : BufTy).Contents (Elt Ideal)) (x4 : (⟨S1024, .f32⟩ : BufTy).Contents (Elt Ideal)) (x5 : (⟨S1024x3864, .f32⟩ : BufTy).Contents (Elt Ideal)) (x6 : (⟨S512x1024, .f32⟩ : BufTy).Contents (Elt Ideal)) (x7 : (⟨S512x1024, .f32⟩ : BufTy).Contents (Elt Ideal)) (x8 : (⟨S1024x1024, .f32⟩ : BufTy).Contents (Elt Ideal)) (x9 : (⟨S1024, .f32⟩ : BufTy).Contents (Elt Ideal)) (x10 : (⟨S1024x2816, .f32⟩ : BufTy).Contents (Elt Ideal)) (x11 : (⟨S1024x2816, .f32⟩ : BufTy).Contents (Elt Ideal)) (x12 : (⟨S2816x1024, .f32⟩ : BufTy).Contents (Elt Ideal)) (x13 : (⟨S1024, .f32⟩ : BufTy).Contents (Elt Ideal)) (b : Fin 8) (t : Fin 2048) : row3 (B := 8) (T := 2048) (N := 1024) (φ := .f32) (val_main_v63 (F := Ideal) x0 x1 x2 x4 x5 x6 x7 x8 x9 x10 x11 x12 x13) b t = rms (row3 (B := 8) (T := 2048) (N := 1024) (φ := .f32) (val_main_v50 (F := Ideal) x0 x1 x2 x4 x5 x6 x7 x8 x9 x10 x11 x12) b t) (vec (N := 1024) (φ := .f32) x13) :=
  row3_rms _ _ (by decide) _ _ _ _ _ _ _ _ b t

theorem r_main_v64 (x0 : (⟨S8x2048x1024, .f32⟩ : BufTy).Contents (Elt Ideal)) (x1 : (⟨S8x2048x512, .f32⟩ : BufTy).Contents (Elt Ideal)) (x2 : (⟨S8x2048x512, .f32⟩ : BufTy).Contents (Elt Ideal)) (x4 : (⟨S1024, .f32⟩ : BufTy).Contents (Elt Ideal)) (x5 : (⟨S1024x3864, .f32⟩ : BufTy).Contents (Elt Ideal)) (x6 : (⟨S512x1024, .f32⟩ : BufTy).Contents (Elt Ideal)) (x7 : (⟨S512x1024, .f32⟩ : BufTy).Contents (Elt Ideal)) (x8 : (⟨S1024x1024, .f32⟩ : BufTy).Contents (Elt Ideal)) (x9 : (⟨S1024, .f32⟩ : BufTy).Contents (Elt Ideal)) (x10 : (⟨S1024x2816, .f32⟩ : BufTy).Contents (Elt Ideal)) (x11 : (⟨S1024x2816, .f32⟩ : BufTy).Contents (Elt Ideal)) (x12 : (⟨S2816x1024, .f32⟩ : BufTy).Contents (Elt Ideal)) (x13 : (⟨S1024, .f32⟩ : BufTy).Contents (Elt Ideal)) (x14 : (⟨S1024x1024, .f32⟩ : BufTy).Contents (Elt Ideal)) (b : Fin 8) (t : Fin 2048) : row3 (B := 8) (T := 2048) (N := 1024) (φ := .f32) (val_main_v64 (F := Ideal) x0 x1 x2 x4 x5 x6 x7 x8 x9 x10 x11 x12 x13 x14) b t = mv (row3 (B := 8) (T := 2048) (N := 1024) (φ := .f32) (val_main_v63 (F := Ideal) x0 x1 x2 x4 x5 x6 x7 x8 x9 x10 x11 x12 x13) b t) (mat (M := 1024) (N := 1024) (φ := .f32) x14) :=
  row3_dot _ _ rfl _ _ _ b t

theorem r_main_v70 (x0 : (⟨S8x2048x1024, .f32⟩ : BufTy).Contents (Elt Ideal)) (x1 : (⟨S8x2048x512, .f32⟩ : BufTy).Contents (Elt Ideal)) (x2 : (⟨S8x2048x512, .f32⟩ : BufTy).Contents (Elt Ideal)) (x4 : (⟨S1024, .f32⟩ : BufTy).Contents (Elt Ideal)) (x5 : (⟨S1024x3864, .f32⟩ : BufTy).Contents (Elt Ideal)) (x6 : (⟨S512x1024, .f32⟩ : BufTy).Contents (Elt Ideal)) (x7 : (⟨S512x1024, .f32⟩ : BufTy).Contents (Elt Ideal)) (x8 : (⟨S1024x1024, .f32⟩ : BufTy).Contents (Elt Ideal)) (x9 : (⟨S1024, .f32⟩ : BufTy).Contents (Elt Ideal)) (x10 : (⟨S1024x2816, .f32⟩ : BufTy).Contents (Elt Ideal)) (x11 : (⟨S1024x2816, .f32⟩ : BufTy).Contents (Elt Ideal)) (x12 : (⟨S2816x1024, .f32⟩ : BufTy).Contents (Elt Ideal)) (x13 : (⟨S1024, .f32⟩ : BufTy).Contents (Elt Ideal)) (x14 : (⟨S1024x1024, .f32⟩ : BufTy).Contents (Elt Ideal)) (b : Fin 8) (t : Fin 2048) : row3 (B := 8) (T := 2048) (N := 1024) (φ := .f32) (val_main_v70 (F := Ideal) x0 x1 x2 x4 x5 x6 x7 x8 x9 x10 x11 x12 x13 x14) b t = sig (row3 (B := 8) (T := 2048) (N := 1024) (φ := .f32) (val_main_v64 (F := Ideal) x0 x1 x2 x4 x5 x6 x7 x8 x9 x10 x11 x12 x13 x14) b t) :=
  row3_sigmoid _ _ _ b t

theorem r_main_v71 (x3 : (⟨S8x2048x256, .f32⟩ : BufTy).Contents (Elt Ideal)) (x15 : (⟨S256x1024, .f32⟩ : BufTy).Contents (Elt Ideal)) (b : Fin 8) (t : Fin 2048) : row3 (B := 8) (T := 2048) (N := 1024) (φ := .f32) (val_main_v71 (F := Ideal) x3 x15) b t = mv (row3 (B := 8) (T := 2048) (N := 256) (φ := .f32) x3 b t) (mat (M := 256) (N := 1024) (φ := .f32) x15) :=
  row3_dot _ _ rfl _ _ _ b t

theorem r_main_v72 (x0 : (⟨S8x2048x1024, .f32⟩ : BufTy).Contents (Elt Ideal)) (x1 : (⟨S8x2048x512, .f32⟩ : BufTy).Contents (Elt Ideal)) (x2 : (⟨S8x2048x512, .f32⟩ : BufTy).Contents (Elt Ideal)) (x3 : (⟨S8x2048x256, .f32⟩ : BufTy).Contents (Elt Ideal)) (x4 : (⟨S1024, .f32⟩ : BufTy).Contents (Elt Ideal)) (x5 : (⟨S1024x3864, .f32⟩ : BufTy).Contents (Elt Ideal)) (x6 : (⟨S512x1024, .f32⟩ : BufTy).Contents (Elt Ideal)) (x7 : (⟨S512x1024, .f32⟩ : BufTy).Contents (Elt Ideal)) (x8 : (⟨S1024x1024, .f32⟩ : BufTy).Contents (Elt Ideal)) (x9 : (⟨S1024, .f32⟩ : BufTy).Contents (Elt Ideal)) (x10 : (⟨S1024x2816, .f32⟩ : BufTy).Contents (Elt Ideal)) (x11 : (⟨S1024x2816, .f32⟩ : BufTy).Contents (Elt Ideal)) (x12 : (⟨S2816x1024, .f32⟩ : BufTy).Contents (Elt Ideal)) (x13 : (⟨S1024, .f32⟩ : BufTy).Contents (Elt Ideal)) (x14 : (⟨S1024x1024, .f32⟩ : BufTy).Contents (Elt Ideal)) (x15 : (⟨S256x1024, .f32⟩ : BufTy).Contents (Elt Ideal)) (b : Fin 8) (t : Fin 2048) : row3 (B := 8) (T := 2048) (N := 1024) (φ := .f32) (val_main_v72 (F := Ideal) x0 x1 x2 x3 x4 x5 x6 x7 x8 x9 x10 x11 x12 x13 x14 x15) b t = mul (row3 (B := 8) (T := 2048) (N := 1024) (φ := .f32) (val_main_v70 (F := Ideal) x0 x1 x2 x4 x5 x6 x7 x8 x9 x10 x11 x12 x13 x14) b t) (row3 (B := 8) (T := 2048) (N := 1024) (φ := .f32) (val_main_v71 (F := Ideal) x3 x15) b t) :=
  rfl

theorem r_main_v73 (x0 : (⟨S8x2048x1024, .f32⟩ : BufTy).Contents (Elt Ideal)) (x1 : (⟨S8x2048x512, .f32⟩ : BufTy).Contents (Elt Ideal)) (x2 : (⟨S8x2048x512, .f32⟩ : BufTy).Contents (Elt Ideal)) (x3 : (⟨S8x2048x256, .f32⟩ : BufTy).Contents (Elt Ideal)) (x4 : (⟨S1024, .f32⟩ : BufTy).Contents (Elt Ideal)) (x5 : (⟨S1024x3864, .f32⟩ : BufTy).Contents (Elt Ideal)) (x6 : (⟨S512x1024, .f32⟩ : BufTy).Contents (Elt Ideal)) (x7 : (⟨S512x1024, .f32⟩ : BufTy).Contents (Elt Ideal)) (x8 : (⟨S1024x1024, .f32⟩ : BufTy).Contents (Elt Ideal)) (x9 : (⟨S1024, .f32⟩ : BufTy).Contents (Elt Ideal)) (x10 : (⟨S1024x2816, .f32⟩ : BufTy).Contents (Elt Ideal)) (x11 : (⟨S1024x2816, .f32⟩ : BufTy).Contents (Elt Ideal)) (x12 : (⟨S2816x1024, .f32⟩ : BufTy).Contents (Elt Ideal)) (x13 : (⟨S1024, .f32⟩ : BufTy).Contents (Elt Ideal)) (x14 : (⟨S1024x1024, .f32⟩ : BufTy).Contents (Elt Ideal)) (x15 : (⟨S256x1024, .f32⟩ : BufTy).Contents (Elt Ideal)) (b : Fin 8) (t : Fin 2048) : row3 (B := 8) (T := 2048) (N := 1024) (φ := .f32) (val_main_v73 (F := Ideal) x0 x1 x2 x3 x4 x5 x6 x7 x8 x9 x10 x11 x12 x13 x14 x15) b t = add (row3 (B := 8) (T := 2048) (N := 1024) (φ := .f32) (val_main_v50 (F := Ideal) x0 x1 x2 x4 x5 x6 x7 x8 x9 x10 x11 x12) b t) (row3 (B := 8) (T := 2048) (N := 1024) (φ := .f32) (val_main_v72 (F := Ideal) x0 x1 x2 x3 x4 x5 x6 x7 x8 x9 x10 x11 x12 x13 x14 x15) b t) :=
  rfl

theorem r_main_v86 (x0 : (⟨S8x2048x1024, .f32⟩ : BufTy).Contents (Elt Ideal)) (x1 : (⟨S8x2048x512, .f32⟩ : BufTy).Contents (Elt Ideal)) (x2 : (⟨S8x2048x512, .f32⟩ : BufTy).Contents (Elt Ideal)) (x3 : (⟨S8x2048x256, .f32⟩ : BufTy).Contents (Elt Ideal)) (x4 : (⟨S1024, .f32⟩ : BufTy).Contents (Elt Ideal)) (x5 : (⟨S1024x3864, .f32⟩ : BufTy).Contents (Elt Ideal)) (x6 : (⟨S512x1024, .f32⟩ : BufTy).Contents (Elt Ideal)) (x7 : (⟨S512x1024, .f32⟩ : BufTy).Contents (Elt Ideal)) (x8 : (⟨S1024x1024, .f32⟩ : BufTy).Contents (Elt Ideal)) (x9 : (⟨S1024, .f32⟩ : BufTy).Contents (Elt Ideal)) (x10 : (⟨S1024x2816, .f32⟩ : BufTy).Contents (Elt Ideal)) (x11 : (⟨S1024x2816, .f32⟩ : BufTy).Contents (Elt Ideal)) (x12 : (⟨S2816x1024, .f32⟩ : BufTy).Contents (Elt Ideal)) (x13 : (⟨S1024, .f32⟩ : BufTy).Contents (Elt Ideal)) (x14 : (⟨S1024x1024, .f32⟩ : BufTy).Contents (Elt Ideal)) (x15 : (⟨S256x1024, .f32⟩ : BufTy).Contents (Elt Ideal)) (x16 : (⟨S1024, .f32⟩ : BufTy).Contents (Elt Ideal)) (b : Fin 8) (t : Fin 2048) : row3 (B := 8) (T := 2048) (N := 1024) (φ := .f32) (val_main_v86 (F := Ideal) x0 x1 x2 x3 x4 x5 x6 x7 x8 x9 x10 x11 x12 x13 x14 x15 x16) b t = rms (row3 (B := 8) (T := 2048) (N := 1024) (φ := .f32) (val_main_v73 (F := Ideal) x0 x1 x2 x3 x4 x5 x6 x7 x8 x9 x10 x11 x12 x13 x14 x15) b t) (vec (N := 1024) (φ := .f32) x16) :=
  row3_rms _ _ (by decide) _ _ _ _ _ _ _ _ b t

/-- The part of a product is the product with those columns. -/
theorem part_mv {K N L : ℕ} (o : ℕ) (h : o + L ≤ N) (x : Fin K → EReal) (w : Fin K → Fin N → EReal) : part o h (mv x w) = mv x (cols o h w) := rfl

/-- The reference's last array before its reshape, at a token. -/
theorem row_out (x0 : (⟨S8x2048x1024, .f32⟩ : BufTy).Contents (Elt Ideal)) (x1 : (⟨S8x2048x512, .f32⟩ : BufTy).Contents (Elt Ideal)) (x2 : (⟨S8x2048x512, .f32⟩ : BufTy).Contents (Elt Ideal)) (x3 : (⟨S8x2048x256, .f32⟩ : BufTy).Contents (Elt Ideal)) (x4 : (⟨S1024, .f32⟩ : BufTy).Contents (Elt Ideal)) (x5 : (⟨S1024x3864, .f32⟩ : BufTy).Contents (Elt Ideal)) (x6 : (⟨S512x1024, .f32⟩ : BufTy).Contents (Elt Ideal)) (x7 : (⟨S512x1024, .f32⟩ : BufTy).Contents (Elt Ideal)) (x8 : (⟨S1024x1024, .f32⟩ : BufTy).Contents (Elt Ideal)) (x9 : (⟨S1024, .f32⟩ : BufTy).Contents (Elt Ideal)) (x10 : (⟨S1024x2816, .f32⟩ : BufTy).Contents (Elt Ideal)) (x11 : (⟨S1024x2816, .f32⟩ : BufTy).Contents (Elt Ideal)) (x12 : (⟨S2816x1024, .f32⟩ : BufTy).Contents (Elt Ideal)) (x13 : (⟨S1024, .f32⟩ : BufTy).Contents (Elt Ideal)) (x14 : (⟨S1024x1024, .f32⟩ : BufTy).Contents (Elt Ideal)) (x15 : (⟨S256x1024, .f32⟩ : BufTy).Contents (Elt Ideal)) (x16 : (⟨S1024, .f32⟩ : BufTy).Contents (Elt Ideal)) (b : Fin 8) (t : Fin 2048) : row3 (B := 8) (T := 2048) (N := 1024) (φ := .f32) (val_main_v86 (F := Ideal) x0 x1 x2 x3 x4 x5 x6 x7 x8 x9 x10 x11 x12 x13 x14 x15 x16) b t =
    postRow (row3 (B := 8) (T := 2048) (N := 1024) (φ := .f32) x0 b t) (row3 (B := 8) (T := 2048) (N := 512) (φ := .f32) x1 b t) (row3 (B := 8) (T := 2048) (N := 512) (φ := .f32) x2 b t) (row3 (B := 8) (T := 2048) (N := 256) (φ := .f32) x3 b t) (vec (N := 1024) (φ := .f32) x4) (cols 1816 (by decide) (mat (M := 1024) (N := 3864) (φ := .f32) x5)) (mat (M := 512) (N := 1024) (φ := .f32) x6) (mat (M := 512) (N := 1024) (φ := .f32) x7) (mat (M := 1024) (N := 1024) (φ := .f32) x8) (vec (N := 1024) (φ := .f32) x9) (mat (M := 1024) (N := 2816) (φ := .f32) x10) (mat (M := 1024) (N := 2816) (φ := .f32) x11) (mat (M := 2816) (N := 1024) (φ := .f32) x12) (vec (N := 1024) (φ := .f32) x13) (mat (M := 1024) (N := 1024) (φ := .f32) x14) (mat (M := 256) (N := 1024) (φ := .f32) x15) (vec (N := 1024) (φ := .f32) x16) := by
  rw [r_main_v86]
  simp only [r_main_v12, r_main_v13, r_main_v14, r_main_v20, r_main_v21, r_main_v22, r_main_v23, r_main_v24, r_main_v25, r_main_v26, r_main_v27, r_main_v28, r_main_v29, r_main_v42, r_main_v43, r_main_call0_v5, r_main_v44, r_main_v45, r_main_v46, r_main_v47, r_main_v49, r_main_v50, r_main_v63, r_main_v64, r_main_v70, r_main_v71, r_main_v72, r_main_v73, r_main_v86, part_mv]
  simp only [postRow, pleRow, halfFfn, band, glu, mixRow]

/-- The reference's result, at an index. -/
theorem out (x0 : (⟨S8x2048x1024, .f32⟩ : BufTy).Contents (Elt Ideal)) (x1 : (⟨S8x2048x512, .f32⟩ : BufTy).Contents (Elt Ideal)) (x2 : (⟨S8x2048x512, .f32⟩ : BufTy).Contents (Elt Ideal)) (x3 : (⟨S8x2048x256, .f32⟩ : BufTy).Contents (Elt Ideal)) (x4 : (⟨S1024, .f32⟩ : BufTy).Contents (Elt Ideal)) (x5 : (⟨S1024x3864, .f32⟩ : BufTy).Contents (Elt Ideal)) (x6 : (⟨S512x1024, .f32⟩ : BufTy).Contents (Elt Ideal)) (x7 : (⟨S512x1024, .f32⟩ : BufTy).Contents (Elt Ideal)) (x8 : (⟨S1024x1024, .f32⟩ : BufTy).Contents (Elt Ideal)) (x9 : (⟨S1024, .f32⟩ : BufTy).Contents (Elt Ideal)) (x10 : (⟨S1024x2816, .f32⟩ : BufTy).Contents (Elt Ideal)) (x11 : (⟨S1024x2816, .f32⟩ : BufTy).Contents (Elt Ideal)) (x12 : (⟨S2816x1024, .f32⟩ : BufTy).Contents (Elt Ideal)) (x13 : (⟨S1024, .f32⟩ : BufTy).Contents (Elt Ideal)) (x14 : (⟨S1024x1024, .f32⟩ : BufTy).Contents (Elt Ideal)) (x15 : (⟨S256x1024, .f32⟩ : BufTy).Contents (Elt Ideal)) (x16 : (⟨S1024, .f32⟩ : BufTy).Contents (Elt Ideal)) (i : S16384x1024.Idx) : (val_main_v87 (F := Ideal) x0 x1 x2 x3 x4 x5 x6 x7 x8 x9 x10 x11 x12 x13 x14 x15 x16) i =
    row3 (B := 8) (T := 2048) (N := 1024) (φ := .f32) (val_main_v86 (F := Ideal) x0 x1 x2 x3 x4 x5 x6 x7 x8 x9 x10 x11 x12 x13 x14 x15 x16) ⟨(i 0).val / 2048, by have : (i 0).val < 16384 := (i 0).isLt; omega⟩ ⟨(i 0).val % 2048, by omega⟩ (i 1) := by
  unfold val_main_v87
  generalize (val_main_v86 (F := Ideal) x0 x1 x2 x3 x4 x5 x6 x7 x8 x9 x10 x11 x12 x13 x14 x15 x16) = X
  exact shapeCast_flat X _ i ⟨(i 0).val / 2048, by have : (i 0).val < 16384 := (i 0).isLt; omega⟩ ⟨(i 0).val % 2048, by omega⟩ (i 1)
    (by show (i 0).val = (i 0).val / 2048 * 2048 + (i 0).val % 2048; omega) rfl

end Cert.Proof.PostRef

end
-- ==== Proof.PostAgree.lean ====
/-
  THE POST-MIXER'S TWO PROGRAMS AGREE. From equal arguments the kernel's result array and the reference's are the same function
  `postRow` of every token's rows.
-/
module

public import proofs.«01_k».proof.Defs
public import Idealize.ShloMosaic.Lib.Claim
public import proofs.«01_k».proof.Proof.PostArray
public import proofs.«01_k».proof.Proof.PostRef
public import proofs.«01_k».proof.Proof.Gen.Reference2Ideal.Run

@[expose] public section

noncomputable section

namespace Cert.Proof.PostAgree

open Idealize.ShloMosaic Idealize.SL.Sem Cert.Rows

theorem algebraic : Cert.algebraic_Kernel2Ideal_Reference2Ideal (hKernel2Ideal := Cert.Kernel2Ideal.Gen.facts)
    (hReference2Ideal := Cert.Reference2Ideal.Gen.facts) := by
  intro m g m' g' _ hargs
  refine ⟨fun c => PostArray.out m c, PostArray.run m g, ?_⟩
  refine (θ_run (Cert.Reference2Ideal.defs (F := Ideal)) _ _).mono (fun r h c => ?_) (Cert.Reference2Ideal.Value.run (F := Ideal) m' g')
  obtain ⟨hv, h0, h1, h2, h3, h4, h5, h6, h7, h8, h9, h10, h11, h12, h13, h14, h15, h16⟩ := h c
  obtain ⟨a0, a1, a2, a3, a4, a5, a6, a7, a8, a9, a10, a11, a12, a13, a14, a15, a16⟩ := hargs c
  refine ⟨(hv.trans (Cert.Reference2Ideal.Read.val_main_v87_eq _)).trans ?_, h0, h1, h2, h3, h4, h5, h6, h7, h8, h9, h10, h11, h12, h13, h14, h15, h16⟩
  funext i
  refine (PostRef.out _ _ _ _ _ _ _ _ _ _ _ _ _ _ _ _ _ i).trans ?_
  refine (congrFun (PostRef.row_out _ _ _ _ _ _ _ _ _ _ _ _ _ _ _ _ _ _ _) (i 1)).trans ?_
  unfold PostArray.out PostArray.outRow
  simp only [StableHlo.launchContents_devRef, a0, a1, a2, a3, a4, a5, a6, a7, a8, a9, a10, a11, a12, a13, a14, a15, a16]

end Cert.Proof.PostAgree

end
-- ==== Proof.Cells.lean ====
/-
  AN ARRAY BY ITS CELLS. A matrix read at a pair of natural numbers, so that the places a loop's loads and stores touch are
  compared by arithmetic; and what a view reads after a list of writes which all agree with one array.
-/
module

public import Idealize.ShloMosaic.Lib.ValueIdx
public import Idealize.ShloMosaic.Lib.Pipeline.Value
public import Idealize.ShloMosaic.PureOps.Ideal.Laws

@[expose] public section

noncomputable section

namespace Cert.Cells

open Idealize.ShloMosaic Idealize.ShloMosaic.ValueIdx

variable {m n : ℕ}

/-- The element at row `r` and column `c`; zero outside the matrix. -/
def cell (A : (⟨2, ![m, n]⟩ : Shape).Idx → EReal) (r c : ℕ) : EReal :=
  if h : r < m ∧ c < n then A (ix2 ⟨r, h.1⟩ ⟨c, h.2⟩) else 0

theorem cell_of_lt (A : (⟨2, ![m, n]⟩ : Shape).Idx → EReal) {r c : ℕ} (hr : r < m) (hc : c < n) :
    cell A r c = A (ix2 ⟨r, hr⟩ ⟨c, hc⟩) := dif_pos ⟨hr, hc⟩

theorem cell_idx (A : (⟨2, ![m, n]⟩ : Shape).Idx → EReal) (y : (⟨2, ![m, n]⟩ : Shape).Idx) :
    A y = cell A (y 0).val (y 1).val := by
  rw [cell_of_lt A (y 0).isLt (y 1).isLt]
  exact congrArg A (eq_ix2 y)

/-- An array and the function of two numbers it is given by agree at a cell. -/
theorem cell_eq (A : (⟨2, ![m, n]⟩ : Shape).Idx → EReal) (G : ℕ → ℕ → EReal) (h : ∀ y, A y = G (y 0).val (y 1).val)
    {r c : ℕ} (hr : r < m) (hc : c < n) : cell A r c = G r c := by
  rw [cell_of_lt A hr hc]; exact h _

/-- The coordinates of an element of a unit-stride rectangle. -/
theorem emb_unit {off size : Fin 2 → ℕ} {inb : ∀ a, off a + size a ≤ (⟨2, ![m, n]⟩ : Shape).size a} {r c : ℕ}
    (h : off = ![r, c]) (x : (Rect.unit (s := ⟨2, ![m, n]⟩) off size inb).shape.Idx) :
    (((Rect.unit (s := ⟨2, ![m, n]⟩) off size inb).emb x) 0).val = r + (x 0).val ∧ (((Rect.unit (s := ⟨2, ![m, n]⟩) off size inb).emb x) 1).val = c + (x 1).val := by
  subst h
  exact ⟨congrArg (r + ·) (Nat.one_mul _), congrArg (c + ·) (Nat.one_mul _)⟩

/-- The element `(i, j, k)` of an array of three axes; zero outside. -/
def cell3 {a b d : ℕ} (A : (⟨3, ![a, b, d]⟩ : Shape).Idx → EReal) (i j k : ℕ) : EReal :=
  if h : i < a ∧ j < b ∧ k < d then A (ix3 ⟨i, h.1⟩ ⟨j, h.2.1⟩ ⟨k, h.2.2⟩) else 0

theorem cell3_of_lt {a b d : ℕ} (A : (⟨3, ![a, b, d]⟩ : Shape).Idx → EReal) {i j k : ℕ} (hi : i < a) (hj : j < b) (hk : k < d) :
    cell3 A i j k = A (ix3 ⟨i, hi⟩ ⟨j, hj⟩ ⟨k, hk⟩) := dif_pos ⟨hi, hj, hk⟩

theorem cell3_idx {a b d : ℕ} (A : (⟨3, ![a, b, d]⟩ : Shape).Idx → EReal) (y : (⟨3, ![a, b, d]⟩ : Shape).Idx) :
    A y = cell3 A (y 0).val (y 1).val (y 2).val := by
  rw [cell3_of_lt A (y 0).isLt (y 1).isLt (y 2).isLt]
  exact congrArg A (funext fun t => Fin.ext (by match t with | ⟨0, _⟩ => rfl | ⟨1, _⟩ => rfl | ⟨2, _⟩ => rfl))

variable {sig : RefSig} {κ : Kind} {sp : Space}

/-- A load of a unit-stride rectangle, by cells. -/
theorem readAt_cell (v : View sig κ sp ⟨2, ![m, n]⟩ .f32) (f : v.ty.Contents (Elt Ideal)) {off size : Fin 2 → ℕ}
    {inb : ∀ a, off a + size a ≤ (⟨2, ![m, n]⟩ : Shape).size a} {r c : ℕ} (h : off = ![r, c])
    (x : (Rect.unit (s := ⟨2, ![m, n]⟩) off size inb).toLoadRect.shape.Idx) :
    v.readAt (Elt Ideal) (Rect.unit (s := ⟨2, ![m, n]⟩) off size inb).toLoadRect f x
      = cell (v.read (Elt Ideal) f) (r + (x 0).val) (c + (x 1).val) := by
  have e := emb_unit (inb := inb) h x
  refine (cell_idx (v.read (Elt Ideal) f) ((Rect.unit (s := ⟨2, ![m, n]⟩) off size inb).emb x)).trans ?_
  rw [e.1, e.2]

/-- A list of writes whose pieces all hold one array's elements: what is read is the array's, where some piece lies or where
    the contents before were the array's. -/
theorem read_writes_as {s : Shape} {e : EltTy} {Val : EltTy → Type} (v : View sig κ sp s e) (f : v.ty.Contents Val)
    (G : s.Idx → Val e) (y : s.Idx) : ∀ L : List (View.Piece Val s e), (∀ p ∈ L, ∀ x, p.2 x = G (p.1.emb x)) →
      ((∀ p ∈ L, y ∉ p.1.set) → v.read Val f y = G y) → v.read Val (v.writes Val f L) y = G y
  | [], _, h => h fun _ hp => absurd hp List.not_mem_nil
  | q :: L, hL, h => by
    rw [View.writes_cons]
    by_cases hq : y ∈ q.1.set
    · rw [← Rect.map_emb_univ] at hq
      obtain ⟨x, -, rfl⟩ := Finset.mem_map.mp hq
      rw [View.read_slice_write_emb q.1 _ _ (Finset.mem_univ x)]
      exact hL q List.mem_cons_self x
    · rw [View.read_slice_write_of_not_mem q.1 _ _ _ (by rwa [Rect.map_emb_univ])]
      exact read_writes_as v f G y L (fun p hp => hL p (List.mem_cons_of_mem _ hp)) fun hn =>
        h fun p hp => (List.mem_cons.mp hp).elim (fun e => e ▸ hq) (hn p)

/-- A piece at a unit-stride rectangle holds the elements a function of two numbers gives. -/
theorem piece_as {off size : Fin 2 → ℕ} {inb : ∀ a, off a + size a ≤ (⟨2, ![m, n]⟩ : Shape).size a} {r c : ℕ}
    (h : off = ![r, c]) (G : ℕ → ℕ → EReal) (w : (Rect.unit (s := ⟨2, ![m, n]⟩) off size inb).shape.Idx → EReal)
    (hw : ∀ x, w x = G (r + (x 0).val) (c + (x 1).val)) (x) :
    w x = (fun y : (⟨2, ![m, n]⟩ : Shape).Idx => G (y 0).val (y 1).val) ((Rect.unit (s := ⟨2, ![m, n]⟩) off size inb).emb x) := by
  have e := emb_unit (inb := inb) h x
  refine (hw x).trans ?_
  show _ = G (((Rect.unit (s := ⟨2, ![m, n]⟩) off size inb).emb x) 0).val (((Rect.unit (s := ⟨2, ![m, n]⟩) off size inb).emb x) 1).val
  rw [e.1, e.2]

/-- An element outside a unit-stride rectangle. -/
theorem not_mem_unit {off : Fin 2 → ℕ} {p q : ℕ} {inb : ∀ a, off a + (![p, q] : Fin 2 → ℕ) a ≤ (⟨2, ![m, n]⟩ : Shape).size a}
    {r c : ℕ} (h : off = ![r, c]) {y : (⟨2, ![m, n]⟩ : Shape).Idx}
    (hy : y ∉ (Rect.unit (s := ⟨2, ![m, n]⟩) off ![p, q] inb).set) :
    ¬ ((r ≤ (y 0).val ∧ (y 0).val < r + p) ∧ (c ≤ (y 1).val ∧ (y 1).val < c + q)) := by
  subst h
  intro hc
  refine hy (Rect.mem_set_unit.mpr fun a => ?_)
  match a with
  | ⟨0, _⟩ => exact hc.1
  | ⟨1, _⟩ => exact hc.2

end Cert.Cells
-- ==== Proof.ScanTrip.lean ====
/-
  ONE TRIP OF THE SCAN'S LOOP. Trip `k` takes the eight batch rows `8k … 8k+7` through the four time steps, one chunk of 512
  state channels after the other: at each step the new state is the transition times the state plus that step's input, it is
  written over the input in the two scratch arrays (row `128 t + b`), and after the fourth step it is the rows' state. This
  module reads the four scratch arrays after a trip, element by element, from what they held before it.
-/
module

public import proofs.«01_k».proof.Proof.Gen.KernelIdeal.Value
public import proofs.«01_k».proof.Proof.Cells
public import proofs.«01_k».proof.Proof.Rows

@[expose] public section

set_option maxRecDepth 16384

noncomputable section

namespace Cert.KernelIdeal.Gen

open Idealize.ShloMosaic Idealize.ShloMosaic.TcCoe Idealize.ShloMosaic.Tactic
open Cert.Cells

/-! ## The vector operations and the loads at an element -/

section
variable (g : FVec Ideal S1x512 .f32) (a b : FVec Ideal S8x512 .f32) (x : S8x512.Idx)
theorem at_addf : addf a b x = a x + b x := rfl
theorem at_subf : subf a b x = a x - b x := rfl
theorem at_mulf : mulf a b x = a x * b x := rfl
theorem at_bcast (h) : (broadcastTo S8x512 g h : FVec Ideal S8x512 .f32) x = g (ValueIdx.ix2 0 (x 1)) := by
  refine (congrArg (broadcastTo S8x512 g h : FVec Ideal S8x512 .f32) (ValueIdx.eq_ix2 x)).trans ?_
  exact congrFun (Cert.Rows.row_broadcastTo g h (x 0)) (x 1)
end

theorem rd_b {c : ℕ} (v : View sig .tc .vmem S1x2048 .f32) (f : v.ty.Contents (Elt Ideal)) (inb) (x : S8x512.Idx) :
    v.readAt (Elt Ideal) (Rect.unit (s := S1x2048) ![0, c] ![1, 512] inb).toLoadRect f (ValueIdx.ix2 0 (x 1))
      = cell (v.read (Elt Ideal) f) 0 (c + (x 1).val) :=
  readAt_cell v f rfl (ValueIdx.ix2 0 (x 1))
theorem rd_1 (k : Fin k0_t1_loop.trips) (v : View sig .tc .vmem S128x2048 .f32) (f : v.ty.Contents (Elt Ideal)) (inb) (x : S8x512.Idx) :
    v.readAt (Elt Ideal) (Rect.unit (s := S128x2048) (k0_off1 k) ![8, 512] inb).toLoadRect f x
      = cell (v.read (Elt Ideal) f) (8 * k.val + (x 0).val) (0 + (x 1).val) :=
  readAt_cell v f (k0_off1_eq k) x
theorem rd_3 (k : Fin k0_t1_loop.trips) (v : View sig .tc .vmem S128x2048 .f32) (f : v.ty.Contents (Elt Ideal)) (inb) (x : S8x512.Idx) :
    v.readAt (Elt Ideal) (Rect.unit (s := S128x2048) (k0_off3 k) ![8, 512] inb).toLoadRect f x
      = cell (v.read (Elt Ideal) f) (8 * k.val + (x 0).val) (512 + (x 1).val) :=
  readAt_cell v f (k0_off3_eq k) x
theorem rd_5 (k : Fin k0_t1_loop.trips) (v : View sig .tc .vmem S128x2048 .f32) (f : v.ty.Contents (Elt Ideal)) (inb) (x : S8x512.Idx) :
    v.readAt (Elt Ideal) (Rect.unit (s := S128x2048) (k0_off5 k) ![8, 512] inb).toLoadRect f x
      = cell (v.read (Elt Ideal) f) (8 * k.val + (x 0).val) (1024 + (x 1).val) :=
  readAt_cell v f (k0_off5_eq k) x
theorem rd_7 (k : Fin k0_t1_loop.trips) (v : View sig .tc .vmem S128x2048 .f32) (f : v.ty.Contents (Elt Ideal)) (inb) (x : S8x512.Idx) :
    v.readAt (Elt Ideal) (Rect.unit (s := S128x2048) (k0_off7 k) ![8, 512] inb).toLoadRect f x
      = cell (v.read (Elt Ideal) f) (8 * k.val + (x 0).val) (1536 + (x 1).val) :=
  readAt_cell v f (k0_off7_eq k) x
theorem rd_2_0 (k : Fin k0_t1_loop.trips) (v : View sig .tc .vmem S512x2048 .f32) (f : v.ty.Contents (Elt Ideal)) (inb) (x : S8x512.Idx) :
    v.readAt (Elt Ideal) (Rect.unit (s := S512x2048) (k0_off2 k 0#32) ![8, 512] inb).toLoadRect f x
      = cell (v.read (Elt Ideal) f) (0 + (8 * k.val + (x 0).val)) (0 + (x 1).val) :=
  (readAt_cell v f (k0_off2_eq k ⟨0, by decide⟩) x).trans (congrArg (cell _ · _) (Nat.add_assoc _ _ _))
theorem rd_2_1 (k : Fin k0_t1_loop.trips) (v : View sig .tc .vmem S512x2048 .f32) (f : v.ty.Contents (Elt Ideal)) (inb) (x : S8x512.Idx) :
    v.readAt (Elt Ideal) (Rect.unit (s := S512x2048) (k0_off2 k 1#32) ![8, 512] inb).toLoadRect f x
      = cell (v.read (Elt Ideal) f) (128 + (8 * k.val + (x 0).val)) (0 + (x 1).val) :=
  (readAt_cell v f (k0_off2_eq k ⟨1, by decide⟩) x).trans (congrArg (cell _ · _) (Nat.add_assoc _ _ _))
theorem rd_2_2 (k : Fin k0_t1_loop.trips) (v : View sig .tc .vmem S512x2048 .f32) (f : v.ty.Contents (Elt Ideal)) (inb) (x : S8x512.Idx) :
    v.readAt (Elt Ideal) (Rect.unit (s := S512x2048) (k0_off2 k 2#32) ![8, 512] inb).toLoadRect f x
      = cell (v.read (Elt Ideal) f) (256 + (8 * k.val + (x 0).val)) (0 + (x 1).val) :=
  (readAt_cell v f (k0_off2_eq k ⟨2, by decide⟩) x).trans (congrArg (cell _ · _) (Nat.add_assoc _ _ _))
theorem rd_2_3 (k : Fin k0_t1_loop.trips) (v : View sig .tc .vmem S512x2048 .f32) (f : v.ty.Contents (Elt Ideal)) (inb) (x : S8x512.Idx) :
    v.readAt (Elt Ideal) (Rect.unit (s := S512x2048) (k0_off2 k 3#32) ![8, 512] inb).toLoadRect f x
      = cell (v.read (Elt Ideal) f) (384 + (8 * k.val + (x 0).val)) (0 + (x 1).val) :=
  (readAt_cell v f (k0_off2_eq k ⟨3, by decide⟩) x).trans (congrArg (cell _ · _) (Nat.add_assoc _ _ _))
theorem rd_4_0 (k : Fin k0_t1_loop.trips) (v : View sig .tc .vmem S512x2048 .f32) (f : v.ty.Contents (Elt Ideal)) (inb) (x : S8x512.Idx) :
    v.readAt (Elt Ideal) (Rect.unit (s := S512x2048) (k0_off4 k 0#32) ![8, 512] inb).toLoadRect f x
      = cell (v.read (Elt Ideal) f) (0 + (8 * k.val + (x 0).val)) (512 + (x 1).val) :=
  (readAt_cell v f (k0_off4_eq k ⟨0, by decide⟩) x).trans (congrArg (cell _ · _) (Nat.add_assoc _ _ _))
theorem rd_4_1 (k : Fin k0_t1_loop.trips) (v : View sig .tc .vmem S512x2048 .f32) (f : v.ty.Contents (Elt Ideal)) (inb) (x : S8x512.Idx) :
    v.readAt (Elt Ideal) (Rect.unit (s := S512x2048) (k0_off4 k 1#32) ![8, 512] inb).toLoadRect f x
      = cell (v.read (Elt Ideal) f) (128 + (8 * k.val + (x 0).val)) (512 + (x 1).val) :=
  (readAt_cell v f (k0_off4_eq k ⟨1, by decide⟩) x).trans (congrArg (cell _ · _) (Nat.add_assoc _ _ _))
theorem rd_4_2 (k : Fin k0_t1_loop.trips) (v : View sig .tc .vmem S512x2048 .f32) (f : v.ty.Contents (Elt Ideal)) (inb) (x : S8x512.Idx) :
    v.readAt (Elt Ideal) (Rect.unit (s := S512x2048) (k0_off4 k 2#32) ![8, 512] inb).toLoadRect f x
      = cell (v.read (Elt Ideal) f) (256 + (8 * k.val + (x 0).val)) (512 + (x 1).val) :=
  (readAt_cell v f (k0_off4_eq k ⟨2, by decide⟩) x).trans (congrArg (cell _ · _) (Nat.add_assoc _ _ _))
theorem rd_4_3 (k : Fin k0_t1_loop.trips) (v : View sig .tc .vmem S512x2048 .f32) (f : v.ty.Contents (Elt Ideal)) (inb) (x : S8x512.Idx) :
    v.readAt (Elt Ideal) (Rect.unit (s := S512x2048) (k0_off4 k 3#32) ![8, 512] inb).toLoadRect f x
      = cell (v.read (Elt Ideal) f) (384 + (8 * k.val + (x 0).val)) (512 + (x 1).val) :=
  (readAt_cell v f (k0_off4_eq k ⟨3, by decide⟩) x).trans (congrArg (cell _ · _) (Nat.add_assoc _ _ _))
theorem rd_6_0 (k : Fin k0_t1_loop.trips) (v : View sig .tc .vmem S512x2048 .f32) (f : v.ty.Contents (Elt Ideal)) (inb) (x : S8x512.Idx) :
    v.readAt (Elt Ideal) (Rect.unit (s := S512x2048) (k0_off6 k 0#32) ![8, 512] inb).toLoadRect f x
      = cell (v.read (Elt Ideal) f) (0 + (8 * k.val + (x 0).val)) (1024 + (x 1).val) :=
  (readAt_cell v f (k0_off6_eq k ⟨0, by decide⟩) x).trans (congrArg (cell _ · _) (Nat.add_assoc _ _ _))
theorem rd_6_1 (k : Fin k0_t1_loop.trips) (v : View sig .tc .vmem S512x2048 .f32) (f : v.ty.Contents (Elt Ideal)) (inb) (x : S8x512.Idx) :
    v.readAt (Elt Ideal) (Rect.unit (s := S512x2048) (k0_off6 k 1#32) ![8, 512] inb).toLoadRect f x
      = cell (v.read (Elt Ideal) f) (128 + (8 * k.val + (x 0).val)) (1024 + (x 1).val) :=
  (readAt_cell v f (k0_off6_eq k ⟨1, by decide⟩) x).trans (congrArg (cell _ · _) (Nat.add_assoc _ _ _))
theorem rd_6_2 (k : Fin k0_t1_loop.trips) (v : View sig .tc .vmem S512x2048 .f32) (f : v.ty.Contents (Elt Ideal)) (inb) (x : S8x512.Idx) :
    v.readAt (Elt Ideal) (Rect.unit (s := S512x2048) (k0_off6 k 2#32) ![8, 512] inb).toLoadRect f x
      = cell (v.read (Elt Ideal) f) (256 + (8 * k.val + (x 0).val)) (1024 + (x 1).val) :=
  (readAt_cell v f (k0_off6_eq k ⟨2, by decide⟩) x).trans (congrArg (cell _ · _) (Nat.add_assoc _ _ _))
theorem rd_6_3 (k : Fin k0_t1_loop.trips) (v : View sig .tc .vmem S512x2048 .f32) (f : v.ty.Contents (Elt Ideal)) (inb) (x : S8x512.Idx) :
    v.readAt (Elt Ideal) (Rect.unit (s := S512x2048) (k0_off6 k 3#32) ![8, 512] inb).toLoadRect f x
      = cell (v.read (Elt Ideal) f) (384 + (8 * k.val + (x 0).val)) (1024 + (x 1).val) :=
  (readAt_cell v f (k0_off6_eq k ⟨3, by decide⟩) x).trans (congrArg (cell _ · _) (Nat.add_assoc _ _ _))
theorem rd_8_0 (k : Fin k0_t1_loop.trips) (v : View sig .tc .vmem S512x2048 .f32) (f : v.ty.Contents (Elt Ideal)) (inb) (x : S8x512.Idx) :
    v.readAt (Elt Ideal) (Rect.unit (s := S512x2048) (k0_off8 k 0#32) ![8, 512] inb).toLoadRect f x
      = cell (v.read (Elt Ideal) f) (0 + (8 * k.val + (x 0).val)) (1536 + (x 1).val) :=
  (readAt_cell v f (k0_off8_eq k ⟨0, by decide⟩) x).trans (congrArg (cell _ · _) (Nat.add_assoc _ _ _))
theorem rd_8_1 (k : Fin k0_t1_loop.trips) (v : View sig .tc .vmem S512x2048 .f32) (f : v.ty.Contents (Elt Ideal)) (inb) (x : S8x512.Idx) :
    v.readAt (Elt Ideal) (Rect.unit (s := S512x2048) (k0_off8 k 1#32) ![8, 512] inb).toLoadRect f x
      = cell (v.read (Elt Ideal) f) (128 + (8 * k.val + (x 0).val)) (1536 + (x 1).val) :=
  (readAt_cell v f (k0_off8_eq k ⟨1, by decide⟩) x).trans (congrArg (cell _ · _) (Nat.add_assoc _ _ _))
theorem rd_8_2 (k : Fin k0_t1_loop.trips) (v : View sig .tc .vmem S512x2048 .f32) (f : v.ty.Contents (Elt Ideal)) (inb) (x : S8x512.Idx) :
    v.readAt (Elt Ideal) (Rect.unit (s := S512x2048) (k0_off8 k 2#32) ![8, 512] inb).toLoadRect f x
      = cell (v.read (Elt Ideal) f) (256 + (8 * k.val + (x 0).val)) (1536 + (x 1).val) :=
  (readAt_cell v f (k0_off8_eq k ⟨2, by decide⟩) x).trans (congrArg (cell _ · _) (Nat.add_assoc _ _ _))
theorem rd_8_3 (k : Fin k0_t1_loop.trips) (v : View sig .tc .vmem S512x2048 .f32) (f : v.ty.Contents (Elt Ideal)) (inb) (x : S8x512.Idx) :
    v.readAt (Elt Ideal) (Rect.unit (s := S512x2048) (k0_off8 k 3#32) ![8, 512] inb).toLoadRect f x
      = cell (v.read (Elt Ideal) f) (384 + (8 * k.val + (x 0).val)) (1536 + (x 1).val) :=
  (readAt_cell v f (k0_off8_eq k ⟨3, by decide⟩) x).trans (congrArg (cell _ · _) (Nat.add_assoc _ _ _))

/-! ## What a trip makes of the arrays -/

/-- The state of batch row `r`, channel `c` after `t` steps from the state `P`, `Q` (its real and imaginary parts): the
    transition `AR`, `AI` times the state, plus row `128 t + r` of the inputs `A`, `B`. -/
def orb (AR AI : S1x2048.Idx → EReal) (A B : S512x2048.Idx → EReal) (P Q : S128x2048.Idx → EReal) (r c : ℕ) : ℕ → EReal × EReal
  | 0 => (cell P r c, cell Q r c)
  | t + 1 => (cell AR 0 c * (orb AR AI A B P Q r c t).1 - cell AI 0 c * (orb AR AI A B P Q r c t).2 + cell A (128 * t + r) c,
      cell AR 0 c * (orb AR AI A B P Q r c t).2 + cell AI 0 c * (orb AR AI A B P Q r c t).1 + cell B (128 * t + r) c)

/-- The state array's real part after trip `k`, -/
def stateRe (AR AI : S1x2048.Idx → EReal) (A B : S512x2048.Idx → EReal) (P Q : S128x2048.Idx → EReal) (k r c : ℕ) : EReal :=
  if r / 8 = k then (orb AR AI A B P Q r c 4).1 else cell P r c
/-- its imaginary part, -/
def stateIm (AR AI : S1x2048.Idx → EReal) (A B : S512x2048.Idx → EReal) (P Q : S128x2048.Idx → EReal) (k r c : ℕ) : EReal :=
  if r / 8 = k then (orb AR AI A B P Q r c 4).2 else cell Q r c
/-- the array of inputs and states, real part, -/
def stepsRe (AR AI : S1x2048.Idx → EReal) (A B : S512x2048.Idx → EReal) (P Q : S128x2048.Idx → EReal) (k r c : ℕ) : EReal :=
  if r % 128 / 8 = k then (orb AR AI A B P Q (r % 128) c (r / 128 + 1)).1 else cell A r c
/-- and imaginary part. -/
def stepsIm (AR AI : S1x2048.Idx → EReal) (A B : S512x2048.Idx → EReal) (P Q : S128x2048.Idx → EReal) (k r c : ℕ) : EReal :=
  if r % 128 / 8 = k then (orb AR AI A B P Q (r % 128) c (r / 128 + 1)).2 else cell B r c

theorem stateRe_in (AR AI : S1x2048.Idx → EReal) (A B : S512x2048.Idx → EReal) (P Q : S128x2048.Idx → EReal) {k a : ℕ} (c : ℕ) (ha : a < 8) :
    stateRe AR AI A B P Q k (8 * k + a) c = (orb AR AI A B P Q (8 * k + a) c 4).1 := by
  have e3 : (8 * k + a) / 8 = k := by omega
  rw [stateRe, if_pos e3]
theorem stateIm_in (AR AI : S1x2048.Idx → EReal) (A B : S512x2048.Idx → EReal) (P Q : S128x2048.Idx → EReal) {k a : ℕ} (c : ℕ) (ha : a < 8) :
    stateIm AR AI A B P Q k (8 * k + a) c = (orb AR AI A B P Q (8 * k + a) c 4).2 := by
  have e3 : (8 * k + a) / 8 = k := by omega
  rw [stateIm, if_pos e3]
theorem stepsRe_in (AR AI : S1x2048.Idx → EReal) (A B : S512x2048.Idx → EReal) (P Q : S128x2048.Idx → EReal) {k a : ℕ} (c t : ℕ) (hk : k < 16) (ha : a < 8) :
    stepsRe AR AI A B P Q k (128 * t + 8 * k + a) c = (orb AR AI A B P Q (8 * k + a) c (t + 1)).1 := by
  have e1 : (128 * t + 8 * k + a) % 128 = 8 * k + a := by omega
  have e2 : (128 * t + 8 * k + a) / 128 = t := by omega
  have e3 : (8 * k + a) / 8 = k := by omega
  rw [stepsRe, e1, e2, if_pos e3]
theorem stepsIm_in (AR AI : S1x2048.Idx → EReal) (A B : S512x2048.Idx → EReal) (P Q : S128x2048.Idx → EReal) {k a : ℕ} (c t : ℕ) (hk : k < 16) (ha : a < 8) :
    stepsIm AR AI A B P Q k (128 * t + 8 * k + a) c = (orb AR AI A B P Q (8 * k + a) c (t + 1)).2 := by
  have e1 : (128 * t + 8 * k + a) % 128 = 8 * k + a := by omega
  have e2 : (128 * t + 8 * k + a) / 128 = t := by omega
  have e3 : (8 * k + a) / 8 = k := by omega
  rw [stepsIm, e1, e2, if_pos e3]

/-- Scratch array 3 after the trip. -/
theorem trip17 (𝒱 : Variants) (c : Dev nD) (bd : Option 𝒱.V) (i : grid0.Coords) (arg1 : Memref sig .tc .vmem S4x128x512 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S2x256x1024 .bf16) (harg6 : arg6.IsWhole) (arg7 : Memref sig .tc .vmem S2x256x1024 .bf16) (harg7 : arg7.IsWhole) (arg8 : Memref sig .tc .vmem S2x1024x256 .bf16) (harg8 : arg8.IsWhole) (arg9 : Memref sig .tc .vmem S2x1024x256 .bf16) (harg9 : arg9.IsWhole) (arg10 : Memref sig .tc .vmem S1x512 .f32) (harg10 : arg10.IsWhole) (arg11 : Memref sig .tc .vmem S512x512 .bf16) (harg11 : arg11.IsWhole) (arg12 : Memref sig .tc .vmem S4x128x512 .f32) (harg12 : arg12.IsWhole) (arg13 : Memref sig .tc .vmem S128x2048 .f32) (harg13 : arg13.IsWhole) (arg14 : Memref sig .tc .vmem S128x2048 .f32) (harg14 : arg14.IsWhole) (arg15 : Memref sig .tc .vmem S512x2048 .f32) (harg15 : arg15.IsWhole) (arg16 : Memref sig .tc .vmem S512x2048 .f32) (harg16 : arg16.IsWhole) (arg17 : Memref sig .tc .vmem S128x2048 .f32) (harg17 : arg17.IsWhole) (arg18 : Memref sig .tc .vmem S128x2048 .f32) (harg18 : arg18.IsWhole) (v20 : FVec Ideal S512x256 .bf16) (v28 : FVec Ideal S256x1024 .bf16) (X_arg4 : BufTy.Contents (Elt Ideal) arg4.view.ty) (X_arg5 : BufTy.Contents (Elt Ideal) arg5.view.ty) (k : Fin k0_t1_loop.trips)
    (f15 : BufTy.Contents (Elt Ideal) arg15.view.ty) (f16 : BufTy.Contents (Elt Ideal) arg16.view.ty) (f17 : BufTy.Contents (Elt Ideal) arg17.view.ty) (f18 : BufTy.Contents (Elt Ideal) arg18.view.ty) (y : S128x2048.Idx) :
    arg17.view.read (Elt Ideal) (arg17.view.writes (Elt Ideal) f17 ((trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v20 v28 X_arg4 X_arg5 k).2.2.1 f15 f16 f17 f18)) y
      = stateRe (arg4.view.read (Elt Ideal) X_arg4) (arg5.view.read (Elt Ideal) X_arg5)
      (arg15.view.read (Elt Ideal) f15) (arg16.view.read (Elt Ideal) f16) (arg17.view.read (Elt Ideal) f17) (arg18.view.read (Elt Ideal) f18) k.val (y 0).val (y 1).val := by
  refine read_writes_as arg17.view f17 (fun y => stateRe (arg4.view.read (Elt Ideal) X_arg4) (arg5.view.read (Elt Ideal) X_arg5)
      (arg15.view.read (Elt Ideal) f15) (arg16.view.read (Elt Ideal) f16) (arg17.view.read (Elt Ideal) f17) (arg18.view.read (Elt Ideal) f18) k.val (y 0).val (y 1).val) y _ ?_ ?_
  · unfold trip_k0_t1
    dsimp only
    dsimp only [trip_k0_t1.sl.v321, trip_k0_t1.sl.v209, trip_k0_t1.sl.v449, trip_k0_t1.sl.r_1, trip_k0_t1.sl.v337, trip_k0_t1.sl.v443, trip_k0_t1.sl.r_17, trip_k0_t1.sl.v86, trip_k0_t1.sl.r_11, trip_k0_t1.sl.v211, trip_k0_t1.sl.r_23, trip_k0_t1.sl.arg19, trip_k0_t1.sl.v495, trip_k0_t1.sl.r_13, trip_k0_t1.sl.v182, trip_k0_t1.sl.r_8, trip_k0_t1.sl.r_16, trip_k0_t1.sl.v377, trip_k0_t1.sl.v176, trip_k0_t1.sl.v271, trip_k0_t1.sl.v518, trip_k0_t1.sl.r_15, trip_k0_t1.sl.v248, trip_k0_t1.sl.v472, trip_k0_t1.sl.r_6, trip_k0_t1.sl.v323, trip_k0_t1.sl.v383, trip_k0_t1.sl.v294, trip_k0_t1.sl.v136, trip_k0_t1.sl.v130, trip_k0_t1.sl.v159, trip_k0_t1.sl.v170, trip_k0_t1.sl.v400, trip_k0_t1.sl.r_20, trip_k0_t1.sl.v512, trip_k0_t1.sl.r, trip_k0_t1.sl.v124, trip_k0_t1.sl.r_26, trip_k0_t1.sl.r_19, trip_k0_t1.sl.r_4, trip_k0_t1.sl.v354, trip_k0_t1.sl.v331, trip_k0_t1.sl.r_22, trip_k0_t1.sl.r_5, trip_k0_t1.sl.v242, trip_k0_t1.sl.r_14, trip_k0_t1.sl.v360, trip_k0_t1.sl.r_24, trip_k0_t1.sl.r_21, trip_k0_t1.sl.v435, trip_k0_t1.sl.r_9, trip_k0_t1.sl.v153, trip_k0_t1.sl.v433, trip_k0_t1.sl.v489, trip_k0_t1.sl.v225, trip_k0_t1.sl.v406, trip_k0_t1.sl.r_27, trip_k0_t1.sl.r_18, trip_k0_t1.sl.v466, trip_k0_t1.sl.r_25, trip_k0_t1.sl.v288, trip_k0_t1.sl.r_10, trip_k0_t1.sl.r_3, trip_k0_t1.sl.r_12, trip_k0_t1.sl.r_2, trip_k0_t1.sl.r_7, trip_k0_t1.sl.v265, trip_k0_t1.sl.v219]
    refine List.forall_mem_cons.mpr ⟨?_, List.forall_mem_cons.mpr ⟨?_, List.forall_mem_cons.mpr ⟨?_, List.forall_mem_cons.mpr ⟨?_, fun _ h => absurd h List.not_mem_nil⟩⟩⟩⟩
    refine piece_as (size := ![8, 512]) (inb := k0_off7_inb k) (k0_off7_eq k) _ _ fun x => ?_
    refine Eq.trans ?_ (stateRe_in _ _ _ _ _ _ _ (x 0).isLt).symm
    rotate_left
    refine piece_as (size := ![8, 512]) (inb := k0_off5_inb k) (k0_off5_eq k) _ _ fun x => ?_
    refine Eq.trans ?_ (stateRe_in _ _ _ _ _ _ _ (x 0).isLt).symm
    rotate_left
    refine piece_as (size := ![8, 512]) (inb := k0_off3_inb k) (k0_off3_eq k) _ _ fun x => ?_
    refine Eq.trans ?_ (stateRe_in _ _ _ _ _ _ _ (x 0).isLt).symm
    rotate_left
    refine piece_as (size := ![8, 512]) (inb := k0_off1_inb k) (k0_off1_eq k) _ _ fun x => ?_
    refine Eq.trans ?_ (stateRe_in _ _ _ _ _ _ _ (x 0).isLt).symm
    rotate_left
    all_goals
      change S8x512.Idx at x
      simp only [orb, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay92, k0_pay93, k0_pay94, k0_pay95, shapeCast_self, at_addf, at_subf, at_mulf, at_bcast, rd_b, rd_1, rd_3, rd_5, rd_7, rd_2_0, rd_2_1, rd_2_2, rd_2_3, rd_4_0, rd_4_1, rd_4_2, rd_4_3, rd_6_0, rd_6_1, rd_6_2, rd_6_3, rd_8_0, rd_8_1, rd_8_2, rd_8_3, Nat.reduceMul, Nat.reduceAdd]
  · intro h
    show _ = stateRe _ _ _ _ _ _ _ _ _
    rw [stateRe]
    by_cases hy : (y 0).val / 8 = k.val
    · exfalso
      unfold trip_k0_t1 at h
      dsimp only at h
      have h0 : (y 0).val < 128 := (y 0).isLt
      have h1 : (y 1).val < 2048 := (y 1).isLt
      simp only [List.forall_mem_cons] at h
      obtain ⟨g0, g1, g2, g3, -⟩ := h
      have g0 := not_mem_unit (inb := k0_off7_inb k) (k0_off7_eq k) g0
      have g1 := not_mem_unit (inb := k0_off5_inb k) (k0_off5_eq k) g1
      have g2 := not_mem_unit (inb := k0_off3_inb k) (k0_off3_eq k) g2
      have g3 := not_mem_unit (inb := k0_off1_inb k) (k0_off1_eq k) g3
      have hj : (y 1).val / 512 = 0 ∨ (y 1).val / 512 = 1 ∨ (y 1).val / 512 = 2 ∨ (y 1).val / 512 = 3 := by omega
      rcases hj with hj | hj | hj | hj
      · exact g3 ⟨⟨by omega, by omega⟩, by omega, by omega⟩
      · exact g2 ⟨⟨by omega, by omega⟩, by omega, by omega⟩
      · exact g1 ⟨⟨by omega, by omega⟩, by omega, by omega⟩
      · exact g0 ⟨⟨by omega, by omega⟩, by omega, by omega⟩
    · rw [if_neg hy]
      exact cell_idx _ y

/-- Scratch array 4 after the trip. -/
theorem trip18 (𝒱 : Variants) (c : Dev nD) (bd : Option 𝒱.V) (i : grid0.Coords) (arg1 : Memref sig .tc .vmem S4x128x512 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S2x256x1024 .bf16) (harg6 : arg6.IsWhole) (arg7 : Memref sig .tc .vmem S2x256x1024 .bf16) (harg7 : arg7.IsWhole) (arg8 : Memref sig .tc .vmem S2x1024x256 .bf16) (harg8 : arg8.IsWhole) (arg9 : Memref sig .tc .vmem S2x1024x256 .bf16) (harg9 : arg9.IsWhole) (arg10 : Memref sig .tc .vmem S1x512 .f32) (harg10 : arg10.IsWhole) (arg11 : Memref sig .tc .vmem S512x512 .bf16) (harg11 : arg11.IsWhole) (arg12 : Memref sig .tc .vmem S4x128x512 .f32) (harg12 : arg12.IsWhole) (arg13 : Memref sig .tc .vmem S128x2048 .f32) (harg13 : arg13.IsWhole) (arg14 : Memref sig .tc .vmem S128x2048 .f32) (harg14 : arg14.IsWhole) (arg15 : Memref sig .tc .vmem S512x2048 .f32) (harg15 : arg15.IsWhole) (arg16 : Memref sig .tc .vmem S512x2048 .f32) (harg16 : arg16.IsWhole) (arg17 : Memref sig .tc .vmem S128x2048 .f32) (harg17 : arg17.IsWhole) (arg18 : Memref sig .tc .vmem S128x2048 .f32) (harg18 : arg18.IsWhole) (v20 : FVec Ideal S512x256 .bf16) (v28 : FVec Ideal S256x1024 .bf16) (X_arg4 : BufTy.Contents (Elt Ideal) arg4.view.ty) (X_arg5 : BufTy.Contents (Elt Ideal) arg5.view.ty) (k : Fin k0_t1_loop.trips)
    (f15 : BufTy.Contents (Elt Ideal) arg15.view.ty) (f16 : BufTy.Contents (Elt Ideal) arg16.view.ty) (f17 : BufTy.Contents (Elt Ideal) arg17.view.ty) (f18 : BufTy.Contents (Elt Ideal) arg18.view.ty) (y : S128x2048.Idx) :
    arg18.view.read (Elt Ideal) (arg18.view.writes (Elt Ideal) f18 ((trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v20 v28 X_arg4 X_arg5 k).2.2.2.1 f15 f16 f17 f18)) y
      = stateIm (arg4.view.read (Elt Ideal) X_arg4) (arg5.view.read (Elt Ideal) X_arg5)
      (arg15.view.read (Elt Ideal) f15) (arg16.view.read (Elt Ideal) f16) (arg17.view.read (Elt Ideal) f17) (arg18.view.read (Elt Ideal) f18) k.val (y 0).val (y 1).val := by
  refine read_writes_as arg18.view f18 (fun y => stateIm (arg4.view.read (Elt Ideal) X_arg4) (arg5.view.read (Elt Ideal) X_arg5)
      (arg15.view.read (Elt Ideal) f15) (arg16.view.read (Elt Ideal) f16) (arg17.view.read (Elt Ideal) f17) (arg18.view.read (Elt Ideal) f18) k.val (y 0).val (y 1).val) y _ ?_ ?_
  · unfold trip_k0_t1
    dsimp only
    dsimp only [trip_k0_t1.sl.v321, trip_k0_t1.sl.v209, trip_k0_t1.sl.v449, trip_k0_t1.sl.r_1, trip_k0_t1.sl.v337, trip_k0_t1.sl.v443, trip_k0_t1.sl.r_17, trip_k0_t1.sl.v86, trip_k0_t1.sl.r_11, trip_k0_t1.sl.v211, trip_k0_t1.sl.r_23, trip_k0_t1.sl.arg19, trip_k0_t1.sl.v495, trip_k0_t1.sl.r_13, trip_k0_t1.sl.v182, trip_k0_t1.sl.r_8, trip_k0_t1.sl.r_16, trip_k0_t1.sl.v377, trip_k0_t1.sl.v176, trip_k0_t1.sl.v271, trip_k0_t1.sl.v518, trip_k0_t1.sl.r_15, trip_k0_t1.sl.v248, trip_k0_t1.sl.v472, trip_k0_t1.sl.r_6, trip_k0_t1.sl.v323, trip_k0_t1.sl.v383, trip_k0_t1.sl.v294, trip_k0_t1.sl.v136, trip_k0_t1.sl.v130, trip_k0_t1.sl.v159, trip_k0_t1.sl.v170, trip_k0_t1.sl.v400, trip_k0_t1.sl.r_20, trip_k0_t1.sl.v512, trip_k0_t1.sl.r, trip_k0_t1.sl.v124, trip_k0_t1.sl.r_26, trip_k0_t1.sl.r_19, trip_k0_t1.sl.r_4, trip_k0_t1.sl.v354, trip_k0_t1.sl.v331, trip_k0_t1.sl.r_22, trip_k0_t1.sl.r_5, trip_k0_t1.sl.v242, trip_k0_t1.sl.r_14, trip_k0_t1.sl.v360, trip_k0_t1.sl.r_24, trip_k0_t1.sl.r_21, trip_k0_t1.sl.v435, trip_k0_t1.sl.r_9, trip_k0_t1.sl.v153, trip_k0_t1.sl.v433, trip_k0_t1.sl.v489, trip_k0_t1.sl.v225, trip_k0_t1.sl.v406, trip_k0_t1.sl.r_27, trip_k0_t1.sl.r_18, trip_k0_t1.sl.v466, trip_k0_t1.sl.r_25, trip_k0_t1.sl.v288, trip_k0_t1.sl.r_10, trip_k0_t1.sl.r_3, trip_k0_t1.sl.r_12, trip_k0_t1.sl.r_2, trip_k0_t1.sl.r_7, trip_k0_t1.sl.v265, trip_k0_t1.sl.v219]
    refine List.forall_mem_cons.mpr ⟨?_, List.forall_mem_cons.mpr ⟨?_, List.forall_mem_cons.mpr ⟨?_, List.forall_mem_cons.mpr ⟨?_, fun _ h => absurd h List.not_mem_nil⟩⟩⟩⟩
    refine piece_as (size := ![8, 512]) (inb := k0_off7_inb k) (k0_off7_eq k) _ _ fun x => ?_
    refine Eq.trans ?_ (stateIm_in _ _ _ _ _ _ _ (x 0).isLt).symm
    rotate_left
    refine piece_as (size := ![8, 512]) (inb := k0_off5_inb k) (k0_off5_eq k) _ _ fun x => ?_
    refine Eq.trans ?_ (stateIm_in _ _ _ _ _ _ _ (x 0).isLt).symm
    rotate_left
    refine piece_as (size := ![8, 512]) (inb := k0_off3_inb k) (k0_off3_eq k) _ _ fun x => ?_
    refine Eq.trans ?_ (stateIm_in _ _ _ _ _ _ _ (x 0).isLt).symm
    rotate_left
    refine piece_as (size := ![8, 512]) (inb := k0_off1_inb k) (k0_off1_eq k) _ _ fun x => ?_
    refine Eq.trans ?_ (stateIm_in _ _ _ _ _ _ _ (x 0).isLt).symm
    rotate_left
    all_goals
      change S8x512.Idx at x
      simp only [orb, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay92, k0_pay93, k0_pay94, k0_pay95, shapeCast_self, at_addf, at_subf, at_mulf, at_bcast, rd_b, rd_1, rd_3, rd_5, rd_7, rd_2_0, rd_2_1, rd_2_2, rd_2_3, rd_4_0, rd_4_1, rd_4_2, rd_4_3, rd_6_0, rd_6_1, rd_6_2, rd_6_3, rd_8_0, rd_8_1, rd_8_2, rd_8_3, Nat.reduceMul, Nat.reduceAdd]
  · intro h
    show _ = stateIm _ _ _ _ _ _ _ _ _
    rw [stateIm]
    by_cases hy : (y 0).val / 8 = k.val
    · exfalso
      unfold trip_k0_t1 at h
      dsimp only at h
      have h0 : (y 0).val < 128 := (y 0).isLt
      have h1 : (y 1).val < 2048 := (y 1).isLt
      simp only [List.forall_mem_cons] at h
      obtain ⟨g0, g1, g2, g3, -⟩ := h
      have g0 := not_mem_unit (inb := k0_off7_inb k) (k0_off7_eq k) g0
      have g1 := not_mem_unit (inb := k0_off5_inb k) (k0_off5_eq k) g1
      have g2 := not_mem_unit (inb := k0_off3_inb k) (k0_off3_eq k) g2
      have g3 := not_mem_unit (inb := k0_off1_inb k) (k0_off1_eq k) g3
      have hj : (y 1).val / 512 = 0 ∨ (y 1).val / 512 = 1 ∨ (y 1).val / 512 = 2 ∨ (y 1).val / 512 = 3 := by omega
      rcases hj with hj | hj | hj | hj
      · exact g3 ⟨⟨by omega, by omega⟩, by omega, by omega⟩
      · exact g2 ⟨⟨by omega, by omega⟩, by omega, by omega⟩
      · exact g1 ⟨⟨by omega, by omega⟩, by omega, by omega⟩
      · exact g0 ⟨⟨by omega, by omega⟩, by omega, by omega⟩
    · rw [if_neg hy]
      exact cell_idx _ y

/-- Scratch array 1 after the trip. -/
theorem trip15 (𝒱 : Variants) (c : Dev nD) (bd : Option 𝒱.V) (i : grid0.Coords) (arg1 : Memref sig .tc .vmem S4x128x512 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S2x256x1024 .bf16) (harg6 : arg6.IsWhole) (arg7 : Memref sig .tc .vmem S2x256x1024 .bf16) (harg7 : arg7.IsWhole) (arg8 : Memref sig .tc .vmem S2x1024x256 .bf16) (harg8 : arg8.IsWhole) (arg9 : Memref sig .tc .vmem S2x1024x256 .bf16) (harg9 : arg9.IsWhole) (arg10 : Memref sig .tc .vmem S1x512 .f32) (harg10 : arg10.IsWhole) (arg11 : Memref sig .tc .vmem S512x512 .bf16) (harg11 : arg11.IsWhole) (arg12 : Memref sig .tc .vmem S4x128x512 .f32) (harg12 : arg12.IsWhole) (arg13 : Memref sig .tc .vmem S128x2048 .f32) (harg13 : arg13.IsWhole) (arg14 : Memref sig .tc .vmem S128x2048 .f32) (harg14 : arg14.IsWhole) (arg15 : Memref sig .tc .vmem S512x2048 .f32) (harg15 : arg15.IsWhole) (arg16 : Memref sig .tc .vmem S512x2048 .f32) (harg16 : arg16.IsWhole) (arg17 : Memref sig .tc .vmem S128x2048 .f32) (harg17 : arg17.IsWhole) (arg18 : Memref sig .tc .vmem S128x2048 .f32) (harg18 : arg18.IsWhole) (v20 : FVec Ideal S512x256 .bf16) (v28 : FVec Ideal S256x1024 .bf16) (X_arg4 : BufTy.Contents (Elt Ideal) arg4.view.ty) (X_arg5 : BufTy.Contents (Elt Ideal) arg5.view.ty) (k : Fin k0_t1_loop.trips)
    (f15 : BufTy.Contents (Elt Ideal) arg15.view.ty) (f16 : BufTy.Contents (Elt Ideal) arg16.view.ty) (f17 : BufTy.Contents (Elt Ideal) arg17.view.ty) (f18 : BufTy.Contents (Elt Ideal) arg18.view.ty) (y : S512x2048.Idx) :
    arg15.view.read (Elt Ideal) (arg15.view.writes (Elt Ideal) f15 ((trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v20 v28 X_arg4 X_arg5 k).1 f15 f16 f17 f18)) y
      = stepsRe (arg4.view.read (Elt Ideal) X_arg4) (arg5.view.read (Elt Ideal) X_arg5)
      (arg15.view.read (Elt Ideal) f15) (arg16.view.read (Elt Ideal) f16) (arg17.view.read (Elt Ideal) f17) (arg18.view.read (Elt Ideal) f18) k.val (y 0).val (y 1).val := by
  have hk : k.val < 16 := Nat.lt_of_lt_of_le k.isLt k0_t1_abs.2.1
  refine read_writes_as arg15.view f15 (fun y => stepsRe (arg4.view.read (Elt Ideal) X_arg4) (arg5.view.read (Elt Ideal) X_arg5)
      (arg15.view.read (Elt Ideal) f15) (arg16.view.read (Elt Ideal) f16) (arg17.view.read (Elt Ideal) f17) (arg18.view.read (Elt Ideal) f18) k.val (y 0).val (y 1).val) y _ ?_ ?_
  · unfold trip_k0_t1
    dsimp only
    dsimp only [trip_k0_t1.sl.v321, trip_k0_t1.sl.v209, trip_k0_t1.sl.v449, trip_k0_t1.sl.r_1, trip_k0_t1.sl.v337, trip_k0_t1.sl.v443, trip_k0_t1.sl.r_17, trip_k0_t1.sl.v86, trip_k0_t1.sl.r_11, trip_k0_t1.sl.v211, trip_k0_t1.sl.r_23, trip_k0_t1.sl.arg19, trip_k0_t1.sl.v495, trip_k0_t1.sl.r_13, trip_k0_t1.sl.v182, trip_k0_t1.sl.r_8, trip_k0_t1.sl.r_16, trip_k0_t1.sl.v377, trip_k0_t1.sl.v176, trip_k0_t1.sl.v271, trip_k0_t1.sl.v518, trip_k0_t1.sl.r_15, trip_k0_t1.sl.v248, trip_k0_t1.sl.v472, trip_k0_t1.sl.r_6, trip_k0_t1.sl.v323, trip_k0_t1.sl.v383, trip_k0_t1.sl.v294, trip_k0_t1.sl.v136, trip_k0_t1.sl.v130, trip_k0_t1.sl.v159, trip_k0_t1.sl.v170, trip_k0_t1.sl.v400, trip_k0_t1.sl.r_20, trip_k0_t1.sl.v512, trip_k0_t1.sl.r, trip_k0_t1.sl.v124, trip_k0_t1.sl.r_26, trip_k0_t1.sl.r_19, trip_k0_t1.sl.r_4, trip_k0_t1.sl.v354, trip_k0_t1.sl.v331, trip_k0_t1.sl.r_22, trip_k0_t1.sl.r_5, trip_k0_t1.sl.v242, trip_k0_t1.sl.r_14, trip_k0_t1.sl.v360, trip_k0_t1.sl.r_24, trip_k0_t1.sl.r_21, trip_k0_t1.sl.v435, trip_k0_t1.sl.r_9, trip_k0_t1.sl.v153, trip_k0_t1.sl.v433, trip_k0_t1.sl.v489, trip_k0_t1.sl.v225, trip_k0_t1.sl.v406, trip_k0_t1.sl.r_27, trip_k0_t1.sl.r_18, trip_k0_t1.sl.v466, trip_k0_t1.sl.r_25, trip_k0_t1.sl.v288, trip_k0_t1.sl.r_10, trip_k0_t1.sl.r_3, trip_k0_t1.sl.r_12, trip_k0_t1.sl.r_2, trip_k0_t1.sl.r_7, trip_k0_t1.sl.v265, trip_k0_t1.sl.v219]
    refine List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, fun _ h => absurd h List.not_mem_nil⟩⟩⟩⟩⟩⟩⟩⟩⟩⟩⟩⟩⟩⟩⟩⟩
    refine piece_as (size := ![8, 512]) (inb := k0_off8_inb k 3) (k0_off8_eq k ⟨3, by decide⟩) _ _ fun x => ?_
    refine Eq.trans ?_ (stepsRe_in _ _ _ _ _ _ _ 3 hk (x 0).isLt).symm
    rotate_left
    refine piece_as (size := ![8, 512]) (inb := k0_off8_inb k 2) (k0_off8_eq k ⟨2, by decide⟩) _ _ fun x => ?_
    refine Eq.trans ?_ (stepsRe_in _ _ _ _ _ _ _ 2 hk (x 0).isLt).symm
    rotate_left
    refine piece_as (size := ![8, 512]) (inb := k0_off8_inb k 1) (k0_off8_eq k ⟨1, by decide⟩) _ _ fun x => ?_
    refine Eq.trans ?_ (stepsRe_in _ _ _ _ _ _ _ 1 hk (x 0).isLt).symm
    rotate_left
    refine piece_as (size := ![8, 512]) (inb := k0_off8_inb k 0) (k0_off8_eq k ⟨0, by decide⟩) _ _ fun x => ?_
    refine Eq.trans ?_ (stepsRe_in _ _ _ _ _ _ _ 0 hk (x 0).isLt).symm
    rotate_left
    refine piece_as (size := ![8, 512]) (inb := k0_off6_inb k 3) (k0_off6_eq k ⟨3, by decide⟩) _ _ fun x => ?_
    refine Eq.trans ?_ (stepsRe_in _ _ _ _ _ _ _ 3 hk (x 0).isLt).symm
    rotate_left
    refine piece_as (size := ![8, 512]) (inb := k0_off6_inb k 2) (k0_off6_eq k ⟨2, by decide⟩) _ _ fun x => ?_
    refine Eq.trans ?_ (stepsRe_in _ _ _ _ _ _ _ 2 hk (x 0).isLt).symm
    rotate_left
    refine piece_as (size := ![8, 512]) (inb := k0_off6_inb k 1) (k0_off6_eq k ⟨1, by decide⟩) _ _ fun x => ?_
    refine Eq.trans ?_ (stepsRe_in _ _ _ _ _ _ _ 1 hk (x 0).isLt).symm
    rotate_left
    refine piece_as (size := ![8, 512]) (inb := k0_off6_inb k 0) (k0_off6_eq k ⟨0, by decide⟩) _ _ fun x => ?_
    refine Eq.trans ?_ (stepsRe_in _ _ _ _ _ _ _ 0 hk (x 0).isLt).symm
    rotate_left
    refine piece_as (size := ![8, 512]) (inb := k0_off4_inb k 3) (k0_off4_eq k ⟨3, by decide⟩) _ _ fun x => ?_
    refine Eq.trans ?_ (stepsRe_in _ _ _ _ _ _ _ 3 hk (x 0).isLt).symm
    rotate_left
    refine piece_as (size := ![8, 512]) (inb := k0_off4_inb k 2) (k0_off4_eq k ⟨2, by decide⟩) _ _ fun x => ?_
    refine Eq.trans ?_ (stepsRe_in _ _ _ _ _ _ _ 2 hk (x 0).isLt).symm
    rotate_left
    refine piece_as (size := ![8, 512]) (inb := k0_off4_inb k 1) (k0_off4_eq k ⟨1, by decide⟩) _ _ fun x => ?_
    refine Eq.trans ?_ (stepsRe_in _ _ _ _ _ _ _ 1 hk (x 0).isLt).symm
    rotate_left
    refine piece_as (size := ![8, 512]) (inb := k0_off4_inb k 0) (k0_off4_eq k ⟨0, by decide⟩) _ _ fun x => ?_
    refine Eq.trans ?_ (stepsRe_in _ _ _ _ _ _ _ 0 hk (x 0).isLt).symm
    rotate_left
    refine piece_as (size := ![8, 512]) (inb := k0_off2_inb k 3) (k0_off2_eq k ⟨3, by decide⟩) _ _ fun x => ?_
    refine Eq.trans ?_ (stepsRe_in _ _ _ _ _ _ _ 3 hk (x 0).isLt).symm
    rotate_left
    refine piece_as (size := ![8, 512]) (inb := k0_off2_inb k 2) (k0_off2_eq k ⟨2, by decide⟩) _ _ fun x => ?_
    refine Eq.trans ?_ (stepsRe_in _ _ _ _ _ _ _ 2 hk (x 0).isLt).symm
    rotate_left
    refine piece_as (size := ![8, 512]) (inb := k0_off2_inb k 1) (k0_off2_eq k ⟨1, by decide⟩) _ _ fun x => ?_
    refine Eq.trans ?_ (stepsRe_in _ _ _ _ _ _ _ 1 hk (x 0).isLt).symm
    rotate_left
    refine piece_as (size := ![8, 512]) (inb := k0_off2_inb k 0) (k0_off2_eq k ⟨0, by decide⟩) _ _ fun x => ?_
    refine Eq.trans ?_ (stepsRe_in _ _ _ _ _ _ _ 0 hk (x 0).isLt).symm
    rotate_left
    all_goals
      change S8x512.Idx at x
      simp only [orb, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay92, k0_pay93, k0_pay94, k0_pay95, shapeCast_self, at_addf, at_subf, at_mulf, at_bcast, rd_b, rd_1, rd_3, rd_5, rd_7, rd_2_0, rd_2_1, rd_2_2, rd_2_3, rd_4_0, rd_4_1, rd_4_2, rd_4_3, rd_6_0, rd_6_1, rd_6_2, rd_6_3, rd_8_0, rd_8_1, rd_8_2, rd_8_3, Nat.reduceMul, Nat.reduceAdd]
  · intro h
    show _ = stepsRe _ _ _ _ _ _ _ _ _
    rw [stepsRe]
    by_cases hy : (y 0).val % 128 / 8 = k.val
    · exfalso
      unfold trip_k0_t1 at h
      dsimp only at h
      have h0 : (y 0).val < 512 := (y 0).isLt
      have h1 : (y 1).val < 2048 := (y 1).isLt
      simp only [List.forall_mem_cons] at h
      obtain ⟨g0, g1, g2, g3, g4, g5, g6, g7, g8, g9, g10, g11, g12, g13, g14, g15, -⟩ := h
      have g0 := not_mem_unit (r := 128 * 3 + 8 * k.val) (inb := k0_off8_inb k 3) (k0_off8_eq k ⟨3, by decide⟩) g0
      have g1 := not_mem_unit (r := 128 * 2 + 8 * k.val) (inb := k0_off8_inb k 2) (k0_off8_eq k ⟨2, by decide⟩) g1
      have g2 := not_mem_unit (r := 128 * 1 + 8 * k.val) (inb := k0_off8_inb k 1) (k0_off8_eq k ⟨1, by decide⟩) g2
      have g3 := not_mem_unit (r := 128 * 0 + 8 * k.val) (inb := k0_off8_inb k 0) (k0_off8_eq k ⟨0, by decide⟩) g3
      have g4 := not_mem_unit (r := 128 * 3 + 8 * k.val) (inb := k0_off6_inb k 3) (k0_off6_eq k ⟨3, by decide⟩) g4
      have g5 := not_mem_unit (r := 128 * 2 + 8 * k.val) (inb := k0_off6_inb k 2) (k0_off6_eq k ⟨2, by decide⟩) g5
      have g6 := not_mem_unit (r := 128 * 1 + 8 * k.val) (inb := k0_off6_inb k 1) (k0_off6_eq k ⟨1, by decide⟩) g6
      have g7 := not_mem_unit (r := 128 * 0 + 8 * k.val) (inb := k0_off6_inb k 0) (k0_off6_eq k ⟨0, by decide⟩) g7
      have g8 := not_mem_unit (r := 128 * 3 + 8 * k.val) (inb := k0_off4_inb k 3) (k0_off4_eq k ⟨3, by decide⟩) g8
      have g9 := not_mem_unit (r := 128 * 2 + 8 * k.val) (inb := k0_off4_inb k 2) (k0_off4_eq k ⟨2, by decide⟩) g9
      have g10 := not_mem_unit (r := 128 * 1 + 8 * k.val) (inb := k0_off4_inb k 1) (k0_off4_eq k ⟨1, by decide⟩) g10
      have g11 := not_mem_unit (r := 128 * 0 + 8 * k.val) (inb := k0_off4_inb k 0) (k0_off4_eq k ⟨0, by decide⟩) g11
      have g12 := not_mem_unit (r := 128 * 3 + 8 * k.val) (inb := k0_off2_inb k 3) (k0_off2_eq k ⟨3, by decide⟩) g12
      have g13 := not_mem_unit (r := 128 * 2 + 8 * k.val) (inb := k0_off2_inb k 2) (k0_off2_eq k ⟨2, by decide⟩) g13
      have g14 := not_mem_unit (r := 128 * 1 + 8 * k.val) (inb := k0_off2_inb k 1) (k0_off2_eq k ⟨1, by decide⟩) g14
      have g15 := not_mem_unit (r := 128 * 0 + 8 * k.val) (inb := k0_off2_inb k 0) (k0_off2_eq k ⟨0, by decide⟩) g15
      have hj : (y 1).val / 512 = 0 ∨ (y 1).val / 512 = 1 ∨ (y 1).val / 512 = 2 ∨ (y 1).val / 512 = 3 := by omega
      have ht : (y 0).val / 128 = 0 ∨ (y 0).val / 128 = 1 ∨ (y 0).val / 128 = 2 ∨ (y 0).val / 128 = 3 := by omega
      rcases hj with hj | hj | hj | hj <;> rcases ht with ht | ht | ht | ht
      · exact g15 ⟨⟨by omega, by omega⟩, by omega, by omega⟩
      · exact g14 ⟨⟨by omega, by omega⟩, by omega, by omega⟩
      · exact g13 ⟨⟨by omega, by omega⟩, by omega, by omega⟩
      · exact g12 ⟨⟨by omega, by omega⟩, by omega, by omega⟩
      · exact g11 ⟨⟨by omega, by omega⟩, by omega, by omega⟩
      · exact g10 ⟨⟨by omega, by omega⟩, by omega, by omega⟩
      · exact g9 ⟨⟨by omega, by omega⟩, by omega, by omega⟩
      · exact g8 ⟨⟨by omega, by omega⟩, by omega, by omega⟩
      · exact g7 ⟨⟨by omega, by omega⟩, by omega, by omega⟩
      · exact g6 ⟨⟨by omega, by omega⟩, by omega, by omega⟩
      · exact g5 ⟨⟨by omega, by omega⟩, by omega, by omega⟩
      · exact g4 ⟨⟨by omega, by omega⟩, by omega, by omega⟩
      · exact g3 ⟨⟨by omega, by omega⟩, by omega, by omega⟩
      · exact g2 ⟨⟨by omega, by omega⟩, by omega, by omega⟩
      · exact g1 ⟨⟨by omega, by omega⟩, by omega, by omega⟩
      · exact g0 ⟨⟨by omega, by omega⟩, by omega, by omega⟩
    · rw [if_neg hy]
      exact cell_idx _ y

/-- Scratch array 2 after the trip. -/
theorem trip16 (𝒱 : Variants) (c : Dev nD) (bd : Option 𝒱.V) (i : grid0.Coords) (arg1 : Memref sig .tc .vmem S4x128x512 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S2x256x1024 .bf16) (harg6 : arg6.IsWhole) (arg7 : Memref sig .tc .vmem S2x256x1024 .bf16) (harg7 : arg7.IsWhole) (arg8 : Memref sig .tc .vmem S2x1024x256 .bf16) (harg8 : arg8.IsWhole) (arg9 : Memref sig .tc .vmem S2x1024x256 .bf16) (harg9 : arg9.IsWhole) (arg10 : Memref sig .tc .vmem S1x512 .f32) (harg10 : arg10.IsWhole) (arg11 : Memref sig .tc .vmem S512x512 .bf16) (harg11 : arg11.IsWhole) (arg12 : Memref sig .tc .vmem S4x128x512 .f32) (harg12 : arg12.IsWhole) (arg13 : Memref sig .tc .vmem S128x2048 .f32) (harg13 : arg13.IsWhole) (arg14 : Memref sig .tc .vmem S128x2048 .f32) (harg14 : arg14.IsWhole) (arg15 : Memref sig .tc .vmem S512x2048 .f32) (harg15 : arg15.IsWhole) (arg16 : Memref sig .tc .vmem S512x2048 .f32) (harg16 : arg16.IsWhole) (arg17 : Memref sig .tc .vmem S128x2048 .f32) (harg17 : arg17.IsWhole) (arg18 : Memref sig .tc .vmem S128x2048 .f32) (harg18 : arg18.IsWhole) (v20 : FVec Ideal S512x256 .bf16) (v28 : FVec Ideal S256x1024 .bf16) (X_arg4 : BufTy.Contents (Elt Ideal) arg4.view.ty) (X_arg5 : BufTy.Contents (Elt Ideal) arg5.view.ty) (k : Fin k0_t1_loop.trips)
    (f15 : BufTy.Contents (Elt Ideal) arg15.view.ty) (f16 : BufTy.Contents (Elt Ideal) arg16.view.ty) (f17 : BufTy.Contents (Elt Ideal) arg17.view.ty) (f18 : BufTy.Contents (Elt Ideal) arg18.view.ty) (y : S512x2048.Idx) :
    arg16.view.read (Elt Ideal) (arg16.view.writes (Elt Ideal) f16 ((trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v20 v28 X_arg4 X_arg5 k).2.1 f15 f16 f17 f18)) y
      = stepsIm (arg4.view.read (Elt Ideal) X_arg4) (arg5.view.read (Elt Ideal) X_arg5)
      (arg15.view.read (Elt Ideal) f15) (arg16.view.read (Elt Ideal) f16) (arg17.view.read (Elt Ideal) f17) (arg18.view.read (Elt Ideal) f18) k.val (y 0).val (y 1).val := by
  have hk : k.val < 16 := Nat.lt_of_lt_of_le k.isLt k0_t1_abs.2.1
  refine read_writes_as arg16.view f16 (fun y => stepsIm (arg4.view.read (Elt Ideal) X_arg4) (arg5.view.read (Elt Ideal) X_arg5)
      (arg15.view.read (Elt Ideal) f15) (arg16.view.read (Elt Ideal) f16) (arg17.view.read (Elt Ideal) f17) (arg18.view.read (Elt Ideal) f18) k.val (y 0).val (y 1).val) y _ ?_ ?_
  · unfold trip_k0_t1
    dsimp only
    dsimp only [trip_k0_t1.sl.v321, trip_k0_t1.sl.v209, trip_k0_t1.sl.v449, trip_k0_t1.sl.r_1, trip_k0_t1.sl.v337, trip_k0_t1.sl.v443, trip_k0_t1.sl.r_17, trip_k0_t1.sl.v86, trip_k0_t1.sl.r_11, trip_k0_t1.sl.v211, trip_k0_t1.sl.r_23, trip_k0_t1.sl.arg19, trip_k0_t1.sl.v495, trip_k0_t1.sl.r_13, trip_k0_t1.sl.v182, trip_k0_t1.sl.r_8, trip_k0_t1.sl.r_16, trip_k0_t1.sl.v377, trip_k0_t1.sl.v176, trip_k0_t1.sl.v271, trip_k0_t1.sl.v518, trip_k0_t1.sl.r_15, trip_k0_t1.sl.v248, trip_k0_t1.sl.v472, trip_k0_t1.sl.r_6, trip_k0_t1.sl.v323, trip_k0_t1.sl.v383, trip_k0_t1.sl.v294, trip_k0_t1.sl.v136, trip_k0_t1.sl.v130, trip_k0_t1.sl.v159, trip_k0_t1.sl.v170, trip_k0_t1.sl.v400, trip_k0_t1.sl.r_20, trip_k0_t1.sl.v512, trip_k0_t1.sl.r, trip_k0_t1.sl.v124, trip_k0_t1.sl.r_26, trip_k0_t1.sl.r_19, trip_k0_t1.sl.r_4, trip_k0_t1.sl.v354, trip_k0_t1.sl.v331, trip_k0_t1.sl.r_22, trip_k0_t1.sl.r_5, trip_k0_t1.sl.v242, trip_k0_t1.sl.r_14, trip_k0_t1.sl.v360, trip_k0_t1.sl.r_24, trip_k0_t1.sl.r_21, trip_k0_t1.sl.v435, trip_k0_t1.sl.r_9, trip_k0_t1.sl.v153, trip_k0_t1.sl.v433, trip_k0_t1.sl.v489, trip_k0_t1.sl.v225, trip_k0_t1.sl.v406, trip_k0_t1.sl.r_27, trip_k0_t1.sl.r_18, trip_k0_t1.sl.v466, trip_k0_t1.sl.r_25, trip_k0_t1.sl.v288, trip_k0_t1.sl.r_10, trip_k0_t1.sl.r_3, trip_k0_t1.sl.r_12, trip_k0_t1.sl.r_2, trip_k0_t1.sl.r_7, trip_k0_t1.sl.v265, trip_k0_t1.sl.v219]
    refine List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, fun _ h => absurd h List.not_mem_nil⟩⟩⟩⟩⟩⟩⟩⟩⟩⟩⟩⟩⟩⟩⟩⟩
    refine piece_as (size := ![8, 512]) (inb := k0_off8_inb k 3) (k0_off8_eq k ⟨3, by decide⟩) _ _ fun x => ?_
    refine Eq.trans ?_ (stepsIm_in _ _ _ _ _ _ _ 3 hk (x 0).isLt).symm
    rotate_left
    refine piece_as (size := ![8, 512]) (inb := k0_off8_inb k 2) (k0_off8_eq k ⟨2, by decide⟩) _ _ fun x => ?_
    refine Eq.trans ?_ (stepsIm_in _ _ _ _ _ _ _ 2 hk (x 0).isLt).symm
    rotate_left
    refine piece_as (size := ![8, 512]) (inb := k0_off8_inb k 1) (k0_off8_eq k ⟨1, by decide⟩) _ _ fun x => ?_
    refine Eq.trans ?_ (stepsIm_in _ _ _ _ _ _ _ 1 hk (x 0).isLt).symm
    rotate_left
    refine piece_as (size := ![8, 512]) (inb := k0_off8_inb k 0) (k0_off8_eq k ⟨0, by decide⟩) _ _ fun x => ?_
    refine Eq.trans ?_ (stepsIm_in _ _ _ _ _ _ _ 0 hk (x 0).isLt).symm
    rotate_left
    refine piece_as (size := ![8, 512]) (inb := k0_off6_inb k 3) (k0_off6_eq k ⟨3, by decide⟩) _ _ fun x => ?_
    refine Eq.trans ?_ (stepsIm_in _ _ _ _ _ _ _ 3 hk (x 0).isLt).symm
    rotate_left
    refine piece_as (size := ![8, 512]) (inb := k0_off6_inb k 2) (k0_off6_eq k ⟨2, by decide⟩) _ _ fun x => ?_
    refine Eq.trans ?_ (stepsIm_in _ _ _ _ _ _ _ 2 hk (x 0).isLt).symm
    rotate_left
    refine piece_as (size := ![8, 512]) (inb := k0_off6_inb k 1) (k0_off6_eq k ⟨1, by decide⟩) _ _ fun x => ?_
    refine Eq.trans ?_ (stepsIm_in _ _ _ _ _ _ _ 1 hk (x 0).isLt).symm
    rotate_left
    refine piece_as (size := ![8, 512]) (inb := k0_off6_inb k 0) (k0_off6_eq k ⟨0, by decide⟩) _ _ fun x => ?_
    refine Eq.trans ?_ (stepsIm_in _ _ _ _ _ _ _ 0 hk (x 0).isLt).symm
    rotate_left
    refine piece_as (size := ![8, 512]) (inb := k0_off4_inb k 3) (k0_off4_eq k ⟨3, by decide⟩) _ _ fun x => ?_
    refine Eq.trans ?_ (stepsIm_in _ _ _ _ _ _ _ 3 hk (x 0).isLt).symm
    rotate_left
    refine piece_as (size := ![8, 512]) (inb := k0_off4_inb k 2) (k0_off4_eq k ⟨2, by decide⟩) _ _ fun x => ?_
    refine Eq.trans ?_ (stepsIm_in _ _ _ _ _ _ _ 2 hk (x 0).isLt).symm
    rotate_left
    refine piece_as (size := ![8, 512]) (inb := k0_off4_inb k 1) (k0_off4_eq k ⟨1, by decide⟩) _ _ fun x => ?_
    refine Eq.trans ?_ (stepsIm_in _ _ _ _ _ _ _ 1 hk (x 0).isLt).symm
    rotate_left
    refine piece_as (size := ![8, 512]) (inb := k0_off4_inb k 0) (k0_off4_eq k ⟨0, by decide⟩) _ _ fun x => ?_
    refine Eq.trans ?_ (stepsIm_in _ _ _ _ _ _ _ 0 hk (x 0).isLt).symm
    rotate_left
    refine piece_as (size := ![8, 512]) (inb := k0_off2_inb k 3) (k0_off2_eq k ⟨3, by decide⟩) _ _ fun x => ?_
    refine Eq.trans ?_ (stepsIm_in _ _ _ _ _ _ _ 3 hk (x 0).isLt).symm
    rotate_left
    refine piece_as (size := ![8, 512]) (inb := k0_off2_inb k 2) (k0_off2_eq k ⟨2, by decide⟩) _ _ fun x => ?_
    refine Eq.trans ?_ (stepsIm_in _ _ _ _ _ _ _ 2 hk (x 0).isLt).symm
    rotate_left
    refine piece_as (size := ![8, 512]) (inb := k0_off2_inb k 1) (k0_off2_eq k ⟨1, by decide⟩) _ _ fun x => ?_
    refine Eq.trans ?_ (stepsIm_in _ _ _ _ _ _ _ 1 hk (x 0).isLt).symm
    rotate_left
    refine piece_as (size := ![8, 512]) (inb := k0_off2_inb k 0) (k0_off2_eq k ⟨0, by decide⟩) _ _ fun x => ?_
    refine Eq.trans ?_ (stepsIm_in _ _ _ _ _ _ _ 0 hk (x 0).isLt).symm
    rotate_left
    all_goals
      change S8x512.Idx at x
      simp only [orb, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay92, k0_pay93, k0_pay94, k0_pay95, shapeCast_self, at_addf, at_subf, at_mulf, at_bcast, rd_b, rd_1, rd_3, rd_5, rd_7, rd_2_0, rd_2_1, rd_2_2, rd_2_3, rd_4_0, rd_4_1, rd_4_2, rd_4_3, rd_6_0, rd_6_1, rd_6_2, rd_6_3, rd_8_0, rd_8_1, rd_8_2, rd_8_3, Nat.reduceMul, Nat.reduceAdd]
  · intro h
    show _ = stepsIm _ _ _ _ _ _ _ _ _
    rw [stepsIm]
    by_cases hy : (y 0).val % 128 / 8 = k.val
    · exfalso
      unfold trip_k0_t1 at h
      dsimp only at h
      have h0 : (y 0).val < 512 := (y 0).isLt
      have h1 : (y 1).val < 2048 := (y 1).isLt
      simp only [List.forall_mem_cons] at h
      obtain ⟨g0, g1, g2, g3, g4, g5, g6, g7, g8, g9, g10, g11, g12, g13, g14, g15, -⟩ := h
      have g0 := not_mem_unit (r := 128 * 3 + 8 * k.val) (inb := k0_off8_inb k 3) (k0_off8_eq k ⟨3, by decide⟩) g0
      have g1 := not_mem_unit (r := 128 * 2 + 8 * k.val) (inb := k0_off8_inb k 2) (k0_off8_eq k ⟨2, by decide⟩) g1
      have g2 := not_mem_unit (r := 128 * 1 + 8 * k.val) (inb := k0_off8_inb k 1) (k0_off8_eq k ⟨1, by decide⟩) g2
      have g3 := not_mem_unit (r := 128 * 0 + 8 * k.val) (inb := k0_off8_inb k 0) (k0_off8_eq k ⟨0, by decide⟩) g3
      have g4 := not_mem_unit (r := 128 * 3 + 8 * k.val) (inb := k0_off6_inb k 3) (k0_off6_eq k ⟨3, by decide⟩) g4
      have g5 := not_mem_unit (r := 128 * 2 + 8 * k.val) (inb := k0_off6_inb k 2) (k0_off6_eq k ⟨2, by decide⟩) g5
      have g6 := not_mem_unit (r := 128 * 1 + 8 * k.val) (inb := k0_off6_inb k 1) (k0_off6_eq k ⟨1, by decide⟩) g6
      have g7 := not_mem_unit (r := 128 * 0 + 8 * k.val) (inb := k0_off6_inb k 0) (k0_off6_eq k ⟨0, by decide⟩) g7
      have g8 := not_mem_unit (r := 128 * 3 + 8 * k.val) (inb := k0_off4_inb k 3) (k0_off4_eq k ⟨3, by decide⟩) g8
      have g9 := not_mem_unit (r := 128 * 2 + 8 * k.val) (inb := k0_off4_inb k 2) (k0_off4_eq k ⟨2, by decide⟩) g9
      have g10 := not_mem_unit (r := 128 * 1 + 8 * k.val) (inb := k0_off4_inb k 1) (k0_off4_eq k ⟨1, by decide⟩) g10
      have g11 := not_mem_unit (r := 128 * 0 + 8 * k.val) (inb := k0_off4_inb k 0) (k0_off4_eq k ⟨0, by decide⟩) g11
      have g12 := not_mem_unit (r := 128 * 3 + 8 * k.val) (inb := k0_off2_inb k 3) (k0_off2_eq k ⟨3, by decide⟩) g12
      have g13 := not_mem_unit (r := 128 * 2 + 8 * k.val) (inb := k0_off2_inb k 2) (k0_off2_eq k ⟨2, by decide⟩) g13
      have g14 := not_mem_unit (r := 128 * 1 + 8 * k.val) (inb := k0_off2_inb k 1) (k0_off2_eq k ⟨1, by decide⟩) g14
      have g15 := not_mem_unit (r := 128 * 0 + 8 * k.val) (inb := k0_off2_inb k 0) (k0_off2_eq k ⟨0, by decide⟩) g15
      have hj : (y 1).val / 512 = 0 ∨ (y 1).val / 512 = 1 ∨ (y 1).val / 512 = 2 ∨ (y 1).val / 512 = 3 := by omega
      have ht : (y 0).val / 128 = 0 ∨ (y 0).val / 128 = 1 ∨ (y 0).val / 128 = 2 ∨ (y 0).val / 128 = 3 := by omega
      rcases hj with hj | hj | hj | hj <;> rcases ht with ht | ht | ht | ht
      · exact g15 ⟨⟨by omega, by omega⟩, by omega, by omega⟩
      · exact g14 ⟨⟨by omega, by omega⟩, by omega, by omega⟩
      · exact g13 ⟨⟨by omega, by omega⟩, by omega, by omega⟩
      · exact g12 ⟨⟨by omega, by omega⟩, by omega, by omega⟩
      · exact g11 ⟨⟨by omega, by omega⟩, by omega, by omega⟩
      · exact g10 ⟨⟨by omega, by omega⟩, by omega, by omega⟩
      · exact g9 ⟨⟨by omega, by omega⟩, by omega, by omega⟩
      · exact g8 ⟨⟨by omega, by omega⟩, by omega, by omega⟩
      · exact g7 ⟨⟨by omega, by omega⟩, by omega, by omega⟩
      · exact g6 ⟨⟨by omega, by omega⟩, by omega, by omega⟩
      · exact g5 ⟨⟨by omega, by omega⟩, by omega, by omega⟩
      · exact g4 ⟨⟨by omega, by omega⟩, by omega, by omega⟩
      · exact g3 ⟨⟨by omega, by omega⟩, by omega, by omega⟩
      · exact g2 ⟨⟨by omega, by omega⟩, by omega, by omega⟩
      · exact g1 ⟨⟨by omega, by omega⟩, by omega, by omega⟩
      · exact g0 ⟨⟨by omega, by omega⟩, by omega, by omega⟩
    · rw [if_neg hy]
      exact cell_idx _ y

end Cert.KernelIdeal.Gen
-- ==== Proof.ScanLoop.lean ====
/-
  THE WHOLE LOOP. After all sixteen trips the scratch arrays hold, at row `128 t + b`, batch row `b`'s state after step `t`, and
  the state arrays the state after the last step: a trip touches its own eight batch rows only, so what a later trip finds of
  its rows is what the loop began with.
-/
module

public import proofs.«01_k».proof.Proof.ScanTrip

@[expose] public section

set_option maxRecDepth 16384

noncomputable section

namespace Cert.KernelIdeal.Gen

open Idealize.ShloMosaic Idealize.ShloMosaic.TcCoe Idealize.ShloMosaic.Tactic
open Cert.Cells

/-- The state array's real part after the trips before `k`, -/
def doneRe (AR AI : S1x2048.Idx → EReal) (A B : S512x2048.Idx → EReal) (P Q : S128x2048.Idx → EReal) (k r c : ℕ) : EReal := if r / 8 < k then (orb AR AI A B P Q r c 4).1 else cell P r c
/-- its imaginary part, -/
def doneIm (AR AI : S1x2048.Idx → EReal) (A B : S512x2048.Idx → EReal) (P Q : S128x2048.Idx → EReal) (k r c : ℕ) : EReal := if r / 8 < k then (orb AR AI A B P Q r c 4).2 else cell Q r c
/-- the steps' array, real part, -/
def wroteRe (AR AI : S1x2048.Idx → EReal) (A B : S512x2048.Idx → EReal) (P Q : S128x2048.Idx → EReal) (k r c : ℕ) : EReal :=
  if r % 128 / 8 < k then (orb AR AI A B P Q (r % 128) c (r / 128 + 1)).1 else cell A r c
/-- and imaginary part. -/
def wroteIm (AR AI : S1x2048.Idx → EReal) (A B : S512x2048.Idx → EReal) (P Q : S128x2048.Idx → EReal) (k r c : ℕ) : EReal :=
  if r % 128 / 8 < k then (orb AR AI A B P Q (r % 128) c (r / 128 + 1)).2 else cell B r c

/-- The steps of a row depend on the row's state and on its inputs only. -/
theorem orb_congr (AR AI : S1x2048.Idx → EReal) (A B : S512x2048.Idx → EReal) (P Q : S128x2048.Idx → EReal) (A' B' : S512x2048.Idx → EReal) (P' Q' : S128x2048.Idx → EReal) (r c : ℕ)
    (hP : cell P' r c = cell P r c) (hQ : cell Q' r c = cell Q r c)
    (hA : ∀ t < 4, cell A' (128 * t + r) c = cell A (128 * t + r) c) (hB : ∀ t < 4, cell B' (128 * t + r) c = cell B (128 * t + r) c) :
    ∀ t ≤ 4, orb AR AI A' B' P' Q' r c t = orb AR AI A B P Q r c t
  | 0, _ => by simp only [orb, hP, hQ]
  | t + 1, ht => by simp only [orb, orb_congr AR AI A B P Q A' B' P' Q' r c hP hQ hA hB t (by omega), hA t (by omega), hB t (by omega)]

section
variable {AR AI : S1x2048.Idx → EReal} {A B : S512x2048.Idx → EReal} {P Q : S128x2048.Idx → EReal} {A' B' : S512x2048.Idx → EReal} {P' Q' : S128x2048.Idx → EReal} {k : ℕ}
  (hA : ∀ y, A' y = wroteRe AR AI A B P Q k (y 0).val (y 1).val) (hB : ∀ y, B' y = wroteIm AR AI A B P Q k (y 0).val (y 1).val)
  (hP : ∀ y, P' y = doneRe AR AI A B P Q k (y 0).val (y 1).val) (hQ : ∀ y, Q' y = doneIm AR AI A B P Q k (y 0).val (y 1).val)
include hA hB hP hQ

/-- Trip `k` takes its own rows from what the loop began with. -/
theorem orb_fresh {r c : ℕ} (hr : r < 128) (hc : c < 2048) (hk : r / 8 = k) :
    ∀ t ≤ 4, orb AR AI A' B' P' Q' r c t = orb AR AI A B P Q r c t := by
  refine orb_congr AR AI A B P Q A' B' P' Q' r c ?_ ?_ (fun t ht => ?_) (fun t ht => ?_)
  · exact (cell_eq P' _ hP hr hc).trans (if_neg (by omega))
  · exact (cell_eq Q' _ hQ hr hc).trans (if_neg (by omega))
  · exact (cell_eq A' _ hA (by omega) hc).trans (if_neg (by omega))
  · exact (cell_eq B' _ hB (by omega) hc).trans (if_neg (by omega))

theorem doneRe_succ (r c : ℕ) (hr : r < 128) (hc : c < 2048) : stateRe AR AI A' B' P' Q' k r c = doneRe AR AI A B P Q (k + 1) r c := by
  unfold stateRe doneRe
  by_cases h : r / 8 = k
  · rw [if_pos h, if_pos (by omega), orb_fresh hA hB hP hQ hr hc h 4 le_rfl]
  · rw [if_neg h, cell_eq P' _ hP hr hc]
    exact if_congr (by omega) rfl rfl
theorem doneIm_succ (r c : ℕ) (hr : r < 128) (hc : c < 2048) : stateIm AR AI A' B' P' Q' k r c = doneIm AR AI A B P Q (k + 1) r c := by
  unfold stateIm doneIm
  by_cases h : r / 8 = k
  · rw [if_pos h, if_pos (by omega), orb_fresh hA hB hP hQ hr hc h 4 le_rfl]
  · rw [if_neg h, cell_eq Q' _ hQ hr hc]
    exact if_congr (by omega) rfl rfl
theorem wroteRe_succ (r c : ℕ) (hr : r < 512) (hc : c < 2048) : stepsRe AR AI A' B' P' Q' k r c = wroteRe AR AI A B P Q (k + 1) r c := by
  unfold stepsRe wroteRe
  by_cases h : r % 128 / 8 = k
  · rw [if_pos h, if_pos (by omega), orb_fresh hA hB hP hQ (by omega) hc h (r / 128 + 1) (by omega)]
  · rw [if_neg h, cell_eq A' _ hA hr hc]
    exact if_congr (by omega) rfl rfl
theorem wroteIm_succ (r c : ℕ) (hr : r < 512) (hc : c < 2048) : stepsIm AR AI A' B' P' Q' k r c = wroteIm AR AI A B P Q (k + 1) r c := by
  unfold stepsIm wroteIm
  by_cases h : r % 128 / 8 = k
  · rw [if_pos h, if_pos (by omega), orb_fresh hA hB hP hQ (by omega) hc h (r / 128 + 1) (by omega)]
  · rw [if_neg h, cell_eq B' _ hB hr hc]
    exact if_congr (by omega) rfl rfl
end

/-- The scratch arrays after the trips before `k`. -/
theorem loop_reads (𝒱 : Variants) (c : Dev nD) (bd : Option 𝒱.V) (i : grid0.Coords) (arg1 : Memref sig .tc .vmem S4x128x512 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S2x256x1024 .bf16) (harg6 : arg6.IsWhole) (arg7 : Memref sig .tc .vmem S2x256x1024 .bf16) (harg7 : arg7.IsWhole) (arg8 : Memref sig .tc .vmem S2x1024x256 .bf16) (harg8 : arg8.IsWhole) (arg9 : Memref sig .tc .vmem S2x1024x256 .bf16) (harg9 : arg9.IsWhole) (arg10 : Memref sig .tc .vmem S1x512 .f32) (harg10 : arg10.IsWhole) (arg11 : Memref sig .tc .vmem S512x512 .bf16) (harg11 : arg11.IsWhole) (arg12 : Memref sig .tc .vmem S4x128x512 .f32) (harg12 : arg12.IsWhole) (arg13 : Memref sig .tc .vmem S128x2048 .f32) (harg13 : arg13.IsWhole) (arg14 : Memref sig .tc .vmem S128x2048 .f32) (harg14 : arg14.IsWhole) (arg15 : Memref sig .tc .vmem S512x2048 .f32) (harg15 : arg15.IsWhole) (arg16 : Memref sig .tc .vmem S512x2048 .f32) (harg16 : arg16.IsWhole) (arg17 : Memref sig .tc .vmem S128x2048 .f32) (harg17 : arg17.IsWhole) (arg18 : Memref sig .tc .vmem S128x2048 .f32) (harg18 : arg18.IsWhole) (v20 : FVec Ideal S512x256 .bf16) (v28 : FVec Ideal S256x1024 .bf16) (X_arg4 : BufTy.Contents (Elt Ideal) arg4.view.ty) (X_arg5 : BufTy.Contents (Elt Ideal) arg5.view.ty)
    (G15 : BufTy.Contents (Elt Ideal) arg15.view.ty) (G16 : BufTy.Contents (Elt Ideal) arg16.view.ty) (G17 : BufTy.Contents (Elt Ideal) arg17.view.ty) (G18 : BufTy.Contents (Elt Ideal) arg18.view.ty) : ∀ k ≤ k0_t1_loop.trips,
      (∀ y, arg15.view.read (Elt Ideal) (arg15.view.writes (Elt Ideal) G15 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v20 v28 X_arg4 X_arg5 G15 G16 G17 G18 k).1) y = wroteRe (arg4.view.read (Elt Ideal) X_arg4) (arg5.view.read (Elt Ideal) X_arg5) (arg15.view.read (Elt Ideal) G15) (arg16.view.read (Elt Ideal) G16) (arg17.view.read (Elt Ideal) G17) (arg18.view.read (Elt Ideal) G18) k (y 0).val (y 1).val)
      ∧ (∀ y, arg16.view.read (Elt Ideal) (arg16.view.writes (Elt Ideal) G16 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v20 v28 X_arg4 X_arg5 G15 G16 G17 G18 k).2.1) y = wroteIm (arg4.view.read (Elt Ideal) X_arg4) (arg5.view.read (Elt Ideal) X_arg5) (arg15.view.read (Elt Ideal) G15) (arg16.view.read (Elt Ideal) G16) (arg17.view.read (Elt Ideal) G17) (arg18.view.read (Elt Ideal) G18) k (y 0).val (y 1).val)
      ∧ (∀ y, arg17.view.read (Elt Ideal) (arg17.view.writes (Elt Ideal) G17 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v20 v28 X_arg4 X_arg5 G15 G16 G17 G18 k).2.2.1) y = doneRe (arg4.view.read (Elt Ideal) X_arg4) (arg5.view.read (Elt Ideal) X_arg5) (arg15.view.read (Elt Ideal) G15) (arg16.view.read (Elt Ideal) G16) (arg17.view.read (Elt Ideal) G17) (arg18.view.read (Elt Ideal) G18) k (y 0).val (y 1).val)
      ∧ (∀ y, arg18.view.read (Elt Ideal) (arg18.view.writes (Elt Ideal) G18 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v20 v28 X_arg4 X_arg5 G15 G16 G17 G18 k).2.2.2) y = doneIm (arg4.view.read (Elt Ideal) X_arg4) (arg5.view.read (Elt Ideal) X_arg5) (arg15.view.read (Elt Ideal) G15) (arg16.view.read (Elt Ideal) G16) (arg17.view.read (Elt Ideal) G17) (arg18.view.read (Elt Ideal) G18) k (y 0).val (y 1).val) := by
  intro k
  induction k with
  | zero =>
    intro _
    refine ⟨fun y => ?_, fun y => ?_, fun y => ?_, fun y => ?_⟩
    · exact (cell_idx _ y).trans (if_neg (Nat.not_lt_zero _)).symm
    · exact (cell_idx _ y).trans (if_neg (Nat.not_lt_zero _)).symm
    · exact (cell_idx _ y).trans (if_neg (Nat.not_lt_zero _)).symm
    · exact (cell_idx _ y).trans (if_neg (Nat.not_lt_zero _)).symm
  | succ k ih =>
    intro hk
    obtain ⟨hA, hB, hP, hQ⟩ := ih (by omega)
    have e := pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v20 v28 X_arg4 X_arg5 G15 G16 G17 G18 ⟨k, by omega⟩
    rw [e]
    dsimp only
    simp only [View.writes_append]
    refine ⟨fun y => ?_, fun y => ?_, fun y => ?_, fun y => ?_⟩
    · exact (trip15 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v20 v28 X_arg4 X_arg5 ⟨k, by omega⟩ _ _ _ _ y).trans (wroteRe_succ hA hB hP hQ _ _ (y 0).isLt (y 1).isLt)
    · exact (trip16 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v20 v28 X_arg4 X_arg5 ⟨k, by omega⟩ _ _ _ _ y).trans (wroteIm_succ hA hB hP hQ _ _ (y 0).isLt (y 1).isLt)
    · exact (trip17 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v20 v28 X_arg4 X_arg5 ⟨k, by omega⟩ _ _ _ _ y).trans (doneRe_succ hA hB hP hQ _ _ (y 0).isLt (y 1).isLt)
    · exact (trip18 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v20 v28 X_arg4 X_arg5 ⟨k, by omega⟩ _ _ _ _ y).trans (doneIm_succ hA hB hP hQ _ _ (y 0).isLt (y 1).isLt)

end Cert.KernelIdeal.Gen
-- ==== Proof.ScanBlock.lean ====
/-
  WHAT THE SCAN'S KERNEL LEAVES. The two input products are written in halves of the lanes, the loop runs over eight batch rows
  a trip, and the states it leaves are those of the recurrence; the outputs are read off the steps' array.
-/
module

public import proofs.«01_k».proof.Proof.ScanLoop
public import proofs.«01_k».proof.Proof.Rows

@[expose] public section

set_option maxRecDepth 16384

noncomputable section

namespace Cert.KernelIdeal.Gen

open Idealize.ShloMosaic Idealize.ShloMosaic.TcCoe Idealize.ShloMosaic.Tactic
open Cert.Cells Cert.Rows
open scoped BigOperators

/-- A load of one half of a stack of two matrices, as a matrix. -/
theorem half_at {p q : ℕ} (X : Vec Ideal ⟨3, ![2, p, q]⟩ .bf16) (hf : ℕ) (inb) (hc) (k : Fin p) (j : Fin q) :
    mat (φ := .bf16) (shapeCast (⟨2, ![p, q]⟩ : Shape) (View.ld (Val := Elt Ideal) X (Rect.unit (s := ⟨3, ![2, p, q]⟩) ![hf, 0, 0] ![1, p, q] inb)) hc : FVec Ideal ⟨2, ![p, q]⟩ .bf16) k j
      = cell3 X hf k.val j.val := by
  refine (shapeCast_flat (B := 1) (T := p) (N := q) _ hc (ValueIdx.ix2 k j) 0 k j (by show k.val = 0 * p + k.val; omega) rfl).trans ?_
  refine (cell3_idx X _).trans ?_
  congr 1
  · show 0 + 1 * k.val = k.val; omega
  · show 0 + 1 * j.val = j.val; omega

/-- The input of lane `l` at row `r = 128 t + b`: the half's 256 features times the half's column of the input matrix. -/
def inp (x0 : S4x128x512.Idx → EReal) (w : S2x256x1024.Idx → EReal) (r l : ℕ) : EReal :=
  ∑ k : Fin 256, cell3 x0 (r / 128) (r % 128) (256 * (l / 1024) + k.val) * cell3 w (l / 1024) k.val (l % 1024)
/-- The inputs of all rows and lanes. -/
def inps (x0 : S4x128x512.Idx → EReal) (w : S2x256x1024.Idx → EReal) : S512x2048.Idx → EReal := fun y => inp x0 w (y 0).val (y 1).val

theorem flat_at (x0 : Vec Ideal S4x128x512 .f32) (r : Fin 512) (j : Fin 512) :
    row (k0_pay83 (F := Ideal) x0) r j = cell3 x0 (r.val / 128) (r.val % 128) j.val := by
  unfold k0_pay83
  dsimp only
  rw [shapeCast_self]
  refine (shapeCast_flat x0 _ (ValueIdx.ix2 r j) ⟨r.val / 128, by omega⟩ ⟨r.val % 128, by omega⟩ j (by show r.val = r.val / 128 * 128 + r.val % 128; omega) rfl).trans ?_
  exact (cell3_of_lt x0 _ _ _).symm

theorem feat0 (x0 : Vec Ideal S4x128x512 .f32) (r : Fin 512) (k : Fin 256) :
    row (k0_pay85 (F := Ideal) x0) r k = cell3 x0 (r.val / 128) (r.val % 128) (256 * 0 + k.val) := by
  unfold k0_pay85 k0_pay84
  dsimp only
  refine (congrFun (row_slice (φ := .bf16) 0 _ slices_S512x512_o0_0_S512x256 r) k).trans ?_
  exact flat_at x0 r ⟨0 + k.val, by omega⟩

theorem feat1 (x0 : Vec Ideal S4x128x512 .f32) (r : Fin 512) (k : Fin 256) :
    row (k0_pay88 (F := Ideal) x0) r k = cell3 x0 (r.val / 128) (r.val % 128) (256 * 1 + k.val) := by
  unfold k0_pay88 k0_pay84
  dsimp only
  refine (congrFun (row_slice (φ := .bf16) 256 _ slices_S512x512_o0_256_S512x256 r) k).trans ?_
  exact flat_at x0 r ⟨256 + k.val, by omega⟩

/-- A half's product is the half's lanes of the inputs. -/
theorem inp_half (x0 : Vec Ideal S4x128x512 .f32) (w : Vec Ideal S2x256x1024 .bf16) (hf : ℕ) (a : FVec Ideal S512x256 .bf16) (b : FVec Ideal S256x1024 .bf16)
    (ha : ∀ r k, row a r k = cell3 x0 (r.val / 128) (r.val % 128) (256 * hf + k.val)) (hb : ∀ k j, mat b k j = cell3 w hf k.val j.val)
    (x : S512x1024.Idx) :
    matmul dot_S512x256_S256x1024_S512x1024_1_0_0_1_n_n none a b (constant (F := Ideal) S512x1024 .f32 0x00000000#32) x
      = inp x0 w (0 + (x 0).val) (1024 * hf + (x 1).val) := by
  refine (at_of_row _ x (x 0) (x 1) _ (row_matmul dot_S512x256_S256x1024_S512x1024_1_0_0_1_n_n rfl none a b (x 0)) rfl rfl).trans ?_
  unfold mv inp
  have h1 : (x 1).val < 1024 := (x 1).isLt
  rw [show (1024 * hf + (x 1).val) / 1024 = hf by omega, show (1024 * hf + (x 1).val) % 1024 = (x 1).val by omega, Nat.zero_add]
  exact Finset.sum_congr rfl fun k _ => congrArg₂ (· * ·) (ha _ _) (hb _ _)

section
variable (x0 : Vec Ideal S4x128x512 .f32) (w : Vec Ideal S2x256x1024 .bf16) (x : S512x1024.Idx)

theorem inp_re0 (inb) : k0_pay86 (F := Ideal) x0 (View.ld (Val := Elt Ideal) w (Rect.unit (s := S2x256x1024) ![0, 0, 0] ![1, 256, 1024] inb)) x = inp x0 w (0 + (x 0).val) (0 + (x 1).val) := by
  unfold k0_pay86; dsimp only; rw [shapeCast_self]
  exact inp_half x0 w 0 _ _ (feat0 x0) (half_at w 0 inb _) x
theorem inp_im0 (inb) : k0_pay87 (F := Ideal) x0 (View.ld (Val := Elt Ideal) w (Rect.unit (s := S2x256x1024) ![0, 0, 0] ![1, 256, 1024] inb)) x = inp x0 w (0 + (x 0).val) (0 + (x 1).val) := by
  unfold k0_pay87; dsimp only; rw [shapeCast_self]
  exact inp_half x0 w 0 _ _ (feat0 x0) (half_at w 0 inb _) x
theorem inp_re1 (inb) : k0_pay89 (F := Ideal) x0 (View.ld (Val := Elt Ideal) w (Rect.unit (s := S2x256x1024) ![1, 0, 0] ![1, 256, 1024] inb)) x = inp x0 w (0 + (x 0).val) (1024 + (x 1).val) := by
  unfold k0_pay89; dsimp only; rw [shapeCast_self]
  exact inp_half x0 w 1 _ _ (feat1 x0) (half_at w 1 inb _) x
theorem inp_im1 (inb) : k0_pay91 (F := Ideal) (k0_pay88 x0) (k0_pay90 (View.ld (Val := Elt Ideal) w (Rect.unit (s := S2x256x1024) ![1, 0, 0] ![1, 256, 1024] inb))) x = inp x0 w (0 + (x 0).val) (1024 + (x 1).val) := by
  unfold k0_pay91 k0_pay90; dsimp only; rw [shapeCast_self]
  exact inp_half x0 w 1 _ _ (feat1 x0) (half_at w 1 inb _) x
end

/-- A load of the whole array. -/
theorem ld_all {p q : ℕ} {e : EltTy} (X : Vec Ideal ⟨2, ![p, q]⟩ e) (inb) :
    View.ld (Val := Elt Ideal) X (Rect.unit (s := ⟨2, ![p, q]⟩) ![0, 0] ![p, q] inb) = X :=
  funext fun x => congrArg X (funext fun a => Fin.ext (by
    match a with
    | ⟨0, _⟩ => exact (Nat.zero_add _).trans (Nat.one_mul _)
    | ⟨1, _⟩ => exact (Nat.zero_add _).trans (Nat.one_mul _)))
theorem ld_all3 {p q r : ℕ} {e : EltTy} (X : Vec Ideal ⟨3, ![p, q, r]⟩ e) (inb) :
    View.ld (Val := Elt Ideal) X (Rect.unit (s := ⟨3, ![p, q, r]⟩) ![0, 0, 0] ![p, q, r] inb) = X :=
  funext fun x => congrArg X (funext fun a => Fin.ext (by
    match a with
    | ⟨0, _⟩ => exact (Nat.zero_add _).trans (Nat.one_mul _)
    | ⟨1, _⟩ => exact (Nat.zero_add _).trans (Nat.one_mul _)
    | ⟨2, _⟩ => exact (Nat.zero_add _).trans (Nat.one_mul _)))

/-- Two pieces which hold the two halves of the lanes: what is read is the inputs. -/
theorem read_halves {sg : RefSig} {κ : Kind} {sp : Space} (v : View sg κ sp S512x2048 .f32) (f : v.ty.Contents (Elt Ideal)) (G : ℕ → ℕ → EReal) (inb1 inb0)
    (hi lo : S512x1024.Idx → EReal) (h1 : ∀ x, hi x = G (0 + (x 0).val) (1024 + (x 1).val)) (h0 : ∀ x, lo x = G (0 + (x 0).val) (0 + (x 1).val)) :
    v.read (Elt Ideal) (v.writes (Elt Ideal) f [⟨Rect.unit (s := ⟨2, ![512, 2048]⟩) ![0, 1024] ![512, 1024] inb1, hi⟩, ⟨Rect.unit (s := ⟨2, ![512, 2048]⟩) ![0, 0] ![512, 1024] inb0, lo⟩])
      = fun y => G (y 0).val (y 1).val := by
  funext y
  refine read_writes_as v f (fun y : S512x2048.Idx => G (y 0).val (y 1).val) y _ (fun p hp => ?_) fun hn => ?_
  · rcases List.mem_cons.mp hp with e | hp
    · subst e; exact piece_as (m := 512) (n := 2048) (inb := inb1) rfl G hi h1
    · obtain rfl := List.mem_singleton.mp hp
      exact piece_as (m := 512) (n := 2048) (inb := inb0) rfl G lo h0
  · have n1 := hn _ List.mem_cons_self
    have n0 := hn _ (List.mem_cons_of_mem _ List.mem_cons_self)
    have a := not_mem_unit (m := 512) (n := 2048) (p := 512) (q := 1024) (r := 0) (c := 1024) (inb := inb1) rfl n1
    have b := not_mem_unit (m := 512) (n := 2048) (p := 512) (q := 1024) (r := 0) (c := 0) (inb := inb0) rfl n0
    have h0 : (y 0).val < 512 := (y 0).isLt
    have h1 : (y 1).val < 2048 := (y 1).isLt
    omega

/-- One piece over the whole array. -/
theorem read_whole {sg : RefSig} {κ : Kind} {sp : Space} (v : View sg κ sp S128x2048 .f32) (f : v.ty.Contents (Elt Ideal)) (inb) (w : S128x2048.Idx → EReal) :
    v.read (Elt Ideal) (v.writes (Elt Ideal) f [⟨Rect.unit (s := ⟨2, ![128, 2048]⟩) ![0, 0] ![128, 2048] inb, w⟩]) = w := by
  funext y
  have e : ∀ x : (Rect.unit (s := ⟨2, ![128, 2048]⟩) ![0, 0] ![128, 2048] inb).shape.Idx, (Rect.unit (s := ⟨2, ![128, 2048]⟩) ![0, 0] ![128, 2048] inb).emb x = x :=
    fun x => funext fun a => Fin.ext (by
      match a with
      | ⟨0, _⟩ => exact (Nat.zero_add _).trans (Nat.one_mul _)
      | ⟨1, _⟩ => exact (Nat.zero_add _).trans (Nat.one_mul _))
  refine read_writes_as v f w y _ (fun p hp x => ?_) fun hn => ?_
  · obtain rfl := List.mem_singleton.mp hp
    exact congrArg w (e x).symm
  · have n1 := hn _ List.mem_cons_self
    have a := not_mem_unit (m := 128) (n := 2048) (p := 128) (q := 2048) (r := 0) (c := 0) (inb := inb) rfl n1
    have h0 : (y 0).val < 128 := (y 0).isLt
    have h1 : (y 1).val < 2048 := (y 1).isLt
    omega

/-- What is loaded after the loop: the steps' array, real part, -/
theorem loop15 (𝒱 : Variants) (c : Dev nD) (bd : Option 𝒱.V) (i : grid0.Coords) (arg1 : Memref sig .tc .vmem S4x128x512 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S2x256x1024 .bf16) (harg6 : arg6.IsWhole) (arg7 : Memref sig .tc .vmem S2x256x1024 .bf16) (harg7 : arg7.IsWhole) (arg8 : Memref sig .tc .vmem S2x1024x256 .bf16) (harg8 : arg8.IsWhole) (arg9 : Memref sig .tc .vmem S2x1024x256 .bf16) (harg9 : arg9.IsWhole) (arg10 : Memref sig .tc .vmem S1x512 .f32) (harg10 : arg10.IsWhole) (arg11 : Memref sig .tc .vmem S512x512 .bf16) (harg11 : arg11.IsWhole) (arg12 : Memref sig .tc .vmem S4x128x512 .f32) (harg12 : arg12.IsWhole) (arg13 : Memref sig .tc .vmem S128x2048 .f32) (harg13 : arg13.IsWhole) (arg14 : Memref sig .tc .vmem S128x2048 .f32) (harg14 : arg14.IsWhole) (arg15 : Memref sig .tc .vmem S512x2048 .f32) (harg15 : arg15.IsWhole) (arg16 : Memref sig .tc .vmem S512x2048 .f32) (harg16 : arg16.IsWhole) (arg17 : Memref sig .tc .vmem S128x2048 .f32) (harg17 : arg17.IsWhole) (arg18 : Memref sig .tc .vmem S128x2048 .f32) (harg18 : arg18.IsWhole)  (v20 : FVec Ideal S512x256 .bf16) (v28 : FVec Ideal S256x1024 .bf16) (X4 : BufTy.Contents (Elt Ideal) arg4.view.ty) (X5 : BufTy.Contents (Elt Ideal) arg5.view.ty)
    (L15 : List (View.Piece (Elt Ideal) S512x2048 .f32)) (L16 : List (View.Piece (Elt Ideal) S512x2048 .f32)) (L17 : List (View.Piece (Elt Ideal) S128x2048 .f32)) (L18 : List (View.Piece (Elt Ideal) S128x2048 .f32))
    (AR AI : S1x2048.Idx → EReal) (A B : S512x2048.Idx → EReal) (P Q : S128x2048.Idx → EReal)
    (h4 : arg4.view.read (Elt Ideal) X4 = AR) (h5 : arg5.view.read (Elt Ideal) X5 = AI)
    (h15 : arg15.view.read (Elt Ideal) (arg15.view.writes (Elt Ideal) arg15.view.junk L15) = A) (h16 : arg16.view.read (Elt Ideal) (arg16.view.writes (Elt Ideal) arg16.view.junk L16) = B)
    (h17 : arg17.view.read (Elt Ideal) (arg17.view.writes (Elt Ideal) arg17.view.junk L17) = P) (h18 : arg18.view.read (Elt Ideal) (arg18.view.writes (Elt Ideal) arg18.view.junk L18) = Q)
    {off size : Fin 2 → ℕ} {inb : ∀ a, off a + size a ≤ (⟨2, ![512, 2048]⟩ : Shape).size a} (r q : ℕ) (ho : off = ![r, q]) (x : (Rect.unit (s := ⟨2, ![512, 2048]⟩) off size inb).toLoadRect.shape.Idx)
    (hr : r + (x 0).val < 512) (hq : q + (x 1).val < 2048) :
    arg15.view.readCov (Val := Elt Ideal) ((pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v20 v28 X4 X5 (arg15.view.writes (Elt Ideal) arg15.view.junk L15) (arg16.view.writes (Elt Ideal) arg16.view.junk L16) (arg17.view.writes (Elt Ideal) arg17.view.junk L17) (arg18.view.writes (Elt Ideal) arg18.view.junk L18) k0_t1_loop.trips).1 ++ L15) (Rect.unit (s := ⟨2, ![512, 2048]⟩) off size inb).toLoadRect x
      = (orb AR AI A B P Q ((r + (x 0).val) % 128) (q + (x 1).val) ((r + (x 0).val) / 128 + 1)).1 := by
  subst h4; subst h5; subst h15; subst h16; subst h17; subst h18
  unfold View.readCov
  refine (readAt_cell arg15.view _ ho x).trans ?_
  rw [View.writes_append]
  refine (cell_eq _ _ (loop_reads 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v20 v28 X4 X5 (arg15.view.writes (Elt Ideal) arg15.view.junk L15) (arg16.view.writes (Elt Ideal) arg16.view.junk L16) (arg17.view.writes (Elt Ideal) arg17.view.junk L17) (arg18.view.writes (Elt Ideal) arg18.view.junk L18) _ (Nat.le_refl _)).1 hr hq).trans (if_pos ?_)
  have ht : k0_t1_loop.trips = 16 := by decide
  omega
/-- its imaginary part, -/
theorem loop16 (𝒱 : Variants) (c : Dev nD) (bd : Option 𝒱.V) (i : grid0.Coords) (arg1 : Memref sig .tc .vmem S4x128x512 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S2x256x1024 .bf16) (harg6 : arg6.IsWhole) (arg7 : Memref sig .tc .vmem S2x256x1024 .bf16) (harg7 : arg7.IsWhole) (arg8 : Memref sig .tc .vmem S2x1024x256 .bf16) (harg8 : arg8.IsWhole) (arg9 : Memref sig .tc .vmem S2x1024x256 .bf16) (harg9 : arg9.IsWhole) (arg10 : Memref sig .tc .vmem S1x512 .f32) (harg10 : arg10.IsWhole) (arg11 : Memref sig .tc .vmem S512x512 .bf16) (harg11 : arg11.IsWhole) (arg12 : Memref sig .tc .vmem S4x128x512 .f32) (harg12 : arg12.IsWhole) (arg13 : Memref sig .tc .vmem S128x2048 .f32) (harg13 : arg13.IsWhole) (arg14 : Memref sig .tc .vmem S128x2048 .f32) (harg14 : arg14.IsWhole) (arg15 : Memref sig .tc .vmem S512x2048 .f32) (harg15 : arg15.IsWhole) (arg16 : Memref sig .tc .vmem S512x2048 .f32) (harg16 : arg16.IsWhole) (arg17 : Memref sig .tc .vmem S128x2048 .f32) (harg17 : arg17.IsWhole) (arg18 : Memref sig .tc .vmem S128x2048 .f32) (harg18 : arg18.IsWhole)  (v20 : FVec Ideal S512x256 .bf16) (v28 : FVec Ideal S256x1024 .bf16) (X4 : BufTy.Contents (Elt Ideal) arg4.view.ty) (X5 : BufTy.Contents (Elt Ideal) arg5.view.ty)
    (L15 : List (View.Piece (Elt Ideal) S512x2048 .f32)) (L16 : List (View.Piece (Elt Ideal) S512x2048 .f32)) (L17 : List (View.Piece (Elt Ideal) S128x2048 .f32)) (L18 : List (View.Piece (Elt Ideal) S128x2048 .f32))
    (AR AI : S1x2048.Idx → EReal) (A B : S512x2048.Idx → EReal) (P Q : S128x2048.Idx → EReal)
    (h4 : arg4.view.read (Elt Ideal) X4 = AR) (h5 : arg5.view.read (Elt Ideal) X5 = AI)
    (h15 : arg15.view.read (Elt Ideal) (arg15.view.writes (Elt Ideal) arg15.view.junk L15) = A) (h16 : arg16.view.read (Elt Ideal) (arg16.view.writes (Elt Ideal) arg16.view.junk L16) = B)
    (h17 : arg17.view.read (Elt Ideal) (arg17.view.writes (Elt Ideal) arg17.view.junk L17) = P) (h18 : arg18.view.read (Elt Ideal) (arg18.view.writes (Elt Ideal) arg18.view.junk L18) = Q)
    {off size : Fin 2 → ℕ} {inb : ∀ a, off a + size a ≤ (⟨2, ![512, 2048]⟩ : Shape).size a} (r q : ℕ) (ho : off = ![r, q]) (x : (Rect.unit (s := ⟨2, ![512, 2048]⟩) off size inb).toLoadRect.shape.Idx)
    (hr : r + (x 0).val < 512) (hq : q + (x 1).val < 2048) :
    arg16.view.readCov (Val := Elt Ideal) ((pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v20 v28 X4 X5 (arg15.view.writes (Elt Ideal) arg15.view.junk L15) (arg16.view.writes (Elt Ideal) arg16.view.junk L16) (arg17.view.writes (Elt Ideal) arg17.view.junk L17) (arg18.view.writes (Elt Ideal) arg18.view.junk L18) k0_t1_loop.trips).2.1 ++ L16) (Rect.unit (s := ⟨2, ![512, 2048]⟩) off size inb).toLoadRect x
      = (orb AR AI A B P Q ((r + (x 0).val) % 128) (q + (x 1).val) ((r + (x 0).val) / 128 + 1)).2 := by
  subst h4; subst h5; subst h15; subst h16; subst h17; subst h18
  unfold View.readCov
  refine (readAt_cell arg16.view _ ho x).trans ?_
  rw [View.writes_append]
  refine (cell_eq _ _ (loop_reads 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v20 v28 X4 X5 (arg15.view.writes (Elt Ideal) arg15.view.junk L15) (arg16.view.writes (Elt Ideal) arg16.view.junk L16) (arg17.view.writes (Elt Ideal) arg17.view.junk L17) (arg18.view.writes (Elt Ideal) arg18.view.junk L18) _ (Nat.le_refl _)).2.1 hr hq).trans (if_pos ?_)
  have ht : k0_t1_loop.trips = 16 := by decide
  omega
/-- the state array, real part, -/
theorem loop17 (𝒱 : Variants) (c : Dev nD) (bd : Option 𝒱.V) (i : grid0.Coords) (arg1 : Memref sig .tc .vmem S4x128x512 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S2x256x1024 .bf16) (harg6 : arg6.IsWhole) (arg7 : Memref sig .tc .vmem S2x256x1024 .bf16) (harg7 : arg7.IsWhole) (arg8 : Memref sig .tc .vmem S2x1024x256 .bf16) (harg8 : arg8.IsWhole) (arg9 : Memref sig .tc .vmem S2x1024x256 .bf16) (harg9 : arg9.IsWhole) (arg10 : Memref sig .tc .vmem S1x512 .f32) (harg10 : arg10.IsWhole) (arg11 : Memref sig .tc .vmem S512x512 .bf16) (harg11 : arg11.IsWhole) (arg12 : Memref sig .tc .vmem S4x128x512 .f32) (harg12 : arg12.IsWhole) (arg13 : Memref sig .tc .vmem S128x2048 .f32) (harg13 : arg13.IsWhole) (arg14 : Memref sig .tc .vmem S128x2048 .f32) (harg14 : arg14.IsWhole) (arg15 : Memref sig .tc .vmem S512x2048 .f32) (harg15 : arg15.IsWhole) (arg16 : Memref sig .tc .vmem S512x2048 .f32) (harg16 : arg16.IsWhole) (arg17 : Memref sig .tc .vmem S128x2048 .f32) (harg17 : arg17.IsWhole) (arg18 : Memref sig .tc .vmem S128x2048 .f32) (harg18 : arg18.IsWhole)  (v20 : FVec Ideal S512x256 .bf16) (v28 : FVec Ideal S256x1024 .bf16) (X4 : BufTy.Contents (Elt Ideal) arg4.view.ty) (X5 : BufTy.Contents (Elt Ideal) arg5.view.ty)
    (L15 : List (View.Piece (Elt Ideal) S512x2048 .f32)) (L16 : List (View.Piece (Elt Ideal) S512x2048 .f32)) (L17 : List (View.Piece (Elt Ideal) S128x2048 .f32)) (L18 : List (View.Piece (Elt Ideal) S128x2048 .f32))
    (AR AI : S1x2048.Idx → EReal) (A B : S512x2048.Idx → EReal) (P Q : S128x2048.Idx → EReal)
    (h4 : arg4.view.read (Elt Ideal) X4 = AR) (h5 : arg5.view.read (Elt Ideal) X5 = AI)
    (h15 : arg15.view.read (Elt Ideal) (arg15.view.writes (Elt Ideal) arg15.view.junk L15) = A) (h16 : arg16.view.read (Elt Ideal) (arg16.view.writes (Elt Ideal) arg16.view.junk L16) = B)
    (h17 : arg17.view.read (Elt Ideal) (arg17.view.writes (Elt Ideal) arg17.view.junk L17) = P) (h18 : arg18.view.read (Elt Ideal) (arg18.view.writes (Elt Ideal) arg18.view.junk L18) = Q)
    {off size : Fin 2 → ℕ} {inb : ∀ a, off a + size a ≤ (⟨2, ![128, 2048]⟩ : Shape).size a} (r q : ℕ) (ho : off = ![r, q]) (x : (Rect.unit (s := ⟨2, ![128, 2048]⟩) off size inb).toLoadRect.shape.Idx)
    (hr : r + (x 0).val < 128) (hq : q + (x 1).val < 2048) :
    arg17.view.readCov (Val := Elt Ideal) ((pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v20 v28 X4 X5 (arg15.view.writes (Elt Ideal) arg15.view.junk L15) (arg16.view.writes (Elt Ideal) arg16.view.junk L16) (arg17.view.writes (Elt Ideal) arg17.view.junk L17) (arg18.view.writes (Elt Ideal) arg18.view.junk L18) k0_t1_loop.trips).2.2.1 ++ L17) (Rect.unit (s := ⟨2, ![128, 2048]⟩) off size inb).toLoadRect x
      = (orb AR AI A B P Q (r + (x 0).val) (q + (x 1).val) 4).1 := by
  subst h4; subst h5; subst h15; subst h16; subst h17; subst h18
  unfold View.readCov
  refine (readAt_cell arg17.view _ ho x).trans ?_
  rw [View.writes_append]
  refine (cell_eq _ _ (loop_reads 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v20 v28 X4 X5 (arg15.view.writes (Elt Ideal) arg15.view.junk L15) (arg16.view.writes (Elt Ideal) arg16.view.junk L16) (arg17.view.writes (Elt Ideal) arg17.view.junk L17) (arg18.view.writes (Elt Ideal) arg18.view.junk L18) _ (Nat.le_refl _)).2.2.1 hr hq).trans (if_pos ?_)
  have ht : k0_t1_loop.trips = 16 := by decide
  omega
/-- and imaginary part. -/
theorem loop18 (𝒱 : Variants) (c : Dev nD) (bd : Option 𝒱.V) (i : grid0.Coords) (arg1 : Memref sig .tc .vmem S4x128x512 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S2x256x1024 .bf16) (harg6 : arg6.IsWhole) (arg7 : Memref sig .tc .vmem S2x256x1024 .bf16) (harg7 : arg7.IsWhole) (arg8 : Memref sig .tc .vmem S2x1024x256 .bf16) (harg8 : arg8.IsWhole) (arg9 : Memref sig .tc .vmem S2x1024x256 .bf16) (harg9 : arg9.IsWhole) (arg10 : Memref sig .tc .vmem S1x512 .f32) (harg10 : arg10.IsWhole) (arg11 : Memref sig .tc .vmem S512x512 .bf16) (harg11 : arg11.IsWhole) (arg12 : Memref sig .tc .vmem S4x128x512 .f32) (harg12 : arg12.IsWhole) (arg13 : Memref sig .tc .vmem S128x2048 .f32) (harg13 : arg13.IsWhole) (arg14 : Memref sig .tc .vmem S128x2048 .f32) (harg14 : arg14.IsWhole) (arg15 : Memref sig .tc .vmem S512x2048 .f32) (harg15 : arg15.IsWhole) (arg16 : Memref sig .tc .vmem S512x2048 .f32) (harg16 : arg16.IsWhole) (arg17 : Memref sig .tc .vmem S128x2048 .f32) (harg17 : arg17.IsWhole) (arg18 : Memref sig .tc .vmem S128x2048 .f32) (harg18 : arg18.IsWhole)  (v20 : FVec Ideal S512x256 .bf16) (v28 : FVec Ideal S256x1024 .bf16) (X4 : BufTy.Contents (Elt Ideal) arg4.view.ty) (X5 : BufTy.Contents (Elt Ideal) arg5.view.ty)
    (L15 : List (View.Piece (Elt Ideal) S512x2048 .f32)) (L16 : List (View.Piece (Elt Ideal) S512x2048 .f32)) (L17 : List (View.Piece (Elt Ideal) S128x2048 .f32)) (L18 : List (View.Piece (Elt Ideal) S128x2048 .f32))
    (AR AI : S1x2048.Idx → EReal) (A B : S512x2048.Idx → EReal) (P Q : S128x2048.Idx → EReal)
    (h4 : arg4.view.read (Elt Ideal) X4 = AR) (h5 : arg5.view.read (Elt Ideal) X5 = AI)
    (h15 : arg15.view.read (Elt Ideal) (arg15.view.writes (Elt Ideal) arg15.view.junk L15) = A) (h16 : arg16.view.read (Elt Ideal) (arg16.view.writes (Elt Ideal) arg16.view.junk L16) = B)
    (h17 : arg17.view.read (Elt Ideal) (arg17.view.writes (Elt Ideal) arg17.view.junk L17) = P) (h18 : arg18.view.read (Elt Ideal) (arg18.view.writes (Elt Ideal) arg18.view.junk L18) = Q)
    {off size : Fin 2 → ℕ} {inb : ∀ a, off a + size a ≤ (⟨2, ![128, 2048]⟩ : Shape).size a} (r q : ℕ) (ho : off = ![r, q]) (x : (Rect.unit (s := ⟨2, ![128, 2048]⟩) off size inb).toLoadRect.shape.Idx)
    (hr : r + (x 0).val < 128) (hq : q + (x 1).val < 2048) :
    arg18.view.readCov (Val := Elt Ideal) ((pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v20 v28 X4 X5 (arg15.view.writes (Elt Ideal) arg15.view.junk L15) (arg16.view.writes (Elt Ideal) arg16.view.junk L16) (arg17.view.writes (Elt Ideal) arg17.view.junk L17) (arg18.view.writes (Elt Ideal) arg18.view.junk L18) k0_t1_loop.trips).2.2.2 ++ L18) (Rect.unit (s := ⟨2, ![128, 2048]⟩) off size inb).toLoadRect x
      = (orb AR AI A B P Q (r + (x 0).val) (q + (x 1).val) 4).2 := by
  subst h4; subst h5; subst h15; subst h16; subst h17; subst h18
  unfold View.readCov
  refine (readAt_cell arg18.view _ ho x).trans ?_
  rw [View.writes_append]
  refine (cell_eq _ _ (loop_reads 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v20 v28 X4 X5 (arg15.view.writes (Elt Ideal) arg15.view.junk L15) (arg16.view.writes (Elt Ideal) arg16.view.junk L16) (arg17.view.writes (Elt Ideal) arg17.view.junk L17) (arg18.view.writes (Elt Ideal) arg18.view.junk L18) _ (Nat.le_refl _)).2.2.2 hr hq).trans (if_pos ?_)
  have ht : k0_t1_loop.trips = 16 := by decide
  omega

theorem out12 (c : Dev nD) (i : grid0.Coords) (arg1 : Memref sig .tc .vmem S4x128x512 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S2x256x1024 .bf16) (harg6 : arg6.IsWhole) (arg7 : Memref sig .tc .vmem S2x256x1024 .bf16) (harg7 : arg7.IsWhole) (arg8 : Memref sig .tc .vmem S2x1024x256 .bf16) (harg8 : arg8.IsWhole) (arg9 : Memref sig .tc .vmem S2x1024x256 .bf16) (harg9 : arg9.IsWhole) (arg10 : Memref sig .tc .vmem S1x512 .f32) (harg10 : arg10.IsWhole) (arg11 : Memref sig .tc .vmem S512x512 .bf16) (harg11 : arg11.IsWhole) (arg12 : Memref sig .tc .vmem S4x128x512 .f32) (harg12 : arg12.IsWhole) (arg13 : Memref sig .tc .vmem S128x2048 .f32) (harg13 : arg13.IsWhole) (arg14 : Memref sig .tc .vmem S128x2048 .f32) (harg14 : arg14.IsWhole) (arg15 : Memref sig .tc .vmem S512x2048 .f32) (harg15 : arg15.IsWhole) (arg16 : Memref sig .tc .vmem S512x2048 .f32) (harg16 : arg16.IsWhole) (arg17 : Memref sig .tc .vmem S128x2048 .f32) (harg17 : arg17.IsWhole) (arg18 : Memref sig .tc .vmem S128x2048 .f32) (harg18 : arg18.IsWhole) (hc0 : cond0_0 i) (hc1 : cond0_1 i)     (x0 : Vec Ideal S4x128x512 .f32) (x1 : Vec Ideal S128x2048 .f32) (x2 : Vec Ideal S128x2048 .f32) (x3 : Vec Ideal S1x2048 .f32) (x4 : Vec Ideal S1x2048 .f32) (x5 : Vec Ideal S2x256x1024 .bf16) (x6 : Vec Ideal S2x256x1024 .bf16) (x7 : Vec Ideal S2x1024x256 .bf16) (x8 : Vec Ideal S2x1024x256 .bf16) (x9 : Vec Ideal S1x512 .f32) (x10 : Vec Ideal S512x512 .bf16) :
    out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 = fun y : S128x2048.Idx => (orb x3 x4 (inps x0 x5) (inps x0 x6) x1 x2 (y 0).val (y 1).val 4).1 := by
  unfold out0_A_12
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread]
  refine (read_whole VO0_12 VO0_12.junk inb_S128x2048_S128x2048_0_0 _).trans ?_
  funext x
  rw [ld_all3 x0, ld_all x1, ld_all x2]
  have h0 : (x 0).val < 128 := (x 0).isLt
  have h1 : (x 1).val < 2048 := (x 1).isLt
  refine (loop17 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 _ _ (harg4.unread x3) (harg5.unread x4) _ _ _ _ x3 x4 (inps x0 x5) (inps x0 x6) x1 x2 (harg4.read_unread x3) (harg5.read_unread x4)
    (read_halves _ _ (inp x0 x5) _ _ _ _ (fun x => inp_re1 x0 x5 x _) (fun x => inp_re0 x0 x5 x _))
    (read_halves _ _ (inp x0 x6) _ _ _ _ (fun x => inp_im1 x0 x6 x _) (fun x => inp_im0 x0 x6 x _))
    ((read_whole _ _ _ _).trans ?_) ((read_whole _ _ _ _).trans ?_) 0 0 rfl x (by omega) (by omega)).trans ?_
  · unfold k0_pay81; dsimp only; rw [shapeCast_self, shapeCast_self]
  · unfold k0_pay82; dsimp only; rw [shapeCast_self, shapeCast_self]
  · rw [Nat.zero_add, Nat.zero_add]

theorem out13 (c : Dev nD) (i : grid0.Coords) (arg1 : Memref sig .tc .vmem S4x128x512 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S2x256x1024 .bf16) (harg6 : arg6.IsWhole) (arg7 : Memref sig .tc .vmem S2x256x1024 .bf16) (harg7 : arg7.IsWhole) (arg8 : Memref sig .tc .vmem S2x1024x256 .bf16) (harg8 : arg8.IsWhole) (arg9 : Memref sig .tc .vmem S2x1024x256 .bf16) (harg9 : arg9.IsWhole) (arg10 : Memref sig .tc .vmem S1x512 .f32) (harg10 : arg10.IsWhole) (arg11 : Memref sig .tc .vmem S512x512 .bf16) (harg11 : arg11.IsWhole) (arg12 : Memref sig .tc .vmem S4x128x512 .f32) (harg12 : arg12.IsWhole) (arg13 : Memref sig .tc .vmem S128x2048 .f32) (harg13 : arg13.IsWhole) (arg14 : Memref sig .tc .vmem S128x2048 .f32) (harg14 : arg14.IsWhole) (arg15 : Memref sig .tc .vmem S512x2048 .f32) (harg15 : arg15.IsWhole) (arg16 : Memref sig .tc .vmem S512x2048 .f32) (harg16 : arg16.IsWhole) (arg17 : Memref sig .tc .vmem S128x2048 .f32) (harg17 : arg17.IsWhole) (arg18 : Memref sig .tc .vmem S128x2048 .f32) (harg18 : arg18.IsWhole) (hc0 : cond0_0 i) (hc1 : cond0_1 i)     (x0 : Vec Ideal S4x128x512 .f32) (x1 : Vec Ideal S128x2048 .f32) (x2 : Vec Ideal S128x2048 .f32) (x3 : Vec Ideal S1x2048 .f32) (x4 : Vec Ideal S1x2048 .f32) (x5 : Vec Ideal S2x256x1024 .bf16) (x6 : Vec Ideal S2x256x1024 .bf16) (x7 : Vec Ideal S2x1024x256 .bf16) (x8 : Vec Ideal S2x1024x256 .bf16) (x9 : Vec Ideal S1x512 .f32) (x10 : Vec Ideal S512x512 .bf16) :
    out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 = fun y : S128x2048.Idx => (orb x3 x4 (inps x0 x5) (inps x0 x6) x1 x2 (y 0).val (y 1).val 4).2 := by
  unfold out0_A_13
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread]
  refine (read_whole VO0_13 VO0_13.junk inb_S128x2048_S128x2048_0_0 _).trans ?_
  funext x
  rw [ld_all3 x0, ld_all x1, ld_all x2]
  have h0 : (x 0).val < 128 := (x 0).isLt
  have h1 : (x 1).val < 2048 := (x 1).isLt
  refine (loop18 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 _ _ (harg4.unread x3) (harg5.unread x4) _ _ _ _ x3 x4 (inps x0 x5) (inps x0 x6) x1 x2 (harg4.read_unread x3) (harg5.read_unread x4)
    (read_halves _ _ (inp x0 x5) _ _ _ _ (fun x => inp_re1 x0 x5 x _) (fun x => inp_re0 x0 x5 x _))
    (read_halves _ _ (inp x0 x6) _ _ _ _ (fun x => inp_im1 x0 x6 x _) (fun x => inp_im0 x0 x6 x _))
    ((read_whole _ _ _ _).trans ?_) ((read_whole _ _ _ _).trans ?_) 0 0 rfl x (by omega) (by omega)).trans ?_
  · unfold k0_pay81; dsimp only; rw [shapeCast_self, shapeCast_self]
  · unfold k0_pay82; dsimp only; rw [shapeCast_self, shapeCast_self]
  · rw [Nat.zero_add, Nat.zero_add]

end Cert.KernelIdeal.Gen
-- ==== Proof.ScanRows.lean ====
/-
  THE ROW FUNCTIONS AFTER THE SCAN. The tanh form of the gaussian error linear unit and the gate on its output.
-/
module

public import proofs.«01_k».proof.Proof.HostRows

@[expose] public section

noncomputable section

namespace Cert.Rows

open Idealize.ShloMosaic Idealize.ShloMosaic.ValueIdx
open scoped BigOperators

variable {N B T : ℕ}

/-- The tanh form of the gaussian error linear unit, at every element of a row. -/
def gelu (x : Fin N → EReal) : Fin N → EReal := fun j =>
  x j * (Ideal.ofBits .f32 0x3F000000#32 * (Ideal.ofBits .f32 0x3F800000#32
    + Ideal.tanh (Ideal.ofBits .f32 0x3F4C422A#32 * (x j + Ideal.ofBits .f32 0x3D372713#32 * (x j * (x j * x j))))))

/-- A row times the logistic function of its product with a matrix. -/
def gateSelf (x : Fin N → EReal) (w : Fin N → Fin N → EReal) : Fin N → EReal := mul x (sig (mv x w))

/-- The host's form of the same unit cubes its argument in the other order. -/
theorem row3_gelu (x : FVec Ideal ⟨3, ![B, T, N]⟩ .f32) (h1 h2 h3 h4) (b : Fin B) (t : Fin T) :
    row3 (mulf x (mulf (broadcastInDim (⟨3, ![B, T, N]⟩ : Shape) ![] h1 (constant (F := Ideal) (⟨0, ![]⟩ : Shape) .f32 0x3F000000#32))
      (addf (broadcastInDim (⟨3, ![B, T, N]⟩ : Shape) ![] h2 (constant (F := Ideal) (⟨0, ![]⟩ : Shape) .f32 0x3F800000#32))
        (Host.tanh (mulf (broadcastInDim (⟨3, ![B, T, N]⟩ : Shape) ![] h3 (constant (F := Ideal) (⟨0, ![]⟩ : Shape) .f32 0x3F4C422A#32))
          (addf x (mulf (broadcastInDim (⟨3, ![B, T, N]⟩ : Shape) ![] h4 (constant (F := Ideal) (⟨0, ![]⟩ : Shape) .f32 0x3D372713#32))
            (mulf (mulf x x) x)))))))) b t = gelu (row3 x b t) := by
  funext j
  unfold gelu row3
  rw [mul_comm (x (ix3 b t j)) (x (ix3 b t j) * x (ix3 b t j))]
  rfl

end Cert.Rows

end
-- ==== Proof.ScanOut.lean ====
/-
  THE SCAN'S OUTPUTS. What the kernel computes of the steps' array: each half of the features is the half's lanes of the states
  times the half's output matrix, then the skip, the unit and the gate, one row at a time.
-/
module

public import proofs.«01_k».proof.Proof.ScanBlock
public import proofs.«01_k».proof.Proof.ScanRows

@[expose] public section

set_option maxRecDepth 16384

noncomputable section

namespace Cert.KernelIdeal.Gen

open Idealize.ShloMosaic Idealize.ShloMosaic.TcCoe Idealize.ShloMosaic.Tactic
open Cert.Cells Cert.Rows
open scoped BigOperators

/-- One of the two products of row `r` with the output matrices, at feature `j`. -/
def outp (S : ℕ → ℕ → EReal) (w : S2x1024x256.Idx → EReal) (r j : ℕ) : EReal :=
  ∑ k : Fin 1024, S r (1024 * (j / 256) + k.val) * cell3 w (j / 256) k.val (j % 256)

/-- A half's features: the difference of the two products. -/
theorem half_out (a a' : FVec Ideal S512x1024 .f32) (w w' : FVec Ideal S1024x256 .bf16) (W W' : Vec Ideal S2x1024x256 .bf16) (S S' : ℕ → ℕ → EReal) (hf : ℕ)
    (ha : ∀ r k, a (ValueIdx.ix2 r k) = S r.val (1024 * hf + k.val)) (hw : ∀ k j, mat w k j = cell3 W hf k.val j.val)
    (ha' : ∀ r k, a' (ValueIdx.ix2 r k) = S' r.val (1024 * hf + k.val)) (hw' : ∀ k j, mat w' k j = cell3 W' hf k.val j.val) (r : Fin 512) (j : Fin 256) :
    subf (matmul dot_S512x1024_S1024x256_S512x256_1_0_0_1_n_n none (truncf .bf16 a bitsLt_bf16_f32) w (constant (F := Ideal) S512x256 .f32 0x00000000#32))
        (matmul dot_S512x1024_S1024x256_S512x256_1_0_0_1_n_n none (truncf .bf16 a' bitsLt_bf16_f32) w' (constant (F := Ideal) S512x256 .f32 0x00000000#32)) (ValueIdx.ix2 r j)
      = outp S W r.val (256 * hf + j.val) - outp S' W' r.val (256 * hf + j.val) := by
  refine congrArg₂ (· - ·) ?_ ?_
  · refine (congrFun (row_matmul dot_S512x1024_S1024x256_S512x256_1_0_0_1_n_n rfl none (truncf .bf16 a bitsLt_bf16_f32) w r) j).trans ?_
    unfold mv outp
    rw [show (256 * hf + j.val) / 256 = hf by omega, show (256 * hf + j.val) % 256 = j.val by omega]
    exact Finset.sum_congr rfl fun k _ => congrArg₂ (· * ·) (ha _ _) (hw _ _)
  · refine (congrFun (row_matmul dot_S512x1024_S1024x256_S512x256_1_0_0_1_n_n rfl none (truncf .bf16 a' bitsLt_bf16_f32) w' r) j).trans ?_
    unfold mv outp
    rw [show (256 * hf + j.val) / 256 = hf by omega, show (256 * hf + j.val) % 256 = j.val by omega]
    exact Finset.sum_congr rfl fun k _ => congrArg₂ (· * ·) (ha' _ _) (hw' _ _)

theorem pay96 (a a' : FVec Ideal S512x1024 .f32) (W W' : Vec Ideal S2x1024x256 .bf16) (S S' : ℕ → ℕ → EReal) (inb inb')
    (ha : ∀ r k, a (ValueIdx.ix2 r k) = S r.val (1024 * 0 + k.val)) (ha' : ∀ r k, a' (ValueIdx.ix2 r k) = S' r.val (1024 * 0 + k.val)) (r : Fin 512) (j : Fin 256) :
    k0_pay96 (F := Ideal) a (View.ld (Val := Elt Ideal) W (Rect.unit (s := S2x1024x256) ![0, 0, 0] ![1, 1024, 256] inb)) a' (View.ld (Val := Elt Ideal) W' (Rect.unit (s := S2x1024x256) ![0, 0, 0] ![1, 1024, 256] inb')) (ValueIdx.ix2 r j)
      = outp S W r.val (256 * 0 + j.val) - outp S' W' r.val (256 * 0 + j.val) := by
  unfold k0_pay96
  exact half_out a a' _ _ W W' S S' 0 ha (half_at W 0 inb _) ha' (half_at W' 0 inb' _) r j
theorem pay97 (a a' : FVec Ideal S512x1024 .f32) (W W' : Vec Ideal S2x1024x256 .bf16) (S S' : ℕ → ℕ → EReal) (inb inb')
    (ha : ∀ r k, a (ValueIdx.ix2 r k) = S r.val (1024 * 1 + k.val)) (ha' : ∀ r k, a' (ValueIdx.ix2 r k) = S' r.val (1024 * 1 + k.val)) (r : Fin 512) (j : Fin 256) :
    k0_pay97 (F := Ideal) a (View.ld (Val := Elt Ideal) W (Rect.unit (s := S2x1024x256) ![1, 0, 0] ![1, 1024, 256] inb)) a' (View.ld (Val := Elt Ideal) W' (Rect.unit (s := S2x1024x256) ![1, 0, 0] ![1, 1024, 256] inb')) (ValueIdx.ix2 r j)
      = outp S W r.val (256 * 1 + j.val) - outp S' W' r.val (256 * 1 + j.val) := by
  unfold k0_pay97
  exact half_out a a' _ _ W W' S S' 1 ha (half_at W 1 inb _) ha' (half_at W' 1 inb' _) r j

/-- One piece over the whole of an array of three axes. -/
theorem read_whole3 {sg : RefSig} {κ : Kind} {sp : Space} (v : View sg κ sp S4x128x512 .f32) (f : v.ty.Contents (Elt Ideal)) (inb) (w : S4x128x512.Idx → EReal) :
    v.read (Elt Ideal) (v.writes (Elt Ideal) f [⟨Rect.unit (s := ⟨3, ![4, 128, 512]⟩) ![0, 0, 0] ![4, 128, 512] inb, w⟩]) = w := by
  funext y
  have e : ∀ x : (Rect.unit (s := ⟨3, ![4, 128, 512]⟩) ![0, 0, 0] ![4, 128, 512] inb).shape.Idx, (Rect.unit (s := ⟨3, ![4, 128, 512]⟩) ![0, 0, 0] ![4, 128, 512] inb).emb x = x :=
    fun x => funext fun a => Fin.ext (by
      match a with
      | ⟨0, _⟩ => exact (Nat.zero_add _).trans (Nat.one_mul _)
      | ⟨1, _⟩ => exact (Nat.zero_add _).trans (Nat.one_mul _)
      | ⟨2, _⟩ => exact (Nat.zero_add _).trans (Nat.one_mul _))
  refine read_writes_as v f w y _ (fun p hp x => ?_) fun hn => ?_
  · obtain rfl := List.mem_singleton.mp hp
    exact congrArg w (e x).symm
  · have n1 := hn _ List.mem_cons_self
    refine absurd ?_ n1
    rw [← Rect.map_emb_univ]
    exact Finset.mem_map.mpr ⟨y, Finset.mem_univ _, e y⟩

/-- The two halves side by side. -/
theorem row_halves (a b : FVec Ideal S512x256 .f32) (f : ℕ → EReal) (r : Fin 512) (ha : ∀ j : Fin 256, a (ValueIdx.ix2 r j) = f (256 * 0 + j.val))
    (hb : ∀ j : Fin 256, b (ValueIdx.ix2 r j) = f (256 * 1 + j.val)) (h) :
    row (concatenate S512x512 1 [⟨S512x256, a⟩, ⟨S512x256, b⟩] h : FVec Ideal S512x512 .f32) r = fun j => f j.val := by
  funext j
  by_cases hj : j.val < 256
  · refine (concatenate_pair_apply_left (1 : Fin S512x512.rank) a b h (ValueIdx.ix2 r j) rfl (ValueIdx.ix2 r ⟨j.val, hj⟩) fun d => ?_).trans ((ha _).trans (congrArg f ?_))
    · match d with
      | ⟨0, _⟩ => rfl
      | ⟨1, _⟩ => rfl
    · show 256 * 0 + j.val = j.val; omega
  · refine (concatenate_pair_apply_right (1 : Fin S512x512.rank) a b h (ValueIdx.ix2 r j) rfl rfl (ValueIdx.ix2 r ⟨j.val - 256, by omega⟩) (fun d hd => ?_) ?_).trans ((hb _).trans (congrArg f ?_))
    · match d with
      | ⟨0, _⟩ => rfl
      | ⟨1, _⟩ => exact absurd rfl hd
    · show j.val - 256 + 256 = j.val; omega
    · show 256 * 1 + (j.val - 256) = j.val; omega

/-- The skip, the unit and the gate, at step `t` of batch row `b`. -/
theorem pay1 (u : FVec Ideal S512x512 .f32) (a b : FVec Ideal S512x256 .f32) (d : Vec Ideal S1x512 .f32) (w : Vec Ideal S512x512 .bf16) (f : ℕ → EReal)
    (t : Fin 4) (q : Fin 128) (r : Fin 512) (hr : r.val = 128 * t.val + q.val) (ha : ∀ j : Fin 256, a (ValueIdx.ix2 r j) = f (256 * 0 + j.val))
    (hb : ∀ j : Fin 256, b (ValueIdx.ix2 r j) = f (256 * 1 + j.val)) :
    row3 (φ := .f32) (k0_pay1 (F := Ideal) u a b d w) t q = gateSelf (gelu (add (fun j => f j.val) (mul (row (φ := .f32) d 0) (row u r)))) (mat (φ := .bf16) w) := by
  unfold k0_pay1
  dsimp only
  funext j
  refine (shapeCast_apply _ shapeCasts_S512x512_S4x128x512 (ValueIdx.ix3 t q j) (ValueIdx.ix2 r j) ?_).trans ?_
  · rw [Shape.rowMajor_val_three, Shape.rowMajor_val_two]
    show r.val * 512 + j.val = (t.val * 128 + q.val) * 512 + j.val
    omega
  · have e : ∀ x : FVec Ideal S512x512 .f32, row x r = add (fun j => f j.val) (mul (row (φ := .f32) d 0) (row u r)) →
        row (mulf (mulf x (mulf (broadcast S512x512 (Scalar.ofBits (F := Ideal) .f32 0x3F000000#32)) (addf (broadcast S512x512 (Scalar.ofBits (F := Ideal) .f32 0x3F800000#32))
          (tanh (mulf (broadcast S512x512 (Scalar.ofBits (F := Ideal) .f32 0x3F4C422A#32)) (addf x (mulf (broadcast S512x512 (Scalar.ofBits (F := Ideal) .f32 0x3D372713#32)) (mulf x (mulf x x)))))))))
          (logistic (matmul dot_S512x512_S512x512_S512x512_1_0_0_1_n_n none (truncf .bf16 (mulf x (mulf (broadcast S512x512 (Scalar.ofBits (F := Ideal) .f32 0x3F000000#32)) (addf (broadcast S512x512 (Scalar.ofBits (F := Ideal) .f32 0x3F800000#32))
          (tanh (mulf (broadcast S512x512 (Scalar.ofBits (F := Ideal) .f32 0x3F4C422A#32)) (addf x (mulf (broadcast S512x512 (Scalar.ofBits (F := Ideal) .f32 0x3D372713#32)) (mulf x (mulf x x))))))))) bitsLt_bf16_f32)
            (shapeCast S512x512 w shapeCasts_S512x512_S512x512 : FVec Ideal S512x512 .bf16) (constant (F := Ideal) S512x512 .f32 0x00000000#32)))) r
          = gateSelf (gelu (add (fun j => f j.val) (mul (row (φ := .f32) d 0) (row u r)))) (mat (φ := .bf16) w) := fun x hx => by
      rw [row_mulf, row_logistic, row_matmul dot_S512x512_S512x512_S512x512_1_0_0_1_n_n rfl, mat_shapeCast, ← hx]
      rfl
    refine congrFun (e _ ?_) j
    rw [row_addf, row_mulf, row_halves a b f r ha hb, row_broadcastTo, row_shapeCast]

theorem pay81 (x : Vec Ideal S128x2048 .f32) : k0_pay81 (F := Ideal) x = x := by unfold k0_pay81; dsimp only; rw [shapeCast_self, shapeCast_self]
theorem pay82 (x : Vec Ideal S128x2048 .f32) : k0_pay82 (F := Ideal) x = x := by unfold k0_pay82; dsimp only; rw [shapeCast_self, shapeCast_self]

/-- The state after step `r / 128` of batch row `r % 128`, real part, -/
def stRe (x0 : S4x128x512.Idx → EReal) (x1 x2 : S128x2048.Idx → EReal) (x3 x4 : S1x2048.Idx → EReal) (x5 x6 : S2x256x1024.Idx → EReal) (r q : ℕ) : EReal :=
  (orb x3 x4 (inps x0 x5) (inps x0 x6) x1 x2 (r % 128) q (r / 128 + 1)).1
/-- and imaginary part. -/
def stIm (x0 : S4x128x512.Idx → EReal) (x1 x2 : S128x2048.Idx → EReal) (x3 x4 : S1x2048.Idx → EReal) (x5 x6 : S2x256x1024.Idx → EReal) (r q : ℕ) : EReal :=
  (orb x3 x4 (inps x0 x5) (inps x0 x6) x1 x2 (r % 128) q (r / 128 + 1)).2

/-- A row's features before the skip. -/
def ySsm (x0 : S4x128x512.Idx → EReal) (x1 x2 : S128x2048.Idx → EReal) (x3 x4 : S1x2048.Idx → EReal) (x5 x6 : S2x256x1024.Idx → EReal) (x7 x8 : S2x1024x256.Idx → EReal)
    (r j : ℕ) : EReal := outp (stRe x0 x1 x2 x3 x4 x5 x6) x7 r j - outp (stIm x0 x1 x2 x3 x4 x5 x6) x8 r j

section
variable (x0 : S4x128x512.Idx → EReal) (x1 x2 : S128x2048.Idx → EReal) (x3 x4 : S1x2048.Idx → EReal) (x5 x6 : S2x256x1024.Idx → EReal) (r o k : ℕ)
theorem step_eqR : (orb x3 x4 (inps x0 x5) (inps x0 x6) x1 x2 ((0 + r) % 128) (o + k) ((0 + r) / 128 + 1)).1 = stRe x0 x1 x2 x3 x4 x5 x6 r (o + k) := by rw [Nat.zero_add]; rfl
theorem step_eqI : (orb x3 x4 (inps x0 x5) (inps x0 x6) x1 x2 ((0 + r) % 128) (o + k) ((0 + r) / 128 + 1)).2 = stIm x0 x1 x2 x3 x4 x5 x6 r (o + k) := by rw [Nat.zero_add]; rfl
end

theorem out11 (c : Dev nD) (i : grid0.Coords) (arg1 : Memref sig .tc .vmem S4x128x512 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S2x256x1024 .bf16) (harg6 : arg6.IsWhole) (arg7 : Memref sig .tc .vmem S2x256x1024 .bf16) (harg7 : arg7.IsWhole) (arg8 : Memref sig .tc .vmem S2x1024x256 .bf16) (harg8 : arg8.IsWhole) (arg9 : Memref sig .tc .vmem S2x1024x256 .bf16) (harg9 : arg9.IsWhole) (arg10 : Memref sig .tc .vmem S1x512 .f32) (harg10 : arg10.IsWhole) (arg11 : Memref sig .tc .vmem S512x512 .bf16) (harg11 : arg11.IsWhole) (arg12 : Memref sig .tc .vmem S4x128x512 .f32) (harg12 : arg12.IsWhole) (arg13 : Memref sig .tc .vmem S128x2048 .f32) (harg13 : arg13.IsWhole) (arg14 : Memref sig .tc .vmem S128x2048 .f32) (harg14 : arg14.IsWhole) (arg15 : Memref sig .tc .vmem S512x2048 .f32) (harg15 : arg15.IsWhole) (arg16 : Memref sig .tc .vmem S512x2048 .f32) (harg16 : arg16.IsWhole) (arg17 : Memref sig .tc .vmem S128x2048 .f32) (harg17 : arg17.IsWhole) (arg18 : Memref sig .tc .vmem S128x2048 .f32) (harg18 : arg18.IsWhole) (hc0 : cond0_0 i) (hc1 : cond0_1 i)     (x0 : Vec Ideal S4x128x512 .f32) (x1 : Vec Ideal S128x2048 .f32) (x2 : Vec Ideal S128x2048 .f32) (x3 : Vec Ideal S1x2048 .f32) (x4 : Vec Ideal S1x2048 .f32) (x5 : Vec Ideal S2x256x1024 .bf16) (x6 : Vec Ideal S2x256x1024 .bf16) (x7 : Vec Ideal S2x1024x256 .bf16) (x8 : Vec Ideal S2x1024x256 .bf16) (x9 : Vec Ideal S1x512 .f32) (x10 : Vec Ideal S512x512 .bf16) (t : Fin 4) (q : Fin 128) (r : Fin 512) (hr : r.val = 128 * t.val + q.val) :
    row3 (φ := .f32) (out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10) t q
      = gateSelf (gelu (add (fun j => ySsm x0 x1 x2 x3 x4 x5 x6 x7 x8 r.val j.val) (mul (row (φ := .f32) x9 0) (row3 (φ := .f32) x0 t q)))) (mat (φ := .bf16) x10) := by
  unfold out0_A_11
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread]
  refine (congrArg (fun X : S4x128x512.Idx → EReal => row3 (φ := .f32) X t q) (read_whole3 VO0_11 VO0_11.junk inb_S4x128x512_S4x128x512_0_0_0 _)).trans ?_
  rw [ld_all3 x0, ld_all x1, ld_all x2, ld_all x9, ld_all x10]
  refine (pay1 _ _ _ x9 x10 (ySsm x0 x1 x2 x3 x4 x5 x6 x7 x8 r.val) t q r hr (fun j => ?_) (fun j => ?_)).trans ?_
  · exact pay96 _ _ x7 x8 (stRe x0 x1 x2 x3 x4 x5 x6) (stIm x0 x1 x2 x3 x4 x5 x6) _ _
      (fun r k => (loop15 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 _ _ (harg4.unread x3) (harg5.unread x4) _ _ _ _ x3 x4 (inps x0 x5) (inps x0 x6) x1 x2 (harg4.read_unread x3) (harg5.read_unread x4)
        (read_halves _ _ (inp x0 x5) _ _ _ _ (fun x => inp_re1 x0 x5 x _) (fun x => inp_re0 x0 x5 x _))
        (read_halves _ _ (inp x0 x6) _ _ _ _ (fun x => inp_im1 x0 x6 x _) (fun x => inp_im0 x0 x6 x _))
        ((read_whole _ _ _ _).trans (pay81 x1)) ((read_whole _ _ _ _).trans (pay82 x2)) 0 0 rfl (ValueIdx.ix2 r k) (by show 0 + r.val < 512; omega) (by show 0 + k.val < 2048; omega)).trans
          (step_eqR x0 x1 x2 x3 x4 x5 x6 r.val 0 k.val))
      (fun r k => (loop16 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 _ _ (harg4.unread x3) (harg5.unread x4) _ _ _ _ x3 x4 (inps x0 x5) (inps x0 x6) x1 x2 (harg4.read_unread x3) (harg5.read_unread x4)
        (read_halves _ _ (inp x0 x5) _ _ _ _ (fun x => inp_re1 x0 x5 x _) (fun x => inp_re0 x0 x5 x _))
        (read_halves _ _ (inp x0 x6) _ _ _ _ (fun x => inp_im1 x0 x6 x _) (fun x => inp_im0 x0 x6 x _))
        ((read_whole _ _ _ _).trans (pay81 x1)) ((read_whole _ _ _ _).trans (pay82 x2)) 0 0 rfl (ValueIdx.ix2 r k) (by show 0 + r.val < 512; omega) (by show 0 + k.val < 2048; omega)).trans
          (step_eqI x0 x1 x2 x3 x4 x5 x6 r.val 0 k.val)) r j
  · exact pay97 _ _ x7 x8 (stRe x0 x1 x2 x3 x4 x5 x6) (stIm x0 x1 x2 x3 x4 x5 x6) _ _
      (fun r k => (loop15 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 _ _ (harg4.unread x3) (harg5.unread x4) _ _ _ _ x3 x4 (inps x0 x5) (inps x0 x6) x1 x2 (harg4.read_unread x3) (harg5.read_unread x4)
        (read_halves _ _ (inp x0 x5) _ _ _ _ (fun x => inp_re1 x0 x5 x _) (fun x => inp_re0 x0 x5 x _))
        (read_halves _ _ (inp x0 x6) _ _ _ _ (fun x => inp_im1 x0 x6 x _) (fun x => inp_im0 x0 x6 x _))
        ((read_whole _ _ _ _).trans (pay81 x1)) ((read_whole _ _ _ _).trans (pay82 x2)) 0 1024 rfl (ValueIdx.ix2 r k) (by show 0 + r.val < 512; omega) (by show 1024 + k.val < 2048; omega)).trans
          (step_eqR x0 x1 x2 x3 x4 x5 x6 r.val 1024 k.val))
      (fun r k => (loop16 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 _ _ (harg4.unread x3) (harg5.unread x4) _ _ _ _ x3 x4 (inps x0 x5) (inps x0 x6) x1 x2 (harg4.read_unread x3) (harg5.read_unread x4)
        (read_halves _ _ (inp x0 x5) _ _ _ _ (fun x => inp_re1 x0 x5 x _) (fun x => inp_re0 x0 x5 x _))
        (read_halves _ _ (inp x0 x6) _ _ _ _ (fun x => inp_im1 x0 x6 x _) (fun x => inp_im0 x0 x6 x _))
        ((read_whole _ _ _ _).trans (pay81 x1)) ((read_whole _ _ _ _).trans (pay82 x2)) 0 1024 rfl (ValueIdx.ix2 r k) (by show 0 + r.val < 512; omega) (by show 1024 + k.val < 2048; omega)).trans
          (step_eqI x0 x1 x2 x3 x4 x5 x6 r.val 1024 k.val)) r j
  · refine congrArg (fun u => gateSelf (gelu (add _ (mul _ u))) _) ?_
    funext j
    refine (flat_at x0 r j).trans ?_
    rw [show r.val / 128 = t.val by omega, show r.val % 128 = q.val by omega]
    exact (cell3_idx x0 (ValueIdx.ix3 t q j)).symm

end Cert.KernelIdeal.Gen
-- ==== Proof.Recur.lean ====
/-
  THE DIAGONAL RECURRENCE OF ONE LANE. Lane `l = 64 g + p` is state `p` of group `g`; its input at a step is the group's sixteen
  features times the state's row of the group's input matrix; a feature's output is its group's states times the feature's row of
  the group's output matrix. A block-diagonal product is the product of one block.
-/
module

public import proofs.«01_k».proof.Proof.Cells

@[expose] public section

noncomputable section

namespace Cert.Recur

open Idealize.ShloMosaic Idealize.ShloMosaic.ValueIdx Cert.Cells
open scoped BigOperators

/-- The input of lane `l` at step `t` of batch row `b`. -/
def drive (u : (⟨3, ![128, 4, 512]⟩ : Shape).Idx → EReal) (w : (⟨3, ![32, 64, 16]⟩ : Shape).Idx → EReal) (b t l : ℕ) : EReal :=
  ∑ q : Fin 16, cell3 w (l / 64) (l % 64) q.val * cell3 u b t (16 * (l / 64) + q.val)

section
variable (u : (⟨3, ![128, 4, 512]⟩ : Shape).Idx → EReal) (sr si : (⟨3, ![128, 32, 64]⟩ : Shape).Idx → EReal) (ar ai : (⟨2, ![32, 64]⟩ : Shape).Idx → EReal)
  (br bi : (⟨3, ![32, 64, 16]⟩ : Shape).Idx → EReal) (cr ci : (⟨3, ![32, 16, 64]⟩ : Shape).Idx → EReal)

/-- The lane's state, real and imaginary part, after `t` steps. -/
def state (b l : ℕ) : ℕ → EReal × EReal
  | 0 => (cell3 sr b (l / 64) (l % 64), cell3 si b (l / 64) (l % 64))
  | t + 1 =>
    (cell ar (l / 64) (l % 64) * (state b l t).1 - cell ai (l / 64) (l % 64) * (state b l t).2 + drive u br b t l,
     cell ar (l / 64) (l % 64) * (state b l t).2 + cell ai (l / 64) (l % 64) * (state b l t).1 + drive u bi b t l)

/-- Feature `j` of the output at step `t`. -/
def output (b t j : ℕ) : EReal :=
  (∑ p : Fin 64, cell3 cr (j / 16) (j % 16) p.val * (state u sr si ar ai br bi b (64 * (j / 16) + p.val) (t + 1)).1)
    - ∑ p : Fin 64, cell3 ci (j / 16) (j % 16) p.val * (state u sr si ar ai br bi b (64 * (j / 16) + p.val) (t + 1)).2
end

/-- A sum whose terms vanish outside block `g` is the sum over the block. -/
theorem sum_block {a b n : ℕ} (hn : a * b = n) (f : ℕ → EReal) (g : ℕ) (hg : g < a) (h0 : ∀ k < n, k / b ≠ g → f k = 0) :
    ∑ k : Fin n, f k.val = ∑ q : Fin b, f (b * g + q.val) := by
  subst hn
  rw [← finProdFinEquiv.sum_comp (fun k : Fin (a * b) => f k.val), Fintype.sum_prod_type, Finset.sum_eq_single ⟨g, hg⟩]
  · exact Finset.sum_congr rfl fun q _ => congrArg f (by simp [finProdFinEquiv]; omega)
  · intro x _ hx
    refine Finset.sum_eq_zero fun q _ => h0 _ (finProdFinEquiv (x, q)).isLt fun e => hx (Fin.ext ?_)
    have hb : 0 < b := Nat.lt_of_le_of_lt (Nat.zero_le _) q.isLt
    have : (finProdFinEquiv (x, q)).val = q.val + b * x.val := rfl
    rw [this, Nat.add_mul_div_left _ _ hb, Nat.div_eq_of_lt q.isLt, Nat.zero_add] at e
    exact e
  · exact fun h => absurd (Finset.mem_univ _) h

/-- The input product of a block-diagonal half. -/
theorem drive_block (x : ℕ → ℕ → ℕ → EReal) (u : (⟨3, ![128, 4, 512]⟩ : Shape).Idx → EReal) (w : ℕ → ℕ → ℕ → EReal) (bb : (⟨3, ![32, 64, 16]⟩ : Shape).Idx → EReal)
    (b t l : ℕ) (hl : l < 2048) (hx : ∀ j < 512, x t b j = cell3 u b t j)
    (hw : ∀ hf < 2, ∀ k < 256, ∀ q < 1024, w hf k q = if k / 16 = q / 64 then cell3 bb (16 * hf + k / 16) (q % 64) (k % 16) else 0) :
    ∑ k : Fin 256, x t b (256 * (l / 1024) + k.val) * w (l / 1024) k.val (l % 1024) = drive u bb b t l := by
  refine (sum_block (a := 16) (b := 16) rfl (fun k => x t b (256 * (l / 1024) + k) * w (l / 1024) k (l % 1024)) (l % 1024 / 64) (by omega) fun k hk hne => ?_).trans ?_
  · show _ * w _ _ _ = 0
    rw [hw _ (by omega) _ hk _ (by omega), if_neg hne, mul_zero]
  · refine Finset.sum_congr rfl fun q _ => ?_
    show x t b _ * w _ _ _ = _
    rw [hx _ (by omega), hw _ (by omega) _ (by omega) _ (by omega), if_pos (by omega), mul_comm]
    rw [show 16 * (l / 1024) + (16 * (l % 1024 / 64) + q.val) / 16 = l / 64 by omega, show l % 1024 % 64 = l % 64 by omega,
      show (16 * (l % 1024 / 64) + q.val) % 16 = q.val by omega, show 256 * (l / 1024) + (16 * (l % 1024 / 64) + q.val) = 16 * (l / 64) + q.val by omega]

/-- The output product of a block-diagonal half. -/
theorem output_block (S : ℕ → EReal) (w : ℕ → ℕ → ℕ → EReal) (cc : (⟨3, ![32, 16, 64]⟩ : Shape).Idx → EReal) (j : ℕ) (hj : j < 512)
    (hw : ∀ hf < 2, ∀ k < 1024, ∀ q < 256, w hf k q = if k / 64 = q / 16 then cell3 cc (16 * hf + k / 64) (q % 16) (k % 64) else 0) :
    ∑ k : Fin 1024, S (1024 * (j / 256) + k.val) * w (j / 256) k.val (j % 256) = ∑ p : Fin 64, cell3 cc (j / 16) (j % 16) p.val * S (64 * (j / 16) + p.val) := by
  refine (sum_block (a := 16) (b := 64) rfl (fun k => S (1024 * (j / 256) + k) * w (j / 256) k (j % 256)) (j % 256 / 16) (by omega) fun k hk hne => ?_).trans ?_
  · show _ * w _ _ _ = 0
    rw [hw _ (by omega) _ hk _ (by omega), if_neg hne, mul_zero]
  · refine Finset.sum_congr rfl fun q _ => ?_
    show S _ * w _ _ _ = _
    rw [hw _ (by omega) _ (by omega) _ (by omega), if_pos (by omega), mul_comm]
    rw [show 16 * (j / 256) + (64 * (j % 256 / 16) + q.val) / 64 = j / 16 by omega, show j % 256 % 16 = j % 16 by omega,
      show (64 * (j % 256 / 16) + q.val) % 64 = q.val by omega, show 1024 * (j / 256) + (64 * (j % 256 / 16) + q.val) = 64 * (j / 16) + q.val by omega]

end Cert.Recur

end
-- ==== Proof.HostBlocks.lean ====
/-
  BLOCK-DIAGONAL MATRICES AS THE HOST BUILDS THEM. Two stacks of sixteen small matrices, each laid out by the host on the diagonal
  of a large one: the stack is transposed, reshaped to five axes and multiplied by the identity over the pair of group axes.
-/
module

public import proofs.«01_k».proof.Proof.Recur
public import proofs.«01_k».proof.Proof.Rows
public import Idealize.ShloMosaic.Lib.IdealHost

@[expose] public section

noncomputable section

namespace Cert.Recur

open Idealize.ShloMosaic Idealize.ShloMosaic.ValueIdx Cert.Cells

/-- The identity matrix the host builds by comparing two iotas. -/
theorem eye_at (h) (i j : Fin 16) :
    (uitofp (F := Ideal) .f32 (cmpi .eq (addi (iotaInDim (⟨2, ![16, 16]⟩ : Shape) 32 0) (broadcastInDim (⟨2, ![16, 16]⟩ : Shape) ![] h (constantI (⟨0, ![]⟩ : Shape) 32 0#32)))
      (iotaInDim (⟨2, ![16, 16]⟩ : Shape) 32 1)) : FVec Ideal ⟨2, ![16, 16]⟩ .f32) (ix2 i j) = if i = j then 1 else 0 := by
  have e : ∀ i j : Fin 16, Scalar.cmpi .eq (Scalar.addi (BitVec.ofNat 32 i.val) 0#32) (BitVec.ofNat 32 j.val) = if i = j then 1#1 else 0#1 := by decide
  refine (congrArg (fun b : BitVec 1 => FloatOps.uitofp (F := Ideal) .f32 b) (e i j)).trans ?_
  split
  · show ((((1#1 : BitVec 1).toNat : ℝ)) : EReal) = 1; simp
  · show ((((0#1 : BitVec 1).toNat : ℝ)) : EReal) = 0; simp

/-- The transition's lanes in one row. -/
theorem lanes_at (x : (⟨2, ![32, 64]⟩ : Shape).Idx → EReal) (h) (i : (⟨2, ![1, 2048]⟩ : Shape).Idx) (g : Fin 32) (p : Fin 64)
    (h1 : (i 1).val = 64 * g.val + p.val) : shapeCast (⟨2, ![1, 2048]⟩ : Shape) x h i = x (ix2 g p) := by
  refine shapeCast_apply _ h i (ix2 g p) ?_
  rw [Shape.rowMajor_val_two, Shape.rowMajor_val_two, h1]
  have h0 : (i 0).val < 1 := (i 0).isLt
  show g.val * 64 + p.val = (i 0).val * 2048 + (64 * g.val + p.val)
  omega

/-- The in-projection's block-diagonal matrix. -/
theorem in_blocks (bb : FVec Ideal ⟨3, ![32, 64, 16]⟩ .f32) (e : FVec Ideal ⟨2, ![16, 16]⟩ .f32) (h1 h2 h3 h4 h5 h6)
    (i : (⟨3, ![2, 256, 1024]⟩ : Shape).Idx) (hf : Fin 2) (g q g' : Fin 16) (p : Fin 64)
    (i0 : (i 0).val = hf.val) (i1 : (i 1).val = 16 * g.val + q.val) (i2 : (i 2).val = 64 * g'.val + p.val) :
    shapeCast (⟨3, ![2, 256, 1024]⟩ : Shape) (mulf (broadcastInDim (⟨5, ![2, 16, 16, 16, 64]⟩ : Shape) ![0, 1, 2, 3, 4] h3
        (shapeCast (⟨5, ![2, 16, 16, 1, 64]⟩ : Shape) (transpose (⟨3, ![32, 16, 64]⟩ : Shape) [0, 2, 1] bb h1) h2))
      (broadcastInDim (⟨5, ![2, 16, 16, 16, 64]⟩ : Shape) ![0, 1, 2, 3, 4] h5 (broadcastInDim (⟨5, ![1, 16, 1, 16, 1]⟩ : Shape) ![1, 3] h4 e))) h6 i
      = bb (ix3 ⟨16 * hf.val + g.val, by omega⟩ p q) * e (ix2 g g') := by
  refine (shapeCast_apply _ h6 i (ix5 hf g q g' p) ?_).trans (congrArg₂ (· * ·) ?_ ?_)
  · rw [Shape.rowMajor_val_three, Shape.rowMajor_val_five, i0, i1, i2]
    show (((hf.val * 16 + g.val) * 16 + q.val) * 16 + g'.val) * 64 + p.val = (hf.val * 256 + (16 * g.val + q.val)) * 1024 + (64 * g'.val + p.val)
    omega
  · refine (broadcastInDim_apply _ h3 _ (ix5 hf g q g' p) (ix5 hf g q 0 p) fun a => ?_).trans
      ((shapeCast_apply _ h2 (ix5 hf g q 0 p) (ix3 ⟨16 * hf.val + g.val, by omega⟩ q p) ?_).trans
        (transpose_apply _ bb h1 _ (ix3 ⟨16 * hf.val + g.val, by omega⟩ p q) fun a => ?_))
    · match a with
      | ⟨0, _⟩ => rfl
      | ⟨1, _⟩ => rfl
      | ⟨2, _⟩ => rfl
      | ⟨3, _⟩ => rfl
      | ⟨4, _⟩ => rfl
    · rw [Shape.rowMajor_val_three, Shape.rowMajor_val_five]
      show ((16 * hf.val + g.val) * 16 + q.val) * 64 + p.val = (((hf.val * 16 + g.val) * 16 + q.val) * 1 + 0) * 64 + p.val
      omega
    · match a with
      | ⟨0, _⟩ => rfl
      | ⟨1, _⟩ => rfl
      | ⟨2, _⟩ => rfl
  · refine (broadcastInDim_apply _ h5 _ (ix5 hf g q g' p) (ix5 0 g 0 g' 0) fun a => ?_).trans (broadcastInDim_apply _ h4 e _ (ix2 g g') fun a => ?_)
    · match a with
      | ⟨0, _⟩ => rfl
      | ⟨1, _⟩ => rfl
      | ⟨2, _⟩ => rfl
      | ⟨3, _⟩ => rfl
      | ⟨4, _⟩ => rfl
    · match a with
      | ⟨0, _⟩ => rfl
      | ⟨1, _⟩ => rfl

/-- The out-projection's block-diagonal matrix. -/
theorem out_blocks (cc : FVec Ideal ⟨3, ![32, 16, 64]⟩ .f32) (e : FVec Ideal ⟨2, ![16, 16]⟩ .f32) (h1 h2 h3 h4 h5 h6)
    (i : (⟨3, ![2, 1024, 256]⟩ : Shape).Idx) (hf : Fin 2) (g g' q : Fin 16) (p : Fin 64)
    (i0 : (i 0).val = hf.val) (i1 : (i 1).val = 64 * g.val + p.val) (i2 : (i 2).val = 16 * g'.val + q.val) :
    shapeCast (⟨3, ![2, 1024, 256]⟩ : Shape) (mulf (broadcastInDim (⟨5, ![2, 16, 64, 16, 16]⟩ : Shape) ![0, 1, 2, 3, 4] h3
        (shapeCast (⟨5, ![2, 16, 64, 1, 16]⟩ : Shape) (transpose (⟨3, ![32, 64, 16]⟩ : Shape) [0, 2, 1] cc h1) h2))
      (broadcastInDim (⟨5, ![2, 16, 64, 16, 16]⟩ : Shape) ![0, 1, 2, 3, 4] h5 (broadcastInDim (⟨5, ![1, 16, 1, 16, 1]⟩ : Shape) ![1, 3] h4 e))) h6 i
      = cc (ix3 ⟨16 * hf.val + g.val, by omega⟩ q p) * e (ix2 g g') := by
  refine (shapeCast_apply _ h6 i (ix5 hf g p g' q) ?_).trans (congrArg₂ (· * ·) ?_ ?_)
  · rw [Shape.rowMajor_val_three, Shape.rowMajor_val_five, i0, i1, i2]
    show (((hf.val * 16 + g.val) * 64 + p.val) * 16 + g'.val) * 16 + q.val = (hf.val * 1024 + (64 * g.val + p.val)) * 256 + (16 * g'.val + q.val)
    omega
  · refine (broadcastInDim_apply _ h3 _ (ix5 hf g p g' q) (ix5 hf g p 0 q) fun a => ?_).trans
      ((shapeCast_apply _ h2 (ix5 hf g p 0 q) (ix3 ⟨16 * hf.val + g.val, by omega⟩ p q) ?_).trans
        (transpose_apply _ cc h1 _ (ix3 ⟨16 * hf.val + g.val, by omega⟩ q p) fun a => ?_))
    · match a with
      | ⟨0, _⟩ => rfl
      | ⟨1, _⟩ => rfl
      | ⟨2, _⟩ => rfl
      | ⟨3, _⟩ => rfl
      | ⟨4, _⟩ => rfl
    · rw [Shape.rowMajor_val_three, Shape.rowMajor_val_five]
      show ((16 * hf.val + g.val) * 64 + p.val) * 16 + q.val = (((hf.val * 16 + g.val) * 64 + p.val) * 1 + 0) * 16 + q.val
      omega
    · match a with
      | ⟨0, _⟩ => rfl
      | ⟨1, _⟩ => rfl
      | ⟨2, _⟩ => rfl
  · refine (broadcastInDim_apply _ h5 _ (ix5 hf g p g' q) (ix5 0 g 0 g' 0) fun a => ?_).trans (broadcastInDim_apply _ h4 e _ (ix2 g g') fun a => ?_)
    · match a with
      | ⟨0, _⟩ => rfl
      | ⟨1, _⟩ => rfl
      | ⟨2, _⟩ => rfl
      | ⟨3, _⟩ => rfl
      | ⟨4, _⟩ => rfl
    · match a with
      | ⟨0, _⟩ => rfl
      | ⟨1, _⟩ => rfl

end Cert.Recur

end
-- ==== Proof.ScanIn.lean ====
/-
  THE SCAN'S BLOCKS READ OFF ITS ARGUMENTS. The grid has one point, so every block is a whole array: the inputs in time-major
  order, the state and the transition by lanes, the input and output matrices laid out block-diagonally by halves.
-/
module

public import proofs.«01_k».proof.Proof.ScanOut
public import proofs.«01_k».proof.Proof.HostBlocks
public import proofs.«01_k».proof.Proof.Gen.KernelIdeal.Value
public import proofs.«01_k».proof.Proof.Gen.ReferenceIdeal.Read
public import Idealize.ShloMosaic.Lib.Pipeline.ValueKit

@[expose] public section

set_option maxRecDepth 16384

noncomputable section

namespace Cert.Proof.ScanIn

open Idealize.ShloMosaic Idealize.SL.Sem Cert.Rows Cert.Cells Cert.Recur Cert.KernelIdeal Cert.KernelIdeal.Gen
open Idealize.ShloMosaic.TcCoe

variable (m : (ℓ : Loc nD τ sig) → Buf (Elt Ideal) ℓ) (c : Dev nD)

/-- The contents of an argument. -/
abbrev arg (r : Ref sig .tc) : Buf (Elt Ideal) ((c : Thread nD τ).loc r) := m ((c : Thread nD τ).loc r)

theorem idx_zero : ∀ t : Fin cfg0.N,
    win0_0.index t (0 : Fin 3) = 0 ∧ win0_0.index t (1 : Fin 3) = 0 ∧ win0_0.index t (2 : Fin 3) = 0 ∧
    win0_1.index t (0 : Fin 2) = 0 ∧ win0_1.index t (1 : Fin 2) = 0 ∧
    win0_2.index t (0 : Fin 2) = 0 ∧ win0_2.index t (1 : Fin 2) = 0 ∧
    win0_3.index t (0 : Fin 2) = 0 ∧ win0_3.index t (1 : Fin 2) = 0 ∧
    win0_4.index t (0 : Fin 2) = 0 ∧ win0_4.index t (1 : Fin 2) = 0 :=
  (by decide +kernel : ∀ t : Fin grid0.N, _)
theorem idx_zero' : ∀ t : Fin cfg0.N,
    win0_5.index t (0 : Fin 3) = 0 ∧ win0_5.index t (1 : Fin 3) = 0 ∧ win0_5.index t (2 : Fin 3) = 0 ∧
    win0_6.index t (0 : Fin 3) = 0 ∧ win0_6.index t (1 : Fin 3) = 0 ∧ win0_6.index t (2 : Fin 3) = 0 ∧
    win0_7.index t (0 : Fin 3) = 0 ∧ win0_7.index t (1 : Fin 3) = 0 ∧ win0_7.index t (2 : Fin 3) = 0 ∧
    win0_8.index t (0 : Fin 3) = 0 ∧ win0_8.index t (1 : Fin 3) = 0 ∧ win0_8.index t (2 : Fin 3) = 0 ∧
    win0_9.index t (0 : Fin 2) = 0 ∧ win0_9.index t (1 : Fin 2) = 0 ∧
    win0_10.index t (0 : Fin 2) = 0 ∧ win0_10.index t (1 : Fin 2) = 0 ∧
    win0_11.index t (0 : Fin 3) = 0 ∧ win0_11.index t (1 : Fin 3) = 0 ∧ win0_11.index t (2 : Fin 3) = 0 ∧
    win0_12.index t (0 : Fin 2) = 0 ∧ win0_12.index t (1 : Fin 2) = 0 ∧
    win0_13.index t (0 : Fin 2) = 0 ∧ win0_13.index t (1 : Fin 2) = 0 :=
  (by decide +kernel : ∀ t : Fin grid0.N, _)

/-- The inputs, in time-major order. -/
theorem in0 (t : Fin cfg0.N) (a : Fin 4) (b : Fin 128) (j : Fin 512) :
    (iblk m c 0 t : S4x128x512.Idx → EReal) (ValueIdx.ix3 a b j) = (arg m c main_arg0 : S128x4x512.Idx → EReal) (ValueIdx.ix3 b a j) := by
  obtain ⟨h0, h1, h2, -⟩ := idx_zero t
  blk_simp [iblk]
  entry_read
  refine (congrArg _ (show _ = ValueIdx.ix3 a b j from ?_)).trans (transpose_swap _ transposes_S128x4x512_S4x128x512_1_0_2 b a j)
  blk_ext [h0, h1, h2]

theorem in1 (t : Fin cfg0.N) (b l : ℕ) (hb : b < 128) (hl : l < 2048) :
    cell (iblk m c 1 t : S128x2048.Idx → EReal) b l = cell3 (arg m c main_arg1 : S128x32x64.Idx → EReal) b (l / 64) (l % 64) := by
  obtain ⟨-, -, -, h0, h1, -⟩ := idx_zero t
  rw [cell_of_lt _ hb hl, cell3_of_lt _ hb (by omega : l / 64 < 32) (by omega : l % 64 < 64)]
  blk_simp [iblk]
  entry_read
  exact shapeCast_wide _ _ _ ⟨b, hb⟩ ⟨l / 64, by omega⟩ ⟨l % 64, by omega⟩ rfl (by blk_simp [h0]) (by blk_simp [h1]; show l = l / 64 * 64 + l % 64; omega)

theorem in2 (t : Fin cfg0.N) (b l : ℕ) (hb : b < 128) (hl : l < 2048) :
    cell (iblk m c 2 t : S128x2048.Idx → EReal) b l = cell3 (arg m c main_arg2 : S128x32x64.Idx → EReal) b (l / 64) (l % 64) := by
  obtain ⟨-, -, -, -, -, h0, h1, -⟩ := idx_zero t
  rw [cell_of_lt _ hb hl, cell3_of_lt _ hb (by omega : l / 64 < 32) (by omega : l % 64 < 64)]
  blk_simp [iblk]
  entry_read
  exact shapeCast_wide _ _ _ ⟨b, hb⟩ ⟨l / 64, by omega⟩ ⟨l % 64, by omega⟩ rfl (by blk_simp [h0]) (by blk_simp [h1]; show l = l / 64 * 64 + l % 64; omega)

theorem in3 (t : Fin cfg0.N) (l : ℕ) (hl : l < 2048) :
    cell (iblk m c 3 t : S1x2048.Idx → EReal) 0 l
      = cell (Cert.ReferenceIdeal.Read.val_main_v9 (F := Ideal) (arg m c main_arg3) (arg m c main_arg4) (arg m c main_arg5) : S32x64.Idx → EReal) (l / 64) (l % 64) := by
  obtain ⟨-, -, -, -, -, -, -, h0, h1, -⟩ := idx_zero t
  rw [cell_of_lt _ (by decide : 0 < 1) hl, cell_of_lt _ (by omega : l / 64 < 32) (by omega : l % 64 < 64)]
  blk_simp [iblk]
  entry_read
  exact lanes_at _ _ _ ⟨l / 64, by omega⟩ ⟨l % 64, by omega⟩ (by blk_simp [h1]; show l = 64 * (l / 64) + l % 64; omega)

theorem in4 (t : Fin cfg0.N) (l : ℕ) (hl : l < 2048) :
    cell (iblk m c 4 t : S1x2048.Idx → EReal) 0 l
      = cell (Cert.ReferenceIdeal.Read.val_main_v13 (F := Ideal) (arg m c main_arg3) (arg m c main_arg4) (arg m c main_arg5) : S32x64.Idx → EReal) (l / 64) (l % 64) := by
  obtain ⟨-, -, -, -, -, -, -, -, -, h0, h1⟩ := idx_zero t
  rw [cell_of_lt _ (by decide : 0 < 1) hl, cell_of_lt _ (by omega : l / 64 < 32) (by omega : l % 64 < 64)]
  blk_simp [iblk]
  entry_read
  exact lanes_at _ _ _ ⟨l / 64, by omega⟩ ⟨l % 64, by omega⟩ (by blk_simp [h1]; show l = 64 * (l / 64) + l % 64; omega)

theorem in5 (t : Fin cfg0.N) : ∀ hf < 2, ∀ k < 256, ∀ q < 1024, cell3 (iblk m c 5 t : S2x256x1024.Idx → EReal) hf k q
    = if k / 16 = q / 64 then cell3 (Cert.ReferenceIdeal.Read.val_main_v35 (F := Ideal) (arg m c main_arg3) (arg m c main_arg4) (arg m c main_arg5) (arg m c main_arg6) (arg m c main_arg7) : S32x64x16.Idx → EReal)
        (16 * hf + k / 16) (q % 64) (k % 16) else 0 := by
  intro hf hhf k hk q hq
  obtain ⟨h0, h1, h2, -⟩ := idx_zero' t
  rw [cell3_of_lt _ hhf hk hq, cell3_of_lt _ (by omega : 16 * hf + k / 16 < 32) (by omega : q % 64 < 64) (by omega : k % 16 < 16)]
  blk_simp [iblk]
  entry_read
  refine (in_blocks _ _ _ _ _ _ _ _ _ ⟨hf, hhf⟩ ⟨k / 16, by omega⟩ ⟨k % 16, by omega⟩ ⟨q / 64, by omega⟩ ⟨q % 64, by omega⟩
    (by blk_simp [h0]) (by blk_simp [h1]; show k = 16 * (k / 16) + k % 16; omega) (by blk_simp [h2]; show q = 64 * (q / 64) + q % 64; omega)).trans ?_
  rw [eye_at]
  simp only [Fin.mk.injEq]
  split
  · exact mul_one _
  · exact mul_zero _

theorem in6 (t : Fin cfg0.N) : ∀ hf < 2, ∀ k < 256, ∀ q < 1024, cell3 (iblk m c 6 t : S2x256x1024.Idx → EReal) hf k q
    = if k / 16 = q / 64 then cell3 (Cert.ReferenceIdeal.Read.val_main_v42 (F := Ideal) (arg m c main_arg3) (arg m c main_arg4) (arg m c main_arg5) (arg m c main_arg6) (arg m c main_arg7) : S32x64x16.Idx → EReal)
        (16 * hf + k / 16) (q % 64) (k % 16) else 0 := by
  intro hf hhf k hk q hq
  obtain ⟨-, -, -, h0, h1, h2, -⟩ := idx_zero' t
  rw [cell3_of_lt _ hhf hk hq, cell3_of_lt _ (by omega : 16 * hf + k / 16 < 32) (by omega : q % 64 < 64) (by omega : k % 16 < 16)]
  blk_simp [iblk]
  entry_read
  refine (in_blocks _ _ _ _ _ _ _ _ _ ⟨hf, hhf⟩ ⟨k / 16, by omega⟩ ⟨k % 16, by omega⟩ ⟨q / 64, by omega⟩ ⟨q % 64, by omega⟩
    (by blk_simp [h0]) (by blk_simp [h1]; show k = 16 * (k / 16) + k % 16; omega) (by blk_simp [h2]; show q = 64 * (q / 64) + q % 64; omega)).trans ?_
  rw [eye_at]
  simp only [Fin.mk.injEq]
  split
  · exact mul_one _
  · exact mul_zero _

theorem in7 (t : Fin cfg0.N) : ∀ hf < 2, ∀ k < 1024, ∀ q < 256, cell3 (iblk m c 7 t : S2x1024x256.Idx → EReal) hf k q
    = if k / 64 = q / 16 then cell3 (arg m c main_arg8 : S32x16x64.Idx → EReal) (16 * hf + k / 64) (q % 16) (k % 64) else 0 := by
  intro hf hhf k hk q hq
  obtain ⟨-, -, -, -, -, -, h0, h1, h2, -⟩ := idx_zero' t
  rw [cell3_of_lt _ hhf hk hq, cell3_of_lt _ (by omega : 16 * hf + k / 64 < 32) (by omega : q % 16 < 16) (by omega : k % 64 < 64)]
  blk_simp [iblk]
  entry_read
  refine (out_blocks _ _ _ _ _ _ _ _ _ ⟨hf, hhf⟩ ⟨k / 64, by omega⟩ ⟨q / 16, by omega⟩ ⟨q % 16, by omega⟩ ⟨k % 64, by omega⟩
    (by blk_simp [h0]) (by blk_simp [h1]; show k = 64 * (k / 64) + k % 64; omega) (by blk_simp [h2]; show q = 16 * (q / 16) + q % 16; omega)).trans ?_
  rw [eye_at]
  simp only [Fin.mk.injEq]
  split
  · exact mul_one _
  · exact mul_zero _

theorem in8 (t : Fin cfg0.N) : ∀ hf < 2, ∀ k < 1024, ∀ q < 256, cell3 (iblk m c 8 t : S2x1024x256.Idx → EReal) hf k q
    = if k / 64 = q / 16 then cell3 (arg m c main_arg9 : S32x16x64.Idx → EReal) (16 * hf + k / 64) (q % 16) (k % 64) else 0 := by
  intro hf hhf k hk q hq
  obtain ⟨-, -, -, -, -, -, -, -, -, h0, h1, h2, -⟩ := idx_zero' t
  rw [cell3_of_lt _ hhf hk hq, cell3_of_lt _ (by omega : 16 * hf + k / 64 < 32) (by omega : q % 16 < 16) (by omega : k % 64 < 64)]
  blk_simp [iblk]
  entry_read
  refine (out_blocks _ _ _ _ _ _ _ _ _ ⟨hf, hhf⟩ ⟨k / 64, by omega⟩ ⟨q / 16, by omega⟩ ⟨q % 16, by omega⟩ ⟨k % 64, by omega⟩
    (by blk_simp [h0]) (by blk_simp [h1]; show k = 64 * (k / 64) + k % 64; omega) (by blk_simp [h2]; show q = 16 * (q / 16) + q % 16; omega)).trans ?_
  rw [eye_at]
  simp only [Fin.mk.injEq]
  split
  · exact mul_one _
  · exact mul_zero _

theorem in9 (t : Fin cfg0.N) :
    row (M := 1) (N := 512) (φ := .f32) (iblk m c 9 t) 0 = vec (N := 512) (φ := .f32) (m ((c : Thread nD τ).loc main_arg10)) := by
  obtain ⟨-, -, -, -, -, -, -, -, -, -, -, -, h0, h1, -⟩ := idx_zero' t
  funext j
  unfold row vec
  blk_simp [iblk]
  entry_read
  exact shapeCast_vec _ _ _ j (by blk_simp [h1])

theorem in10 (t : Fin cfg0.N) :
    mat (M := 512) (N := 512) (φ := .bf16) (iblk m c 10 t) = mat (M := 512) (N := 512) (φ := .f32) (m ((c : Thread nD τ).loc main_arg11)) := by
  obtain ⟨-, -, -, -, -, -, -, -, -, -, -, -, -, -, h0, h1, -⟩ := idx_zero' t
  funext i j
  unfold mat
  blk_simp [iblk]
  entry_read
  exact congrArg (m ((c : Thread nD τ).loc main_arg11)) (by blk_ext [h0, h1])

end Cert.Proof.ScanIn

end
-- ==== Proof.ScanHost.lean ====
/-
  THE RECURRENCE'S HOST OPERATIONS AT AN ELEMENT. The reference keeps groups and states on two axes and steps the recurrence by
  array operations over batch, group and state; this module reads each of them at one element.
-/
module

public import proofs.«01_k».proof.Proof.Recur
public import proofs.«01_k».proof.Proof.ScanRows

@[expose] public section

noncomputable section

namespace Cert.Recur

open Idealize.ShloMosaic Idealize.ShloMosaic.ValueIdx Cert.Cells
open scoped BigOperators

/-- The transition laid under every batch row. -/
theorem under_at (a : (⟨2, ![32, 64]⟩ : Shape).Idx → EReal) (h1 h2) (b : Fin 128) (g : Fin 32) (p : Fin 64) :
    broadcastInDim (⟨3, ![128, 32, 64]⟩ : Shape) ![0, 1, 2] h2 (broadcastInDim (⟨3, ![1, 32, 64]⟩ : Shape) ![1, 2] h1 a) (ix3 b g p) = a (ix2 g p) := by
  refine (broadcastInDim_apply _ h2 _ (ix3 b g p) (ix3 0 g p) fun d => ?_).trans (broadcastInDim_apply _ h1 a _ (ix2 g p) fun d => ?_)
  · match d with
    | ⟨0, _⟩ => rfl
    | ⟨1, _⟩ => rfl
    | ⟨2, _⟩ => rfl
  · match d with
    | ⟨0, _⟩ => rfl
    | ⟨1, _⟩ => rfl

/-- One step's slice of the inputs. -/
theorem step_at (x : (⟨4, ![128, 4, 32, 64]⟩ : Shape).Idx → EReal) (t : Fin 4) (h1 : (⟨4, ![128, 4, 32, 64]⟩ : Shape).Slices ![0, t.val, 0, 0] ⟨4, ![128, 1, 32, 64]⟩) (h2)
    (b : Fin 128) (g : Fin 32) (p : Fin 64) :
    shapeCast (⟨3, ![128, 32, 64]⟩ : Shape) (extractStridedSlice (⟨4, ![128, 1, 32, 64]⟩ : Shape) ![0, t.val, 0, 0] x h1) h2 (ix3 b g p) = x (ix4 b t g p) := by
  refine (shapeCast_apply _ h2 (ix3 b g p) (ix4 b 0 g p) ?_).trans (extractStridedSlice_apply _ x h1 (ix4 b 0 g p) (ix4 b t g p) fun d => ?_)
  · rw [Shape.rowMajor_val_three, Shape.rowMajor_val_four]
    show ((b.val * 1 + 0) * 32 + g.val) * 64 + p.val = (b.val * 32 + g.val) * 64 + p.val
    omega
  · match d with
    | ⟨0, _⟩ => exact (Nat.zero_add _).symm
    | ⟨1, _⟩ => rfl
    | ⟨2, _⟩ => exact (Nat.zero_add _).symm
    | ⟨3, _⟩ => exact (Nat.zero_add _).symm

/-- The inputs' product: batch over groups. -/
abbrev inDims (wf : DotDims.WF ⟨3, ![32, 64, 16]⟩ ⟨4, ![128, 4, 32, 16]⟩ ⟨4, ![32, 64, 128, 4]⟩ [2] [3] [1] [0, 1] [0] [2]) :
    DotDims ⟨3, ![32, 64, 16]⟩ ⟨4, ![128, 4, 32, 16]⟩ ⟨4, ![32, 64, 128, 4]⟩ :=
  { lhsContracting := [2], rhsContracting := [3], lhsNonContracting := [1], rhsNonContracting := [0, 1], lhsBatch := [0], rhsBatch := [2], wf := wf }

/-- The product of a group's input matrix and its features. -/
theorem in_at (d : DotDims ⟨3, ![32, 64, 16]⟩ ⟨4, ![128, 4, 32, 16]⟩ ⟨4, ![32, 64, 128, 4]⟩)
    (wf : DotDims.WF ⟨3, ![32, 64, 16]⟩ ⟨4, ![128, 4, 32, 16]⟩ ⟨4, ![32, 64, 128, 4]⟩ [2] [3] [1] [0, 1] [0] [2]) (hd : d = inDims wf) (pr)
    (w : FVec Ideal ⟨3, ![32, 64, 16]⟩ .f32) (u : FVec Ideal ⟨3, ![128, 4, 512]⟩ .f32) (h1 h2) (b : Fin 128) (t : Fin 4) (g : Fin 32) (p : Fin 64) :
    transpose (⟨4, ![128, 4, 32, 64]⟩ : Shape) ([2, 3, 0, 1] : List (Fin 4)) (Host.dotGeneral (F := Ideal) d pr w (shapeCast (⟨4, ![128, 4, 32, 16]⟩ : Shape) u h1)) h2 (ix4 b t g p)
      = drive u w b.val t.val (64 * g.val + p.val) := by
  subst hd
  refine (transpose_apply _ _ h2 (ix4 b t g p) (ix4 g p b t) fun a => ?_).trans ?_
  · match a with
    | ⟨0, _⟩ => rfl
    | ⟨1, _⟩ => rfl
    | ⟨2, _⟩ => rfl
    | ⟨3, _⟩ => rfl
  simp only [Host.dotGeneral]
  rw [Ideal.dotGeneral_apply, ← Equiv.sum_comp (contrEquiv1 (inDims wf) 16 rfl rfl).symm]
  unfold drive
  refine Finset.sum_congr rfl fun q _ => ?_
  have hq := contrEquiv1_symm_val (inDims wf) 16 rfl rfl q
  rw [show (64 * g.val + p.val) / 64 = g.val by omega, show (64 * g.val + p.val) % 64 = p.val by omega,
    cell3_of_lt w g.isLt p.isLt q.isLt, cell3_of_lt u b.isLt t.isLt (by omega : 16 * g.val + q.val < 512)]
  refine congrArg₂ (· * ·) (congrArg w (funext fun a => Fin.ext ?_)) ((shapeCast_apply _ h1 _ (ix3 b t ⟨16 * g.val + q.val, by omega⟩) ?_))
  · match a with
    | ⟨0, _⟩ => rfl
    | ⟨1, _⟩ => rfl
    | ⟨2, _⟩ => exact hq
  · rw [Shape.rowMajor_val_three, Shape.rowMajor_val_four]
    show (b.val * 4 + t.val) * 512 + (16 * g.val + q.val) = ((b.val * 4 + t.val) * 32 + g.val) * 16 + _
    have e : ((((inDims wf).rhsIdx (ix4 g p b t) ((contrEquiv1 (inDims wf) 16 rfl rfl).symm q)) 3 : Fin _).val) = q.val := hq
    omega

/-- The outputs' product: batch over groups. -/
abbrev outDims (wf : DotDims.WF ⟨3, ![32, 16, 64]⟩ ⟨3, ![128, 32, 64]⟩ ⟨3, ![32, 16, 128]⟩ [2] [2] [1] [0] [0] [1]) :
    DotDims ⟨3, ![32, 16, 64]⟩ ⟨3, ![128, 32, 64]⟩ ⟨3, ![32, 16, 128]⟩ :=
  { lhsContracting := [2], rhsContracting := [2], lhsNonContracting := [1], rhsNonContracting := [0], lhsBatch := [0], rhsBatch := [1], wf := wf }

/-- The product of a group's output matrix and its states. -/
theorem out_at (d : DotDims ⟨3, ![32, 16, 64]⟩ ⟨3, ![128, 32, 64]⟩ ⟨3, ![32, 16, 128]⟩)
    (wf : DotDims.WF ⟨3, ![32, 16, 64]⟩ ⟨3, ![128, 32, 64]⟩ ⟨3, ![32, 16, 128]⟩ [2] [2] [1] [0] [0] [1]) (hd : d = outDims wf) (pr)
    (w : FVec Ideal ⟨3, ![32, 16, 64]⟩ .f32) (s : FVec Ideal ⟨3, ![128, 32, 64]⟩ .f32) (h2) (b : Fin 128) (g : Fin 32) (q : Fin 16) :
    transpose (⟨3, ![128, 32, 16]⟩ : Shape) ([2, 0, 1] : List (Fin 3)) (Host.dotGeneral (F := Ideal) d pr w s) h2 (ix3 b g q)
      = ∑ p : Fin 64, w (ix3 g q p) * s (ix3 b g p) := by
  subst hd
  refine (transpose_apply _ _ h2 (ix3 b g q) (ix3 g q b) fun a => ?_).trans ?_
  · match a with
    | ⟨0, _⟩ => rfl
    | ⟨1, _⟩ => rfl
    | ⟨2, _⟩ => rfl
  simp only [Host.dotGeneral]
  rw [Ideal.dotGeneral_apply, ← Equiv.sum_comp (contrEquiv1 (outDims wf) 64 rfl rfl).symm]
  refine Finset.sum_congr rfl fun p _ => ?_
  have hp := contrEquiv1_symm_val (outDims wf) 64 rfl rfl p
  refine congrArg₂ (· * ·) (congrArg w (funext fun a => Fin.ext ?_)) (congrArg s (funext fun a => Fin.ext ?_))
  · match a with
    | ⟨0, _⟩ => rfl
    | ⟨1, _⟩ => rfl
    | ⟨2, _⟩ => exact hp
  · match a with
    | ⟨0, _⟩ => rfl
    | ⟨1, _⟩ => rfl
    | ⟨2, _⟩ => exact hp

/-- Four one-row pieces in one array. -/
theorem pieces_at (p0 p1 p2 p3 : (⟨4, ![1, 128, 32, 16]⟩ : Shape).Idx → EReal)
    (h : Shape.Concatenates (List.map (fun x => x.1) ([⟨⟨4, ![1, 128, 32, 16]⟩, p0⟩, ⟨⟨4, ![1, 128, 32, 16]⟩, p1⟩, ⟨⟨4, ![1, 128, 32, 16]⟩, p2⟩, ⟨⟨4, ![1, 128, 32, 16]⟩, p3⟩] : List ((s : Shape) × (s.Idx → EReal)))) (⟨4, ![4, 128, 32, 16]⟩ : Shape) 0)
    (t : Fin 4) (b : Fin 128) (g : Fin 32) (q : Fin 16) :
    concatenate (⟨4, ![4, 128, 32, 16]⟩ : Shape) 0 [⟨⟨4, ![1, 128, 32, 16]⟩, p0⟩, ⟨⟨4, ![1, 128, 32, 16]⟩, p1⟩, ⟨⟨4, ![1, 128, 32, 16]⟩, p2⟩, ⟨⟨4, ![1, 128, 32, 16]⟩, p3⟩] h (ix4 t b g q)
      = (![p0, p1, p2, p3] : Fin 4 → (⟨4, ![1, 128, 32, 16]⟩ : Shape).Idx → EReal) t (ix4 0 b g q) :=
  concatenate_ofFn_unit_apply (t := (⟨4, ![4, 128, 32, 16]⟩ : Shape)) (s₁ := ⟨4, ![1, 128, 32, 16]⟩) 0 ![p0, p1, p2, p3] h rfl rfl (ix4 t b g q) t rfl (ix4 0 b g q) fun a ha => by
    match a with
    | ⟨0, _⟩ => exact absurd rfl ha
    | ⟨1, _⟩ => rfl
    | ⟨2, _⟩ => rfl
    | ⟨3, _⟩ => rfl

/-- One step's outputs as a one-row piece. -/
theorem lift_at (x : (⟨3, ![128, 32, 16]⟩ : Shape).Idx → EReal) (hx) (b : Fin 128) (g : Fin 32) (q : Fin 16) :
    broadcastInDim (⟨4, ![1, 128, 32, 16]⟩ : Shape) ![1, 2, 3] hx x (ix4 0 b g q) = x (ix3 b g q) :=
  broadcastInDim_apply _ hx x _ (ix3 b g q) fun a => by
    match a with
    | ⟨0, _⟩ => rfl
    | ⟨1, _⟩ => rfl
    | ⟨2, _⟩ => rfl

/-- The steps' outputs with groups and features on one axis. -/
theorem flat4_at (x : (⟨4, ![4, 128, 32, 16]⟩ : Shape).Idx → EReal) (h') (t : Fin 4) (b : Fin 128) (j : Fin 512) :
    shapeCast (⟨3, ![4, 128, 512]⟩ : Shape) x h' (ix3 t b j) = x (ix4 t b ⟨j.val / 16, by omega⟩ ⟨j.val % 16, by omega⟩) := by
  refine shapeCast_apply _ h' (ix3 t b j) (ix4 t b ⟨j.val / 16, by omega⟩ ⟨j.val % 16, by omega⟩) ?_
  rw [Shape.rowMajor_val_three, Shape.rowMajor_val_four]
  show ((t.val * 128 + b.val) * 32 + j.val / 16) * 16 + j.val % 16 = (t.val * 128 + b.val) * 512 + j.val
  omega

/-- The skip's gains laid under every row. -/
theorem gains_at (d : (⟨1, ![512]⟩ : Shape).Idx → EReal) (h1 h2) (t : Fin 4) (b : Fin 128) (j : Fin 512) :
    broadcastInDim (⟨3, ![4, 128, 512]⟩ : Shape) ![0, 1, 2] h2 (broadcastInDim (⟨3, ![1, 1, 512]⟩ : Shape) ![2] h1 d) (ix3 t b j) = d (ix1 j) := by
  refine (broadcastInDim_apply _ h2 _ (ix3 t b j) (ix3 0 0 j) fun a => ?_).trans (broadcastInDim_apply _ h1 d _ (ix1 j) fun a => ?_)
  · match a with
    | ⟨0, _⟩ => rfl
    | ⟨1, _⟩ => rfl
    | ⟨2, _⟩ => rfl
  · match a with
    | ⟨0, _⟩ => rfl

/-- The states' two axes as one. -/
theorem merge_at (s : (⟨3, ![128, 32, 64]⟩ : Shape).Idx → EReal) (h) (i : (⟨2, ![128, 2048]⟩ : Shape).Idx) (b : Fin 128) (g : Fin 32) (p : Fin 64)
    (h0 : (i 0).val = b.val) (h1 : (i 1).val = 64 * g.val + p.val) : shapeCast (⟨2, ![128, 2048]⟩ : Shape) s h i = s (ix3 b g p) := by
  refine shapeCast_apply _ h i (ix3 b g p) ?_
  rw [Shape.rowMajor_val_three, Shape.rowMajor_val_two, h0, h1]
  show (b.val * 32 + g.val) * 64 + p.val = b.val * 2048 + (64 * g.val + p.val)
  omega

/-- One step of the states' real parts. -/
theorem step_re (u : FVec Ideal ⟨3, ![128, 4, 512]⟩ .f32) (sr si x y : FVec Ideal ⟨3, ![128, 32, 64]⟩ .f32) (ar ai : FVec Ideal ⟨2, ![32, 64]⟩ .f32)
    (br bi : FVec Ideal ⟨3, ![32, 64, 16]⟩ .f32) (v : FVec Ideal ⟨4, ![128, 4, 32, 64]⟩ .f32) (t : Fin 4) (k k' m m')
    (h1 : (⟨4, ![128, 4, 32, 64]⟩ : Shape).Slices ![0, t.val, 0, 0] ⟨4, ![128, 1, 32, 64]⟩) (h2) (b : Fin 128) (g : Fin 32) (p : Fin 64)
    (hx : x (ix3 b g p) = (state u sr si ar ai br bi b.val (64 * g.val + p.val) t.val).1)
    (hy : y (ix3 b g p) = (state u sr si ar ai br bi b.val (64 * g.val + p.val) t.val).2)
    (hv : v (ix4 b t g p) = drive u br b.val t.val (64 * g.val + p.val)) :
    (addf (subf (mulf (broadcastInDim (⟨3, ![128, 32, 64]⟩ : Shape) ![0, 1, 2] k' (broadcastInDim (⟨3, ![1, 32, 64]⟩ : Shape) ![1, 2] k ar)) x) (mulf (broadcastInDim (⟨3, ![128, 32, 64]⟩ : Shape) ![0, 1, 2] m' (broadcastInDim (⟨3, ![1, 32, 64]⟩ : Shape) ![1, 2] m ai)) y)) (shapeCast (⟨3, ![128, 32, 64]⟩ : Shape) (extractStridedSlice (⟨4, ![128, 1, 32, 64]⟩ : Shape) ![0, t.val, 0, 0] v h1) h2) : FVec Ideal ⟨3, ![128, 32, 64]⟩ .f32) (ix3 b g p)
      = (state u sr si ar ai br bi b.val (64 * g.val + p.val) (t.val + 1)).1 := by
  show (broadcastInDim (⟨3, ![128, 32, 64]⟩ : Shape) ![0, 1, 2] k' (broadcastInDim (⟨3, ![1, 32, 64]⟩ : Shape) ![1, 2] k ar)) (ix3 b g p) * x (ix3 b g p) - (broadcastInDim (⟨3, ![128, 32, 64]⟩ : Shape) ![0, 1, 2] m' (broadcastInDim (⟨3, ![1, 32, 64]⟩ : Shape) ![1, 2] m ai)) (ix3 b g p) * y (ix3 b g p) + (shapeCast (⟨3, ![128, 32, 64]⟩ : Shape) (extractStridedSlice (⟨4, ![128, 1, 32, 64]⟩ : Shape) ![0, t.val, 0, 0] v h1) h2) (ix3 b g p) = _
  rw [under_at, under_at, step_at, hx, hy, hv]
  conv_rhs => rw [state]
  rw [show (64 * g.val + p.val) / 64 = g.val by omega, show (64 * g.val + p.val) % 64 = p.val by omega, cell_of_lt ar g.isLt p.isLt, cell_of_lt ai g.isLt p.isLt]

/-- One step of the states' imaginary parts. -/
theorem step_im (u : FVec Ideal ⟨3, ![128, 4, 512]⟩ .f32) (sr si x y : FVec Ideal ⟨3, ![128, 32, 64]⟩ .f32) (ar ai : FVec Ideal ⟨2, ![32, 64]⟩ .f32)
    (br bi : FVec Ideal ⟨3, ![32, 64, 16]⟩ .f32) (v : FVec Ideal ⟨4, ![128, 4, 32, 64]⟩ .f32) (t : Fin 4) (k k' m m')
    (h1 : (⟨4, ![128, 4, 32, 64]⟩ : Shape).Slices ![0, t.val, 0, 0] ⟨4, ![128, 1, 32, 64]⟩) (h2) (b : Fin 128) (g : Fin 32) (p : Fin 64)
    (hx : x (ix3 b g p) = (state u sr si ar ai br bi b.val (64 * g.val + p.val) t.val).1)
    (hy : y (ix3 b g p) = (state u sr si ar ai br bi b.val (64 * g.val + p.val) t.val).2)
    (hv : v (ix4 b t g p) = drive u bi b.val t.val (64 * g.val + p.val)) :
    (addf (addf (mulf (broadcastInDim (⟨3, ![128, 32, 64]⟩ : Shape) ![0, 1, 2] k' (broadcastInDim (⟨3, ![1, 32, 64]⟩ : Shape) ![1, 2] k ar)) y) (mulf (broadcastInDim (⟨3, ![128, 32, 64]⟩ : Shape) ![0, 1, 2] m' (broadcastInDim (⟨3, ![1, 32, 64]⟩ : Shape) ![1, 2] m ai)) x)) (shapeCast (⟨3, ![128, 32, 64]⟩ : Shape) (extractStridedSlice (⟨4, ![128, 1, 32, 64]⟩ : Shape) ![0, t.val, 0, 0] v h1) h2) : FVec Ideal ⟨3, ![128, 32, 64]⟩ .f32) (ix3 b g p)
      = (state u sr si ar ai br bi b.val (64 * g.val + p.val) (t.val + 1)).2 := by
  show (broadcastInDim (⟨3, ![128, 32, 64]⟩ : Shape) ![0, 1, 2] k' (broadcastInDim (⟨3, ![1, 32, 64]⟩ : Shape) ![1, 2] k ar)) (ix3 b g p) * y (ix3 b g p) + (broadcastInDim (⟨3, ![128, 32, 64]⟩ : Shape) ![0, 1, 2] m' (broadcastInDim (⟨3, ![1, 32, 64]⟩ : Shape) ![1, 2] m ai)) (ix3 b g p) * x (ix3 b g p) + (shapeCast (⟨3, ![128, 32, 64]⟩ : Shape) (extractStridedSlice (⟨4, ![128, 1, 32, 64]⟩ : Shape) ![0, t.val, 0, 0] v h1) h2) (ix3 b g p) = _
  rw [under_at, under_at, step_at, hx, hy, hv]
  conv_rhs => rw [state]
  rw [show (64 * g.val + p.val) / 64 = g.val by omega, show (64 * g.val + p.val) % 64 = p.val by omega, cell_of_lt ar g.isLt p.isLt, cell_of_lt ai g.isLt p.isLt]

end Cert.Recur

end
-- ==== Proof.ScanRef.lean ====
/-
  THE REFERENCE'S RECURRENCE AT AN ELEMENT. The four steps' states, the outputs they give, and the gated result, each as the plain
  recurrence over the groups' transitions, inputs and outputs.
-/
module

public import proofs.«01_k».proof.Proof.ScanHost
public import proofs.«01_k».proof.Proof.HostRows
public import proofs.«01_k».proof.Proof.Gen.ReferenceIdeal.Read

@[expose] public section

noncomputable section

namespace Cert.Proof.ScanRef

open Idealize.ShloMosaic Idealize.ShloMosaic.ValueIdx Cert.Rows Cert.Cells Cert.Recur Cert.ReferenceIdeal Cert.ReferenceIdeal.Gen Cert.ReferenceIdeal.Read
open scoped BigOperators

theorem first (s : (⟨S128x32x64, .f32⟩ : BufTy).Contents (Elt Ideal)) (b : Fin 128) (g : Fin 32) (p : Fin 64) :
    s (ix3 b g p) = cell3 s b.val ((64 * g.val + p.val) / 64) ((64 * g.val + p.val) % 64) := by
  rw [show (64 * g.val + p.val) / 64 = g.val by omega, show (64 * g.val + p.val) % 64 = p.val by omega, cell3_of_lt s b.isLt g.isLt p.isLt]

theorem r44 (x0 : (⟨S128x4x512, .f32⟩ : BufTy).Contents (Elt Ideal)) (x1 : (⟨S128x32x64, .f32⟩ : BufTy).Contents (Elt Ideal)) (x2 : (⟨S128x32x64, .f32⟩ : BufTy).Contents (Elt Ideal)) (x3 : (⟨S32x64, .f32⟩ : BufTy).Contents (Elt Ideal)) (x4 : (⟨S32x64, .f32⟩ : BufTy).Contents (Elt Ideal)) (x5 : (⟨S32, .f32⟩ : BufTy).Contents (Elt Ideal)) (x6 : (⟨S32x64x16, .f32⟩ : BufTy).Contents (Elt Ideal)) (x7 : (⟨S32x64x16, .f32⟩ : BufTy).Contents (Elt Ideal)) (b : Fin 128) (t : Fin 4) (g : Fin 32) (p : Fin 64) :
    (val_main_v44 (F := Ideal) x0 x3 x4 x5 x6 x7) (ix4 b t g p) = drive x0 (val_main_v35 (F := Ideal) x3 x4 x5 x6 x7) b.val t.val (64 * g.val + p.val) :=
  in_at _ _ rfl _ (val_main_v35 (F := Ideal) x3 x4 x5 x6 x7) x0 _ _ b t g p

theorem r46 (x0 : (⟨S128x4x512, .f32⟩ : BufTy).Contents (Elt Ideal)) (x1 : (⟨S128x32x64, .f32⟩ : BufTy).Contents (Elt Ideal)) (x2 : (⟨S128x32x64, .f32⟩ : BufTy).Contents (Elt Ideal)) (x3 : (⟨S32x64, .f32⟩ : BufTy).Contents (Elt Ideal)) (x4 : (⟨S32x64, .f32⟩ : BufTy).Contents (Elt Ideal)) (x5 : (⟨S32, .f32⟩ : BufTy).Contents (Elt Ideal)) (x6 : (⟨S32x64x16, .f32⟩ : BufTy).Contents (Elt Ideal)) (x7 : (⟨S32x64x16, .f32⟩ : BufTy).Contents (Elt Ideal)) (b : Fin 128) (t : Fin 4) (g : Fin 32) (p : Fin 64) :
    (val_main_v46 (F := Ideal) x0 x3 x4 x5 x6 x7) (ix4 b t g p) = drive x0 (val_main_v42 (F := Ideal) x3 x4 x5 x6 x7) b.val t.val (64 * g.val + p.val) :=
  in_at _ _ rfl _ (val_main_v42 (F := Ideal) x3 x4 x5 x6 x7) x0 _ _ b t g p

theorem r56 (x0 : (⟨S128x4x512, .f32⟩ : BufTy).Contents (Elt Ideal)) (x1 : (⟨S128x32x64, .f32⟩ : BufTy).Contents (Elt Ideal)) (x2 : (⟨S128x32x64, .f32⟩ : BufTy).Contents (Elt Ideal)) (x3 : (⟨S32x64, .f32⟩ : BufTy).Contents (Elt Ideal)) (x4 : (⟨S32x64, .f32⟩ : BufTy).Contents (Elt Ideal)) (x5 : (⟨S32, .f32⟩ : BufTy).Contents (Elt Ideal)) (x6 : (⟨S32x64x16, .f32⟩ : BufTy).Contents (Elt Ideal)) (x7 : (⟨S32x64x16, .f32⟩ : BufTy).Contents (Elt Ideal)) (b : Fin 128) (g : Fin 32) (p : Fin 64) :
    (val_main_v56 (F := Ideal) x0 x1 x2 x3 x4 x5 x6 x7) (ix3 b g p) = (state x0 x1 x2 (val_main_v9 (F := Ideal) x3 x4 x5) (val_main_v13 (F := Ideal) x3 x4 x5) (val_main_v35 (F := Ideal) x3 x4 x5 x6 x7) (val_main_v42 (F := Ideal) x3 x4 x5 x6 x7) b.val (64 * g.val + p.val) 1).1 :=
  step_re x0 x1 x2 x1 x2 (val_main_v9 (F := Ideal) x3 x4 x5) (val_main_v13 (F := Ideal) x3 x4 x5) (val_main_v35 (F := Ideal) x3 x4 x5 x6 x7) (val_main_v42 (F := Ideal) x3 x4 x5 x6 x7) (val_main_v44 (F := Ideal) x0 x3 x4 x5 x6 x7) (0 : Fin 4) _ _ _ _ _ _ b g p
    (first x1 b g p) (first x2 b g p) (r44 x0 x1 x2 x3 x4 x5 x6 x7 b 0 g p)

theorem r66 (x0 : (⟨S128x4x512, .f32⟩ : BufTy).Contents (Elt Ideal)) (x1 : (⟨S128x32x64, .f32⟩ : BufTy).Contents (Elt Ideal)) (x2 : (⟨S128x32x64, .f32⟩ : BufTy).Contents (Elt Ideal)) (x3 : (⟨S32x64, .f32⟩ : BufTy).Contents (Elt Ideal)) (x4 : (⟨S32x64, .f32⟩ : BufTy).Contents (Elt Ideal)) (x5 : (⟨S32, .f32⟩ : BufTy).Contents (Elt Ideal)) (x6 : (⟨S32x64x16, .f32⟩ : BufTy).Contents (Elt Ideal)) (x7 : (⟨S32x64x16, .f32⟩ : BufTy).Contents (Elt Ideal)) (b : Fin 128) (g : Fin 32) (p : Fin 64) :
    (val_main_v66 (F := Ideal) x0 x1 x2 x3 x4 x5 x6 x7) (ix3 b g p) = (state x0 x1 x2 (val_main_v9 (F := Ideal) x3 x4 x5) (val_main_v13 (F := Ideal) x3 x4 x5) (val_main_v35 (F := Ideal) x3 x4 x5 x6 x7) (val_main_v42 (F := Ideal) x3 x4 x5 x6 x7) b.val (64 * g.val + p.val) 1).2 :=
  step_im x0 x1 x2 x1 x2 (val_main_v9 (F := Ideal) x3 x4 x5) (val_main_v13 (F := Ideal) x3 x4 x5) (val_main_v35 (F := Ideal) x3 x4 x5 x6 x7) (val_main_v42 (F := Ideal) x3 x4 x5 x6 x7) (val_main_v46 (F := Ideal) x0 x3 x4 x5 x6 x7) (0 : Fin 4) _ _ _ _ _ _ b g p
    (first x1 b g p) (first x2 b g p) (r46 x0 x1 x2 x3 x4 x5 x6 x7 b 0 g p)

theorem r81 (x0 : (⟨S128x4x512, .f32⟩ : BufTy).Contents (Elt Ideal)) (x1 : (⟨S128x32x64, .f32⟩ : BufTy).Contents (Elt Ideal)) (x2 : (⟨S128x32x64, .f32⟩ : BufTy).Contents (Elt Ideal)) (x3 : (⟨S32x64, .f32⟩ : BufTy).Contents (Elt Ideal)) (x4 : (⟨S32x64, .f32⟩ : BufTy).Contents (Elt Ideal)) (x5 : (⟨S32, .f32⟩ : BufTy).Contents (Elt Ideal)) (x6 : (⟨S32x64x16, .f32⟩ : BufTy).Contents (Elt Ideal)) (x7 : (⟨S32x64x16, .f32⟩ : BufTy).Contents (Elt Ideal)) (b : Fin 128) (g : Fin 32) (p : Fin 64) :
    (val_main_v81 (F := Ideal) x0 x1 x2 x3 x4 x5 x6 x7) (ix3 b g p) = (state x0 x1 x2 (val_main_v9 (F := Ideal) x3 x4 x5) (val_main_v13 (F := Ideal) x3 x4 x5) (val_main_v35 (F := Ideal) x3 x4 x5 x6 x7) (val_main_v42 (F := Ideal) x3 x4 x5 x6 x7) b.val (64 * g.val + p.val) 2).1 :=
  step_re x0 x1 x2 (val_main_v56 (F := Ideal) x0 x1 x2 x3 x4 x5 x6 x7) (val_main_v66 (F := Ideal) x0 x1 x2 x3 x4 x5 x6 x7) (val_main_v9 (F := Ideal) x3 x4 x5) (val_main_v13 (F := Ideal) x3 x4 x5) (val_main_v35 (F := Ideal) x3 x4 x5 x6 x7) (val_main_v42 (F := Ideal) x3 x4 x5 x6 x7) (val_main_v44 (F := Ideal) x0 x3 x4 x5 x6 x7) (1 : Fin 4) _ _ _ _ _ _ b g p
    (r56 x0 x1 x2 x3 x4 x5 x6 x7 b g p) (r66 x0 x1 x2 x3 x4 x5 x6 x7 b g p) (r44 x0 x1 x2 x3 x4 x5 x6 x7 b 1 g p)

theorem r91 (x0 : (⟨S128x4x512, .f32⟩ : BufTy).Contents (Elt Ideal)) (x1 : (⟨S128x32x64, .f32⟩ : BufTy).Contents (Elt Ideal)) (x2 : (⟨S128x32x64, .f32⟩ : BufTy).Contents (Elt Ideal)) (x3 : (⟨S32x64, .f32⟩ : BufTy).Contents (Elt Ideal)) (x4 : (⟨S32x64, .f32⟩ : BufTy).Contents (Elt Ideal)) (x5 : (⟨S32, .f32⟩ : BufTy).Contents (Elt Ideal)) (x6 : (⟨S32x64x16, .f32⟩ : BufTy).Contents (Elt Ideal)) (x7 : (⟨S32x64x16, .f32⟩ : BufTy).Contents (Elt Ideal)) (b : Fin 128) (g : Fin 32) (p : Fin 64) :
    (val_main_v91 (F := Ideal) x0 x1 x2 x3 x4 x5 x6 x7) (ix3 b g p) = (state x0 x1 x2 (val_main_v9 (F := Ideal) x3 x4 x5) (val_main_v13 (F := Ideal) x3 x4 x5) (val_main_v35 (F := Ideal) x3 x4 x5 x6 x7) (val_main_v42 (F := Ideal) x3 x4 x5 x6 x7) b.val (64 * g.val + p.val) 2).2 :=
  step_im x0 x1 x2 (val_main_v56 (F := Ideal) x0 x1 x2 x3 x4 x5 x6 x7) (val_main_v66 (F := Ideal) x0 x1 x2 x3 x4 x5 x6 x7) (val_main_v9 (F := Ideal) x3 x4 x5) (val_main_v13 (F := Ideal) x3 x4 x5) (val_main_v35 (F := Ideal) x3 x4 x5 x6 x7) (val_main_v42 (F := Ideal) x3 x4 x5 x6 x7) (val_main_v46 (F := Ideal) x0 x3 x4 x5 x6 x7) (1 : Fin 4) _ _ _ _ _ _ b g p
    (r56 x0 x1 x2 x3 x4 x5 x6 x7 b g p) (r66 x0 x1 x2 x3 x4 x5 x6 x7 b g p) (r46 x0 x1 x2 x3 x4 x5 x6 x7 b 1 g p)

theorem r106 (x0 : (⟨S128x4x512, .f32⟩ : BufTy).Contents (Elt Ideal)) (x1 : (⟨S128x32x64, .f32⟩ : BufTy).Contents (Elt Ideal)) (x2 : (⟨S128x32x64, .f32⟩ : BufTy).Contents (Elt Ideal)) (x3 : (⟨S32x64, .f32⟩ : BufTy).Contents (Elt Ideal)) (x4 : (⟨S32x64, .f32⟩ : BufTy).Contents (Elt Ideal)) (x5 : (⟨S32, .f32⟩ : BufTy).Contents (Elt Ideal)) (x6 : (⟨S32x64x16, .f32⟩ : BufTy).Contents (Elt Ideal)) (x7 : (⟨S32x64x16, .f32⟩ : BufTy).Contents (Elt Ideal)) (b : Fin 128) (g : Fin 32) (p : Fin 64) :
    (val_main_v106 (F := Ideal) x0 x1 x2 x3 x4 x5 x6 x7) (ix3 b g p) = (state x0 x1 x2 (val_main_v9 (F := Ideal) x3 x4 x5) (val_main_v13 (F := Ideal) x3 x4 x5) (val_main_v35 (F := Ideal) x3 x4 x5 x6 x7) (val_main_v42 (F := Ideal) x3 x4 x5 x6 x7) b.val (64 * g.val + p.val) 3).1 :=
  step_re x0 x1 x2 (val_main_v81 (F := Ideal) x0 x1 x2 x3 x4 x5 x6 x7) (val_main_v91 (F := Ideal) x0 x1 x2 x3 x4 x5 x6 x7) (val_main_v9 (F := Ideal) x3 x4 x5) (val_main_v13 (F := Ideal) x3 x4 x5) (val_main_v35 (F := Ideal) x3 x4 x5 x6 x7) (val_main_v42 (F := Ideal) x3 x4 x5 x6 x7) (val_main_v44 (F := Ideal) x0 x3 x4 x5 x6 x7) (2 : Fin 4) _ _ _ _ _ _ b g p
    (r81 x0 x1 x2 x3 x4 x5 x6 x7 b g p) (r91 x0 x1 x2 x3 x4 x5 x6 x7 b g p) (r44 x0 x1 x2 x3 x4 x5 x6 x7 b 2 g p)

theorem r116 (x0 : (⟨S128x4x512, .f32⟩ : BufTy).Contents (Elt Ideal)) (x1 : (⟨S128x32x64, .f32⟩ : BufTy).Contents (Elt Ideal)) (x2 : (⟨S128x32x64, .f32⟩ : BufTy).Contents (Elt Ideal)) (x3 : (⟨S32x64, .f32⟩ : BufTy).Contents (Elt Ideal)) (x4 : (⟨S32x64, .f32⟩ : BufTy).Contents (Elt Ideal)) (x5 : (⟨S32, .f32⟩ : BufTy).Contents (Elt Ideal)) (x6 : (⟨S32x64x16, .f32⟩ : BufTy).Contents (Elt Ideal)) (x7 : (⟨S32x64x16, .f32⟩ : BufTy).Contents (Elt Ideal)) (b : Fin 128) (g : Fin 32) (p : Fin 64) :
    (val_main_v116 (F := Ideal) x0 x1 x2 x3 x4 x5 x6 x7) (ix3 b g p) = (state x0 x1 x2 (val_main_v9 (F := Ideal) x3 x4 x5) (val_main_v13 (F := Ideal) x3 x4 x5) (val_main_v35 (F := Ideal) x3 x4 x5 x6 x7) (val_main_v42 (F := Ideal) x3 x4 x5 x6 x7) b.val (64 * g.val + p.val) 3).2 :=
  step_im x0 x1 x2 (val_main_v81 (F := Ideal) x0 x1 x2 x3 x4 x5 x6 x7) (val_main_v91 (F := Ideal) x0 x1 x2 x3 x4 x5 x6 x7) (val_main_v9 (F := Ideal) x3 x4 x5) (val_main_v13 (F := Ideal) x3 x4 x5) (val_main_v35 (F := Ideal) x3 x4 x5 x6 x7) (val_main_v42 (F := Ideal) x3 x4 x5 x6 x7) (val_main_v46 (F := Ideal) x0 x3 x4 x5 x6 x7) (2 : Fin 4) _ _ _ _ _ _ b g p
    (r81 x0 x1 x2 x3 x4 x5 x6 x7 b g p) (r91 x0 x1 x2 x3 x4 x5 x6 x7 b g p) (r46 x0 x1 x2 x3 x4 x5 x6 x7 b 2 g p)

theorem r131 (x0 : (⟨S128x4x512, .f32⟩ : BufTy).Contents (Elt Ideal)) (x1 : (⟨S128x32x64, .f32⟩ : BufTy).Contents (Elt Ideal)) (x2 : (⟨S128x32x64, .f32⟩ : BufTy).Contents (Elt Ideal)) (x3 : (⟨S32x64, .f32⟩ : BufTy).Contents (Elt Ideal)) (x4 : (⟨S32x64, .f32⟩ : BufTy).Contents (Elt Ideal)) (x5 : (⟨S32, .f32⟩ : BufTy).Contents (Elt Ideal)) (x6 : (⟨S32x64x16, .f32⟩ : BufTy).Contents (Elt Ideal)) (x7 : (⟨S32x64x16, .f32⟩ : BufTy).Contents (Elt Ideal)) (b : Fin 128) (g : Fin 32) (p : Fin 64) :
    (val_main_v131 (F := Ideal) x0 x1 x2 x3 x4 x5 x6 x7) (ix3 b g p) = (state x0 x1 x2 (val_main_v9 (F := Ideal) x3 x4 x5) (val_main_v13 (F := Ideal) x3 x4 x5) (val_main_v35 (F := Ideal) x3 x4 x5 x6 x7) (val_main_v42 (F := Ideal) x3 x4 x5 x6 x7) b.val (64 * g.val + p.val) 4).1 :=
  step_re x0 x1 x2 (val_main_v106 (F := Ideal) x0 x1 x2 x3 x4 x5 x6 x7) (val_main_v116 (F := Ideal) x0 x1 x2 x3 x4 x5 x6 x7) (val_main_v9 (F := Ideal) x3 x4 x5) (val_main_v13 (F := Ideal) x3 x4 x5) (val_main_v35 (F := Ideal) x3 x4 x5 x6 x7) (val_main_v42 (F := Ideal) x3 x4 x5 x6 x7) (val_main_v44 (F := Ideal) x0 x3 x4 x5 x6 x7) (3 : Fin 4) _ _ _ _ _ _ b g p
    (r106 x0 x1 x2 x3 x4 x5 x6 x7 b g p) (r116 x0 x1 x2 x3 x4 x5 x6 x7 b g p) (r44 x0 x1 x2 x3 x4 x5 x6 x7 b 3 g p)

theorem r141 (x0 : (⟨S128x4x512, .f32⟩ : BufTy).Contents (Elt Ideal)) (x1 : (⟨S128x32x64, .f32⟩ : BufTy).Contents (Elt Ideal)) (x2 : (⟨S128x32x64, .f32⟩ : BufTy).Contents (Elt Ideal)) (x3 : (⟨S32x64, .f32⟩ : BufTy).Contents (Elt Ideal)) (x4 : (⟨S32x64, .f32⟩ : BufTy).Contents (Elt Ideal)) (x5 : (⟨S32, .f32⟩ : BufTy).Contents (Elt Ideal)) (x6 : (⟨S32x64x16, .f32⟩ : BufTy).Contents (Elt Ideal)) (x7 : (⟨S32x64x16, .f32⟩ : BufTy).Contents (Elt Ideal)) (b : Fin 128) (g : Fin 32) (p : Fin 64) :
    (val_main_v141 (F := Ideal) x0 x1 x2 x3 x4 x5 x6 x7) (ix3 b g p) = (state x0 x1 x2 (val_main_v9 (F := Ideal) x3 x4 x5) (val_main_v13 (F := Ideal) x3 x4 x5) (val_main_v35 (F := Ideal) x3 x4 x5 x6 x7) (val_main_v42 (F := Ideal) x3 x4 x5 x6 x7) b.val (64 * g.val + p.val) 4).2 :=
  step_im x0 x1 x2 (val_main_v106 (F := Ideal) x0 x1 x2 x3 x4 x5 x6 x7) (val_main_v116 (F := Ideal) x0 x1 x2 x3 x4 x5 x6 x7) (val_main_v9 (F := Ideal) x3 x4 x5) (val_main_v13 (F := Ideal) x3 x4 x5) (val_main_v35 (F := Ideal) x3 x4 x5 x6 x7) (val_main_v42 (F := Ideal) x3 x4 x5 x6 x7) (val_main_v46 (F := Ideal) x0 x3 x4 x5 x6 x7) (3 : Fin 4) _ _ _ _ _ _ b g p
    (r106 x0 x1 x2 x3 x4 x5 x6 x7 b g p) (r116 x0 x1 x2 x3 x4 x5 x6 x7 b g p) (r46 x0 x1 x2 x3 x4 x5 x6 x7 b 3 g p)

theorem at_of (x0 : (⟨S128x4x512, .f32⟩ : BufTy).Contents (Elt Ideal)) (x1 : (⟨S128x32x64, .f32⟩ : BufTy).Contents (Elt Ideal)) (x2 : (⟨S128x32x64, .f32⟩ : BufTy).Contents (Elt Ideal)) (x3 : (⟨S32x64, .f32⟩ : BufTy).Contents (Elt Ideal)) (x4 : (⟨S32x64, .f32⟩ : BufTy).Contents (Elt Ideal)) (x5 : (⟨S32, .f32⟩ : BufTy).Contents (Elt Ideal)) (x6 : (⟨S32x64x16, .f32⟩ : BufTy).Contents (Elt Ideal)) (x7 : (⟨S32x64x16, .f32⟩ : BufTy).Contents (Elt Ideal)) (x8 : (⟨S32x16x64, .f32⟩ : BufTy).Contents (Elt Ideal)) (x9 : (⟨S32x16x64, .f32⟩ : BufTy).Contents (Elt Ideal)) (x y : (⟨S128x32x64, .f32⟩ : BufTy).Contents (Elt Ideal)) (t : Fin 4)
    (hx : ∀ (b : Fin 128) (g : Fin 32) (p : Fin 64), x (ix3 b g p) = (state x0 x1 x2 (val_main_v9 (F := Ideal) x3 x4 x5) (val_main_v13 (F := Ideal) x3 x4 x5) (val_main_v35 (F := Ideal) x3 x4 x5 x6 x7) (val_main_v42 (F := Ideal) x3 x4 x5 x6 x7) b.val (64 * g.val + p.val) (t.val + 1)).1)
    (hy : ∀ (b : Fin 128) (g : Fin 32) (p : Fin 64), y (ix3 b g p) = (state x0 x1 x2 (val_main_v9 (F := Ideal) x3 x4 x5) (val_main_v13 (F := Ideal) x3 x4 x5) (val_main_v35 (F := Ideal) x3 x4 x5 x6 x7) (val_main_v42 (F := Ideal) x3 x4 x5 x6 x7) b.val (64 * g.val + p.val) (t.val + 1)).2) (h h')
    (b : Fin 128) (j : Fin 512) :
    (subf (transpose S128x32x16 [2, 0, 1] (Host.dotGeneral (F := Ideal) (φ₁ := .f32) (φ₂ := .f32) dot_S32x16x64_S128x32x64_S32x16x128_2_2_1_0_0_1 none x8 x) h)
        (transpose S128x32x16 [2, 0, 1] (Host.dotGeneral (F := Ideal) (φ₁ := .f32) (φ₂ := .f32) dot_S32x16x64_S128x32x64_S32x16x128_2_2_1_0_0_1 none x9 y) h') : FVec Ideal S128x32x16 .f32)
      (ix3 b ⟨j.val / 16, by omega⟩ ⟨j.val % 16, by omega⟩) = output x0 x1 x2 (val_main_v9 (F := Ideal) x3 x4 x5) (val_main_v13 (F := Ideal) x3 x4 x5) (val_main_v35 (F := Ideal) x3 x4 x5 x6 x7) (val_main_v42 (F := Ideal) x3 x4 x5 x6 x7) x8 x9 b.val t.val j.val := by
  unfold output
  refine congrArg₂ (· - ·) ((out_at _ _ rfl _ x8 x h b _ _).trans (Finset.sum_congr rfl fun p _ => ?_)) ((out_at _ _ rfl _ x9 y h' b _ _).trans (Finset.sum_congr rfl fun p _ => ?_))
  · rw [hx, cell3_of_lt x8 (by omega : j.val / 16 < 32) (by omega : j.val % 16 < 16) p.isLt]
  · rw [hy, cell3_of_lt x9 (by omega : j.val / 16 < 32) (by omega : j.val % 16 < 16) p.isLt]

theorem r71 (x0 : (⟨S128x4x512, .f32⟩ : BufTy).Contents (Elt Ideal)) (x1 : (⟨S128x32x64, .f32⟩ : BufTy).Contents (Elt Ideal)) (x2 : (⟨S128x32x64, .f32⟩ : BufTy).Contents (Elt Ideal)) (x3 : (⟨S32x64, .f32⟩ : BufTy).Contents (Elt Ideal)) (x4 : (⟨S32x64, .f32⟩ : BufTy).Contents (Elt Ideal)) (x5 : (⟨S32, .f32⟩ : BufTy).Contents (Elt Ideal)) (x6 : (⟨S32x64x16, .f32⟩ : BufTy).Contents (Elt Ideal)) (x7 : (⟨S32x64x16, .f32⟩ : BufTy).Contents (Elt Ideal)) (x8 : (⟨S32x16x64, .f32⟩ : BufTy).Contents (Elt Ideal)) (x9 : (⟨S32x16x64, .f32⟩ : BufTy).Contents (Elt Ideal)) (b : Fin 128) (j : Fin 512) :
    (val_main_v71 (F := Ideal) x0 x1 x2 x3 x4 x5 x6 x7 x8 x9) (ix3 b ⟨j.val / 16, by omega⟩ ⟨j.val % 16, by omega⟩) = output x0 x1 x2 (val_main_v9 (F := Ideal) x3 x4 x5) (val_main_v13 (F := Ideal) x3 x4 x5) (val_main_v35 (F := Ideal) x3 x4 x5 x6 x7) (val_main_v42 (F := Ideal) x3 x4 x5 x6 x7) x8 x9 b.val 0 j.val :=
  at_of x0 x1 x2 x3 x4 x5 x6 x7 x8 x9 (val_main_v56 (F := Ideal) x0 x1 x2 x3 x4 x5 x6 x7) (val_main_v66 (F := Ideal) x0 x1 x2 x3 x4 x5 x6 x7) (0 : Fin 4) (r56 x0 x1 x2 x3 x4 x5 x6 x7) (r66 x0 x1 x2 x3 x4 x5 x6 x7) _ _ b j

theorem r96 (x0 : (⟨S128x4x512, .f32⟩ : BufTy).Contents (Elt Ideal)) (x1 : (⟨S128x32x64, .f32⟩ : BufTy).Contents (Elt Ideal)) (x2 : (⟨S128x32x64, .f32⟩ : BufTy).Contents (Elt Ideal)) (x3 : (⟨S32x64, .f32⟩ : BufTy).Contents (Elt Ideal)) (x4 : (⟨S32x64, .f32⟩ : BufTy).Contents (Elt Ideal)) (x5 : (⟨S32, .f32⟩ : BufTy).Contents (Elt Ideal)) (x6 : (⟨S32x64x16, .f32⟩ : BufTy).Contents (Elt Ideal)) (x7 : (⟨S32x64x16, .f32⟩ : BufTy).Contents (Elt Ideal)) (x8 : (⟨S32x16x64, .f32⟩ : BufTy).Contents (Elt Ideal)) (x9 : (⟨S32x16x64, .f32⟩ : BufTy).Contents (Elt Ideal)) (b : Fin 128) (j : Fin 512) :
    (val_main_v96 (F := Ideal) x0 x1 x2 x3 x4 x5 x6 x7 x8 x9) (ix3 b ⟨j.val / 16, by omega⟩ ⟨j.val % 16, by omega⟩) = output x0 x1 x2 (val_main_v9 (F := Ideal) x3 x4 x5) (val_main_v13 (F := Ideal) x3 x4 x5) (val_main_v35 (F := Ideal) x3 x4 x5 x6 x7) (val_main_v42 (F := Ideal) x3 x4 x5 x6 x7) x8 x9 b.val 1 j.val :=
  at_of x0 x1 x2 x3 x4 x5 x6 x7 x8 x9 (val_main_v81 (F := Ideal) x0 x1 x2 x3 x4 x5 x6 x7) (val_main_v91 (F := Ideal) x0 x1 x2 x3 x4 x5 x6 x7) (1 : Fin 4) (r81 x0 x1 x2 x3 x4 x5 x6 x7) (r91 x0 x1 x2 x3 x4 x5 x6 x7) _ _ b j

theorem r121 (x0 : (⟨S128x4x512, .f32⟩ : BufTy).Contents (Elt Ideal)) (x1 : (⟨S128x32x64, .f32⟩ : BufTy).Contents (Elt Ideal)) (x2 : (⟨S128x32x64, .f32⟩ : BufTy).Contents (Elt Ideal)) (x3 : (⟨S32x64, .f32⟩ : BufTy).Contents (Elt Ideal)) (x4 : (⟨S32x64, .f32⟩ : BufTy).Contents (Elt Ideal)) (x5 : (⟨S32, .f32⟩ : BufTy).Contents (Elt Ideal)) (x6 : (⟨S32x64x16, .f32⟩ : BufTy).Contents (Elt Ideal)) (x7 : (⟨S32x64x16, .f32⟩ : BufTy).Contents (Elt Ideal)) (x8 : (⟨S32x16x64, .f32⟩ : BufTy).Contents (Elt Ideal)) (x9 : (⟨S32x16x64, .f32⟩ : BufTy).Contents (Elt Ideal)) (b : Fin 128) (j : Fin 512) :
    (val_main_v121 (F := Ideal) x0 x1 x2 x3 x4 x5 x6 x7 x8 x9) (ix3 b ⟨j.val / 16, by omega⟩ ⟨j.val % 16, by omega⟩) = output x0 x1 x2 (val_main_v9 (F := Ideal) x3 x4 x5) (val_main_v13 (F := Ideal) x3 x4 x5) (val_main_v35 (F := Ideal) x3 x4 x5 x6 x7) (val_main_v42 (F := Ideal) x3 x4 x5 x6 x7) x8 x9 b.val 2 j.val :=
  at_of x0 x1 x2 x3 x4 x5 x6 x7 x8 x9 (val_main_v106 (F := Ideal) x0 x1 x2 x3 x4 x5 x6 x7) (val_main_v116 (F := Ideal) x0 x1 x2 x3 x4 x5 x6 x7) (2 : Fin 4) (r106 x0 x1 x2 x3 x4 x5 x6 x7) (r116 x0 x1 x2 x3 x4 x5 x6 x7) _ _ b j

theorem r146 (x0 : (⟨S128x4x512, .f32⟩ : BufTy).Contents (Elt Ideal)) (x1 : (⟨S128x32x64, .f32⟩ : BufTy).Contents (Elt Ideal)) (x2 : (⟨S128x32x64, .f32⟩ : BufTy).Contents (Elt Ideal)) (x3 : (⟨S32x64, .f32⟩ : BufTy).Contents (Elt Ideal)) (x4 : (⟨S32x64, .f32⟩ : BufTy).Contents (Elt Ideal)) (x5 : (⟨S32, .f32⟩ : BufTy).Contents (Elt Ideal)) (x6 : (⟨S32x64x16, .f32⟩ : BufTy).Contents (Elt Ideal)) (x7 : (⟨S32x64x16, .f32⟩ : BufTy).Contents (Elt Ideal)) (x8 : (⟨S32x16x64, .f32⟩ : BufTy).Contents (Elt Ideal)) (x9 : (⟨S32x16x64, .f32⟩ : BufTy).Contents (Elt Ideal)) (b : Fin 128) (j : Fin 512) :
    (val_main_v146 (F := Ideal) x0 x1 x2 x3 x4 x5 x6 x7 x8 x9) (ix3 b ⟨j.val / 16, by omega⟩ ⟨j.val % 16, by omega⟩) = output x0 x1 x2 (val_main_v9 (F := Ideal) x3 x4 x5) (val_main_v13 (F := Ideal) x3 x4 x5) (val_main_v35 (F := Ideal) x3 x4 x5 x6 x7) (val_main_v42 (F := Ideal) x3 x4 x5 x6 x7) x8 x9 b.val 3 j.val :=
  at_of x0 x1 x2 x3 x4 x5 x6 x7 x8 x9 (val_main_v131 (F := Ideal) x0 x1 x2 x3 x4 x5 x6 x7) (val_main_v141 (F := Ideal) x0 x1 x2 x3 x4 x5 x6 x7) (3 : Fin 4) (r131 x0 x1 x2 x3 x4 x5 x6 x7) (r141 x0 x1 x2 x3 x4 x5 x6 x7) _ _ b j

theorem r152 (x0 : (⟨S128x4x512, .f32⟩ : BufTy).Contents (Elt Ideal)) (x1 : (⟨S128x32x64, .f32⟩ : BufTy).Contents (Elt Ideal)) (x2 : (⟨S128x32x64, .f32⟩ : BufTy).Contents (Elt Ideal)) (x3 : (⟨S32x64, .f32⟩ : BufTy).Contents (Elt Ideal)) (x4 : (⟨S32x64, .f32⟩ : BufTy).Contents (Elt Ideal)) (x5 : (⟨S32, .f32⟩ : BufTy).Contents (Elt Ideal)) (x6 : (⟨S32x64x16, .f32⟩ : BufTy).Contents (Elt Ideal)) (x7 : (⟨S32x64x16, .f32⟩ : BufTy).Contents (Elt Ideal)) (x8 : (⟨S32x16x64, .f32⟩ : BufTy).Contents (Elt Ideal)) (x9 : (⟨S32x16x64, .f32⟩ : BufTy).Contents (Elt Ideal)) (t : Fin 4) (b : Fin 128) (j : Fin 512) :
    (val_main_v152 (F := Ideal) x0 x1 x2 x3 x4 x5 x6 x7 x8 x9) (ix3 t b j) = output x0 x1 x2 (val_main_v9 (F := Ideal) x3 x4 x5) (val_main_v13 (F := Ideal) x3 x4 x5) (val_main_v35 (F := Ideal) x3 x4 x5 x6 x7) (val_main_v42 (F := Ideal) x3 x4 x5 x6 x7) x8 x9 b.val t.val j.val := by
  refine (flat4_at (val_main_v151 (F := Ideal) x0 x1 x2 x3 x4 x5 x6 x7 x8 x9) _ t b j).trans ((pieces_at (val_main_v147 (F := Ideal) x0 x1 x2 x3 x4 x5 x6 x7 x8 x9) (val_main_v148 (F := Ideal) x0 x1 x2 x3 x4 x5 x6 x7 x8 x9) (val_main_v149 (F := Ideal) x0 x1 x2 x3 x4 x5 x6 x7 x8 x9) (val_main_v150 (F := Ideal) x0 x1 x2 x3 x4 x5 x6 x7 x8 x9) _ t b _ _).trans ?_)
  match t with
  | ⟨0, _⟩ => exact (lift_at (val_main_v71 (F := Ideal) x0 x1 x2 x3 x4 x5 x6 x7 x8 x9) bcast_S128x32x16_S1x128x32x16_1_2_3 b _ _).trans (r71 x0 x1 x2 x3 x4 x5 x6 x7 x8 x9 b j)
  | ⟨1, _⟩ => exact (lift_at (val_main_v96 (F := Ideal) x0 x1 x2 x3 x4 x5 x6 x7 x8 x9) bcast_S128x32x16_S1x128x32x16_1_2_3 b _ _).trans (r96 x0 x1 x2 x3 x4 x5 x6 x7 x8 x9 b j)
  | ⟨2, _⟩ => exact (lift_at (val_main_v121 (F := Ideal) x0 x1 x2 x3 x4 x5 x6 x7 x8 x9) bcast_S128x32x16_S1x128x32x16_1_2_3 b _ _).trans (r121 x0 x1 x2 x3 x4 x5 x6 x7 x8 x9 b j)
  | ⟨3, _⟩ => exact (lift_at (val_main_v146 (F := Ideal) x0 x1 x2 x3 x4 x5 x6 x7 x8 x9) bcast_S128x32x16_S1x128x32x16_1_2_3 b _ _).trans (r146 x0 x1 x2 x3 x4 x5 x6 x7 x8 x9 b j)

theorem r157 (x0 : (⟨S128x4x512, .f32⟩ : BufTy).Contents (Elt Ideal)) (x1 : (⟨S128x32x64, .f32⟩ : BufTy).Contents (Elt Ideal)) (x2 : (⟨S128x32x64, .f32⟩ : BufTy).Contents (Elt Ideal)) (x3 : (⟨S32x64, .f32⟩ : BufTy).Contents (Elt Ideal)) (x4 : (⟨S32x64, .f32⟩ : BufTy).Contents (Elt Ideal)) (x5 : (⟨S32, .f32⟩ : BufTy).Contents (Elt Ideal)) (x6 : (⟨S32x64x16, .f32⟩ : BufTy).Contents (Elt Ideal)) (x7 : (⟨S32x64x16, .f32⟩ : BufTy).Contents (Elt Ideal)) (x8 : (⟨S32x16x64, .f32⟩ : BufTy).Contents (Elt Ideal)) (x9 : (⟨S32x16x64, .f32⟩ : BufTy).Contents (Elt Ideal)) (x10 : (⟨S512, .f32⟩ : BufTy).Contents (Elt Ideal)) (t : Fin 4) (b : Fin 128) :
    row3 (B := 4) (T := 128) (N := 512) (φ := .f32) (val_main_v157 (F := Ideal) x0 x1 x2 x3 x4 x5 x6 x7 x8 x9 x10) t b
      = add (fun j => output x0 x1 x2 (val_main_v9 (F := Ideal) x3 x4 x5) (val_main_v13 (F := Ideal) x3 x4 x5) (val_main_v35 (F := Ideal) x3 x4 x5 x6 x7) (val_main_v42 (F := Ideal) x3 x4 x5 x6 x7) x8 x9 b.val t.val j.val) (mul (vec (N := 512) (φ := .f32) x10) (row3 (B := 128) (T := 4) (N := 512) (φ := .f32) x0 b t)) :=
  funext fun j => congrArg₂ (· + ·) (r152 x0 x1 x2 x3 x4 x5 x6 x7 x8 x9 t b j) (congrArg₂ (· * ·) (gains_at x10 _ _ t b j) (transpose_swap x0 _ b t j))

theorem r170 (x0 : (⟨S128x4x512, .f32⟩ : BufTy).Contents (Elt Ideal)) (x1 : (⟨S128x32x64, .f32⟩ : BufTy).Contents (Elt Ideal)) (x2 : (⟨S128x32x64, .f32⟩ : BufTy).Contents (Elt Ideal)) (x3 : (⟨S32x64, .f32⟩ : BufTy).Contents (Elt Ideal)) (x4 : (⟨S32x64, .f32⟩ : BufTy).Contents (Elt Ideal)) (x5 : (⟨S32, .f32⟩ : BufTy).Contents (Elt Ideal)) (x6 : (⟨S32x64x16, .f32⟩ : BufTy).Contents (Elt Ideal)) (x7 : (⟨S32x64x16, .f32⟩ : BufTy).Contents (Elt Ideal)) (x8 : (⟨S32x16x64, .f32⟩ : BufTy).Contents (Elt Ideal)) (x9 : (⟨S32x16x64, .f32⟩ : BufTy).Contents (Elt Ideal)) (x10 : (⟨S512, .f32⟩ : BufTy).Contents (Elt Ideal)) (t : Fin 4) (b : Fin 128) : row3 (B := 4) (T := 128) (N := 512) (φ := .f32) (val_main_v170 (F := Ideal) x0 x1 x2 x3 x4 x5 x6 x7 x8 x9 x10) t b = gelu (row3 (B := 4) (T := 128) (N := 512) (φ := .f32) (val_main_v157 (F := Ideal) x0 x1 x2 x3 x4 x5 x6 x7 x8 x9 x10) t b) :=
  row3_gelu _ _ _ _ _ t b

theorem r171 (x0 : (⟨S128x4x512, .f32⟩ : BufTy).Contents (Elt Ideal)) (x1 : (⟨S128x32x64, .f32⟩ : BufTy).Contents (Elt Ideal)) (x2 : (⟨S128x32x64, .f32⟩ : BufTy).Contents (Elt Ideal)) (x3 : (⟨S32x64, .f32⟩ : BufTy).Contents (Elt Ideal)) (x4 : (⟨S32x64, .f32⟩ : BufTy).Contents (Elt Ideal)) (x5 : (⟨S32, .f32⟩ : BufTy).Contents (Elt Ideal)) (x6 : (⟨S32x64x16, .f32⟩ : BufTy).Contents (Elt Ideal)) (x7 : (⟨S32x64x16, .f32⟩ : BufTy).Contents (Elt Ideal)) (x8 : (⟨S32x16x64, .f32⟩ : BufTy).Contents (Elt Ideal)) (x9 : (⟨S32x16x64, .f32⟩ : BufTy).Contents (Elt Ideal)) (x10 : (⟨S512, .f32⟩ : BufTy).Contents (Elt Ideal)) (x11 : (⟨S512x512, .f32⟩ : BufTy).Contents (Elt Ideal)) (t : Fin 4) (b : Fin 128) : row3 (B := 4) (T := 128) (N := 512) (φ := .f32) (val_main_v171 (F := Ideal) x0 x1 x2 x3 x4 x5 x6 x7 x8 x9 x10 x11) t b = mv (row3 (B := 4) (T := 128) (N := 512) (φ := .f32) (val_main_v170 (F := Ideal) x0 x1 x2 x3 x4 x5 x6 x7 x8 x9 x10) t b) (mat (M := 512) (N := 512) (φ := .f32) x11) :=
  row3_dot _ _ rfl _ _ _ t b

theorem r177 (x0 : (⟨S128x4x512, .f32⟩ : BufTy).Contents (Elt Ideal)) (x1 : (⟨S128x32x64, .f32⟩ : BufTy).Contents (Elt Ideal)) (x2 : (⟨S128x32x64, .f32⟩ : BufTy).Contents (Elt Ideal)) (x3 : (⟨S32x64, .f32⟩ : BufTy).Contents (Elt Ideal)) (x4 : (⟨S32x64, .f32⟩ : BufTy).Contents (Elt Ideal)) (x5 : (⟨S32, .f32⟩ : BufTy).Contents (Elt Ideal)) (x6 : (⟨S32x64x16, .f32⟩ : BufTy).Contents (Elt Ideal)) (x7 : (⟨S32x64x16, .f32⟩ : BufTy).Contents (Elt Ideal)) (x8 : (⟨S32x16x64, .f32⟩ : BufTy).Contents (Elt Ideal)) (x9 : (⟨S32x16x64, .f32⟩ : BufTy).Contents (Elt Ideal)) (x10 : (⟨S512, .f32⟩ : BufTy).Contents (Elt Ideal)) (x11 : (⟨S512x512, .f32⟩ : BufTy).Contents (Elt Ideal)) (t : Fin 4) (b : Fin 128) : row3 (B := 4) (T := 128) (N := 512) (φ := .f32) (val_main_v177 (F := Ideal) x0 x1 x2 x3 x4 x5 x6 x7 x8 x9 x10 x11) t b = sig (row3 (B := 4) (T := 128) (N := 512) (φ := .f32) (val_main_v171 (F := Ideal) x0 x1 x2 x3 x4 x5 x6 x7 x8 x9 x10 x11) t b) :=
  row3_sigmoid _ _ _ t b

/-- The gated output in a token's row. -/
theorem r178 (x0 : (⟨S128x4x512, .f32⟩ : BufTy).Contents (Elt Ideal)) (x1 : (⟨S128x32x64, .f32⟩ : BufTy).Contents (Elt Ideal)) (x2 : (⟨S128x32x64, .f32⟩ : BufTy).Contents (Elt Ideal)) (x3 : (⟨S32x64, .f32⟩ : BufTy).Contents (Elt Ideal)) (x4 : (⟨S32x64, .f32⟩ : BufTy).Contents (Elt Ideal)) (x5 : (⟨S32, .f32⟩ : BufTy).Contents (Elt Ideal)) (x6 : (⟨S32x64x16, .f32⟩ : BufTy).Contents (Elt Ideal)) (x7 : (⟨S32x64x16, .f32⟩ : BufTy).Contents (Elt Ideal)) (x8 : (⟨S32x16x64, .f32⟩ : BufTy).Contents (Elt Ideal)) (x9 : (⟨S32x16x64, .f32⟩ : BufTy).Contents (Elt Ideal)) (x10 : (⟨S512, .f32⟩ : BufTy).Contents (Elt Ideal)) (x11 : (⟨S512x512, .f32⟩ : BufTy).Contents (Elt Ideal)) (t : Fin 4) (b : Fin 128) : row3 (B := 4) (T := 128) (N := 512) (φ := .f32) (val_main_v178 (F := Ideal) x0 x1 x2 x3 x4 x5 x6 x7 x8 x9 x10 x11) t b
      = gateSelf (gelu (add (fun j => output x0 x1 x2 (val_main_v9 (F := Ideal) x3 x4 x5) (val_main_v13 (F := Ideal) x3 x4 x5) (val_main_v35 (F := Ideal) x3 x4 x5 x6 x7) (val_main_v42 (F := Ideal) x3 x4 x5 x6 x7) x8 x9 b.val t.val j.val) (mul (vec (N := 512) (φ := .f32) x10) (row3 (B := 128) (T := 4) (N := 512) (φ := .f32) x0 b t))))
          (mat (M := 512) (N := 512) (φ := .f32) x11) := by
  refine (row3_mulf (val_main_v170 (F := Ideal) x0 x1 x2 x3 x4 x5 x6 x7 x8 x9 x10) (val_main_v177 (F := Ideal) x0 x1 x2 x3 x4 x5 x6 x7 x8 x9 x10 x11) t b).trans ?_
  rw [r177, r171, r170, r157]
  rfl

/-- The last states, real part. -/
theorem r179 (x0 : (⟨S128x4x512, .f32⟩ : BufTy).Contents (Elt Ideal)) (x1 : (⟨S128x32x64, .f32⟩ : BufTy).Contents (Elt Ideal)) (x2 : (⟨S128x32x64, .f32⟩ : BufTy).Contents (Elt Ideal)) (x3 : (⟨S32x64, .f32⟩ : BufTy).Contents (Elt Ideal)) (x4 : (⟨S32x64, .f32⟩ : BufTy).Contents (Elt Ideal)) (x5 : (⟨S32, .f32⟩ : BufTy).Contents (Elt Ideal)) (x6 : (⟨S32x64x16, .f32⟩ : BufTy).Contents (Elt Ideal)) (x7 : (⟨S32x64x16, .f32⟩ : BufTy).Contents (Elt Ideal)) (i : S128x2048.Idx) : (val_main_v179 (F := Ideal) x0 x1 x2 x3 x4 x5 x6 x7) i
      = (state x0 x1 x2 (val_main_v9 (F := Ideal) x3 x4 x5) (val_main_v13 (F := Ideal) x3 x4 x5) (val_main_v35 (F := Ideal) x3 x4 x5 x6 x7) (val_main_v42 (F := Ideal) x3 x4 x5 x6 x7) (i 0).val (i 1).val 4).1 := by
  have h1 : (i 1).val < 2048 := (i 1).isLt
  have e : (i 1).val = 64 * ((i 1).val / 64) + (i 1).val % 64 := by omega
  refine (merge_at (val_main_v131 (F := Ideal) x0 x1 x2 x3 x4 x5 x6 x7) _ i (i 0) ⟨(i 1).val / 64, by omega⟩ ⟨(i 1).val % 64, by omega⟩ rfl e).trans ((r131 x0 x1 x2 x3 x4 x5 x6 x7 _ _ _).trans ?_)
  rw [← e]

/-- The last states, imaginary part. -/
theorem r180 (x0 : (⟨S128x4x512, .f32⟩ : BufTy).Contents (Elt Ideal)) (x1 : (⟨S128x32x64, .f32⟩ : BufTy).Contents (Elt Ideal)) (x2 : (⟨S128x32x64, .f32⟩ : BufTy).Contents (Elt Ideal)) (x3 : (⟨S32x64, .f32⟩ : BufTy).Contents (Elt Ideal)) (x4 : (⟨S32x64, .f32⟩ : BufTy).Contents (Elt Ideal)) (x5 : (⟨S32, .f32⟩ : BufTy).Contents (Elt Ideal)) (x6 : (⟨S32x64x16, .f32⟩ : BufTy).Contents (Elt Ideal)) (x7 : (⟨S32x64x16, .f32⟩ : BufTy).Contents (Elt Ideal)) (i : S128x2048.Idx) : (val_main_v180 (F := Ideal) x0 x1 x2 x3 x4 x5 x6 x7) i
      = (state x0 x1 x2 (val_main_v9 (F := Ideal) x3 x4 x5) (val_main_v13 (F := Ideal) x3 x4 x5) (val_main_v35 (F := Ideal) x3 x4 x5 x6 x7) (val_main_v42 (F := Ideal) x3 x4 x5 x6 x7) (i 0).val (i 1).val 4).2 := by
  have h1 : (i 1).val < 2048 := (i 1).isLt
  have e : (i 1).val = 64 * ((i 1).val / 64) + (i 1).val % 64 := by omega
  refine (merge_at (val_main_v141 (F := Ideal) x0 x1 x2 x3 x4 x5 x6 x7) _ i (i 0) ⟨(i 1).val / 64, by omega⟩ ⟨(i 1).val % 64, by omega⟩ rfl e).trans ((r141 x0 x1 x2 x3 x4 x5 x6 x7 _ _ _).trans ?_)
  rw [← e]

end Cert.Proof.ScanRef

end
-- ==== Proof.ScanAgree.lean ====
/-
  THE TWO RECURRENCES AGREE. The kernel keeps a batch row's states on one axis of lanes and its groups' matrices as blocks of two
  halves; step by step its lanes hold the reference's states, so from equal arguments both programs return the same three arrays.
-/
module

public import proofs.«01_k».proof.Defs
public import Idealize.ShloMosaic.Lib.Claim
public import proofs.«01_k».proof.Proof.ScanIn
public import proofs.«01_k».proof.Proof.ScanOut
public import proofs.«01_k».proof.Proof.ScanRef
public import proofs.«01_k».proof.Proof.Gen.KernelIdeal.Value
public import proofs.«01_k».proof.Proof.Gen.ReferenceIdeal.Run
public import Idealize.ShloMosaic.Lib.Pipeline.ValueKit

@[expose] public section

noncomputable section

namespace Cert.Proof.ScanAgree

open Idealize.ShloMosaic Idealize.SL.Sem Cert.Rows Cert.Cells Cert.Recur Cert.KernelIdeal Cert.KernelIdeal.Gen Cert.Proof.ScanIn
open Idealize.ShloMosaic.TcCoe
open scoped BigOperators

variable (m : (ℓ : Loc nD τ sig) → Buf (Elt Ideal) ℓ) (c : Dev nD)

/-- The reference's states, from the kernel's arguments. -/
def refState (b l : ℕ) : ℕ → EReal × EReal :=
  state (arg m c main_arg0 : S128x4x512.Idx → EReal) (arg m c main_arg1 : S128x32x64.Idx → EReal) (arg m c main_arg2 : S128x32x64.Idx → EReal)
    (Cert.ReferenceIdeal.Read.val_main_v9 (F := Ideal) (arg m c main_arg3) (arg m c main_arg4) (arg m c main_arg5))
    (Cert.ReferenceIdeal.Read.val_main_v13 (F := Ideal) (arg m c main_arg3) (arg m c main_arg4) (arg m c main_arg5))
    (Cert.ReferenceIdeal.Read.val_main_v35 (F := Ideal) (arg m c main_arg3) (arg m c main_arg4) (arg m c main_arg5) (arg m c main_arg6) (arg m c main_arg7))
    (Cert.ReferenceIdeal.Read.val_main_v42 (F := Ideal) (arg m c main_arg3) (arg m c main_arg4) (arg m c main_arg5) (arg m c main_arg6) (arg m c main_arg7)) b l

/-- The kernel's states at a lane. -/
def kerState (t : Fin cfg0.N) (b l : ℕ) : ℕ → EReal × EReal :=
  orb (iblk m c 3 t : S1x2048.Idx → EReal) (iblk m c 4 t : S1x2048.Idx → EReal)
    (inps (iblk m c 0 t : S4x128x512.Idx → EReal) (iblk m c 5 t : S2x256x1024.Idx → EReal)) (inps (iblk m c 0 t : S4x128x512.Idx → EReal) (iblk m c 6 t : S2x256x1024.Idx → EReal))
    (iblk m c 1 t : S128x2048.Idx → EReal) (iblk m c 2 t : S128x2048.Idx → EReal) b l

/-- A step's input at a lane. -/
theorem input_lane (t : Fin cfg0.N) (w : S2x256x1024.Idx → EReal) (bb : S32x64x16.Idx → EReal) (b s l : ℕ) (hb : b < 128) (hs : s < 4) (hl : l < 2048)
    (hw : ∀ hf < 2, ∀ k < 256, ∀ q < 1024, cell3 w hf k q = if k / 16 = q / 64 then cell3 bb (16 * hf + k / 16) (q % 64) (k % 16) else 0) :
    cell (inps (iblk m c 0 t : S4x128x512.Idx → EReal) w) (128 * s + b) l = drive (arg m c main_arg0 : S128x4x512.Idx → EReal) bb b s l := by
  rw [cell_of_lt _ (by omega : 128 * s + b < 512) hl]
  show inp _ w (128 * s + b) l = _
  unfold inp
  rw [show (128 * s + b) / 128 = s by omega, show (128 * s + b) % 128 = b by omega]
  refine drive_block (fun t' b' j => cell3 (iblk m c 0 t : S4x128x512.Idx → EReal) t' b' j) _ (fun hf k q => cell3 w hf k q) bb b s l hl (fun j hj => ?_) hw
  show cell3 _ s b j = _
  rw [cell3_of_lt _ hs hb hj, cell3_of_lt _ hb hs hj]
  exact in0 m c t ⟨s, hs⟩ ⟨b, hb⟩ ⟨j, hj⟩

/-- Every step's states agree. -/
theorem states (t : Fin cfg0.N) (b l : ℕ) (hb : b < 128) (hl : l < 2048) : ∀ s ≤ 4, kerState m c t b l s = refState m c b l s := by
  intro s
  induction s with
  | zero =>
    intro _
    unfold kerState refState orb state
    rw [in1 m c t b l hb hl, in2 m c t b l hb hl]
  | succ s ih =>
    intro hs
    have i := ih (by omega)
    unfold kerState refState at i ⊢
    rw [orb, state, i, in3 m c t l hl, in4 m c t l hl,
      input_lane m c t _ _ b s l hb (by omega) hl (in5 m c t), input_lane m c t _ _ b s l hb (by omega) hl (in6 m c t)]

/-- A row's features before the skip agree. -/
theorem features (t : Fin cfg0.N) (s b j : ℕ) (hs : s < 4) (hb : b < 128) (hj : j < 512) :
    ySsm (iblk m c 0 t : S4x128x512.Idx → EReal) (iblk m c 1 t : S128x2048.Idx → EReal) (iblk m c 2 t : S128x2048.Idx → EReal) (iblk m c 3 t : S1x2048.Idx → EReal) (iblk m c 4 t : S1x2048.Idx → EReal)
        (iblk m c 5 t : S2x256x1024.Idx → EReal) (iblk m c 6 t : S2x256x1024.Idx → EReal) (iblk m c 7 t : S2x1024x256.Idx → EReal) (iblk m c 8 t : S2x1024x256.Idx → EReal) (128 * s + b) j
      = output (arg m c main_arg0 : S128x4x512.Idx → EReal) (arg m c main_arg1 : S128x32x64.Idx → EReal) (arg m c main_arg2 : S128x32x64.Idx → EReal)
    (Cert.ReferenceIdeal.Read.val_main_v9 (F := Ideal) (arg m c main_arg3) (arg m c main_arg4) (arg m c main_arg5))
    (Cert.ReferenceIdeal.Read.val_main_v13 (F := Ideal) (arg m c main_arg3) (arg m c main_arg4) (arg m c main_arg5))
    (Cert.ReferenceIdeal.Read.val_main_v35 (F := Ideal) (arg m c main_arg3) (arg m c main_arg4) (arg m c main_arg5) (arg m c main_arg6) (arg m c main_arg7))
    (Cert.ReferenceIdeal.Read.val_main_v42 (F := Ideal) (arg m c main_arg3) (arg m c main_arg4) (arg m c main_arg5) (arg m c main_arg6) (arg m c main_arg7))
    (arg m c main_arg8 : S32x16x64.Idx → EReal) (arg m c main_arg9 : S32x16x64.Idx → EReal) b s j := by
  unfold ySsm output outp
  rw [output_block (fun q => stRe _ _ _ _ _ _ _ (128 * s + b) q) (fun hf k q => cell3 (iblk m c 7 t : S2x1024x256.Idx → EReal) hf k q) _ j hj (in7 m c t),
    output_block (fun q => stIm _ _ _ _ _ _ _ (128 * s + b) q) (fun hf k q => cell3 (iblk m c 8 t : S2x1024x256.Idx → EReal) hf k q) _ j hj (in8 m c t)]
  have e : ∀ p : Fin 64, kerState m c t b (64 * (j / 16) + p.val) (s + 1) = refState m c b (64 * (j / 16) + p.val) (s + 1) :=
    fun p => states m c t b _ hb (by have := p.isLt; omega) (s + 1) (by omega)
  unfold kerState refState at e
  refine congrArg₂ (· - ·) (Finset.sum_congr rfl fun p _ => ?_) (Finset.sum_congr rfl fun p _ => ?_)
  · unfold stRe
    rw [show (128 * s + b) / 128 = s by omega, show (128 * s + b) % 128 = b by omega, e p]
  · unfold stIm
    rw [show (128 * s + b) / 128 = s by omega, show (128 * s + b) % 128 = b by omega, e p]

/-- The gated output, from the kernel's arguments. -/
def gated : S4x128x512.Idx → EReal :=
  Cert.ReferenceIdeal.Read.val_main_v178 (F := Ideal) (arg m c main_arg0) (arg m c main_arg1) (arg m c main_arg2) (arg m c main_arg3) (arg m c main_arg4) (arg m c main_arg5)
    (arg m c main_arg6) (arg m c main_arg7) (arg m c main_arg8) (arg m c main_arg9) (arg m c main_arg10) (arg m c main_arg11)
/-- The last states' real part, -/
def lastRe : S128x2048.Idx → EReal :=
  Cert.ReferenceIdeal.Read.val_main_v179 (F := Ideal) (arg m c main_arg0) (arg m c main_arg1) (arg m c main_arg2) (arg m c main_arg3) (arg m c main_arg4) (arg m c main_arg5)
    (arg m c main_arg6) (arg m c main_arg7)
/-- and imaginary part. -/
def lastIm : S128x2048.Idx → EReal :=
  Cert.ReferenceIdeal.Read.val_main_v180 (F := Ideal) (arg m c main_arg0) (arg m c main_arg1) (arg m c main_arg2) (arg m c main_arg3) (arg m c main_arg4) (arg m c main_arg5)
    (arg m c main_arg6) (arg m c main_arg7)

/-- The last states at a lane, real part. -/
theorem lastRe_at (t : Fin cfg0.N) (y i : S128x2048.Idx) (h0 : (i 0).val = (y 0).val) (h1 : (i 1).val = (y 1).val) :
    (kerState m c t (y 0).val (y 1).val 4).1 = lastRe m c i := by
  unfold lastRe
  rw [ScanRef.r179, h0, h1, states m c t _ _ (y 0).isLt (y 1).isLt 4 le_rfl]
  rfl

theorem final12 : (dats m 0 c).arrAt 12 cfg0.N = lastRe m c := by
  refine (dats m 0 c).arrAt_eq_of_covers 12 _ (by decide +kernel) fun t hf y => ?_
  obtain ⟨-, -, -, -, -, -, -, -, -, -, -, -, -, -, -, -, -, -, -, h0, h1, -⟩ := idx_zero' t
  blk_simp
  rw [after0_12]
  simp only [outsAt0]
  rw [out12]
  exact lastRe_at m c t y _ (by blk_simp [h0]) (by blk_simp [h1])

/-- The last states at a lane, imaginary part. -/
theorem lastIm_at (t : Fin cfg0.N) (y i : S128x2048.Idx) (h0 : (i 0).val = (y 0).val) (h1 : (i 1).val = (y 1).val) :
    (kerState m c t (y 0).val (y 1).val 4).2 = lastIm m c i := by
  unfold lastIm
  rw [ScanRef.r180, h0, h1, states m c t _ _ (y 0).isLt (y 1).isLt 4 le_rfl]
  rfl

theorem final13 : (dats m 0 c).arrAt 13 cfg0.N = lastIm m c := by
  refine (dats m 0 c).arrAt_eq_of_covers 13 _ (by decide +kernel) fun t hf y => ?_
  obtain ⟨-, -, -, -, -, -, -, -, -, -, -, -, -, -, -, -, -, -, -, -, -, h0, h1⟩ := idx_zero' t
  blk_simp
  rw [after0_13]
  simp only [outsAt0]
  rw [out13]
  exact lastIm_at m c t y _ (by blk_simp [h0]) (by blk_simp [h1])

/-- A row of the output block. -/
theorem gated_row (t : Fin cfg0.N) (s : Fin 4) (b : Fin 128) :
    row3 (B := 4) (T := 128) (N := 512) (φ := .f32) ((outsAt0 m c t).1) s b = row3 (B := 4) (T := 128) (N := 512) (φ := .f32) (gated m c) s b := by
  have hb := b.isLt
  have hs := s.isLt
  unfold gated
  refine Eq.trans ?_ (ScanRef.r178 (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) s b).symm
  simp only [outsAt0]
  refine (out11 _ _ _ _ _ _ _ _ _ _ _ _ _ _ _ _ _ _ _ _ _ _ _ _ _ _ _ _ _ _ _ _ _ _ _ _ _ _ _ _ _ _ _ _ _ _ _ _ _ _ _ s b ⟨128 * s.val + b.val, by omega⟩ rfl).trans ?_
  rw [in9, in10]
  have ef : (fun j : Fin 512 => ySsm (iblk m c 0 t : S4x128x512.Idx → EReal) (iblk m c 1 t : S128x2048.Idx → EReal) (iblk m c 2 t : S128x2048.Idx → EReal) (iblk m c 3 t : S1x2048.Idx → EReal) (iblk m c 4 t : S1x2048.Idx → EReal)
        (iblk m c 5 t : S2x256x1024.Idx → EReal) (iblk m c 6 t : S2x256x1024.Idx → EReal) (iblk m c 7 t : S2x1024x256.Idx → EReal) (iblk m c 8 t : S2x1024x256.Idx → EReal) (128 * s.val + b.val) j.val) = _ :=
    funext fun j => features m c t s.val b.val j.val hs hb j.isLt
  have eu : row3 (B := 4) (T := 128) (N := 512) (φ := .f32) (iblk m c 0 t) s b = row3 (B := 128) (T := 4) (N := 512) (φ := .f32) (arg m c main_arg0) b s :=
    funext fun j => in0 m c t s b j
  rw [eu]
  exact congrArg (fun f => gateSelf (gelu (add f (mul (vec (N := 512) (φ := .f32) (arg m c main_arg10)) (row3 (B := 128) (T := 4) (N := 512) (φ := .f32) (arg m c main_arg0) b s))))
    (mat (M := 512) (N := 512) (φ := .f32) (arg m c main_arg11))) ef

/-- An element of the output block. -/
theorem gated_at (t : Fin cfg0.N) (y i : S4x128x512.Idx) (h0 : (i 0).val = (y 0).val) (h1 : (i 1).val = (y 1).val) (h2 : (i 2).val = (y 2).val) :
    (outsAt0 m c t).1 y = gated m c i := by
  obtain rfl : i = y := funext fun a => Fin.ext (by
    match a with
    | ⟨0, _⟩ => exact h0
    | ⟨1, _⟩ => exact h1
    | ⟨2, _⟩ => exact h2)
  have e := congrFun (gated_row m c t (i 0) (i 1)) (i 2)
  unfold row3 at e
  have hi : ValueIdx.ix3 (i 0) (i 1) (i 2) = i := funext fun a => by
    match a with
    | ⟨0, _⟩ => rfl
    | ⟨1, _⟩ => rfl
    | ⟨2, _⟩ => rfl
  exact (congrArg (outsAt0 m c t).1 hi.symm).trans (e.trans (congrArg (gated m c) hi))

theorem final11 : (dats m 0 c).arrAt 11 cfg0.N = gated m c := by
  refine (dats m 0 c).arrAt_eq_of_covers 11 _ (by decide +kernel) fun t hf y => ?_
  obtain ⟨-, -, -, -, -, -, -, -, -, -, -, -, -, -, -, -, h0, h1, h2, -⟩ := idx_zero' t
  blk_simp
  rw [after0_11]
  exact gated_at m c t y _ (by blk_simp [h0]) (by blk_simp [h1]) (by blk_simp [h2])

/-- From equal arguments the two programs return the same three arrays. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => gated m c, fun c => lastRe m c, fun c => lastIm m c,
    (θ_run (Cert.KernelIdeal.defs (F := Ideal)) _ _).mono (fun r h c => ⟨(h c).1.trans (final11 m c), (h c).2.1.trans (final12 m c), (h c).2.2.1.trans (final13 m c), (h c).2.2.2⟩) (Value.run_blocks m g), ?_⟩
  refine (θ_run (Cert.ReferenceIdeal.defs (F := Ideal)) _ _).mono (fun r h c => ?_) (Cert.ReferenceIdeal.Value.run (F := Ideal) m' g')
  obtain ⟨hv0, hv1, hv2, hrest⟩ := h c
  obtain ⟨a0, a1, a2, a3, a4, a5, a6, a7, a8, a9, a10, a11⟩ := hargs c
  refine ⟨(hv0.trans (Cert.ReferenceIdeal.Read.val_main_v178_eq _)).trans ?_, (hv1.trans (Cert.ReferenceIdeal.Read.val_main_v179_eq _)).trans ?_,
    (hv2.trans (Cert.ReferenceIdeal.Read.val_main_v180_eq _)).trans ?_, hrest⟩
  · unfold gated
    simp only [StableHlo.launchContents_devRef, a0, a1, a2, a3, a4, a5, a6, a7, a8, a9, a10, a11]
  · unfold lastRe
    simp only [StableHlo.launchContents_devRef, a0, a1, a2, a3, a4, a5, a6, a7]
  · unfold lastIm
    simp only [StableHlo.launchContents_devRef, a0, a1, a2, a3, a4, a5, a6, a7]

end Cert.Proof.ScanAgree

end
-- ==== Proof.InBlock.lean ====
/-
  WHAT ONE BLOCK OF THE IN-PROJECTION HOLDS. The body computes the first half feed-forward of a block of 512 tokens, 256 hidden
  columns at a time, normalises the result, and multiplies it by the projection's columns: once as rows by token, and once,
  for the arrays the cache keeps by feature, with the weights' rows on the left. Each store is read at a token.
-/
module

public import proofs.«01_k».proof.Proof.PostBlock
public import proofs.«01_k».proof.Proof.Gen.Kernel3Ideal.Value

@[expose] public section

noncomputable section

namespace Cert.Proof.InBlock

open Idealize.ShloMosaic Idealize.ShloMosaic.ValueIdx Cert.Rows Cert.Kernel3Ideal Cert.Kernel3Ideal.Gen
open Cert.Proof.PostBlock (zero2 scale_eq bands)
open scoped BigOperators

/-- A matrix with its two coordinates exchanged. -/
def turn {K N : ℕ} (w : Fin N → Fin K → EReal) : Fin K → Fin N → EReal := fun k j => w j k

/-- A product contracting both operands' columns, read at a column: that row of the right operand times the left one turned. -/
theorem col_matmul {M K N : ℕ} {φ ψ : FTy} (d : DotDims ⟨2, ![M, K]⟩ ⟨2, ![N, K]⟩ ⟨2, ![M, N]⟩) (hd : d = DotDims.transposedRhs M K N) (p)
    (a : FVec Ideal ⟨2, ![M, K]⟩ φ) (b : FVec Ideal ⟨2, ![N, K]⟩ ψ) (f : Fin M) (r : Fin N) :
    matmul d p a b (constant (F := Ideal) (⟨2, ![M, N]⟩ : Shape) .f32 0x00000000#32) (ix2 f r) = mv (row b r) (turn (mat a)) f := by
  subst hd
  refine (Ideal.matmul_transposedRhs_apply p a b _ f r).trans ?_
  rw [constant_apply, show Ideal.ofBits .f32 0x00000000#32 = 0 from by simp [Ideal.ofBits_zero_f32], zero_add]
  exact Finset.sum_congr rfl fun k _ => mul_comm _ _

/-- Loads of a column band and of a row band. -/
theorem ld_cols {K N L : ℕ} (o : ℕ) (x : Vec Ideal ⟨2, ![K, N]⟩ .bf16)
    (inb : ∀ a : Fin 2, (![0, o] : Fin 2 → ℕ) a + (![K, L] : Fin 2 → ℕ) a ≤ (![K, N] : Fin 2 → ℕ) a) :
    mat (M := K) (N := L) (φ := .bf16) (View.ld x (Rect.unit (s := ⟨2, ![K, N]⟩) ![0, o] ![K, L] inb))
      = cols o (inb 1) (mat (φ := .bf16) x) := mat_ld_cols o x inb (inb 1)
theorem ld_rows {K N L : ℕ} (o : ℕ) (x : Vec Ideal ⟨2, ![K, N]⟩ .bf16)
    (inb : ∀ a : Fin 2, (![o, 0] : Fin 2 → ℕ) a + (![L, N] : Fin 2 → ℕ) a ≤ (![K, N] : Fin 2 → ℕ) a) :
    mat (M := L) (N := N) (φ := .bf16) (View.ld x (Rect.unit (s := ⟨2, ![K, N]⟩) ![o, 0] ![L, N] inb))
      = rowsFrom o (inb 0) (mat (φ := .bf16) x) := mat_ld_rows o x inb (inb 0)

/-! ## The body's pieces at a row -/

theorem mm0 {φ ψ : FTy} (a : FVec Ideal S512x1024 φ) (b : FVec Ideal S1024x256 ψ) (r : Fin 512) :
    row (matmul dot_S512x1024_S1024x256_S512x256_1_0_0_1_n_n none a b (constant (F := Ideal) S512x256 .f32 0x00000000#32)) r = mv (row a r) (mat b) := row_matmul _ rfl _ a b r
theorem mm1 {φ ψ : FTy} (a : FVec Ideal S512x256 φ) (b : FVec Ideal S256x1024 ψ) (r : Fin 512) :
    row (matmul dot_S512x256_S256x1024_S512x1024_1_0_0_1_n_n none a b (constant (F := Ideal) S512x1024 .f32 0x00000000#32)) r = mv (row a r) (mat b) := row_matmul _ rfl _ a b r
theorem mm2 {φ ψ : FTy} (a : FVec Ideal S512x1024 φ) (b : FVec Ideal S1024x512 ψ) (r : Fin 512) :
    row (matmul dot_S512x1024_S1024x512_S512x512_1_0_0_1_n_n none a b (constant (F := Ideal) S512x512 .f32 0x00000000#32)) r = mv (row a r) (mat b) := row_matmul _ rfl _ a b r
theorem mm3 {φ ψ : FTy} (a : FVec Ideal S512x1024 φ) (b : FVec Ideal S1024x128 ψ) (r : Fin 512) :
    row (matmul dot_S512x1024_S1024x128_S512x128_1_0_0_1_n_n none a b (constant (F := Ideal) S512x128 .f32 0x00000000#32)) r = mv (row a r) (mat b) := row_matmul _ rfl _ a b r

theorem invB (x : FVec Ideal S512x1024 .f32) (r : Fin 512) :
    row (broadcastTo S512x1024 (rsqrt (addf (divf (shapeCast S512x1 (multiReduction .add [1] S512 (mulf x x) 0x00000000#32
      reduces_S512x1024_S512 (.inl rfl) rfl) shapeCasts_S512_S512x1) (broadcast S512x1 (FloatOps.ofBits (F := Ideal) .f32 0x44800000#32)))
      (broadcast S512x1 (FloatOps.ofBits (F := Ideal) .f32 0x358637BD#32)))) broadcasts_S512x1_S512x1024) r = inv (row x r) :=
  row_inv x _ _ _ _ _ r

theorem row_half (r : Fin 512) :
    row (broadcast S512x1024 (FloatOps.ofBits (F := Ideal) .f32 0x3F000000#32) : FVec Ideal S512x1024 .f32) r
      = fun _ => Ideal.ofBits .f32 0x3F000000#32 := rfl

theorem pay4_row (v0 : FVec Ideal S512x1024 .f32) (r : Fin 512) : row (k0_pay4 v0) r = row v0 r := by
  unfold k0_pay4; exact row_shapeCast _ _ _

theorem pay15_row (v174 : FVec Ideal S1x1024 .f32) (r : Fin 1) : row (k0_pay15 v174) r = row v174 r := by
  unfold k0_pay15; exact row_shapeCast _ _ _

theorem pay5_row (v0 : FVec Ideal S512x1024 .f32) (v2 : FVec Ideal S1x1024 .f32) (r : Fin 512) :
    row (k0_pay5 v0 v2) r
      = rms (row v0 r) (row v2 0) := by
  unfold k0_pay5
  dsimp only
  simp only [row_truncf, row_addf, row_mulf, row_logistic, mm0, mm1, mm2, mm3, row_broadcastTo, row_shapeCast, mat_shapeCast]
  rw [invB]
  simp only [rms, pay4_row]

theorem pay6_row (v0 : FVec Ideal S512x1024 .f32) (v2 : FVec Ideal S1x1024 .f32) (v17 : FVec Ideal S1024x256 .bf16) (v20 : FVec Ideal S1024x256 .bf16) (v27 : FVec Ideal S256x1024 .bf16) (r : Fin 512) :
    row (k0_pay6 v0 v2 v17 v20 v27) r
      = band (row (k0_pay5 v0 v2) r) (mat v17) (mat v20) (mat v27) := by
  unfold k0_pay6
  dsimp only
  simp only [row_truncf, row_addf, row_mulf, row_logistic, mm0, mm1, mm2, mm3, row_broadcastTo, row_shapeCast, mat_shapeCast]
  simp only [band, glu]

theorem pay7_row (v0 : FVec Ideal S512x1024 .f32) (v2 : FVec Ideal S1x1024 .f32) (v30 : FVec Ideal S1024x256 .bf16) (r : Fin 512) :
    row (k0_pay7 v0 v2 v30) r
      = mv (row (k0_pay5 v0 v2) r) (mat v30) := by
  unfold k0_pay7
  dsimp only
  simp only [row_truncf, row_addf, row_mulf, row_logistic, mm0, mm1, mm2, mm3, row_broadcastTo, row_shapeCast, mat_shapeCast]

theorem pay8_row (v0 : FVec Ideal S512x1024 .f32) (v2 : FVec Ideal S1x1024 .f32) (v33 : FVec Ideal S1024x256 .bf16) (r : Fin 512) :
    row (k0_pay8 v0 v2 v33) r
      = mv (row (k0_pay5 v0 v2) r) (mat v33) := by
  unfold k0_pay8
  dsimp only
  simp only [row_truncf, row_addf, row_mulf, row_logistic, mm0, mm1, mm2, mm3, row_broadcastTo, row_shapeCast, mat_shapeCast]

theorem pay9_row (v16 : FVec Ideal S512x1024 .bf16) (v29 : FVec Ideal S512x1024 .f32) (v32 : FVec Ideal S512x256 .f32) (v35 : FVec Ideal S512x256 .f32) (v40 : FVec Ideal S256x1024 .bf16) (v44 : FVec Ideal S1024x256 .bf16) (v47 : FVec Ideal S1024x256 .bf16) (v54 : FVec Ideal S256x1024 .bf16) (v58 : FVec Ideal S1024x256 .bf16) (v61 : FVec Ideal S1024x256 .bf16) (v68 : FVec Ideal S256x1024 .bf16) (r : Fin 512) :
    row (k0_pay9 v16 v29 v32 v35 v40 v44 v47 v54 v58 v61 v68) r
      = add (add (add (row v29 r) (mv (glu (row v32 r) (row v35 r)) (mat v40))) (band (row v16 r) (mat v44) (mat v47) (mat v54))) (band (row v16 r) (mat v58) (mat v61) (mat v68)) := by
  unfold k0_pay9
  dsimp only
  simp only [row_truncf, row_addf, row_mulf, row_logistic, mm0, mm1, mm2, mm3, row_broadcastTo, row_shapeCast, mat_shapeCast]
  simp only [band, glu]

theorem pay10_row (v16 : FVec Ideal S512x1024 .bf16) (v71 : FVec Ideal S512x1024 .f32) (v72 : FVec Ideal S1024x256 .bf16) (v75 : FVec Ideal S1024x256 .bf16) (v82 : FVec Ideal S256x1024 .bf16) (v86 : FVec Ideal S1024x256 .bf16) (v89 : FVec Ideal S1024x256 .bf16) (v96 : FVec Ideal S256x1024 .bf16) (r : Fin 512) :
    row (k0_pay10 v16 v71 v72 v75 v82 v86 v89 v96) r
      = add (add (row v71 r) (band (row v16 r) (mat v72) (mat v75) (mat v82))) (band (row v16 r) (mat v86) (mat v89) (mat v96)) := by
  unfold k0_pay10
  dsimp only
  simp only [row_truncf, row_addf, row_mulf, row_logistic, mm0, mm1, mm2, mm3, row_broadcastTo, row_shapeCast, mat_shapeCast]
  simp only [band, glu]

theorem pay11_row (v16 : FVec Ideal S512x1024 .bf16) (v100 : FVec Ideal S1024x256 .bf16) (v103 : FVec Ideal S1024x256 .bf16) (r : Fin 512) :
    row (k0_pay11 v16 v100 v103) r
      = glu (mv (row v16 r) (mat v100)) (mv (row v16 r) (mat v103)) := by
  unfold k0_pay11
  dsimp only
  simp only [row_truncf, row_addf, row_mulf, row_logistic, mm0, mm1, mm2, mm3, row_broadcastTo, row_shapeCast, mat_shapeCast]
  simp only [glu]

theorem pay12_row (v16 : FVec Ideal S512x1024 .bf16) (v99 : FVec Ideal S512x1024 .f32) (v109 : FVec Ideal S512x256 .bf16) (v110 : FVec Ideal S256x1024 .bf16) (v114 : FVec Ideal S1024x256 .bf16) (v117 : FVec Ideal S1024x256 .bf16) (v124 : FVec Ideal S256x1024 .bf16) (v128 : FVec Ideal S1024x256 .bf16) (v131 : FVec Ideal S1024x256 .bf16) (v138 : FVec Ideal S256x1024 .bf16) (r : Fin 512) :
    row (k0_pay12 v16 v99 v109 v110 v114 v117 v124 v128 v131 v138) r
      = add (add (add (row v99 r) (mv (row v109 r) (mat v110))) (band (row v16 r) (mat v114) (mat v117) (mat v124))) (band (row v16 r) (mat v128) (mat v131) (mat v138)) := by
  unfold k0_pay12
  dsimp only
  simp only [row_truncf, row_addf, row_mulf, row_logistic, mm0, mm1, mm2, mm3, row_broadcastTo, row_shapeCast, mat_shapeCast]
  simp only [band, glu]

theorem pay13_row (v16 : FVec Ideal S512x1024 .bf16) (v142 : FVec Ideal S1024x256 .bf16) (r : Fin 512) :
    row (k0_pay13 v16 v142) r
      = mv (row v16 r) (mat v142) := by
  unfold k0_pay13
  dsimp only
  simp only [row_truncf, row_addf, row_mulf, row_logistic, mm0, mm1, mm2, mm3, row_broadcastTo, row_shapeCast, mat_shapeCast]

theorem pay14_row (v1 : FVec Ideal S512x1024 .f32) (v16 : FVec Ideal S512x1024 .bf16) (v141 : FVec Ideal S512x1024 .f32) (v144 : FVec Ideal S512x256 .f32) (v145 : FVec Ideal S1024x256 .bf16) (v152 : FVec Ideal S256x1024 .bf16) (v156 : FVec Ideal S1024x256 .bf16) (v159 : FVec Ideal S1024x256 .bf16) (v166 : FVec Ideal S256x1024 .bf16) (r : Fin 512) :
    row (k0_pay14 v1 v16 v141 v144 v145 v152 v156 v159 v166) r
      = add (row v1 r) (scale (Ideal.ofBits .f32 0x3F000000#32) (add (add (row v141 r) (mv (glu (row v144 r) (mv (row v16 r) (mat v145))) (mat v152))) (band (row v16 r) (mat v156) (mat v159) (mat v166)))) := by
  unfold k0_pay14
  dsimp only
  simp only [row_truncf, row_addf, row_mulf, row_logistic, mm0, mm1, mm2, mm3, row_broadcastTo, row_shapeCast, mat_shapeCast]
  simp only [band, glu, row_half, scale_eq]

/-! ## The tokens after the half feed-forward, and their norm -/

theorem whole0 (x : Vec Ideal S512x1024 .f32) : View.ld x r0_0 = x := View.ld_unit_zero (S := S512x1024) zero2 _ x
theorem whole1 (x : Vec Ideal S1x1024 .f32) : View.ld x r0_1 = x := View.ld_unit_zero (S := S1x1024) zero2 _ x

theorem pay52_row (i : grid0.Coords) (x0 : Vec Ideal S512x1024 .f32) (x1 : Vec Ideal S1x1024 .f32) (x2 : Vec Ideal S1024x2816 .bf16) (x3 : Vec Ideal S1024x2816 .bf16)
    (x4 : Vec Ideal S2816x1024 .bf16) (x5 : Vec Ideal S1x1024 .f32) (x6 : Vec Ideal S1024x1152 .bf16) (x7 : Vec Ideal S1792x1024 .bf16) (r : Fin 512) :
    row (k0_pay52 i x0 x1 x2 x3 x4 x5 x6 x7) r = halfFfn (row (φ := .f32) x0 r) (row (φ := .f32) x1 0) (mat (φ := .bf16) x2) (mat (φ := .bf16) x3) (mat (φ := .bf16) x4) := by
  unfold k0_pay52 k0_pay51 k0_pay50 k0_pay49 k0_pay48
  simp only [pay4_row, pay5_row, pay6_row, pay7_row, pay8_row, pay9_row, pay10_row, pay11_row, pay12_row, pay13_row, pay14_row, whole0, whole1]
  simp only [ld_cols, ld_rows]
  simp only [halfFfn, ← bands]
  rfl

/-- The kernel's norm of the rows it has just computed. -/
theorem pay55_row (i : grid0.Coords) (x0 : Vec Ideal S512x1024 .f32) (x1 : Vec Ideal S1x1024 .f32) (x2 : Vec Ideal S1024x2816 .bf16) (x3 : Vec Ideal S1024x2816 .bf16)
    (x4 : Vec Ideal S2816x1024 .bf16) (x5 : Vec Ideal S1x1024 .f32) (x6 : Vec Ideal S1024x1152 .bf16) (x7 : Vec Ideal S1792x1024 .bf16) (r : Fin 512) :
    row (k0_pay55 i x0 x1 x2 x3 x4 x5 x6 x7) r = rms (row (k0_pay52 i x0 x1 x2 x3 x4 x5 x6 x7) r) (row (φ := .f32) x5 0) := by
  unfold k0_pay55 k0_pay54 k0_pay53 k0_pay17 k0_pay16
  change row (truncf _ (mulf (mulf _ (broadcastTo _ (rsqrt (addf (divf (shapeCast _ (multiReduction _ _ _
    (mulf (k0_pay52 i x0 x1 x2 x3 x4 x5 x6 x7) (k0_pay52 i x0 x1 x2 x3 x4 x5 x6 x7)) _ _ _ _) _) _) _)) _)) _) _) r = _
  simp only [row_truncf, row_mulf, row_broadcastTo, pay15_row, whole1]
  rw [invB]
  rfl

/-! ## The seven stores -/

theorem zero3 : (![0, 0, 0] : Fin 3 → Nat) = fun _ => 0 := funext fun a => by fin_cases a <;> rfl

/-- The tokens after the half feed-forward. -/
theorem out8_row (i : grid0.Coords) (x0 : Vec Ideal S512x1024 .f32) (x1 : Vec Ideal S1x1024 .f32) (x2 : Vec Ideal S1024x2816 .bf16) (x3 : Vec Ideal S1024x2816 .bf16)
    (x4 : Vec Ideal S2816x1024 .bf16) (x5 : Vec Ideal S1x1024 .f32) (x6 : Vec Ideal S1024x1152 .bf16) (x7 : Vec Ideal S1792x1024 .bf16) (r : Fin 512) :
    row (M := 512) (N := 1024) (φ := .f32) (out0_8 i x0 x1 x2 x3 x4 x5 x6 x7) r = halfFfn (row (φ := .f32) x0 r) (row (φ := .f32) x1 0) (mat (φ := .bf16) x2) (mat (φ := .bf16) x3) (mat (φ := .bf16) x4) := by
  unfold out0_8
  rw [View.canon_unit_zero (S := S512x1024) zero2]
  exact pay52_row i x0 x1 x2 x3 x4 x5 x6 x7 r

/-- The normalised tokens times the columns of the compressed branch's keys and values. -/
theorem out15_row (i : grid0.Coords) (x0 : Vec Ideal S512x1024 .f32) (x1 : Vec Ideal S1x1024 .f32) (x2 : Vec Ideal S1024x2816 .bf16) (x3 : Vec Ideal S1024x2816 .bf16)
    (x4 : Vec Ideal S2816x1024 .bf16) (x5 : Vec Ideal S1x1024 .f32) (x6 : Vec Ideal S1024x1152 .bf16) (x7 : Vec Ideal S1792x1024 .bf16) (r : Fin 512) :
    row (M := 512) (N := 256) (φ := .f32) (out0_15 i x0 x1 x2 x3 x4 x5 x6 x7) r
      = mv (rms (halfFfn (row (φ := .f32) x0 r) (row (φ := .f32) x1 0) (mat (φ := .bf16) x2) (mat (φ := .bf16) x3) (mat (φ := .bf16) x4)) (row (φ := .f32) x5 0)) (cols 0 (by decide) (mat (φ := .bf16) x6)) := by
  unfold out0_15
  rw [View.canon_unit_zero (S := S512x256) zero2, ← pay52_row i x0 x1 x2 x3 x4 x5 x6 x7 r, ← pay55_row i x0 x1 x2 x3 x4 x5 x6 x7 r]
  unfold k0_pay18
  dsimp only
  simp only [mm0, mat_shapeCast, ld_cols]
  rfl

/-- The normalised tokens times the columns of the recurrence's input. -/
theorem out18_row (i : grid0.Coords) (x0 : Vec Ideal S512x1024 .f32) (x1 : Vec Ideal S1x1024 .f32) (x2 : Vec Ideal S1024x2816 .bf16) (x3 : Vec Ideal S1024x2816 .bf16)
    (x4 : Vec Ideal S2816x1024 .bf16) (x5 : Vec Ideal S1x1024 .f32) (x6 : Vec Ideal S1024x1152 .bf16) (x7 : Vec Ideal S1792x1024 .bf16) (r : Fin 512) :
    row (M := 512) (N := 512) (φ := .f32) (out0_18 i x0 x1 x2 x3 x4 x5 x6 x7) r
      = mv (rms (halfFfn (row (φ := .f32) x0 r) (row (φ := .f32) x1 0) (mat (φ := .bf16) x2) (mat (φ := .bf16) x3) (mat (φ := .bf16) x4)) (row (φ := .f32) x5 0)) (cols 512 (by decide) (mat (φ := .bf16) x6)) := by
  unfold out0_18
  rw [View.canon_unit_zero (S := S512x512) zero2, ← pay52_row i x0 x1 x2 x3 x4 x5 x6 x7 r, ← pay55_row i x0 x1 x2 x3 x4 x5 x6 x7 r]
  unfold k0_pay22 k0_pay21
  simp only [mm2, mat_shapeCast, ld_cols]
  rfl

/-- The logistic function of the normalised tokens times the columns of the branches' gates. -/
theorem out19_row (i : grid0.Coords) (x0 : Vec Ideal S512x1024 .f32) (x1 : Vec Ideal S1x1024 .f32) (x2 : Vec Ideal S1024x2816 .bf16) (x3 : Vec Ideal S1024x2816 .bf16)
    (x4 : Vec Ideal S2816x1024 .bf16) (x5 : Vec Ideal S1x1024 .f32) (x6 : Vec Ideal S1024x1152 .bf16) (x7 : Vec Ideal S1792x1024 .bf16) (r : Fin 512) :
    row (M := 512) (N := 128) (φ := .f32) (out0_19 i x0 x1 x2 x3 x4 x5 x6 x7) r
      = sig (mv (rms (halfFfn (row (φ := .f32) x0 r) (row (φ := .f32) x1 0) (mat (φ := .bf16) x2) (mat (φ := .bf16) x3) (mat (φ := .bf16) x4)) (row (φ := .f32) x5 0)) (cols 1024 (by decide) (mat (φ := .bf16) x6))) := by
  unfold out0_19
  rw [View.canon_unit_zero (S := S512x128) zero2, ← pay52_row i x0 x1 x2 x3 x4 x5 x6 x7 r, ← pay55_row i x0 x1 x2 x3 x4 x5 x6 x7 r]
  unfold k0_pay23
  dsimp only
  simp only [row_logistic, mm3, mat_shapeCast, ld_cols]
  rfl

/-- A product with the weights' rows on the left, laid out as one block, at feature `f` of token `r`. -/
theorem by_feature (a : FVec Ideal S256x1024 .bf16) (b : FVec Ideal S512x1024 .bf16) (f : Fin 256) (r : Fin 512) :
    shapeCast S1x256x512 (matmul dot_S256x1024_S512x1024_S256x512_1_1_0_0_n_n none a b (constant (F := Ideal) S256x512 .f32 0x00000000#32))
      shapeCasts_S256x512_S1x256x512 (ix3 0 f r) = mv (row b r) (turn (mat a)) f := by
  refine (shapeCast_apply _ _ (ix3 0 f r) (ix2 f r) ?_).trans (col_matmul _ rfl _ a b f r)
  rw [Shape.rowMajor_val_three, Shape.rowMajor_val_two]
  show f.val * 512 + r.val = (0 * 256 + f.val) * 512 + r.val
  omega

/-- The compressed branch's keys and values at feature `f` of token `r`. -/
theorem out10_at (i : grid0.Coords) (x0 : Vec Ideal S512x1024 .f32) (x1 : Vec Ideal S1x1024 .f32) (x2 : Vec Ideal S1024x2816 .bf16) (x3 : Vec Ideal S1024x2816 .bf16)
    (x4 : Vec Ideal S2816x1024 .bf16) (x5 : Vec Ideal S1x1024 .f32) (x6 : Vec Ideal S1024x1152 .bf16) (x7 : Vec Ideal S1792x1024 .bf16) (f : Fin 256) (r : Fin 512) :
    out0_10 i x0 x1 x2 x3 x4 x5 x6 x7 (ix3 0 f r) = mv (rms (halfFfn (row (φ := .f32) x0 r) (row (φ := .f32) x1 0) (mat (φ := .bf16) x2) (mat (φ := .bf16) x3) (mat (φ := .bf16) x4)) (row (φ := .f32) x5 0)) (turn (rowsFrom 1024 (by decide) (mat (φ := .bf16) x7))) f := by
  unfold out0_10
  rw [View.canon_unit_zero (S := S1x256x512) zero3, ← pay52_row i x0 x1 x2 x3 x4 x5 x6 x7 r, ← pay55_row i x0 x1 x2 x3 x4 x5 x6 x7 r]
  unfold k0_pay25
  refine (by_feature _ _ f r).trans ?_
  simp only [mat_shapeCast, ld_rows]
  rfl

/-- The selected branch's keys and values at feature `f` of token `r`. -/
theorem out11_at (i : grid0.Coords) (x0 : Vec Ideal S512x1024 .f32) (x1 : Vec Ideal S1x1024 .f32) (x2 : Vec Ideal S1024x2816 .bf16) (x3 : Vec Ideal S1024x2816 .bf16)
    (x4 : Vec Ideal S2816x1024 .bf16) (x5 : Vec Ideal S1x1024 .f32) (x6 : Vec Ideal S1024x1152 .bf16) (x7 : Vec Ideal S1792x1024 .bf16) (f : Fin 256) (r : Fin 512) :
    out0_11 i x0 x1 x2 x3 x4 x5 x6 x7 (ix3 0 f r) = mv (rms (halfFfn (row (φ := .f32) x0 r) (row (φ := .f32) x1 0) (mat (φ := .bf16) x2) (mat (φ := .bf16) x3) (mat (φ := .bf16) x4)) (row (φ := .f32) x5 0)) (turn (rowsFrom 1280 (by decide) (mat (φ := .bf16) x7))) f := by
  unfold out0_11
  rw [View.canon_unit_zero (S := S1x256x512) zero3, ← pay52_row i x0 x1 x2 x3 x4 x5 x6 x7 r, ← pay55_row i x0 x1 x2 x3 x4 x5 x6 x7 r]
  unfold k0_pay29 k0_pay28 k0_pay57 k0_pay27
  refine (by_feature _ _ f r).trans ?_
  simp only [mat_shapeCast, ld_rows]
  rfl

/-- The window branch's keys and values at feature `f` of token `r`. -/
theorem out12_at (i : grid0.Coords) (x0 : Vec Ideal S512x1024 .f32) (x1 : Vec Ideal S1x1024 .f32) (x2 : Vec Ideal S1024x2816 .bf16) (x3 : Vec Ideal S1024x2816 .bf16)
    (x4 : Vec Ideal S2816x1024 .bf16) (x5 : Vec Ideal S1x1024 .f32) (x6 : Vec Ideal S1024x1152 .bf16) (x7 : Vec Ideal S1792x1024 .bf16) (f : Fin 256) (r : Fin 512) :
    out0_12 i x0 x1 x2 x3 x4 x5 x6 x7 (ix3 0 f r) = mv (rms (halfFfn (row (φ := .f32) x0 r) (row (φ := .f32) x1 0) (mat (φ := .bf16) x2) (mat (φ := .bf16) x3) (mat (φ := .bf16) x4)) (row (φ := .f32) x5 0)) (turn (rowsFrom 1536 (by decide) (mat (φ := .bf16) x7))) f := by
  unfold out0_12
  rw [View.canon_unit_zero (S := S1x256x512) zero3, ← pay52_row i x0 x1 x2 x3 x4 x5 x6 x7 r, ← pay55_row i x0 x1 x2 x3 x4 x5 x6 x7 r]
  unfold k0_pay40 k0_pay39
  refine (by_feature _ _ f r).trans ?_
  simp only [mat_shapeCast, ld_rows]
  rfl

end Cert.Proof.InBlock

end
-- ==== Proof.InIn.lean ====
/-
  THE IN-PROJECTION'S BLOCKS READ OFF ITS ARGUMENTS. The grid's 32 points are the 8 sequences by the 4 blocks of 512 tokens. The
  projection's weights reach the kernel re-laid by the host: the columns it multiplies row by row are gathered into one
  array, with the gates' 24 columns padded by zero columns to 128, and the three branches' keys' and values' columns are
  laid as rows below the queries'.
-/
module

public import proofs.«01_k».proof.Proof.InBlock
public import Idealize.ShloMosaic.Lib.Pipeline.ValueKit
public import Idealize.ShloMosaic.Lib.StableHlo.RunRead
public import Idealize.ShloMosaic.Lib.KernelVsHost

@[expose] public section

noncomputable section

namespace Cert.Proof.InIn

open Idealize.ShloMosaic Idealize.SL.Sem Cert.Rows Cert.Kernel3Ideal Cert.Kernel3Ideal.Gen
open Idealize.ShloMosaic.TcCoe

variable (m : (ℓ : Loc nD τ sig) → Buf (Elt Ideal) ℓ) (c : Dev nD)

/-- The windows' block indices at each point: the row blocks in order, the recurrence's block by time and sequence, the
    arrays by feature by sequence and time. -/
theorem idx_facts : ∀ t : Fin cfg0.N, t.val < 32 ∧
    (win0_0.index t (0 : Fin 2) = t.val ∧ win0_0.index t (1 : Fin 2) = 0) ∧
    (win0_8.index t (0 : Fin 2) = t.val ∧ win0_8.index t (1 : Fin 2) = 0) ∧
    (win0_10.index t (0 : Fin 3) = t.val / 4 ∧ win0_10.index t (1 : Fin 3) = 0 ∧ win0_10.index t (2 : Fin 3) = t.val % 4) ∧
    (win0_11.index t (0 : Fin 3) = t.val / 4 ∧ win0_11.index t (1 : Fin 3) = 0 ∧ win0_11.index t (2 : Fin 3) = t.val % 4) ∧
    (win0_12.index t (0 : Fin 3) = t.val / 4 ∧ win0_12.index t (1 : Fin 3) = 0 ∧ win0_12.index t (2 : Fin 3) = t.val % 4) ∧
    (win0_15.index t (0 : Fin 2) = t.val ∧ win0_15.index t (1 : Fin 2) = 0) ∧
    (win0_18.index t (0 : Fin 2) = t.val % 4 ∧ win0_18.index t (1 : Fin 2) = t.val / 4) ∧
    (win0_19.index t (0 : Fin 2) = t.val ∧ win0_19.index t (1 : Fin 2) = 0) :=
  (by decide +kernel : ∀ t : Fin grid0.N, _)

/-- The weights' windows are whole arrays. -/
theorem idx_zero : ∀ t : Fin cfg0.N,
    (win0_1.index t (0 : Fin 2) = 0 ∧ win0_1.index t (1 : Fin 2) = 0) ∧
    (win0_2.index t (0 : Fin 2) = 0 ∧ win0_2.index t (1 : Fin 2) = 0) ∧
    (win0_3.index t (0 : Fin 2) = 0 ∧ win0_3.index t (1 : Fin 2) = 0) ∧
    (win0_4.index t (0 : Fin 2) = 0 ∧ win0_4.index t (1 : Fin 2) = 0) ∧
    (win0_5.index t (0 : Fin 2) = 0 ∧ win0_5.index t (1 : Fin 2) = 0) ∧
    (win0_6.index t (0 : Fin 2) = 0 ∧ win0_6.index t (1 : Fin 2) = 0) ∧
    (win0_7.index t (0 : Fin 2) = 0 ∧ win0_7.index t (1 : Fin 2) = 0) :=
  (by decide +kernel : ∀ t : Fin grid0.N, _)

theorem iblk0 (t : Fin cfg0.N) (r : Fin 512) (b : Fin 8) (s : Fin 2048) (h : b.val * 2048 + s.val = t.val * 512 + r.val) :
    row (M := 512) (N := 1024) (φ := .f32) (iblk m c 0 t) r = row3 (B := 8) (T := 2048) (N := 1024) (φ := .f32) (m ((c : Thread nD τ).loc main_arg0)) b s := by
  obtain ⟨ht, ⟨h0, h1⟩, -⟩ := idx_facts t
  funext j
  unfold row row3
  blk_simp [iblk]
  entry_read
  exact shapeCast_flat _ _ _ b s j (by blk_simp [h0]; show _ + r.val = _; omega) (by blk_simp [h1])

theorem iblk1 (t : Fin cfg0.N) :
    row (M := 1) (N := 1024) (φ := .f32) (iblk m c 1 t) 0 = vec (N := 1024) (φ := .f32) (m ((c : Thread nD τ).loc main_arg1)) := by
  obtain ⟨⟨h0, h1⟩, -⟩ := idx_zero t
  funext j
  unfold row vec
  blk_simp [iblk]
  entry_read
  exact shapeCast_vec _ _ _ j (by blk_simp [h1])

theorem iblk5 (t : Fin cfg0.N) :
    row (M := 1) (N := 1024) (φ := .f32) (iblk m c 5 t) 0 = vec (N := 1024) (φ := .f32) (m ((c : Thread nD τ).loc main_arg5)) := by
  obtain ⟨-, -, -, -, ⟨h0, h1⟩, -⟩ := idx_zero t
  funext j
  unfold row vec
  blk_simp [iblk]
  entry_read
  exact shapeCast_vec _ _ _ j (by blk_simp [h1])

theorem iblk2 (t : Fin cfg0.N) :
    mat (M := 1024) (N := 2816) (φ := .bf16) (iblk m c 2 t) = mat (M := 1024) (N := 2816) (φ := .f32) (m ((c : Thread nD τ).loc main_arg2)) := by
  obtain ⟨-, ⟨h0, h1⟩, -⟩ := idx_zero t
  funext i j
  unfold mat
  blk_simp [iblk]
  entry_read
  exact congrArg (m ((c : Thread nD τ).loc main_arg2)) (by blk_ext [h0, h1])

theorem iblk3 (t : Fin cfg0.N) :
    mat (M := 1024) (N := 2816) (φ := .bf16) (iblk m c 3 t) = mat (M := 1024) (N := 2816) (φ := .f32) (m ((c : Thread nD τ).loc main_arg3)) := by
  obtain ⟨-, -, ⟨h0, h1⟩, -⟩ := idx_zero t
  funext i j
  unfold mat
  blk_simp [iblk]
  entry_read
  exact congrArg (m ((c : Thread nD τ).loc main_arg3)) (by blk_ext [h0, h1])

theorem iblk4 (t : Fin cfg0.N) :
    mat (M := 2816) (N := 1024) (φ := .bf16) (iblk m c 4 t) = mat (M := 2816) (N := 1024) (φ := .f32) (m ((c : Thread nD τ).loc main_arg4)) := by
  obtain ⟨-, -, -, ⟨h0, h1⟩, -⟩ := idx_zero t
  funext i j
  unfold mat
  blk_simp [iblk]
  entry_read
  exact congrArg (m ((c : Thread nD τ).loc main_arg4)) (by blk_ext [h0, h1])

/-! ## The projection's weights, re-laid -/

theorem truncf_at {s : Shape} {φ ψ : FTy} (x : FVec Ideal s φ) (h : ψ.bits < φ.bits) (y : s.Idx) : truncf ψ x h y = x y := rfl

/-- Rows of a transpose are columns. -/
theorem rows_at {M N L o : ℕ} {φ : FTy} (w : FVec Ideal ⟨2, ![M, N]⟩ φ)
    (ht : (⟨2, ![M, N]⟩ : Shape).Transposes ([1, 0] : List (Fin 2)) ⟨2, ![N, M]⟩)
    (hs : (⟨2, ![N, M]⟩ : Shape).Slices ![o, 0] ⟨2, ![L, M]⟩) (j : Fin L) (k : Fin M) (q : Fin N) (hq : q.val = o + j.val) :
    extractStridedSlice (⟨2, ![L, M]⟩ : Shape) ![o, 0] (transpose (⟨2, ![N, M]⟩ : Shape) ([1, 0] : List (Fin 2)) w ht) hs (ValueIdx.ix2 j k) = w (ValueIdx.ix2 k q) := by
  refine (extractStridedSlice_apply _ _ hs (ValueIdx.ix2 j k) (ValueIdx.ix2 q k) fun a => ?_).trans (transpose_apply _ _ ht _ _ fun a => ?_)
  · match a with
    | ⟨0, _⟩ => exact hq
    | ⟨1, _⟩ => exact (Nat.zero_add _).symm
  · match a with
    | ⟨0, _⟩ => rfl
    | ⟨1, _⟩ => rfl

/-- Matrices laid one under another: the row that is row `j` of matrix `n`. -/
theorem stack_at {α : Type} {R N L : ℕ} (xs : List ((s : Shape) × (s.Idx → α))) (h : Shape.Concatenates (xs.map (·.1)) ⟨2, ![R, N]⟩ 0)
    (y : (⟨2, ![R, N]⟩ : Shape).Idx) (n : ℕ) (hn : n < xs.length) (a : (⟨2, ![L, N]⟩ : Shape).Idx → α) (hx : xs[n] = ⟨⟨2, ![L, N]⟩, a⟩) (pre : ℕ)
    (hpre : (((xs.take n).map (·.1)).map fun s => if h : s.rank = (⟨2, ![R, N]⟩ : Shape).rank then s.size ((0 : Fin 2).cast h.symm) else 0).sum = pre)
    (j : Fin L) (k : Fin N) (h0 : (y 0).val = pre + j.val) (h1 : (y 1).val = k.val) :
    concatenate ⟨2, ![R, N]⟩ (0 : Fin 2) xs h y = a (ValueIdx.ix2 j k) :=
  concatenate_apply_piece (t := ⟨2, ![R, N]⟩) (0 : Fin 2) xs h y n hn ⟨2, ![L, N]⟩ a hx rfl pre hpre (ValueIdx.ix2 j k)
    (fun b hb => by match b with | ⟨0, _⟩ => exact absurd rfl hb | ⟨1, _⟩ => exact h1.symm) h0.symm

section Stacks

variable {α : Type}

theorem below (a : S1024x1024.Idx → α) (b : S768x1024.Idx → α) (h) (y : S1792x1024.Idx) (j : Fin 768) (k : Fin 1024)
    (h0 : (y 0).val = 1024 + j.val) (h1 : (y 1).val = k.val) :
    concatenate S1792x1024 0 [⟨S1024x1024, a⟩, ⟨S768x1024, b⟩] h y = b (ValueIdx.ix2 j k) :=
  stack_at _ h y 1 (by decide : 1 < 2) b rfl 1024 rfl j k h0 h1

variable (a : S256x1024.Idx → α) (b d : S128x1024.Idx → α) (e : S512x1024.Idx → α) (g : S128x1024.Idx → α)
  (h : Shape.Concatenates [S256x1024, S128x1024, S128x1024, S512x1024, S128x1024] S1152x1024 0) (y : S1152x1024.Idx) (k : Fin 1024)

/-- Five matrices, in order. -/
abbrev pieces : List ((s : Shape) × (s.Idx → α)) := [⟨S256x1024, a⟩, ⟨S128x1024, b⟩, ⟨S128x1024, d⟩, ⟨S512x1024, e⟩, ⟨S128x1024, g⟩]

theorem first (j : Fin 256) (h0 : (y 0).val = 0 + j.val) (h1 : (y 1).val = k.val) :
    concatenate S1152x1024 0 (pieces a b d e g) h y = a (ValueIdx.ix2 j k) :=
  stack_at (R := 1152) (N := 1024) (pieces a b d e g) h y 0 (by decide : 0 < 5) a rfl 0 rfl j k h0 h1

theorem fourth (j : Fin 512) (h0 : (y 0).val = 512 + j.val) (h1 : (y 1).val = k.val) :
    concatenate S1152x1024 0 (pieces a b d e g) h y = e (ValueIdx.ix2 j k) :=
  stack_at (R := 1152) (N := 1024) (pieces a b d e g) h y 3 (by decide : 3 < 5) e rfl 512 rfl j k h0 h1

theorem fifth (j : Fin 128) (h0 : (y 0).val = 1024 + j.val) (h1 : (y 1).val = k.val) :
    concatenate S1152x1024 0 (pieces a b d e g) h y = g (ValueIdx.ix2 j k) :=
  stack_at (R := 1152) (N := 1024) (pieces a b d e g) h y 4 (by decide : 4 < 5) g rfl 1024 rfl j k h0 h1

end Stacks

/-- The projection's weights. -/
abbrev wIn : Fin 1024 → Fin 3864 → EReal := mat (M := 1024) (N := 3864) (φ := .f32) (m ((c : Thread nD τ).loc main_arg6))

/-- The gates' columns, and zero columns after them. -/
def gateCols (w : Fin 1024 → Fin 3864 → EReal) : Fin 1024 → Fin 128 → EReal := fun k j =>
  if h : j.val < 24 then w k ⟨1280 + j.val, by omega⟩ else 0

set_option maxRecDepth 16384 in
set_option maxHeartbeats 2000000 in
theorem v27_at (y : S1792x1024.Idx) (j : Fin 768) (k : Fin 1024) (q : Fin 3864) (h0 : (y 0).val = 1024 + j.val) (h1 : (y 1).val = k.val)
    (hq : q.val = 512 + j.val) : (V m c main_v27 : FVec Ideal S1792x1024 .bf16) y = wIn m c k q := by
  simp only [V, List.flatten_cons, List.flatten_nil, List.append_nil]
  after_reads_simp
  rw [truncf_at]
  refine (below _ _ _ y j k h0 h1).trans ?_
  after_reads_simp
  exact rows_at (φ := .f32) _ _ _ j k q hq

/-- The re-laid weights' transpose, before its columns' pieces are read. -/
theorem turned_at (x : FVec Ideal S1152x1024 .f32) (ht : S1152x1024.Transposes ([1, 0] : List (Fin 2)) S1024x1152) (hb : FTy.bits .bf16 < FTy.bits .f32)
    (y : S1024x1152.Idx) : truncf .bf16 (transpose S1024x1152 ([1, 0] : List (Fin 2)) x ht : FVec Ideal S1024x1152 .f32) hb y = x (ValueIdx.ix2 (y 1) (y 0)) :=
  transpose_apply _ _ ht y (ValueIdx.ix2 (y 1) (y 0)) fun a => by match a with | ⟨0, _⟩ => rfl | ⟨1, _⟩ => rfl

set_option maxRecDepth 16384 in
set_option maxHeartbeats 2000000 in
theorem v26_first (y : S1024x1152.Idx) (j : Fin 256) (k : Fin 1024) (q : Fin 3864) (h0 : (y 0).val = k.val) (h1 : (y 1).val = 0 + j.val)
    (hq : q.val = 512 + j.val) : (V m c main_v26 : FVec Ideal S1024x1152 .bf16) y = wIn m c k q := by
  simp only [V, List.flatten_cons, List.flatten_nil, List.append_nil]
  after_reads_simp
  rw [turned_at]
  refine (first _ _ _ _ _ _ _ k j h1 h0).trans ?_
  simp only [Matrix.cons_val]
  after_reads_simp
  exact rows_at (φ := .f32) _ _ _ j k q hq

set_option maxRecDepth 16384 in
set_option maxHeartbeats 2000000 in
theorem v26_fourth (y : S1024x1152.Idx) (j : Fin 512) (k : Fin 1024) (q : Fin 3864) (h0 : (y 0).val = k.val) (h1 : (y 1).val = 512 + j.val)
    (hq : q.val = 1304 + j.val) : (V m c main_v26 : FVec Ideal S1024x1152 .bf16) y = wIn m c k q := by
  simp only [V, List.flatten_cons, List.flatten_nil, List.append_nil]
  after_reads_simp
  rw [turned_at]
  refine (fourth _ _ _ _ _ _ _ k j h1 h0).trans ?_
  simp only [Matrix.cons_val]
  after_reads_simp
  exact rows_at (φ := .f32) _ _ _ j k q hq

theorem zero_word : (sitofp (F := Ideal) .f32 (constantI S_ 32 0#32) : FVec Ideal S_ .f32) = fun _ => 0 := by
  funext i
  show (((0#32 : BitVec 32).toInt : ℝ) : EReal) = 0
  simp

/-- 24 rows padded below to 128. -/
theorem rows_pad (x : FVec Ideal S24x1024 .f32) (v : FVec Ideal S_ .f32) (h : S24x1024.Pads ![0, 0] ![104, 0] ![0, 0] S128x1024) (hu : 0 < S_.numel)
    (j : Fin 128) (k : Fin 1024) : pad S128x1024 ![0, 0] ![104, 0] ![0, 0] x v h hu (ValueIdx.ix2 j k)
      = if hj : j.val < 24 then x (ValueIdx.ix2 ⟨j.val, hj⟩ k) else v (Shape.Idx.first hu) := by
  split
  · rename_i hj
    refine pad_apply_of_inside _ _ _ x v h hu (ValueIdx.ix2 j k) (ValueIdx.ix2 ⟨j.val, hj⟩ k) fun a => ?_
    match a with
    | ⟨0, _⟩ => show j.val = 0 + j.val * 1; omega
    | ⟨1, _⟩ => show k.val = 0 + k.val * 1; omega
  · rename_i hj
    refine pad_apply_of_not_inside _ _ _ x v h hu (ValueIdx.ix2 j k) (0 : Fin 2) fun hin => hj ?_
    have := hin.2.2
    change (j.val - 0) / 1 < 24 at this
    omega

set_option maxRecDepth 16384 in
set_option maxHeartbeats 2000000 in
theorem v26_fifth (y : S1024x1152.Idx) (j : Fin 128) (k : Fin 1024) (h0 : (y 0).val = k.val) (h1 : (y 1).val = 1024 + j.val) :
    (V m c main_v26 : FVec Ideal S1024x1152 .bf16) y = gateCols (wIn m c) k j := by
  simp only [V, List.flatten_cons, List.flatten_nil, List.append_nil]
  after_reads_simp
  rw [turned_at]
  refine (fifth _ _ _ _ _ _ _ k j h1 h0).trans ?_
  simp only [Matrix.cons_val]
  after_reads_simp
  refine (rows_pad _ _ pads_S24x1024_S128x1024_01040_000 h_S_ j k).trans ?_
  unfold gateCols
  split
  · rename_i hj
    exact rows_at (φ := .f32) _ transposes_S1024x3864_S3864x1024_1_0 slices_S3864x1024_S24x1024_1280_0 ⟨j.val, hj⟩ k _ rfl
  · exact congrFun zero_word (Shape.Idx.first h_S_)

/-! ## Windows 6 and 7 -/

theorem iblk6_kv (t : Fin cfg0.N) : cols (L := 256) 0 (by decide) (mat (M := 1024) (N := 1152) (φ := .bf16) (iblk m c 6 t)) = cols 512 (by decide) (wIn m c) := by
  obtain ⟨-, -, -, -, -, ⟨h0, h1⟩, -⟩ := idx_zero t
  funext k j
  unfold cols mat
  blk_simp [iblk]
  exact v26_first m c _ j k _ (by blk_simp [h0]) (by blk_simp [h1]) rfl

theorem iblk6_u (t : Fin cfg0.N) : cols (L := 512) 512 (by decide) (mat (M := 1024) (N := 1152) (φ := .bf16) (iblk m c 6 t)) = cols 1304 (by decide) (wIn m c) := by
  obtain ⟨-, -, -, -, -, ⟨h0, h1⟩, -⟩ := idx_zero t
  funext k j
  unfold cols mat
  blk_simp [iblk]
  exact v26_fourth m c _ j k _ (by blk_simp [h0]) (by blk_simp [h1]) rfl

theorem iblk6_gates (t : Fin cfg0.N) : cols (L := 128) 1024 (by decide) (mat (M := 1024) (N := 1152) (φ := .bf16) (iblk m c 6 t)) = gateCols (wIn m c) := by
  obtain ⟨-, -, -, -, -, ⟨h0, h1⟩, -⟩ := idx_zero t
  funext k j
  unfold cols mat
  blk_simp [iblk]
  exact v26_fifth m c _ j k (by blk_simp [h0]) (by blk_simp [h1])

/-- The rows of the other layout from 1024 on are the columns from 512 on. -/
theorem iblk7 (t : Fin cfg0.N) (p : ℕ) (o q : ℕ) (ho : o + 256 ≤ 1792) (hq : q + 256 ≤ 3864) (eo : o = 1024 + p) (eq : q = 512 + p) (hp : p + 256 ≤ 768) :
    (fun k j => rowsFrom (L := 256) o ho (mat (M := 1792) (N := 1024) (φ := .bf16) (iblk m c 7 t)) j k) = cols q hq (wIn m c) := by
  obtain ⟨-, -, -, -, -, -, ⟨h0, h1⟩⟩ := idx_zero t
  funext k j
  unfold cols rowsFrom mat
  blk_simp [iblk]
  exact v27_at m c _ ⟨p + j.val, by omega⟩ k _ (by blk_simp [h0]; show o + j.val = 1024 + (p + j.val); omega) (by blk_simp [h1]) (by show q + j.val = 512 + (p + j.val); omega)

end Cert.Proof.InIn

end
-- ==== Proof.InLay.lean ====
/-
  THREE LAYOUTS OF A FUNCTION OF THE TOKENS. The in-projection's results hold one row of numbers for each token of each sequence:
  row under row; the sequences side by side under the time axis; or each sequence's features by its times. Each layout is named
  here as a function of the token's row, with the blocks the kernel stores of it and the host's reshapes and transposes into it.
-/
module

public import proofs.«01_k».proof.Proof.HostRows

@[expose] public section

noncomputable section

namespace Cert.Proof.InLay

open Idealize.ShloMosaic Idealize.ShloMosaic.ValueIdx Cert.Rows

variable {N : ℕ}

/-- Row `b * 2048 + s` is the row of token `s` of sequence `b`. -/
def flat (f : Fin 8 → Fin 2048 → Fin N → EReal) : (⟨2, ![16384, N]⟩ : Shape).Idx → EReal := fun i =>
  f ⟨(i 0).val / 2048, by have : (i 0).val < 16384 := (i 0).isLt; omega⟩ ⟨(i 0).val % 2048, by omega⟩ (i 1)

/-- Row `s` holds the rows of the tokens at time `s`, one sequence after another. -/
def wide (f : Fin 8 → Fin 2048 → Fin 512 → EReal) : (⟨2, ![2048, 4096]⟩ : Shape).Idx → EReal := fun i =>
  f ⟨(i 1).val / 512, by have : (i 1).val < 4096 := (i 1).isLt; omega⟩ (i 0) ⟨(i 1).val % 512, by omega⟩

/-- Each sequence's features by its times. -/
def feat (f : Fin 8 → Fin 2048 → Fin N → EReal) : (⟨3, ![8, N, 2048]⟩ : Shape).Idx → EReal := fun i => f (i 0) (i 2) (i 1)

/-! ## Blocks -/

variable {f : Fin 8 → Fin 2048 → Fin N → EReal} {t : ℕ}

/-- An element of a block of 512 rows. -/
theorem flat_at (X : FVec Ideal ⟨2, ![512, N]⟩ .f32)
    (h : ∀ (r : Fin 512) (b : Fin 8) (s : Fin 2048), b.val * 2048 + s.val = t * 512 + r.val → row X r = f b s)
    (y : (⟨2, ![512, N]⟩ : Shape).Idx) (i : (⟨2, ![16384, N]⟩ : Shape).Idx) (h0 : (i 0).val = t * 512 + (y 0).val) (h1 : (i 1).val = (y 1).val) :
    X y = flat f i := by
  have hi : (i 0).val < 16384 := (i 0).isLt
  exact at_of_row X y (y 0) (i 1) _ (h (y 0) ⟨(i 0).val / 2048, by omega⟩ ⟨(i 0).val % 2048, by omega⟩ (by show (i 0).val / 2048 * 2048 + (i 0).val % 2048 = _; omega)) rfl h1.symm

/-- An element of a block of 512 times of one sequence. -/
theorem wide_at {f : Fin 8 → Fin 2048 → Fin 512 → EReal} (X : FVec Ideal ⟨2, ![512, 512]⟩ .f32)
    (h : ∀ (r : Fin 512) (b : Fin 8) (s : Fin 2048), b.val * 2048 + s.val = t * 512 + r.val → row X r = f b s)
    (y : (⟨2, ![512, 512]⟩ : Shape).Idx) (i : (⟨2, ![2048, 4096]⟩ : Shape).Idx) (h0 : (i 0).val = t % 4 * 512 + (y 0).val)
    (h1 : (i 1).val = t / 4 * 512 + (y 1).val) : X y = wide f i := by
  have hi : (i 1).val < 4096 := (i 1).isLt
  have hy : (y 1).val < 512 := (y 1).isLt
  exact at_of_row X y (y 0) ⟨(i 1).val % 512, by omega⟩ _ (h (y 0) ⟨(i 1).val / 512, by omega⟩ (i 0) (by show (i 1).val / 512 * 2048 + (i 0).val = _; omega)) rfl
    (by show (y 1).val = (i 1).val % 512; omega)

/-- An element of a block of 512 times of one sequence, features first. -/
theorem feat_at (X : FVec Ideal ⟨3, ![1, N, 512]⟩ .f32)
    (h : ∀ (r : Fin 512) (b : Fin 8) (s : Fin 2048), b.val * 2048 + s.val = t * 512 + r.val → ∀ j : Fin N, X (ix3 0 j r) = f b s j)
    (y : (⟨3, ![1, N, 512]⟩ : Shape).Idx) (i : (⟨3, ![8, N, 2048]⟩ : Shape).Idx) (h0 : (i 0).val = t / 4) (h1 : (i 1).val = (y 1).val)
    (h2 : (i 2).val = t % 4 * 512 + (y 2).val) : X y = feat f i := by
  refine Eq.trans ?_ (h (y 2) (i 0) (i 2) (by omega) (i 1))
  have hy : (y 0).val < 1 := (y 0).isLt
  exact congrArg X (funext fun a => Fin.ext (by
    match a with
    | ⟨0, _⟩ => show (y 0).val = 0; omega
    | ⟨1, _⟩ => exact h1.symm
    | ⟨2, _⟩ => rfl))

/-! ## The host's arrays -/

variable (X : FVec Ideal ⟨3, ![8, 2048, N]⟩ .f32)

theorem flat_host (h : ∀ b s, row3 X b s = f b s) (hc : (⟨3, ![8, 2048, N]⟩ : Shape).ShapeCasts ⟨2, ![16384, N]⟩) :
    shapeCast ⟨2, ![16384, N]⟩ X hc = flat f := by
  funext i
  have hi : (i 0).val < 16384 := (i 0).isLt
  exact (shapeCast_flat X hc i ⟨(i 0).val / 2048, by omega⟩ ⟨(i 0).val % 2048, by omega⟩ (i 1)
    (by show (i 0).val = (i 0).val / 2048 * 2048 + (i 0).val % 2048; omega) rfl).trans (congrFun (h _ _) (i 1))

theorem feat_host (h : ∀ b s, row3 X b s = f b s) (ht : (⟨3, ![8, 2048, N]⟩ : Shape).Transposes ([0, 2, 1] : List (Fin 3)) ⟨3, ![8, N, 2048]⟩) :
    transpose ⟨3, ![8, N, 2048]⟩ ([0, 2, 1] : List (Fin 3)) X ht = feat f := by
  funext i
  refine (transpose_apply _ X ht i (ix3 (i 0) (i 2) (i 1)) fun a => ?_).trans (congrFun (h (i 0) (i 2)) (i 1))
  match a with
  | ⟨0, _⟩ => rfl
  | ⟨1, _⟩ => rfl
  | ⟨2, _⟩ => rfl

theorem wide_host {f : Fin 8 → Fin 2048 → Fin 512 → EReal} (X : FVec Ideal ⟨3, ![8, 2048, 512]⟩ .f32) (h : ∀ b s, row3 X b s = f b s)
    (ht : (⟨3, ![8, 2048, 512]⟩ : Shape).Transposes ([1, 0, 2] : List (Fin 3)) ⟨3, ![2048, 8, 512]⟩)
    (hc : (⟨3, ![2048, 8, 512]⟩ : Shape).ShapeCasts ⟨2, ![2048, 4096]⟩) :
    shapeCast ⟨2, ![2048, 4096]⟩ (transpose ⟨3, ![2048, 8, 512]⟩ ([1, 0, 2] : List (Fin 3)) X ht) hc = wide f := by
  funext i
  have hi : (i 1).val < 4096 := (i 1).isLt
  refine (shapeCast_apply _ hc i (ix3 (i 0) ⟨(i 1).val / 512, by omega⟩ ⟨(i 1).val % 512, by omega⟩) ?_).trans
    ((transpose_apply _ X ht _ (ix3 ⟨(i 1).val / 512, by omega⟩ (i 0) ⟨(i 1).val % 512, by omega⟩) fun a => ?_).trans (congrFun (h _ _) _))
  · rw [Shape.rowMajor_val_three, Shape.rowMajor_val_two]
    show ((i 0).val * 8 + (i 1).val / 512) * 512 + (i 1).val % 512 = (i 0).val * 4096 + (i 1).val
    omega
  · match a with
    | ⟨0, _⟩ => rfl
    | ⟨1, _⟩ => rfl
    | ⟨2, _⟩ => rfl

end Cert.Proof.InLay

end
-- ==== Proof.InArray.lean ====
/-
  THE IN-PROJECTION'S RESULT ARRAYS. Each point stores one block of 512 tokens' rows of every result; the arrays after the run hold
  every token's residual stream after the first half of the feed-forward, and its normalised row times the projection's columns.
-/
module

public import proofs.«01_k».proof.Proof.InIn
public import proofs.«01_k».proof.Proof.InLay
public import Idealize.ShloMosaic.Lib.Pipeline.ValueKit

@[expose] public section

noncomputable section

namespace Cert.Proof.InArray

open Idealize.ShloMosaic Idealize.SL.Sem Cert.Rows Cert.Kernel3Ideal Cert.Kernel3Ideal.Gen
open Idealize.ShloMosaic.TcCoe Cert.Proof.InIn Cert.Proof.InLay Cert.Proof.InBlock

variable (m : (ℓ : Loc nD τ sig) → Buf (Elt Ideal) ℓ) (c : Dev nD)

/-- Token `s` of sequence `b` after the first half of the feed-forward. -/
def x1Row (b : Fin 8) (s : Fin 2048) : Fin 1024 → EReal :=
  halfFfn (row3 (B := 8) (T := 2048) (N := 1024) (φ := .f32) (m ((c : Thread nD τ).loc main_arg0)) b s) (vec (N := 1024) (φ := .f32) (m ((c : Thread nD τ).loc main_arg1)))
    (mat (M := 1024) (N := 2816) (φ := .f32) (m ((c : Thread nD τ).loc main_arg2))) (mat (M := 1024) (N := 2816) (φ := .f32) (m ((c : Thread nD τ).loc main_arg3)))
    (mat (M := 2816) (N := 1024) (φ := .f32) (m ((c : Thread nD τ).loc main_arg4)))

/-- The same token, normalised for the projection. -/
def hRow (b : Fin 8) (s : Fin 2048) : Fin 1024 → EReal := rms (x1Row m c b s) (vec (N := 1024) (φ := .f32) (m ((c : Thread nD τ).loc main_arg5)))

/-- The token's projection onto columns `q`, `q + 1`, …. -/
def proj {L : ℕ} (q : ℕ) (h : q + L ≤ 3864) (b : Fin 8) (s : Fin 2048) : Fin L → EReal := mv (hRow m c b s) (cols q h (wIn m c))

/-- The token's gates, and one half in the padding. -/
def gateRow (b : Fin 8) (s : Fin 2048) : Fin 128 → EReal := sig (mv (hRow m c b s) (gateCols (wIn m c)))

section Blocks

variable (t : Fin cfg0.N) (r : Fin 512) (b : Fin 8) (s : Fin 2048) (e : b.val * 2048 + s.val = t.val * 512 + r.val)

include e in
theorem x1_block : halfFfn (row (M := 512) (N := 1024) (φ := .f32) (iblk m c 0 t) r) (row (M := 1) (N := 1024) (φ := .f32) (iblk m c 1 t) 0)
    (mat (M := 1024) (N := 2816) (φ := .bf16) (iblk m c 2 t)) (mat (M := 1024) (N := 2816) (φ := .bf16) (iblk m c 3 t)) (mat (M := 2816) (N := 1024) (φ := .bf16) (iblk m c 4 t)) = x1Row m c b s := by
  rw [iblk0 m c t r b s e, iblk1, iblk2, iblk3, iblk4]
  rfl

include e in
theorem block8 : row (M := 512) (N := 1024) (φ := .f32) (out0_8 (grid0.coords t) (iblk m c 0 t) (iblk m c 1 t) (iblk m c 2 t) (iblk m c 3 t) (iblk m c 4 t) (iblk m c 5 t) (iblk m c 6 t) (iblk m c 7 t)) r = x1Row m c b s := by
  refine (out8_row (grid0.coords t) _ _ _ _ _ _ _ _ r).trans ?_
  rw [x1_block m c t r b s e]

include e in
theorem block10 (j : Fin 256) : out0_10 (grid0.coords t) (iblk m c 0 t) (iblk m c 1 t) (iblk m c 2 t) (iblk m c 3 t) (iblk m c 4 t) (iblk m c 5 t) (iblk m c 6 t) (iblk m c 7 t) (ValueIdx.ix3 0 j r) = proj (L := 256) m c 512 (by decide) b s j := by
  refine (out10_at (grid0.coords t) _ _ _ _ _ _ _ _ j r).trans ?_
  rw [x1_block m c t r b s e, iblk5]
  exact congrArg (fun w => mv (hRow m c b s) w j) (iblk7 m c t 0 _ _ _ (by decide) rfl rfl (by decide))

include e in
theorem block11 (j : Fin 256) : out0_11 (grid0.coords t) (iblk m c 0 t) (iblk m c 1 t) (iblk m c 2 t) (iblk m c 3 t) (iblk m c 4 t) (iblk m c 5 t) (iblk m c 6 t) (iblk m c 7 t) (ValueIdx.ix3 0 j r) = proj (L := 256) m c 768 (by decide) b s j := by
  refine (out11_at (grid0.coords t) _ _ _ _ _ _ _ _ j r).trans ?_
  rw [x1_block m c t r b s e, iblk5]
  exact congrArg (fun w => mv (hRow m c b s) w j) (iblk7 m c t 256 _ _ _ (by decide) rfl rfl (by decide))

include e in
theorem block12 (j : Fin 256) : out0_12 (grid0.coords t) (iblk m c 0 t) (iblk m c 1 t) (iblk m c 2 t) (iblk m c 3 t) (iblk m c 4 t) (iblk m c 5 t) (iblk m c 6 t) (iblk m c 7 t) (ValueIdx.ix3 0 j r) = proj (L := 256) m c 1024 (by decide) b s j := by
  refine (out12_at (grid0.coords t) _ _ _ _ _ _ _ _ j r).trans ?_
  rw [x1_block m c t r b s e, iblk5]
  exact congrArg (fun w => mv (hRow m c b s) w j) (iblk7 m c t 512 _ _ _ (by decide) rfl rfl (by decide))

include e in
theorem block15 : row (M := 512) (N := 256) (φ := .f32) (out0_15 (grid0.coords t) (iblk m c 0 t) (iblk m c 1 t) (iblk m c 2 t) (iblk m c 3 t) (iblk m c 4 t) (iblk m c 5 t) (iblk m c 6 t) (iblk m c 7 t)) r = proj (L := 256) m c 512 (by decide) b s := by
  refine (out15_row (grid0.coords t) _ _ _ _ _ _ _ _ r).trans ?_
  rw [x1_block m c t r b s e, iblk5, iblk6_kv]
  rfl

include e in
theorem block18 : row (M := 512) (N := 512) (φ := .f32) (out0_18 (grid0.coords t) (iblk m c 0 t) (iblk m c 1 t) (iblk m c 2 t) (iblk m c 3 t) (iblk m c 4 t) (iblk m c 5 t) (iblk m c 6 t) (iblk m c 7 t)) r = proj (L := 512) m c 1304 (by decide) b s := by
  refine (out18_row (grid0.coords t) _ _ _ _ _ _ _ _ r).trans ?_
  rw [x1_block m c t r b s e, iblk5, iblk6_u]
  rfl

include e in
theorem block19 : row (M := 512) (N := 128) (φ := .f32) (out0_19 (grid0.coords t) (iblk m c 0 t) (iblk m c 1 t) (iblk m c 2 t) (iblk m c 3 t) (iblk m c 4 t) (iblk m c 5 t) (iblk m c 6 t) (iblk m c 7 t)) r = gateRow m c b s := by
  refine (out19_row (grid0.coords t) _ _ _ _ _ _ _ _ r).trans ?_
  rw [x1_block m c t r b s e, iblk5, iblk6_gates]
  rfl

end Blocks

theorem final8 : (dats m 0 c).arrAt 8 cfg0.N = flat (x1Row m c) := by
  refine (dats m 0 c).arrAt_eq_of_covers 8 _ (by decide +kernel) fun t hf y => ?_
  obtain ⟨ht, -, ⟨h0, h1⟩, -⟩ := idx_facts t
  blk_simp
  rw [after0_8]
  have key := (fun r b s e => block8 m c t r b s e)
  generalize out0_8 (grid0.coords t) (iblk m c 0 t) (iblk m c 1 t) (iblk m c 2 t) (iblk m c 3 t) (iblk m c 4 t) (iblk m c 5 t) (iblk m c 6 t) (iblk m c 7 t) = X at key ⊢
  exact flat_at X key y _ (by blk_simp [h0]) (by blk_simp [h1])

theorem final10 : (dats m 0 c).arrAt 10 cfg0.N = feat (proj (L := 256) m c 512 (by decide)) := by
  refine (dats m 0 c).arrAt_eq_of_covers 10 _ (by decide +kernel) fun t hf y => ?_
  obtain ⟨ht, -, -, ⟨h0, h1, h2⟩, -⟩ := idx_facts t
  blk_simp
  rw [after0_10]
  have key := (fun r b s e j => block10 m c t r b s e j)
  generalize out0_10 (grid0.coords t) (iblk m c 0 t) (iblk m c 1 t) (iblk m c 2 t) (iblk m c 3 t) (iblk m c 4 t) (iblk m c 5 t) (iblk m c 6 t) (iblk m c 7 t) = X at key ⊢
  exact feat_at X key y _ (by blk_simp [h0]) (by blk_simp [h1]) (by blk_simp [h2])

theorem final11 : (dats m 0 c).arrAt 11 cfg0.N = feat (proj (L := 256) m c 768 (by decide)) := by
  refine (dats m 0 c).arrAt_eq_of_covers 11 _ (by decide +kernel) fun t hf y => ?_
  obtain ⟨ht, -, -, -, ⟨h0, h1, h2⟩, -⟩ := idx_facts t
  blk_simp
  rw [after0_11]
  have key := (fun r b s e j => block11 m c t r b s e j)
  generalize out0_11 (grid0.coords t) (iblk m c 0 t) (iblk m c 1 t) (iblk m c 2 t) (iblk m c 3 t) (iblk m c 4 t) (iblk m c 5 t) (iblk m c 6 t) (iblk m c 7 t) = X at key ⊢
  exact feat_at X key y _ (by blk_simp [h0]) (by blk_simp [h1]) (by blk_simp [h2])

theorem final12 : (dats m 0 c).arrAt 12 cfg0.N = feat (proj (L := 256) m c 1024 (by decide)) := by
  refine (dats m 0 c).arrAt_eq_of_covers 12 _ (by decide +kernel) fun t hf y => ?_
  obtain ⟨ht, -, -, -, -, ⟨h0, h1, h2⟩, -⟩ := idx_facts t
  blk_simp
  rw [after0_12]
  have key := (fun r b s e j => block12 m c t r b s e j)
  generalize out0_12 (grid0.coords t) (iblk m c 0 t) (iblk m c 1 t) (iblk m c 2 t) (iblk m c 3 t) (iblk m c 4 t) (iblk m c 5 t) (iblk m c 6 t) (iblk m c 7 t) = X at key ⊢
  exact feat_at X key y _ (by blk_simp [h0]) (by blk_simp [h1]) (by blk_simp [h2])

theorem final15 : (dats m 0 c).arrAt 15 cfg0.N = flat (proj (L := 256) m c 512 (by decide)) := by
  refine (dats m 0 c).arrAt_eq_of_covers 15 _ (by decide +kernel) fun t hf y => ?_
  obtain ⟨ht, -, -, -, -, -, ⟨h0, h1⟩, -⟩ := idx_facts t
  blk_simp
  rw [after0_15]
  have key := (fun r b s e => block15 m c t r b s e)
  generalize out0_15 (grid0.coords t) (iblk m c 0 t) (iblk m c 1 t) (iblk m c 2 t) (iblk m c 3 t) (iblk m c 4 t) (iblk m c 5 t) (iblk m c 6 t) (iblk m c 7 t) = X at key ⊢
  exact flat_at X key y _ (by blk_simp [h0]) (by blk_simp [h1])

theorem final18 : (dats m 0 c).arrAt 18 cfg0.N = wide (proj (L := 512) m c 1304 (by decide)) := by
  refine (dats m 0 c).arrAt_eq_of_covers 18 _ (by decide +kernel) fun t hf y => ?_
  obtain ⟨ht, -, -, -, -, -, -, ⟨h0, h1⟩, -⟩ := idx_facts t
  blk_simp
  rw [after0_18]
  have key := (fun r b s e => block18 m c t r b s e)
  generalize out0_18 (grid0.coords t) (iblk m c 0 t) (iblk m c 1 t) (iblk m c 2 t) (iblk m c 3 t) (iblk m c 4 t) (iblk m c 5 t) (iblk m c 6 t) (iblk m c 7 t) = X at key ⊢
  exact wide_at X key y _ (by blk_simp [h0]) (by blk_simp [h1])

theorem final19 : (dats m 0 c).arrAt 19 cfg0.N = flat (gateRow m c) := by
  refine (dats m 0 c).arrAt_eq_of_covers 19 _ (by decide +kernel) fun t hf y => ?_
  obtain ⟨ht, -, -, -, -, -, -, -, ⟨h0, h1⟩⟩ := idx_facts t
  blk_simp
  rw [after0_19]
  have key := (fun r b s e => block19 m c t r b s e)
  generalize out0_19 (grid0.coords t) (iblk m c 0 t) (iblk m c 1 t) (iblk m c 2 t) (iblk m c 3 t) (iblk m c 4 t) (iblk m c 5 t) (iblk m c 6 t) (iblk m c 7 t) = X at key ⊢
  exact flat_at X key y _ (by blk_simp [h0]) (by blk_simp [h1])

/-- The run: every returned array holds its layout of the tokens' rows, and the arguments end unchanged. -/
theorem run (ρ : Dev nD → PrngReg) : θ_run (defs (F := Ideal)) (onTc (τ := τ) (main (F := Ideal))) ⟨m, fun _ => 0, ρ⟩ (fun r => ∀ c : Dev nD,
    r.2.mem ((c : Thread nD τ).loc main_v28_0) = flat (x1Row m c)
    ∧ r.2.mem ((c : Thread nD τ).loc main_v28_2) = feat (proj (L := 256) m c 512 (by decide))
    ∧ r.2.mem ((c : Thread nD τ).loc main_v28_3) = feat (proj (L := 256) m c 768 (by decide))
    ∧ r.2.mem ((c : Thread nD τ).loc main_v28_4) = feat (proj (L := 256) m c 1024 (by decide))
    ∧ r.2.mem ((c : Thread nD τ).loc main_v28_7) = flat (proj (L := 256) m c 512 (by decide))
    ∧ r.2.mem ((c : Thread nD τ).loc main_v28_10) = wide (proj (L := 512) m c 1304 (by decide))
    ∧ r.2.mem ((c : Thread nD τ).loc main_v28_11) = flat (gateRow m c)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)) :=
  (θ_run defs _ _).mono (fun r h c => by
    obtain ⟨h8, -, h10, h11, h12, -, -, h15, -, -, h18, h19, rest⟩ := h c
    exact ⟨h8.trans (final8 m c), h10.trans (final10 m c), h11.trans (final11 m c), h12.trans (final12 m c), h15.trans (final15 m c), h18.trans (final18 m c), h19.trans (final19 m c), rest⟩) (Value.run_blocks m ρ)

end Cert.Proof.InArray

end
-- ==== Proof.InRef.lean ====
/-
  THE REFERENCE'S IN-PROJECTION AT A TOKEN. Every array the reference forms holds, in each token's row, a function of that
  token's row of the residual stream; its results are those rows in the three layouts.
-/
module

public import proofs.«01_k».proof.Proof.InIn
public import proofs.«01_k».proof.Proof.InLay
public import proofs.«01_k».proof.Proof.Gen.Reference3Ideal.Read

@[expose] public section

noncomputable section

namespace Cert.Proof.InRef

open Idealize.ShloMosaic Cert.Rows Cert.Reference3Ideal Cert.Reference3Ideal.Gen Cert.Reference3Ideal.Read Cert.Proof.InLay
open Cert.Proof.InIn (gateCols)

variable (x0 : (⟨S8x2048x1024, .f32⟩ : BufTy).Contents (Elt Ideal)) (x1 : (⟨S1024, .f32⟩ : BufTy).Contents (Elt Ideal))
  (x2 x3 : (⟨S1024x2816, .f32⟩ : BufTy).Contents (Elt Ideal)) (x4 : (⟨S2816x1024, .f32⟩ : BufTy).Contents (Elt Ideal))
  (x5 : (⟨S1024, .f32⟩ : BufTy).Contents (Elt Ideal)) (x6 : (⟨S1024x3864, .f32⟩ : BufTy).Contents (Elt Ideal)) (b : Fin 8) (t : Fin 2048)

/-- The token after the first half of the feed-forward. -/
def x1R : Fin 1024 → EReal := halfFfn (row3 (B := 8) (T := 2048) (N := 1024) (φ := .f32) x0 b t) (vec (N := 1024) (φ := .f32) x1)
  (mat (M := 1024) (N := 2816) (φ := .f32) x2) (mat (M := 1024) (N := 2816) (φ := .f32) x3) (mat (M := 2816) (N := 1024) (φ := .f32) x4)

/-- The same token, normalised. -/
def hR : Fin 1024 → EReal := rms (x1R x0 x1 x2 x3 x4 b t) (vec (N := 1024) (φ := .f32) x5)

/-- The token's projection onto columns `q`, `q + 1`, …. -/
def projR {L : ℕ} (q : ℕ) (h : q + L ≤ 3864) : Fin L → EReal := mv (hR x0 x1 x2 x3 x4 x5 b t) (cols q h (mat (M := 1024) (N := 3864) (φ := .f32) x6))

/-- The token's gates, and one half in the padding. -/
def gateR : Fin 128 → EReal := sig (mv (hR x0 x1 x2 x3 x4 x5 b t) (gateCols (mat (M := 1024) (N := 3864) (φ := .f32) x6)))

theorem r12 : row3 (B := 8) (T := 2048) (N := 1024) (φ := .f32) (val_main_v12 (F := Ideal) x0 x1) b t
    = rms (row3 (B := 8) (T := 2048) (N := 1024) (φ := .f32) x0 b t) (vec (N := 1024) (φ := .f32) x1) :=
  row3_rms _ _ (by decide) _ _ _ _ _ _ _ _ b t

theorem r13 : row3 (B := 8) (T := 2048) (N := 2816) (φ := .f32) (val_main_v13 (F := Ideal) x0 x1 x2) b t
    = mv (row3 (B := 8) (T := 2048) (N := 1024) (φ := .f32) (val_main_v12 (F := Ideal) x0 x1) b t) (mat (M := 1024) (N := 2816) (φ := .f32) x2) :=
  row3_dot _ _ rfl _ _ _ b t

theorem r15 : row3 (B := 8) (T := 2048) (N := 2816) (φ := .f32) (val_main_v15 (F := Ideal) x0 x1 x3) b t
    = mv (row3 (B := 8) (T := 2048) (N := 1024) (φ := .f32) (val_main_v12 (F := Ideal) x0 x1) b t) (mat (M := 1024) (N := 2816) (φ := .f32) x3) :=
  row3_dot _ _ rfl _ _ _ b t

theorem r5 : row3 (B := 8) (T := 2048) (N := 2816) (φ := .f32) (val_main_call0_v5 (F := Ideal) x0 x1 x2) b t
    = sig (row3 (B := 8) (T := 2048) (N := 2816) (φ := .f32) (val_main_v13 (F := Ideal) x0 x1 x2) b t) :=
  row3_sigmoid _ _ _ b t

theorem r16 : row3 (B := 8) (T := 2048) (N := 2816) (φ := .f32) (val_main_v16 (F := Ideal) x0 x1 x2 x3) b t
    = mul (mul (row3 (B := 8) (T := 2048) (N := 2816) (φ := .f32) (val_main_v13 (F := Ideal) x0 x1 x2) b t)
        (row3 (B := 8) (T := 2048) (N := 2816) (φ := .f32) (val_main_call0_v5 (F := Ideal) x0 x1 x2) b t))
      (row3 (B := 8) (T := 2048) (N := 2816) (φ := .f32) (val_main_v15 (F := Ideal) x0 x1 x3) b t) := rfl

theorem r17 : row3 (B := 8) (T := 2048) (N := 1024) (φ := .f32) (val_main_v17 (F := Ideal) x0 x1 x2 x3 x4) b t
    = mv (row3 (B := 8) (T := 2048) (N := 2816) (φ := .f32) (val_main_v16 (F := Ideal) x0 x1 x2 x3) b t) (mat (M := 2816) (N := 1024) (φ := .f32) x4) :=
  row3_dot _ _ rfl _ _ _ b t

theorem r20 : row3 (B := 8) (T := 2048) (N := 1024) (φ := .f32) (val_main_v20 (F := Ideal) x0 x1 x2 x3 x4) b t = x1R x0 x1 x2 x3 x4 b t := by
  show add (row3 (B := 8) (T := 2048) (N := 1024) (φ := .f32) x0 b t)
    (scale (Ideal.ofBits .f32 0x3F000000#32) (row3 (B := 8) (T := 2048) (N := 1024) (φ := .f32) (val_main_v17 (F := Ideal) x0 x1 x2 x3 x4) b t)) = _
  rw [r17, r16, r5, r13, r15, r12]
  rfl

theorem r33 : row3 (B := 8) (T := 2048) (N := 1024) (φ := .f32) (val_main_v33 (F := Ideal) x0 x1 x2 x3 x4 x5) b t = hR x0 x1 x2 x3 x4 x5 b t := by
  refine (row3_rms (val_main_v20 (F := Ideal) x0 x1 x2 x3 x4) x5 (by decide) _ _ _ _ _ _ _ _ b t).trans ?_
  rw [r20]
  rfl

theorem r34 : row3 (B := 8) (T := 2048) (N := 3864) (φ := .f32) (val_main_v34 (F := Ideal) x0 x1 x2 x3 x4 x5 x6) b t
    = mv (hR x0 x1 x2 x3 x4 x5 b t) (mat (M := 1024) (N := 3864) (φ := .f32) x6) := by
  refine (row3_dot _ _ rfl _ (val_main_v33 (F := Ideal) x0 x1 x2 x3 x4 x5) x6 b t).trans ?_
  rw [r33]

/-- The columns from `q` on of the projection. -/
theorem slice34 {L : ℕ} (q : ℕ) (h : (⟨3, ![8, 2048, 3864]⟩ : Shape).Slices ![0, 0, q] ⟨3, ![8, 2048, L]⟩) :
    row3 (extractStridedSlice (⟨3, ![8, 2048, L]⟩ : Shape) ![0, 0, q] (val_main_v34 (F := Ideal) x0 x1 x2 x3 x4 x5 x6) h : FVec Ideal ⟨3, ![8, 2048, L]⟩ .f32) b t
      = projR x0 x1 x2 x3 x4 x5 x6 b t q (h.2 2) := by
  have hq : q + L ≤ 3864 := h.2 2
  exact (row3_slice q _ h b t).trans (congrArg (part (N := 3864) q hq) (r34 x0 x1 x2 x3 x4 x5 x6 b t))

/-- 24 columns padded to 128. -/
theorem pad_at (x : FVec Ideal S8x2048x24 .f32) (v : FVec Ideal S_ .f32) (h : S8x2048x24.Pads ![0, 0, 0] ![0, 0, 104] ![0, 0, 0] S8x2048x128) (hu : 0 < S_.numel)
    (j : Fin 128) : row3 (B := 8) (T := 2048) (N := 128) (φ := .f32) (pad S8x2048x128 ![0, 0, 0] ![0, 0, 104] ![0, 0, 0] x v h hu) b t j
      = if hj : j.val < 24 then x (ValueIdx.ix3 b t ⟨j.val, hj⟩) else v (Shape.Idx.first hu) := by
  split
  · rename_i hj
    refine pad_apply_of_inside _ _ _ x v h hu (ValueIdx.ix3 b t j) (ValueIdx.ix3 b t ⟨j.val, hj⟩) fun a => ?_
    match a with
    | ⟨0, _⟩ => show b.val = 0 + b.val * 1; omega
    | ⟨1, _⟩ => show t.val = 0 + t.val * 1; omega
    | ⟨2, _⟩ => show j.val = 0 + j.val * 1; omega
  · rename_i hj
    refine pad_apply_of_not_inside _ _ _ x v h hu (ValueIdx.ix3 b t j) (2 : Fin 3) fun hin => hj ?_
    have := hin.2.2
    change (j.val - 0) / 1 < 24 at this
    omega

theorem r42 : row3 (B := 8) (T := 2048) (N := 128) (φ := .f32) (val_main_v42 (F := Ideal) x0 x1 x2 x3 x4 x5 x6) b t
    = mv (hR x0 x1 x2 x3 x4 x5 b t) (gateCols (mat (M := 1024) (N := 3864) (φ := .f32) x6)) := by
  funext j
  refine (pad_at b t _ _ pads_S8x2048x24_S8x2048x128_000_000_01040 h_S_ j).trans ?_
  unfold mv gateCols
  split
  · rename_i hj
    exact congrFun (slice34 x0 x1 x2 x3 x4 x5 x6 b t 1280 slices_S8x2048x3864_S8x2048x24_0_0_1280) ⟨j.val, hj⟩
  · refine (congrFun InIn.zero_word (Shape.Idx.first h_S_)).trans ?_
    simp only [mul_zero, Finset.sum_const_zero]

theorem r48 : row3 (B := 8) (T := 2048) (N := 128) (φ := .f32) (val_main_v48 (F := Ideal) x0 x1 x2 x3 x4 x5 x6) b t = gateR x0 x1 x2 x3 x4 x5 x6 b t := by
  refine (row3_sigmoid (val_main_v42 (F := Ideal) x0 x1 x2 x3 x4 x5 x6) _ _ b t).trans ?_
  rw [r42]
  rfl

/-! ## The results -/

theorem out49 : val_main_v49 (F := Ideal) x0 x1 x2 x3 x4 = flat (x1R x0 x1 x2 x3 x4) :=
  flat_host _ (r20 x0 x1 x2 x3 x4) _

theorem out50 : val_main_v50 (F := Ideal) x0 x1 x2 x3 x4 x5 x6 = feat (fun b t => projR (L := 256) x0 x1 x2 x3 x4 x5 x6 b t 512 (by decide)) :=
  feat_host _ (fun b t => slice34 x0 x1 x2 x3 x4 x5 x6 b t 512 _) _

theorem out51 : val_main_v51 (F := Ideal) x0 x1 x2 x3 x4 x5 x6 = feat (fun b t => projR (L := 256) x0 x1 x2 x3 x4 x5 x6 b t 768 (by decide)) :=
  feat_host _ (fun b t => slice34 x0 x1 x2 x3 x4 x5 x6 b t 768 _) _

theorem out52 : val_main_v52 (F := Ideal) x0 x1 x2 x3 x4 x5 x6 = feat (fun b t => projR (L := 256) x0 x1 x2 x3 x4 x5 x6 b t 1024 (by decide)) :=
  feat_host _ (fun b t => slice34 x0 x1 x2 x3 x4 x5 x6 b t 1024 _) _

theorem out53 : val_main_v53 (F := Ideal) x0 x1 x2 x3 x4 x5 x6 = flat (fun b t => projR (L := 256) x0 x1 x2 x3 x4 x5 x6 b t 512 (by decide)) :=
  flat_host _ (fun b t => slice34 x0 x1 x2 x3 x4 x5 x6 b t 512 _) _

theorem out55 : val_main_v55 (F := Ideal) x0 x1 x2 x3 x4 x5 x6 = wide (fun b t => projR (L := 512) x0 x1 x2 x3 x4 x5 x6 b t 1304 (by decide)) :=
  wide_host _ (fun b t => slice34 x0 x1 x2 x3 x4 x5 x6 b t 1304 _) _ _

theorem out56 : val_main_v56 (F := Ideal) x0 x1 x2 x3 x4 x5 x6 = flat (gateR x0 x1 x2 x3 x4 x5 x6) :=
  flat_host _ (r48 x0 x1 x2 x3 x4 x5 x6) _

end Cert.Proof.InRef

end
-- ==== Proof.InAgree.lean ====
/-
  THE IN-PROJECTION'S TWO PROGRAMS AGREE. From equal arguments each result array of the kernel and of the reference is the same
  layout of the same function of the tokens' rows.
-/
module

public import proofs.«01_k».proof.Defs
public import Idealize.ShloMosaic.Lib.Claim
public import proofs.«01_k».proof.Proof.InArray
public import proofs.«01_k».proof.Proof.InRef
public import proofs.«01_k».proof.Proof.Gen.Reference3Ideal.Run

@[expose] public section

noncomputable section

namespace Cert.Proof.InAgree

open Idealize.ShloMosaic Idealize.SL.Sem Cert.Rows Cert.Reference3Ideal.Read Cert.Proof.InRef

theorem algebraic : Cert.algebraic_Kernel3Ideal_Reference3Ideal (hKernel3Ideal := Cert.Kernel3Ideal.Gen.facts)
    (hReference3Ideal := Cert.Reference3Ideal.Gen.facts) := by
  intro m g m' g' _ hargs
  refine ⟨_, _, _, _, _, _, _, InArray.run m g, ?_⟩
  refine (θ_run (Cert.Reference3Ideal.defs (F := Ideal)) _ _).mono (fun r h c => ?_) (Cert.Reference3Ideal.Value.run (F := Ideal) m' g')
  obtain ⟨h49, h50, h51, h52, h53, h55, h56, rest⟩ := h c
  obtain ⟨a0, a1, a2, a3, a4, a5, a6⟩ := hargs c
  refine ⟨(h49.trans (val_main_v49_eq _ _ _ _ _)).trans ((out49 _ _ _ _ _).trans ?_), (h50.trans (val_main_v50_eq _ _)).trans ((out50 _ _ _ _ _ _ _).trans ?_),
    (h51.trans (val_main_v51_eq _ _)).trans ((out51 _ _ _ _ _ _ _).trans ?_), (h52.trans (val_main_v52_eq _ _)).trans ((out52 _ _ _ _ _ _ _).trans ?_),
    (h53.trans (val_main_v53_eq _ _)).trans ((out53 _ _ _ _ _ _ _).trans ?_), (h55.trans (val_main_v55_eq _ _)).trans ((out55 _ _ _ _ _ _ _).trans ?_),
    (h56.trans (val_main_v56_eq _ _)).trans ((out56 _ _ _ _ _ _ _).trans ?_), rest⟩ <;>
  · simp only [StableHlo.launchContents_devRef, a0, a1, a2, a3, a4, a5, a6]
    rfl

end Cert.Proof.InAgree

end
-- ==== Proof.SampBlock.lean ====
/-
  WHAT THE SAMPLE GROUP'S IN-PROJECTION HOLDS. Its body computes the tokens' half feed-forward and norm by the same operations as
  the prompt group's, so those rows are taken over from `InBlock`; its five products are all laid out as rows by token.
-/
module

public import proofs.«01_k».proof.Proof.InBlock
public import proofs.«01_k».proof.Proof.Gen.Kernel4Ideal.Value

@[expose] public section

noncomputable section

namespace Cert.Proof.SampBlock

open Idealize.ShloMosaic Idealize.ShloMosaic.ValueIdx Cert.Rows Cert.Kernel4Ideal Cert.Kernel4Ideal.Gen
open Cert.Proof.PostBlock (zero2)
open Cert.Proof.InBlock (ld_cols)

/-! ## The prompt group's body computes the same -/

theorem pay2_same (v : Vec Ideal S512x1024 .f32) : k0_pay2 (F := Ideal) v = Cert.Kernel3Ideal.Gen.k0_pay4 (F := Ideal) v := rfl
theorem pay3_same : @k0_pay3 Ideal _ = @Cert.Kernel3Ideal.Gen.k0_pay5 Ideal _ := rfl
theorem pay4_same : @k0_pay4 Ideal _ = @Cert.Kernel3Ideal.Gen.k0_pay6 Ideal _ := rfl
theorem pay5_same : @k0_pay5 Ideal _ = @Cert.Kernel3Ideal.Gen.k0_pay7 Ideal _ := rfl
theorem pay6_same : @k0_pay6 Ideal _ = @Cert.Kernel3Ideal.Gen.k0_pay8 Ideal _ := rfl
theorem pay7_same : @k0_pay7 Ideal _ = @Cert.Kernel3Ideal.Gen.k0_pay9 Ideal _ := rfl
theorem pay8_same : @k0_pay8 Ideal _ = @Cert.Kernel3Ideal.Gen.k0_pay10 Ideal _ := rfl
theorem pay9_same : @k0_pay9 Ideal _ = @Cert.Kernel3Ideal.Gen.k0_pay11 Ideal _ := rfl
theorem pay10_same : @k0_pay10 Ideal _ = @Cert.Kernel3Ideal.Gen.k0_pay12 Ideal _ := rfl
theorem pay11_same : @k0_pay11 Ideal _ = @Cert.Kernel3Ideal.Gen.k0_pay13 Ideal _ := rfl
theorem pay12_same : @k0_pay12 Ideal _ = @Cert.Kernel3Ideal.Gen.k0_pay14 Ideal _ := rfl
theorem pay13_same (v : Vec Ideal S1x1024 .f32) : k0_pay13 (F := Ideal) v = Cert.Kernel3Ideal.Gen.k0_pay15 (F := Ideal) v := rfl
theorem pay14_same : @k0_pay14 Ideal _ = @Cert.Kernel3Ideal.Gen.k0_pay16 Ideal _ := rfl
theorem pay15_same : @k0_pay15 Ideal _ = @Cert.Kernel3Ideal.Gen.k0_pay17 Ideal _ := rfl

/-- A point of the prompt group's grid, and contents of its projection's weights: the rows below depend on neither. -/
def pt : Cert.Kernel3Ideal.grid0.Coords := Cert.Kernel3Ideal.grid0.coords ⟨0, by decide⟩
def w6 : Vec Ideal Cert.Kernel3Ideal.S1024x1152 .bf16 := fun _ => (0 : EReal)
def w7 : Vec Ideal Cert.Kernel3Ideal.S1792x1024 .bf16 := fun _ => (0 : EReal)

/-- The tokens after the half feed-forward. -/
theorem pay25_row (x0 : Vec Ideal S512x1024 .f32) (x1 : Vec Ideal S1x1024 .f32) (x2 : Vec Ideal S1024x2816 .bf16) (x3 : Vec Ideal S1024x2816 .bf16)
    (x4 : Vec Ideal S2816x1024 .bf16) (x5 : Vec Ideal S1x1024 .f32) (x6 : Vec Ideal S1024x2432 .bf16) (r : Fin 512) :
    row (k0_pay25 x0 x1 x2 x3 x4 x5 x6) r = halfFfn (row (φ := .f32) x0 r) (row (φ := .f32) x1 0) (mat (φ := .bf16) x2) (mat (φ := .bf16) x3) (mat (φ := .bf16) x4) := by
  rw [← InBlock.pay52_row pt x0 x1 x2 x3 x4 x5 w6 w7 r]
  unfold k0_pay25 k0_pay24 k0_pay23 k0_pay22 k0_pay21
  rw [pay2_same, pay3_same, pay4_same, pay5_same, pay6_same, pay7_same, pay8_same, pay9_same, pay10_same, pay11_same, pay12_same]
  rfl

/-- The same tokens, normalised. -/
theorem h_row (x0 : Vec Ideal S512x1024 .f32) (x1 : Vec Ideal S1x1024 .f32) (x2 : Vec Ideal S1024x2816 .bf16) (x3 : Vec Ideal S1024x2816 .bf16)
    (x4 : Vec Ideal S2816x1024 .bf16) (x5 : Vec Ideal S1x1024 .f32) (x6 : Vec Ideal S1024x2432 .bf16) (r : Fin 512) :
    row (k0_pay15 (k0_pay25 x0 x1 x2 x3 x4 x5 x6) (k0_pay26 x0 x1 x2 x3 x4 x5 x6) (k0_pay27 x0 x1 x2 x3 x4 x5 x6)) r = rms (halfFfn (row (φ := .f32) x0 r) (row (φ := .f32) x1 0) (mat (φ := .bf16) x2) (mat (φ := .bf16) x3) (mat (φ := .bf16) x4)) (row (φ := .f32) x5 0) := by
  rw [← InBlock.pay52_row pt x0 x1 x2 x3 x4 x5 w6 w7 r, ← InBlock.pay55_row pt x0 x1 x2 x3 x4 x5 w6 w7 r]
  unfold k0_pay27 k0_pay26 k0_pay25 k0_pay24 k0_pay23 k0_pay22 k0_pay21
  rw [pay2_same, pay3_same, pay4_same, pay5_same, pay6_same, pay7_same, pay8_same, pay9_same, pay10_same, pay11_same, pay12_same, pay13_same, pay14_same, pay15_same]
  rfl

/-! ## The six stores -/

theorem out7_row (x0 : Vec Ideal S512x1024 .f32) (x1 : Vec Ideal S1x1024 .f32) (x2 : Vec Ideal S1024x2816 .bf16) (x3 : Vec Ideal S1024x2816 .bf16)
    (x4 : Vec Ideal S2816x1024 .bf16) (x5 : Vec Ideal S1x1024 .f32) (x6 : Vec Ideal S1024x2432 .bf16) (r : Fin 512) :
    row (M := 512) (N := 1024) (φ := .f32) (out0_7 x0 x1 x2 x3 x4 x5 x6) r = halfFfn (row (φ := .f32) x0 r) (row (φ := .f32) x1 0) (mat (φ := .bf16) x2) (mat (φ := .bf16) x3) (mat (φ := .bf16) x4) := by
  unfold out0_7
  rw [View.canon_unit_zero (S := S512x1024) zero2]
  exact pay25_row x0 x1 x2 x3 x4 x5 x6 r

/-- The normalised tokens times the columns of the compressed branch's keys and values. -/
theorem out9_row (x0 : Vec Ideal S512x1024 .f32) (x1 : Vec Ideal S1x1024 .f32) (x2 : Vec Ideal S1024x2816 .bf16) (x3 : Vec Ideal S1024x2816 .bf16)
    (x4 : Vec Ideal S2816x1024 .bf16) (x5 : Vec Ideal S1x1024 .f32) (x6 : Vec Ideal S1024x2432 .bf16) (r : Fin 512) :
    row (M := 512) (N := 256) (φ := .f32) (out0_9 x0 x1 x2 x3 x4 x5 x6) r
      = mv (rms (halfFfn (row (φ := .f32) x0 r) (row (φ := .f32) x1 0) (mat (φ := .bf16) x2) (mat (φ := .bf16) x3) (mat (φ := .bf16) x4)) (row (φ := .f32) x5 0)) (cols 1024 (by decide) (mat (φ := .bf16) x6)) := by
  unfold out0_9
  rw [View.canon_unit_zero (S := S512x256) zero2, ← h_row x0 x1 x2 x3 x4 x5 x6 r]
  unfold k0_pay17
  refine (row_matmul _ rfl _ _ _ r).trans ?_
  simp only [mat_shapeCast, ld_cols]
  rfl

/-- The normalised tokens times the columns of the selected branch's keys and values. -/
theorem out10_row (x0 : Vec Ideal S512x1024 .f32) (x1 : Vec Ideal S1x1024 .f32) (x2 : Vec Ideal S1024x2816 .bf16) (x3 : Vec Ideal S1024x2816 .bf16)
    (x4 : Vec Ideal S2816x1024 .bf16) (x5 : Vec Ideal S1x1024 .f32) (x6 : Vec Ideal S1024x2432 .bf16) (r : Fin 512) :
    row (M := 512) (N := 256) (φ := .f32) (out0_10 x0 x1 x2 x3 x4 x5 x6) r
      = mv (rms (halfFfn (row (φ := .f32) x0 r) (row (φ := .f32) x1 0) (mat (φ := .bf16) x2) (mat (φ := .bf16) x3) (mat (φ := .bf16) x4)) (row (φ := .f32) x5 0)) (cols 1280 (by decide) (mat (φ := .bf16) x6)) := by
  unfold out0_10
  rw [View.canon_unit_zero (S := S512x256) zero2, ← h_row x0 x1 x2 x3 x4 x5 x6 r]
  unfold k0_pay18
  refine (row_matmul _ rfl _ _ _ r).trans ?_
  simp only [mat_shapeCast, ld_cols]
  rfl

/-- The normalised tokens times the columns of the window branch's keys and values. -/
theorem out11_row (x0 : Vec Ideal S512x1024 .f32) (x1 : Vec Ideal S1x1024 .f32) (x2 : Vec Ideal S1024x2816 .bf16) (x3 : Vec Ideal S1024x2816 .bf16)
    (x4 : Vec Ideal S2816x1024 .bf16) (x5 : Vec Ideal S1x1024 .f32) (x6 : Vec Ideal S1024x2432 .bf16) (r : Fin 512) :
    row (M := 512) (N := 256) (φ := .f32) (out0_11 x0 x1 x2 x3 x4 x5 x6) r
      = mv (rms (halfFfn (row (φ := .f32) x0 r) (row (φ := .f32) x1 0) (mat (φ := .bf16) x2) (mat (φ := .bf16) x3) (mat (φ := .bf16) x4)) (row (φ := .f32) x5 0)) (cols 1536 (by decide) (mat (φ := .bf16) x6)) := by
  unfold out0_11
  rw [View.canon_unit_zero (S := S512x256) zero2, ← h_row x0 x1 x2 x3 x4 x5 x6 r]
  unfold k0_pay19
  refine (row_matmul _ rfl _ _ _ r).trans ?_
  simp only [mat_shapeCast, ld_cols]
  rfl

/-- The normalised tokens times the columns of the recurrence's input. -/
theorem out12_row (x0 : Vec Ideal S512x1024 .f32) (x1 : Vec Ideal S1x1024 .f32) (x2 : Vec Ideal S1024x2816 .bf16) (x3 : Vec Ideal S1024x2816 .bf16)
    (x4 : Vec Ideal S2816x1024 .bf16) (x5 : Vec Ideal S1x1024 .f32) (x6 : Vec Ideal S1024x2432 .bf16) (r : Fin 512) :
    row (M := 512) (N := 512) (φ := .f32) (out0_12 x0 x1 x2 x3 x4 x5 x6) r
      = mv (rms (halfFfn (row (φ := .f32) x0 r) (row (φ := .f32) x1 0) (mat (φ := .bf16) x2) (mat (φ := .bf16) x3) (mat (φ := .bf16) x4)) (row (φ := .f32) x5 0)) (cols 1792 (by decide) (mat (φ := .bf16) x6)) := by
  unfold out0_12
  rw [View.canon_unit_zero (S := S512x512) zero2, ← h_row x0 x1 x2 x3 x4 x5 x6 r]
  unfold k0_pay20
  refine (row_matmul _ rfl _ _ _ r).trans ?_
  simp only [mat_shapeCast, ld_cols]
  rfl

/-- The logistic function of the normalised tokens times the columns of the branches' gates. -/
theorem out13_row (x0 : Vec Ideal S512x1024 .f32) (x1 : Vec Ideal S1x1024 .f32) (x2 : Vec Ideal S1024x2816 .bf16) (x3 : Vec Ideal S1024x2816 .bf16)
    (x4 : Vec Ideal S2816x1024 .bf16) (x5 : Vec Ideal S1x1024 .f32) (x6 : Vec Ideal S1024x2432 .bf16) (r : Fin 512) :
    row (M := 512) (N := 128) (φ := .f32) (out0_13 x0 x1 x2 x3 x4 x5 x6) r
      = sig (mv (rms (halfFfn (row (φ := .f32) x0 r) (row (φ := .f32) x1 0) (mat (φ := .bf16) x2) (mat (φ := .bf16) x3) (mat (φ := .bf16) x4)) (row (φ := .f32) x5 0)) (cols 2304 (by decide) (mat (φ := .bf16) x6))) := by
  unfold out0_13
  rw [View.canon_unit_zero (S := S512x128) zero2, ← h_row x0 x1 x2 x3 x4 x5 x6 r]
  unfold k0_pay1
  dsimp only
  rw [row_logistic]
  refine congrArg sig ((row_matmul _ rfl _ _ _ r).trans ?_)
  simp only [mat_shapeCast, ld_cols]
  rfl

end Cert.Proof.SampBlock

end
-- ==== Proof.SampIn.lean ====
/-
  THE SAMPLE GROUP'S IN-PROJECTION: ITS BLOCKS READ OFF ITS ARGUMENTS. The grid is one point: every window is a whole array. The
  projection's weights reach the kernel as one array of columns: the padded queries', the three branches' keys' and values', the
  recurrence's, and the gates' 24 with zero columns after them.
-/
module

public import proofs.«01_k».proof.Proof.SampBlock
public import proofs.«01_k».proof.Proof.InIn
public import Idealize.ShloMosaic.Lib.Pipeline.ValueKit
public import Idealize.ShloMosaic.Lib.StableHlo.RunRead
public import Idealize.ShloMosaic.Lib.KernelVsHost

@[expose] public section

noncomputable section

namespace Cert.Proof.SampIn

open Idealize.ShloMosaic Idealize.SL.Sem Cert.Rows Cert.Kernel4Ideal Cert.Kernel4Ideal.Gen
open Idealize.ShloMosaic.TcCoe
open Cert.Proof.InIn (stack_at truncf_at rows_at rows_pad zero_word gateCols)

variable (m : (ℓ : Loc nD τ sig) → Buf (Elt Ideal) ℓ) (c : Dev nD)

/-- Every window's one block starts at the origin. -/
theorem idx_facts : ∀ t : Fin cfg0.N,
    ((win0_0.index t (0 : Fin 2) = 0 ∧ win0_0.index t (1 : Fin 2) = 0) ∧
    (win0_1.index t (0 : Fin 2) = 0 ∧ win0_1.index t (1 : Fin 2) = 0) ∧
    (win0_2.index t (0 : Fin 2) = 0 ∧ win0_2.index t (1 : Fin 2) = 0) ∧
    (win0_3.index t (0 : Fin 2) = 0 ∧ win0_3.index t (1 : Fin 2) = 0) ∧
    (win0_4.index t (0 : Fin 2) = 0 ∧ win0_4.index t (1 : Fin 2) = 0) ∧
    (win0_5.index t (0 : Fin 2) = 0 ∧ win0_5.index t (1 : Fin 2) = 0) ∧
    (win0_6.index t (0 : Fin 2) = 0 ∧ win0_6.index t (1 : Fin 2) = 0)) ∧
    (win0_7.index t (0 : Fin 2) = 0 ∧ win0_7.index t (1 : Fin 2) = 0) ∧
    (win0_9.index t (0 : Fin 2) = 0 ∧ win0_9.index t (1 : Fin 2) = 0) ∧
    (win0_10.index t (0 : Fin 2) = 0 ∧ win0_10.index t (1 : Fin 2) = 0) ∧
    (win0_11.index t (0 : Fin 2) = 0 ∧ win0_11.index t (1 : Fin 2) = 0) ∧
    (win0_12.index t (0 : Fin 2) = 0 ∧ win0_12.index t (1 : Fin 2) = 0) ∧
    (win0_13.index t (0 : Fin 2) = 0 ∧ win0_13.index t (1 : Fin 2) = 0) :=
  (by decide +kernel : ∀ t : Fin grid0.N, _)

theorem iblk0 (t : Fin cfg0.N) (r : Fin 512) (b : Fin 128) (s : Fin 4) (h : b.val * 4 + s.val = r.val) :
    row (M := 512) (N := 1024) (φ := .f32) (iblk m c 0 t) r = row3 (B := 128) (T := 4) (N := 1024) (φ := .f32) (m ((c : Thread nD τ).loc main_arg0)) b s := by
  obtain ⟨⟨⟨h0, h1⟩, -⟩, -⟩ := idx_facts t
  funext j
  unfold row row3
  blk_simp [iblk]
  entry_read
  exact shapeCast_flat _ _ _ b s j (by blk_simp [h0]; exact h.symm) (by blk_simp [h1])

theorem iblk1 (t : Fin cfg0.N) :
    row (M := 1) (N := 1024) (φ := .f32) (iblk m c 1 t) 0 = vec (N := 1024) (φ := .f32) (m ((c : Thread nD τ).loc main_arg1)) := by
  obtain ⟨⟨-, ⟨h0, h1⟩, -⟩, -⟩ := idx_facts t
  funext j
  unfold row vec
  blk_simp [iblk]
  entry_read
  exact shapeCast_vec _ _ _ j (by blk_simp [h1])

theorem iblk5 (t : Fin cfg0.N) :
    row (M := 1) (N := 1024) (φ := .f32) (iblk m c 5 t) 0 = vec (N := 1024) (φ := .f32) (m ((c : Thread nD τ).loc main_arg5)) := by
  obtain ⟨⟨-, -, -, -, -, ⟨h0, h1⟩, -⟩, -⟩ := idx_facts t
  funext j
  unfold row vec
  blk_simp [iblk]
  entry_read
  exact shapeCast_vec _ _ _ j (by blk_simp [h1])

theorem iblk2 (t : Fin cfg0.N) :
    mat (M := 1024) (N := 2816) (φ := .bf16) (iblk m c 2 t) = mat (M := 1024) (N := 2816) (φ := .f32) (m ((c : Thread nD τ).loc main_arg2)) := by
  obtain ⟨⟨-, -, ⟨h0, h1⟩, -⟩, -⟩ := idx_facts t
  funext i j
  unfold mat
  blk_simp [iblk]
  entry_read
  exact congrArg (m ((c : Thread nD τ).loc main_arg2)) (by blk_ext [h0, h1])

theorem iblk3 (t : Fin cfg0.N) :
    mat (M := 1024) (N := 2816) (φ := .bf16) (iblk m c 3 t) = mat (M := 1024) (N := 2816) (φ := .f32) (m ((c : Thread nD τ).loc main_arg3)) := by
  obtain ⟨⟨-, -, -, ⟨h0, h1⟩, -⟩, -⟩ := idx_facts t
  funext i j
  unfold mat
  blk_simp [iblk]
  entry_read
  exact congrArg (m ((c : Thread nD τ).loc main_arg3)) (by blk_ext [h0, h1])

theorem iblk4 (t : Fin cfg0.N) :
    mat (M := 2816) (N := 1024) (φ := .bf16) (iblk m c 4 t) = mat (M := 2816) (N := 1024) (φ := .f32) (m ((c : Thread nD τ).loc main_arg4)) := by
  obtain ⟨⟨-, -, -, -, ⟨h0, h1⟩, -⟩, -⟩ := idx_facts t
  funext i j
  unfold mat
  blk_simp [iblk]
  entry_read
  exact congrArg (m ((c : Thread nD τ).loc main_arg4)) (by blk_ext [h0, h1])

/-! ## The projection's weights, re-laid -/

section Stacks

variable {α : Type} (a : S1024x1024.Idx → α) (b : S768x1024.Idx → α) (d : S512x1024.Idx → α) (e : S128x1024.Idx → α)
  (h : Shape.Concatenates [S1024x1024, S768x1024, S512x1024, S128x1024] S2432x1024 0) (y : S2432x1024.Idx) (k : Fin 1024)

/-- Four matrices, in order. -/
abbrev pieces : List ((s : Shape) × (s.Idx → α)) := [⟨S1024x1024, a⟩, ⟨S768x1024, b⟩, ⟨S512x1024, d⟩, ⟨S128x1024, e⟩]

theorem second (j : Fin 768) (h0 : (y 0).val = 1024 + j.val) (h1 : (y 1).val = k.val) :
    concatenate S2432x1024 0 (pieces a b d e) h y = b (ValueIdx.ix2 j k) :=
  stack_at (R := 2432) (N := 1024) (pieces a b d e) h y 1 (by decide : 1 < 4) b rfl 1024 rfl j k h0 h1

theorem third (j : Fin 512) (h0 : (y 0).val = 1792 + j.val) (h1 : (y 1).val = k.val) :
    concatenate S2432x1024 0 (pieces a b d e) h y = d (ValueIdx.ix2 j k) :=
  stack_at (R := 2432) (N := 1024) (pieces a b d e) h y 2 (by decide : 2 < 4) d rfl 1792 rfl j k h0 h1

theorem fourth (j : Fin 128) (h0 : (y 0).val = 2304 + j.val) (h1 : (y 1).val = k.val) :
    concatenate S2432x1024 0 (pieces a b d e) h y = e (ValueIdx.ix2 j k) :=
  stack_at (R := 2432) (N := 1024) (pieces a b d e) h y 3 (by decide : 3 < 4) e rfl 2304 rfl j k h0 h1

end Stacks

/-- The projection's weights. -/
abbrev wIn : Fin 1024 → Fin 3864 → EReal := mat (M := 1024) (N := 3864) (φ := .f32) (m ((c : Thread nD τ).loc main_arg6))

/-- The re-laid weights' transpose, before its columns' pieces are read. -/
theorem turned_at (x : FVec Ideal S2432x1024 .f32) (ht : S2432x1024.Transposes ([1, 0] : List (Fin 2)) S1024x2432) (hb : FTy.bits .bf16 < FTy.bits .f32)
    (y : S1024x2432.Idx) : truncf .bf16 (transpose S1024x2432 ([1, 0] : List (Fin 2)) x ht : FVec Ideal S1024x2432 .f32) hb y = x (ValueIdx.ix2 (y 1) (y 0)) :=
  transpose_apply _ _ ht y (ValueIdx.ix2 (y 1) (y 0)) fun a => by match a with | ⟨0, _⟩ => rfl | ⟨1, _⟩ => rfl

set_option maxRecDepth 16384 in
set_option maxHeartbeats 2000000 in
theorem v22_second (y : S1024x2432.Idx) (j : Fin 768) (k : Fin 1024) (q : Fin 3864) (h0 : (y 0).val = k.val) (h1 : (y 1).val = 1024 + j.val)
    (hq : q.val = 512 + j.val) : (V m c main_v22 : FVec Ideal S1024x2432 .bf16) y = wIn m c k q := by
  simp only [V, List.flatten_cons, List.flatten_nil, List.append_nil]
  after_reads_simp
  rw [turned_at]
  refine (second _ _ _ _ _ _ k j h1 h0).trans ?_
  simp only [Matrix.cons_val]
  after_reads_simp
  exact rows_at (φ := .f32) _ _ _ j k q hq

set_option maxRecDepth 16384 in
set_option maxHeartbeats 2000000 in
theorem v22_third (y : S1024x2432.Idx) (j : Fin 512) (k : Fin 1024) (q : Fin 3864) (h0 : (y 0).val = k.val) (h1 : (y 1).val = 1792 + j.val)
    (hq : q.val = 1304 + j.val) : (V m c main_v22 : FVec Ideal S1024x2432 .bf16) y = wIn m c k q := by
  simp only [V, List.flatten_cons, List.flatten_nil, List.append_nil]
  after_reads_simp
  rw [turned_at]
  refine (third _ _ _ _ _ _ k j h1 h0).trans ?_
  simp only [Matrix.cons_val]
  after_reads_simp
  exact rows_at (φ := .f32) _ _ _ j k q hq

set_option maxRecDepth 16384 in
set_option maxHeartbeats 2000000 in
theorem v22_fourth (y : S1024x2432.Idx) (j : Fin 128) (k : Fin 1024) (h0 : (y 0).val = k.val) (h1 : (y 1).val = 2304 + j.val) :
    (V m c main_v22 : FVec Ideal S1024x2432 .bf16) y = gateCols (wIn m c) k j := by
  simp only [V, List.flatten_cons, List.flatten_nil, List.append_nil]
  after_reads_simp
  rw [turned_at]
  refine (fourth _ _ _ _ _ _ k j h1 h0).trans ?_
  simp only [Matrix.cons_val]
  after_reads_simp
  refine (rows_pad _ _ pads_S24x1024_S128x1024_01040_000 h_S_ j k).trans ?_
  unfold gateCols
  split
  · rename_i hj
    exact rows_at (φ := .f32) _ transposes_S1024x3864_S3864x1024_1_0 slices_S3864x1024_S24x1024_1280_0 ⟨j.val, hj⟩ k _ rfl
  · exact congrFun zero_word (Shape.Idx.first h_S_)

/-! ## Window 6 -/

/-- The columns from 1024 on are the weights' columns from 512 on. -/
theorem iblk6_kv (t : Fin cfg0.N) (p : ℕ) (o q : ℕ) (ho : o + 256 ≤ 2432) (hq : q + 256 ≤ 3864) (eo : o = 1024 + p) (eq : q = 512 + p) (hp : p + 256 ≤ 768) :
    cols (L := 256) o ho (mat (M := 1024) (N := 2432) (φ := .bf16) (iblk m c 6 t)) = cols q hq (wIn m c) := by
  obtain ⟨⟨-, -, -, -, -, -, ⟨h0, h1⟩⟩, -⟩ := idx_facts t
  funext k j
  unfold cols mat
  blk_simp [iblk]
  exact v22_second m c _ ⟨p + j.val, by omega⟩ k _ (by blk_simp [h0]) (by blk_simp [h1]; show o + j.val = 1024 + (p + j.val); omega) (by show q + j.val = 512 + (p + j.val); omega)

theorem iblk6_u (t : Fin cfg0.N) : cols (L := 512) 1792 (by decide) (mat (M := 1024) (N := 2432) (φ := .bf16) (iblk m c 6 t)) = cols 1304 (by decide) (wIn m c) := by
  obtain ⟨⟨-, -, -, -, -, -, ⟨h0, h1⟩⟩, -⟩ := idx_facts t
  funext k j
  unfold cols mat
  blk_simp [iblk]
  exact v22_third m c _ j k _ (by blk_simp [h0]) (by blk_simp [h1]) rfl

theorem iblk6_gates (t : Fin cfg0.N) : cols (L := 128) 2304 (by decide) (mat (M := 1024) (N := 2432) (φ := .bf16) (iblk m c 6 t)) = gateCols (wIn m c) := by
  obtain ⟨⟨-, -, -, -, -, -, ⟨h0, h1⟩⟩, -⟩ := idx_facts t
  funext k j
  unfold cols mat
  blk_simp [iblk]
  exact v22_fourth m c _ j k (by blk_simp [h0]) (by blk_simp [h1])

end Cert.Proof.SampIn

end
-- ==== Proof.SampLay.lean ====
/-
  THE SAMPLE GROUP'S TOKENS. The group has 128 sequences of 4 tokens; the in-projection's results hold one row for each token, row
  under row. Each result is named here as that layout of a function of the layer's arguments.
-/
module

public import proofs.«01_k».proof.Proof.HostRows
public import proofs.«01_k».proof.Proof.InIn

@[expose] public section

noncomputable section

namespace Cert.Proof.SampLay

open Idealize.ShloMosaic Idealize.ShloMosaic.ValueIdx Cert.Rows
open Cert.Proof.InIn (gateCols)

variable {N : ℕ}

/-- Row `b * 4 + s` is the row of token `s` of sequence `b`. -/
def few (f : Fin 128 → Fin 4 → Fin N → EReal) : (⟨2, ![512, N]⟩ : Shape).Idx → EReal := fun i =>
  f ⟨(i 0).val / 4, by have : (i 0).val < 512 := (i 0).isLt; omega⟩ ⟨(i 0).val % 4, by omega⟩ (i 1)

variable {f : Fin 128 → Fin 4 → Fin N → EReal}

/-- The one block of 512 rows. -/
theorem few_at (X : FVec Ideal ⟨2, ![512, N]⟩ .f32)
    (h : ∀ (r : Fin 512) (b : Fin 128) (s : Fin 4), b.val * 4 + s.val = r.val → row X r = f b s)
    (y i : (⟨2, ![512, N]⟩ : Shape).Idx) (h0 : (i 0).val = (y 0).val) (h1 : (i 1).val = (y 1).val) : X y = few f i := by
  have hi : (i 0).val < 512 := (i 0).isLt
  exact at_of_row X y (y 0) (i 1) _ (h (y 0) ⟨(i 0).val / 4, by omega⟩ ⟨(i 0).val % 4, by omega⟩ (by show (i 0).val / 4 * 4 + (i 0).val % 4 = _; omega)) rfl h1.symm

/-- The host's reshape. -/
theorem few_host (X : FVec Ideal ⟨3, ![128, 4, N]⟩ .f32) (h : ∀ b s, row3 X b s = f b s) (hc : (⟨3, ![128, 4, N]⟩ : Shape).ShapeCasts ⟨2, ![512, N]⟩) :
    shapeCast ⟨2, ![512, N]⟩ X hc = few f := by
  funext i
  have hi : (i 0).val < 512 := (i 0).isLt
  exact (shapeCast_flat X hc i ⟨(i 0).val / 4, by omega⟩ ⟨(i 0).val % 4, by omega⟩ (i 1)
    (by show (i 0).val = (i 0).val / 4 * 4 + (i 0).val % 4; omega) rfl).trans (congrFun (h _ _) (i 1))

/-! ## The layer's functions of a token -/

variable (x0 : FVec Ideal ⟨3, ![128, 4, 1024]⟩ .f32) (x1 : FVec Ideal ⟨1, ![1024]⟩ .f32) (x2 x3 : FVec Ideal ⟨2, ![1024, 2816]⟩ .f32)
  (x4 : FVec Ideal ⟨2, ![2816, 1024]⟩ .f32) (x5 : FVec Ideal ⟨1, ![1024]⟩ .f32) (x6 : FVec Ideal ⟨2, ![1024, 3864]⟩ .f32) (b : Fin 128) (t : Fin 4)

/-- The token after the first half of the feed-forward. -/
def x1R : Fin 1024 → EReal := halfFfn (row3 x0 b t) (vec x1) (mat x2) (mat x3) (mat x4)

/-- The same token, normalised. -/
def hR : Fin 1024 → EReal := rms (x1R x0 x1 x2 x3 x4 b t) (vec x5)

/-- The token's projection onto columns `q`, `q + 1`, …. -/
def projR {L : ℕ} (q : ℕ) (h : q + L ≤ 3864) : Fin L → EReal := mv (hR x0 x1 x2 x3 x4 x5 b t) (cols q h (mat x6))

/-- The token's gates, and one half in the padding. -/
def gateR : Fin 128 → EReal := sig (mv (hR x0 x1 x2 x3 x4 x5 b t) (gateCols (mat x6)))

end Cert.Proof.SampLay

end
-- ==== Proof.SampArray.lean ====
/-
  THE SAMPLE GROUP'S IN-PROJECTION: ITS RESULT ARRAYS. The one point stores every result whole: each token's residual stream after
  the first half of the feed-forward, and its normalised row times the projection's columns.
-/
module

public import proofs.«01_k».proof.Proof.SampIn
public import proofs.«01_k».proof.Proof.SampLay
public import Idealize.ShloMosaic.Lib.Pipeline.ValueKit

@[expose] public section

noncomputable section

namespace Cert.Proof.SampArray

open Idealize.ShloMosaic Idealize.SL.Sem Cert.Rows Cert.Kernel4Ideal Cert.Kernel4Ideal.Gen
open Idealize.ShloMosaic.TcCoe Cert.Proof.SampIn Cert.Proof.SampLay Cert.Proof.SampBlock

variable (m : (ℓ : Loc nD τ sig) → Buf (Elt Ideal) ℓ) (c : Dev nD)

/-- Each token after the first half of the feed-forward. -/
def x1F : Fin 128 → Fin 4 → Fin 1024 → EReal :=
  x1R (m ((c : Thread nD τ).loc main_arg0)) (m ((c : Thread nD τ).loc main_arg1)) (m ((c : Thread nD τ).loc main_arg2)) (m ((c : Thread nD τ).loc main_arg3)) (m ((c : Thread nD τ).loc main_arg4))

/-- Each token's projection onto columns `q`, `q + 1`, …. -/
def projF {L : ℕ} (q : ℕ) (h : q + L ≤ 3864) (b : Fin 128) (s : Fin 4) : Fin L → EReal :=
  projR (m ((c : Thread nD τ).loc main_arg0)) (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6)) b s q h

/-- Each token's gates, and one half in the padding. -/
def gateF : Fin 128 → Fin 4 → Fin 128 → EReal :=
  gateR (m ((c : Thread nD τ).loc main_arg0)) (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6))

section Blocks

variable (t : Fin cfg0.N) (r : Fin 512) (b : Fin 128) (s : Fin 4) (e : b.val * 4 + s.val = r.val)

include e in
theorem x1_block : halfFfn (row (M := 512) (N := 1024) (φ := .f32) (iblk m c 0 t) r) (row (M := 1) (N := 1024) (φ := .f32) (iblk m c 1 t) 0)
    (mat (M := 1024) (N := 2816) (φ := .bf16) (iblk m c 2 t)) (mat (M := 1024) (N := 2816) (φ := .bf16) (iblk m c 3 t)) (mat (M := 2816) (N := 1024) (φ := .bf16) (iblk m c 4 t)) = x1F m c b s := by
  rw [iblk0 m c t r b s e, iblk1, iblk2, iblk3, iblk4]
  rfl

include e in
theorem block7 : row (M := 512) (N := 1024) (φ := .f32) (out0_7 (iblk m c 0 t) (iblk m c 1 t) (iblk m c 2 t) (iblk m c 3 t) (iblk m c 4 t) (iblk m c 5 t) (iblk m c 6 t)) r = x1F m c b s := by
  refine (out7_row _ _ _ _ _ _ _ r).trans ?_
  rw [x1_block m c t r b s e]

include e in
theorem block9 : row (M := 512) (N := 256) (φ := .f32) (out0_9 (iblk m c 0 t) (iblk m c 1 t) (iblk m c 2 t) (iblk m c 3 t) (iblk m c 4 t) (iblk m c 5 t) (iblk m c 6 t)) r = projF (L := 256) m c 512 (by decide) b s := by
  refine (out9_row _ _ _ _ _ _ _ r).trans ?_
  rw [x1_block m c t r b s e, iblk5, iblk6_kv m c t 0 _ _ _ (by decide) rfl rfl (by decide)]
  rfl

include e in
theorem block10 : row (M := 512) (N := 256) (φ := .f32) (out0_10 (iblk m c 0 t) (iblk m c 1 t) (iblk m c 2 t) (iblk m c 3 t) (iblk m c 4 t) (iblk m c 5 t) (iblk m c 6 t)) r = projF (L := 256) m c 768 (by decide) b s := by
  refine (out10_row _ _ _ _ _ _ _ r).trans ?_
  rw [x1_block m c t r b s e, iblk5, iblk6_kv m c t 256 _ _ _ (by decide) rfl rfl (by decide)]
  rfl

include e in
theorem block11 : row (M := 512) (N := 256) (φ := .f32) (out0_11 (iblk m c 0 t) (iblk m c 1 t) (iblk m c 2 t) (iblk m c 3 t) (iblk m c 4 t) (iblk m c 5 t) (iblk m c 6 t)) r = projF (L := 256) m c 1024 (by decide) b s := by
  refine (out11_row _ _ _ _ _ _ _ r).trans ?_
  rw [x1_block m c t r b s e, iblk5, iblk6_kv m c t 512 _ _ _ (by decide) rfl rfl (by decide)]
  rfl

include e in
theorem block12 : row (M := 512) (N := 512) (φ := .f32) (out0_12 (iblk m c 0 t) (iblk m c 1 t) (iblk m c 2 t) (iblk m c 3 t) (iblk m c 4 t) (iblk m c 5 t) (iblk m c 6 t)) r = projF (L := 512) m c 1304 (by decide) b s := by
  refine (out12_row _ _ _ _ _ _ _ r).trans ?_
  rw [x1_block m c t r b s e, iblk5, iblk6_u]
  rfl

include e in
theorem block13 : row (M := 512) (N := 128) (φ := .f32) (out0_13 (iblk m c 0 t) (iblk m c 1 t) (iblk m c 2 t) (iblk m c 3 t) (iblk m c 4 t) (iblk m c 5 t) (iblk m c 6 t)) r = gateF m c b s := by
  refine (out13_row _ _ _ _ _ _ _ r).trans ?_
  rw [x1_block m c t r b s e, iblk5, iblk6_gates]
  rfl

end Blocks

theorem final7 : (dats m 0 c).arrAt 7 cfg0.N = few (x1F m c) := by
  refine (dats m 0 c).arrAt_eq_of_covers 7 _ (by decide +kernel) fun t hf y => ?_
  obtain ⟨-, ⟨h0, h1⟩, -⟩ := idx_facts t
  blk_simp
  rw [after0_7]
  have key := (fun r b s e => block7 m c t r b s e)
  generalize out0_7 (iblk m c 0 t) (iblk m c 1 t) (iblk m c 2 t) (iblk m c 3 t) (iblk m c 4 t) (iblk m c 5 t) (iblk m c 6 t) = X at key ⊢
  exact few_at X key y _ (by blk_simp [h0]) (by blk_simp [h1])

theorem final9 : (dats m 0 c).arrAt 9 cfg0.N = few (projF (L := 256) m c 512 (by decide)) := by
  refine (dats m 0 c).arrAt_eq_of_covers 9 _ (by decide +kernel) fun t hf y => ?_
  obtain ⟨-, -, ⟨h0, h1⟩, -⟩ := idx_facts t
  blk_simp
  rw [after0_9]
  have key := (fun r b s e => block9 m c t r b s e)
  generalize out0_9 (iblk m c 0 t) (iblk m c 1 t) (iblk m c 2 t) (iblk m c 3 t) (iblk m c 4 t) (iblk m c 5 t) (iblk m c 6 t) = X at key ⊢
  exact few_at X key y _ (by blk_simp [h0]) (by blk_simp [h1])

theorem final10 : (dats m 0 c).arrAt 10 cfg0.N = few (projF (L := 256) m c 768 (by decide)) := by
  refine (dats m 0 c).arrAt_eq_of_covers 10 _ (by decide +kernel) fun t hf y => ?_
  obtain ⟨-, -, -, ⟨h0, h1⟩, -⟩ := idx_facts t
  blk_simp
  rw [after0_10]
  have key := (fun r b s e => block10 m c t r b s e)
  generalize out0_10 (iblk m c 0 t) (iblk m c 1 t) (iblk m c 2 t) (iblk m c 3 t) (iblk m c 4 t) (iblk m c 5 t) (iblk m c 6 t) = X at key ⊢
  exact few_at X key y _ (by blk_simp [h0]) (by blk_simp [h1])

theorem final11 : (dats m 0 c).arrAt 11 cfg0.N = few (projF (L := 256) m c 1024 (by decide)) := by
  refine (dats m 0 c).arrAt_eq_of_covers 11 _ (by decide +kernel) fun t hf y => ?_
  obtain ⟨-, -, -, -, ⟨h0, h1⟩, -⟩ := idx_facts t
  blk_simp
  rw [after0_11]
  have key := (fun r b s e => block11 m c t r b s e)
  generalize out0_11 (iblk m c 0 t) (iblk m c 1 t) (iblk m c 2 t) (iblk m c 3 t) (iblk m c 4 t) (iblk m c 5 t) (iblk m c 6 t) = X at key ⊢
  exact few_at X key y _ (by blk_simp [h0]) (by blk_simp [h1])

theorem final12 : (dats m 0 c).arrAt 12 cfg0.N = few (projF (L := 512) m c 1304 (by decide)) := by
  refine (dats m 0 c).arrAt_eq_of_covers 12 _ (by decide +kernel) fun t hf y => ?_
  obtain ⟨-, -, -, -, -, ⟨h0, h1⟩, -⟩ := idx_facts t
  blk_simp
  rw [after0_12]
  have key := (fun r b s e => block12 m c t r b s e)
  generalize out0_12 (iblk m c 0 t) (iblk m c 1 t) (iblk m c 2 t) (iblk m c 3 t) (iblk m c 4 t) (iblk m c 5 t) (iblk m c 6 t) = X at key ⊢
  exact few_at X key y _ (by blk_simp [h0]) (by blk_simp [h1])

theorem final13 : (dats m 0 c).arrAt 13 cfg0.N = few (gateF m c) := by
  refine (dats m 0 c).arrAt_eq_of_covers 13 _ (by decide +kernel) fun t hf y => ?_
  obtain ⟨-, -, -, -, -, -, ⟨h0, h1⟩⟩ := idx_facts t
  blk_simp
  rw [after0_13]
  have key := (fun r b s e => block13 m c t r b s e)
  generalize out0_13 (iblk m c 0 t) (iblk m c 1 t) (iblk m c 2 t) (iblk m c 3 t) (iblk m c 4 t) (iblk m c 5 t) (iblk m c 6 t) = X at key ⊢
  exact few_at X key y _ (by blk_simp [h0]) (by blk_simp [h1])

/-- The run: every returned array holds its function of the tokens row under row, and the arguments end unchanged. -/
theorem run (ρ : Dev nD → PrngReg) : θ_run (defs (F := Ideal)) (onTc (τ := τ) (main (F := Ideal))) ⟨m, fun _ => 0, ρ⟩ (fun r => ∀ c : Dev nD,
    r.2.mem ((c : Thread nD τ).loc main_v23_0) = few (x1F m c)
    ∧ r.2.mem ((c : Thread nD τ).loc main_v23_2) = few (projF (L := 256) m c 512 (by decide))
    ∧ r.2.mem ((c : Thread nD τ).loc main_v23_3) = few (projF (L := 256) m c 768 (by decide))
    ∧ r.2.mem ((c : Thread nD τ).loc main_v23_4) = few (projF (L := 256) m c 1024 (by decide))
    ∧ r.2.mem ((c : Thread nD τ).loc main_v23_5) = few (projF (L := 512) m c 1304 (by decide))
    ∧ r.2.mem ((c : Thread nD τ).loc main_v23_6) = few (gateF m c)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)) :=
  (θ_run defs _ _).mono (fun r h c => by
    obtain ⟨h7, -, h9, h10, h11, h12, h13, rest⟩ := h c
    exact ⟨h7.trans (final7 m c), h9.trans (final9 m c), h10.trans (final10 m c), h11.trans (final11 m c), h12.trans (final12 m c), h13.trans (final13 m c), rest⟩) (Value.run_blocks m ρ)

end Cert.Proof.SampArray

end
-- ==== Proof.SampRef.lean ====
/-
  THE SAMPLE GROUP'S REFERENCE IN-PROJECTION AT A TOKEN. Every array the reference forms holds, in each token's row, a function of
  that token's row of the residual stream; its results are those rows, row under row.
-/
module

public import proofs.«01_k».proof.Proof.InIn
public import proofs.«01_k».proof.Proof.SampLay
public import proofs.«01_k».proof.Proof.Gen.Reference4Ideal.Read

@[expose] public section

noncomputable section

namespace Cert.Proof.SampRef

open Idealize.ShloMosaic Cert.Rows Cert.Reference4Ideal Cert.Reference4Ideal.Gen Cert.Reference4Ideal.Read Cert.Proof.SampLay
open Cert.Proof.InIn (gateCols)

variable (x0 : (⟨S128x4x1024, .f32⟩ : BufTy).Contents (Elt Ideal)) (x1 : (⟨S1024, .f32⟩ : BufTy).Contents (Elt Ideal))
  (x2 x3 : (⟨S1024x2816, .f32⟩ : BufTy).Contents (Elt Ideal)) (x4 : (⟨S2816x1024, .f32⟩ : BufTy).Contents (Elt Ideal))
  (x5 : (⟨S1024, .f32⟩ : BufTy).Contents (Elt Ideal)) (x6 : (⟨S1024x3864, .f32⟩ : BufTy).Contents (Elt Ideal)) (b : Fin 128) (t : Fin 4)

theorem r12 : row3 (B := 128) (T := 4) (N := 1024) (φ := .f32) (val_main_v12 (F := Ideal) x0 x1) b t
    = rms (row3 (B := 128) (T := 4) (N := 1024) (φ := .f32) x0 b t) (vec (N := 1024) (φ := .f32) x1) :=
  row3_rms _ _ (by decide) _ _ _ _ _ _ _ _ b t

theorem r13 : row3 (B := 128) (T := 4) (N := 2816) (φ := .f32) (val_main_v13 (F := Ideal) x0 x1 x2) b t
    = mv (row3 (B := 128) (T := 4) (N := 1024) (φ := .f32) (val_main_v12 (F := Ideal) x0 x1) b t) (mat (M := 1024) (N := 2816) (φ := .f32) x2) :=
  row3_dot _ _ rfl _ _ _ b t

theorem r15 : row3 (B := 128) (T := 4) (N := 2816) (φ := .f32) (val_main_v15 (F := Ideal) x0 x1 x3) b t
    = mv (row3 (B := 128) (T := 4) (N := 1024) (φ := .f32) (val_main_v12 (F := Ideal) x0 x1) b t) (mat (M := 1024) (N := 2816) (φ := .f32) x3) :=
  row3_dot _ _ rfl _ _ _ b t

theorem r5 : row3 (B := 128) (T := 4) (N := 2816) (φ := .f32) (val_main_call0_v5 (F := Ideal) x0 x1 x2) b t
    = sig (row3 (B := 128) (T := 4) (N := 2816) (φ := .f32) (val_main_v13 (F := Ideal) x0 x1 x2) b t) :=
  row3_sigmoid _ _ _ b t

theorem r16 : row3 (B := 128) (T := 4) (N := 2816) (φ := .f32) (val_main_v16 (F := Ideal) x0 x1 x2 x3) b t
    = mul (mul (row3 (B := 128) (T := 4) (N := 2816) (φ := .f32) (val_main_v13 (F := Ideal) x0 x1 x2) b t)
        (row3 (B := 128) (T := 4) (N := 2816) (φ := .f32) (val_main_call0_v5 (F := Ideal) x0 x1 x2) b t))
      (row3 (B := 128) (T := 4) (N := 2816) (φ := .f32) (val_main_v15 (F := Ideal) x0 x1 x3) b t) := rfl

theorem r17 : row3 (B := 128) (T := 4) (N := 1024) (φ := .f32) (val_main_v17 (F := Ideal) x0 x1 x2 x3 x4) b t
    = mv (row3 (B := 128) (T := 4) (N := 2816) (φ := .f32) (val_main_v16 (F := Ideal) x0 x1 x2 x3) b t) (mat (M := 2816) (N := 1024) (φ := .f32) x4) :=
  row3_dot _ _ rfl _ _ _ b t

theorem r20 : row3 (B := 128) (T := 4) (N := 1024) (φ := .f32) (val_main_v20 (F := Ideal) x0 x1 x2 x3 x4) b t = x1R x0 x1 x2 x3 x4 b t := by
  show add (row3 (B := 128) (T := 4) (N := 1024) (φ := .f32) x0 b t)
    (scale (Ideal.ofBits .f32 0x3F000000#32) (row3 (B := 128) (T := 4) (N := 1024) (φ := .f32) (val_main_v17 (F := Ideal) x0 x1 x2 x3 x4) b t)) = _
  rw [r17, r16, r5, r13, r15, r12]
  rfl

theorem r33 : row3 (B := 128) (T := 4) (N := 1024) (φ := .f32) (val_main_v33 (F := Ideal) x0 x1 x2 x3 x4 x5) b t = hR x0 x1 x2 x3 x4 x5 b t := by
  refine (row3_rms (val_main_v20 (F := Ideal) x0 x1 x2 x3 x4) x5 (by decide) _ _ _ _ _ _ _ _ b t).trans ?_
  rw [r20]
  rfl

theorem r34 : row3 (B := 128) (T := 4) (N := 3864) (φ := .f32) (val_main_v34 (F := Ideal) x0 x1 x2 x3 x4 x5 x6) b t
    = mv (hR x0 x1 x2 x3 x4 x5 b t) (mat (M := 1024) (N := 3864) (φ := .f32) x6) := by
  refine (row3_dot _ _ rfl _ (val_main_v33 (F := Ideal) x0 x1 x2 x3 x4 x5) x6 b t).trans ?_
  rw [r33]

/-- The columns from `q` on of the projection. -/
theorem slice34 {L : ℕ} (q : ℕ) (h : (⟨3, ![128, 4, 3864]⟩ : Shape).Slices ![0, 0, q] ⟨3, ![128, 4, L]⟩) :
    row3 (extractStridedSlice (⟨3, ![128, 4, L]⟩ : Shape) ![0, 0, q] (val_main_v34 (F := Ideal) x0 x1 x2 x3 x4 x5 x6) h : FVec Ideal ⟨3, ![128, 4, L]⟩ .f32) b t
      = projR x0 x1 x2 x3 x4 x5 x6 b t q (h.2 2) := by
  have hq : q + L ≤ 3864 := h.2 2
  exact (row3_slice q _ h b t).trans (congrArg (part (N := 3864) q hq) (r34 x0 x1 x2 x3 x4 x5 x6 b t))

/-- 24 columns padded to 128. -/
theorem pad_at (x : FVec Ideal S128x4x24 .f32) (v : FVec Ideal S_ .f32) (h : S128x4x24.Pads ![0, 0, 0] ![0, 0, 104] ![0, 0, 0] S128x4x128) (hu : 0 < S_.numel)
    (j : Fin 128) : row3 (B := 128) (T := 4) (N := 128) (φ := .f32) (pad S128x4x128 ![0, 0, 0] ![0, 0, 104] ![0, 0, 0] x v h hu) b t j
      = if hj : j.val < 24 then x (ValueIdx.ix3 b t ⟨j.val, hj⟩) else v (Shape.Idx.first hu) := by
  split
  · rename_i hj
    refine pad_apply_of_inside _ _ _ x v h hu (ValueIdx.ix3 b t j) (ValueIdx.ix3 b t ⟨j.val, hj⟩) fun a => ?_
    match a with
    | ⟨0, _⟩ => show b.val = 0 + b.val * 1; omega
    | ⟨1, _⟩ => show t.val = 0 + t.val * 1; omega
    | ⟨2, _⟩ => show j.val = 0 + j.val * 1; omega
  · rename_i hj
    refine pad_apply_of_not_inside _ _ _ x v h hu (ValueIdx.ix3 b t j) (2 : Fin 3) fun hin => hj ?_
    have := hin.2.2
    change (j.val - 0) / 1 < 24 at this
    omega

theorem r42 : row3 (B := 128) (T := 4) (N := 128) (φ := .f32) (val_main_v42 (F := Ideal) x0 x1 x2 x3 x4 x5 x6) b t
    = mv (hR x0 x1 x2 x3 x4 x5 b t) (gateCols (mat (M := 1024) (N := 3864) (φ := .f32) x6)) := by
  funext j
  refine (pad_at b t _ _ pads_S128x4x24_S128x4x128_000_000_01040 h_S_ j).trans ?_
  unfold mv gateCols
  split
  · rename_i hj
    exact congrFun (slice34 x0 x1 x2 x3 x4 x5 x6 b t 1280 slices_S128x4x3864_S128x4x24_0_0_1280) ⟨j.val, hj⟩
  · refine (congrFun InIn.zero_word (Shape.Idx.first h_S_)).trans ?_
    simp only [mul_zero, Finset.sum_const_zero]

theorem r48 : row3 (B := 128) (T := 4) (N := 128) (φ := .f32) (val_main_v48 (F := Ideal) x0 x1 x2 x3 x4 x5 x6) b t = gateR x0 x1 x2 x3 x4 x5 x6 b t := by
  refine (row3_sigmoid (val_main_v42 (F := Ideal) x0 x1 x2 x3 x4 x5 x6) _ _ b t).trans ?_
  rw [r42]
  rfl

/-! ## The results -/

theorem out49 : val_main_v49 (F := Ideal) x0 x1 x2 x3 x4 = few (x1R x0 x1 x2 x3 x4) :=
  few_host _ (r20 x0 x1 x2 x3 x4) _

theorem out50 : val_main_v50 (F := Ideal) x0 x1 x2 x3 x4 x5 x6 = few (fun b t => projR (L := 256) x0 x1 x2 x3 x4 x5 x6 b t 512 (by decide)) :=
  few_host _ (fun b t => slice34 x0 x1 x2 x3 x4 x5 x6 b t 512 _) _

theorem out51 : val_main_v51 (F := Ideal) x0 x1 x2 x3 x4 x5 x6 = few (fun b t => projR (L := 256) x0 x1 x2 x3 x4 x5 x6 b t 768 (by decide)) :=
  few_host _ (fun b t => slice34 x0 x1 x2 x3 x4 x5 x6 b t 768 _) _

theorem out52 : val_main_v52 (F := Ideal) x0 x1 x2 x3 x4 x5 x6 = few (fun b t => projR (L := 256) x0 x1 x2 x3 x4 x5 x6 b t 1024 (by decide)) :=
  few_host _ (fun b t => slice34 x0 x1 x2 x3 x4 x5 x6 b t 1024 _) _

theorem out53 : val_main_v53 (F := Ideal) x0 x1 x2 x3 x4 x5 x6 = few (fun b t => projR (L := 512) x0 x1 x2 x3 x4 x5 x6 b t 1304 (by decide)) :=
  few_host _ (fun b t => slice34 x0 x1 x2 x3 x4 x5 x6 b t 1304 _) _

theorem out54 : val_main_v54 (F := Ideal) x0 x1 x2 x3 x4 x5 x6 = few (gateR x0 x1 x2 x3 x4 x5 x6) :=
  few_host _ (r48 x0 x1 x2 x3 x4 x5 x6) _

end Cert.Proof.SampRef

end
-- ==== Proof.SampAgree.lean ====
/-
  THE SAMPLE GROUP'S IN-PROJECTION: ITS TWO PROGRAMS AGREE. From equal arguments each result array of the kernel and of the
  reference holds the same function of the tokens, row under row.
-/
module

public import proofs.«01_k».proof.Defs
public import Idealize.ShloMosaic.Lib.Claim
public import proofs.«01_k».proof.Proof.SampArray
public import proofs.«01_k».proof.Proof.SampRef
public import proofs.«01_k».proof.Proof.Gen.Reference4Ideal.Run

@[expose] public section

noncomputable section

namespace Cert.Proof.SampAgree

open Idealize.ShloMosaic Idealize.SL.Sem Cert.Rows Cert.Reference4Ideal.Read Cert.Proof.SampRef

theorem algebraic : Cert.algebraic_Kernel4Ideal_Reference4Ideal (hKernel4Ideal := Cert.Kernel4Ideal.Gen.facts)
    (hReference4Ideal := Cert.Reference4Ideal.Gen.facts) := by
  intro m g m' g' _ hargs
  refine ⟨_, _, _, _, _, _, SampArray.run m g, ?_⟩
  refine (θ_run (Cert.Reference4Ideal.defs (F := Ideal)) _ _).mono (fun r h c => ?_) (Cert.Reference4Ideal.Value.run (F := Ideal) m' g')
  obtain ⟨h49, h50, h51, h52, h53, h54, rest⟩ := h c
  obtain ⟨a0, a1, a2, a3, a4, a5, a6⟩ := hargs c
  refine ⟨(h49.trans (val_main_v49_eq _ _ _ _ _)).trans ((out49 _ _ _ _ _).trans ?_), (h50.trans (val_main_v50_eq _ _)).trans ((out50 _ _ _ _ _ _ _).trans ?_),
    (h51.trans (val_main_v51_eq _ _)).trans ((out51 _ _ _ _ _ _ _).trans ?_), (h52.trans (val_main_v52_eq _ _)).trans ((out52 _ _ _ _ _ _ _).trans ?_),
    (h53.trans (val_main_v53_eq _ _)).trans ((out53 _ _ _ _ _ _ _).trans ?_), (h54.trans (val_main_v54_eq _ _)).trans ((out54 _ _ _ _ _ _ _).trans ?_), rest⟩ <;>
  · simp only [StableHlo.launchContents_devRef, a0, a1, a2, a3, a4, a5, a6]
    rfl

end Cert.Proof.SampAgree

end
-- ==== Proof.SampPostBlock.lean ====
/-
  THE SAMPLE GROUP'S POST-MIXER BLOCK. The kernel's body is the one of the prompt group, but for the attention's output: it comes
  1024 wide, with both key heads' values for every query head, against a branch matrix with as many rows. Where that product is the
  512 wide one, the block is the prompt group's block, so its rows are the same function of their tokens.
-/
module

public import proofs.«01_k».proof.Proof.PostBlock
public import proofs.«01_k».proof.Proof.Gen.Kernel5Ideal.Frame

@[expose] public section

noncomputable section

namespace Cert.Proof.SampPostBlock

open Idealize.ShloMosaic Cert.Rows Cert.Kernel5Ideal Cert.Kernel5Ideal.Gen

theorem pay1_same : @k0_pay1 Ideal _ = @Cert.Kernel2Ideal.Gen.k0_pay1 Ideal _ := rfl
theorem pay4_same : @k0_pay4 Ideal _ = @Cert.Kernel2Ideal.Gen.k0_pay4 Ideal _ := rfl
theorem pay5_same : @k0_pay5 Ideal _ = @Cert.Kernel2Ideal.Gen.k0_pay5 Ideal _ := rfl
theorem pay6_same : @k0_pay6 Ideal _ = @Cert.Kernel2Ideal.Gen.k0_pay6 Ideal _ := rfl
theorem pay7_same : @k0_pay7 Ideal _ = @Cert.Kernel2Ideal.Gen.k0_pay7 Ideal _ := rfl
theorem pay9_same : @k0_pay9 Ideal _ = @Cert.Kernel2Ideal.Gen.k0_pay9 Ideal _ := rfl
theorem pay10_same : @k0_pay10 Ideal _ = @Cert.Kernel2Ideal.Gen.k0_pay10 Ideal _ := rfl
theorem pay11_same : @k0_pay11 Ideal _ = @Cert.Kernel2Ideal.Gen.k0_pay11 Ideal _ := rfl
theorem pay12_same : @k0_pay12 Ideal _ = @Cert.Kernel2Ideal.Gen.k0_pay12 Ideal _ := rfl
theorem pay13_same : @k0_pay13 Ideal _ = @Cert.Kernel2Ideal.Gen.k0_pay13 Ideal _ := rfl
theorem pay14_same : @k0_pay14 Ideal _ = @Cert.Kernel2Ideal.Gen.k0_pay14 Ideal _ := rfl
theorem pay16_same : @k0_pay16 Ideal _ = @Cert.Kernel2Ideal.Gen.k0_pay16 Ideal _ := rfl
theorem pay2_same (v : Vec Ideal S512x1024 .f32) : k0_pay2 (F := Ideal) v = Cert.Kernel2Ideal.Gen.k0_pay2 (F := Ideal) v := rfl
theorem pay8_same (v : Vec Ideal S1024x256 .bf16) : k0_pay8 (F := Ideal) v = Cert.Kernel2Ideal.Gen.k0_pay8 (F := Ideal) v := rfl
theorem pay15_same (v : Vec Ideal S1x1024 .f32) : k0_pay15 (F := Ideal) v = Cert.Kernel2Ideal.Gen.k0_pay15 (F := Ideal) v := rfl

theorem rows_ext (A B : FVec Ideal S512x1024 .f32) (h : ∀ r, row (M := 512) (N := 1024) (φ := .f32) A r = row (M := 512) (N := 1024) (φ := .f32) B r) : A = B :=
  funext fun y => (at_of_row (M := 512) (N := 1024) (φ := .f32) A y (y 0) (y 1) _ (h (y 0)) rfl rfl).trans
    (at_of_row (M := 512) (N := 1024) (φ := .f32) B y (y 0) (y 1) _ rfl rfl rfl).symm

theorem mm (r : Fin 512) (a : FVec Ideal S512x1024 .bf16) (b : FVec Ideal S1024x1024 .bf16) :
    row (matmul dot_S512x1024_S1024x1024_S512x1024_1_0_0_1_n_n none a b (constant (F := Ideal) S512x1024 .f32 0x00000000#32)) r = mv (row a r) (mat b) :=
  row_matmul _ rfl _ a b r

/-- The gated mix, where the two attention products agree in every row. -/
theorem pay3_same (v0 : Vec Ideal S512x1024 .f32) (v2 : Vec Ideal S1x1024 .f32) (v17 : Vec Ideal S1024x2048 .bf16)
    (v21 : Vec Ideal S512x1024 .bf16) (v23 : Vec Ideal S1024x1024 .bf16) (v26 : Vec Ideal S512x512 .f32)
    (v29 : Vec Ideal S512x1024 .bf16) (u21 : Vec Ideal S512x512 .bf16) (u23 : Vec Ideal S512x1024 .bf16)
    (h : ∀ r, mv (row (M := 512) (N := 1024) (φ := .bf16) v21 r) (mat (M := 1024) (N := 1024) (φ := .bf16) v23)
      = mv (row (M := 512) (N := 512) (φ := .bf16) u21 r) (mat (M := 512) (N := 1024) (φ := .bf16) u23)) :
    k0_pay3 (F := Ideal) v0 v2 v17 v21 v23 v26 v29 = Cert.Kernel2Ideal.Gen.k0_pay3 (F := Ideal) v0 v2 v17 u21 u23 v26 v29 := by
  have e : (matmul dot_S512x1024_S1024x1024_S512x1024_1_0_0_1_n_n none (shapeCast S512x1024 v21 shapeCasts_S512x1024_S512x1024 : FVec Ideal S512x1024 .bf16)
        (shapeCast S1024x1024 v23 shapeCasts_S1024x1024_S1024x1024 : FVec Ideal S1024x1024 .bf16) (constant (F := Ideal) S512x1024 .f32 0x00000000#32) : FVec Ideal S512x1024 .f32)
      = matmul Cert.Kernel2Ideal.dot_S512x512_S512x1024_S512x1024_1_0_0_1_n_n none (shapeCast S512x512 u21 Cert.Kernel2Ideal.Gen.shapeCasts_S512x512_S512x512 : FVec Ideal S512x512 .bf16)
        (shapeCast S512x1024 u23 Cert.Kernel2Ideal.Gen.shapeCasts_S512x1024_S512x1024 : FVec Ideal S512x1024 .bf16) (constant (F := Ideal) S512x1024 .f32 0x00000000#32) := by
    refine rows_ext _ _ fun r => (mm r _ _).trans (Eq.trans ?_ (PostBlock.mm4 _ _ r).symm)
    simp only [row_shapeCast, mat_shapeCast]
    exact h r
  unfold k0_pay3 Cert.Kernel2Ideal.Gen.k0_pay3
  dsimp only
  rw [e, pay2_same]
  rfl

/-- The stored block, likewise. -/
theorem out_same (x0 : Vec Ideal S512x1024 .f32) (x1 : Vec Ideal S512x1024 .bf16) (x2 : Vec Ideal S512x512 .f32) (x3 : Vec Ideal S512x256 .f32) (x4 : Vec Ideal S1x1024 .f32) (x5 : Vec Ideal S1024x2048 .bf16) (x6 : Vec Ideal S1024x1024 .bf16) (x7 : Vec Ideal S512x1024 .bf16) (x8 : Vec Ideal S1024x1024 .bf16) (x9 : Vec Ideal S1x1024 .f32) (x10 : Vec Ideal S1024x2816 .bf16) (x11 : Vec Ideal S1024x2816 .bf16) (x12 : Vec Ideal S2816x1024 .bf16) (x13 : Vec Ideal S1x1024 .f32) (x14 : Vec Ideal S1024x1024 .bf16) (x15 : Vec Ideal S256x1024 .bf16) (x16 : Vec Ideal S1x1024 .f32)
    (u1 : Vec Ideal S512x512 .bf16) (u6 : Vec Ideal S512x1024 .bf16)
    (h : ∀ r, mv (row (M := 512) (N := 1024) (φ := .bf16) x1 r) (mat (M := 1024) (N := 1024) (φ := .bf16) x6)
      = mv (row (M := 512) (N := 512) (φ := .bf16) u1 r) (mat (M := 512) (N := 1024) (φ := .bf16) u6)) :
    out0_17 (F := Ideal) x0 x1 x2 x3 x4 x5 x6 x7 x8 x9 x10 x11 x12 x13 x14 x15 x16
      = Cert.Kernel2Ideal.Gen.out0_17 (F := Ideal) x0 u1 x2 x3 x4 x5 u6 x7 x8 x9 x10 x11 x12 x13 x14 x15 x16 := by
  have e : k0_pay3 (F := Ideal) (View.ld x0 r0_0) (View.ld x4 r0_1) (View.ld x5 r0_2) (View.ld x1 r0_0) (View.ld x6 r0_3) (View.ld x2 r0_4) (View.ld x7 r0_0)
      = Cert.Kernel2Ideal.Gen.k0_pay3 (F := Ideal) (View.ld x0 r0_0) (View.ld x4 r0_1) (View.ld x5 r0_2) u1 u6 (View.ld x2 r0_4) (View.ld x7 r0_0) := by
    refine pay3_same _ _ _ _ _ _ _ u1 u6 ?_
    rw [View.ld_unit_zero (S := S512x1024) PostBlock.zero2 _ x1, View.ld_unit_zero (S := S1024x1024) PostBlock.zero2 _ x6]
    exact h
  unfold out0_17 k0_pay22 k0_pay21 k0_pay20 k0_pay19 k0_pay18 k0_pay17
    Cert.Kernel2Ideal.Gen.out0_17 Cert.Kernel2Ideal.Gen.k0_pay22 Cert.Kernel2Ideal.Gen.k0_pay21 Cert.Kernel2Ideal.Gen.k0_pay20
    Cert.Kernel2Ideal.Gen.k0_pay19 Cert.Kernel2Ideal.Gen.k0_pay18 Cert.Kernel2Ideal.Gen.k0_pay17
  rw [e, PostBlock.whole3 u1, PostBlock.whole0 u6, pay1_same, pay4_same, pay5_same, pay6_same, pay7_same, pay9_same, pay10_same, pay11_same, pay12_same, pay13_same,
    pay14_same, pay16_same]
  rfl

/-- A row of the stored block is the post-mixer's function of that row's inputs. -/
theorem block_row (x0 : Vec Ideal S512x1024 .f32) (x1 : Vec Ideal S512x1024 .bf16) (x2 : Vec Ideal S512x512 .f32) (x3 : Vec Ideal S512x256 .f32) (x4 : Vec Ideal S1x1024 .f32) (x5 : Vec Ideal S1024x2048 .bf16) (x6 : Vec Ideal S1024x1024 .bf16) (x7 : Vec Ideal S512x1024 .bf16) (x8 : Vec Ideal S1024x1024 .bf16) (x9 : Vec Ideal S1x1024 .f32) (x10 : Vec Ideal S1024x2816 .bf16) (x11 : Vec Ideal S1024x2816 .bf16) (x12 : Vec Ideal S2816x1024 .bf16) (x13 : Vec Ideal S1x1024 .f32) (x14 : Vec Ideal S1024x1024 .bf16) (x15 : Vec Ideal S256x1024 .bf16) (x16 : Vec Ideal S1x1024 .f32)
    (u1 : Vec Ideal S512x512 .bf16) (u6 : Vec Ideal S512x1024 .bf16)
    (h : ∀ r, mv (row (M := 512) (N := 1024) (φ := .bf16) x1 r) (mat (M := 1024) (N := 1024) (φ := .bf16) x6)
      = mv (row (M := 512) (N := 512) (φ := .bf16) u1 r) (mat (M := 512) (N := 1024) (φ := .bf16) u6)) (r : Fin 512) :
    row (M := 512) (N := 1024) (φ := .f32) (out0_17 (F := Ideal) x0 x1 x2 x3 x4 x5 x6 x7 x8 x9 x10 x11 x12 x13 x14 x15 x16) r
      = postRow (row (φ := .f32) x0 r) (row (φ := .bf16) u1 r) (row (φ := .f32) x2 r) (row (φ := .f32) x3 r) (row (φ := .f32) x4 0) (mat (φ := .bf16) x5) (mat (φ := .bf16) u6) (mat (φ := .bf16) x7) (mat (φ := .bf16) x8) (row (φ := .f32) x9 0) (mat (φ := .bf16) x10) (mat (φ := .bf16) x11)
        (mat (φ := .bf16) x12) (row (φ := .f32) x13 0) (mat (φ := .bf16) x14) (mat (φ := .bf16) x15) (row (φ := .f32) x16 0) := by
  rw [out_same x0 x1 x2 x3 x4 x5 x6 x7 x8 x9 x10 x11 x12 x13 x14 x15 x16 u1 u6 h]
  exact PostBlock.block_row x0 u1 x2 x3 x4 x5 u6 x7 x8 x9 x10 x11 x12 x13 x14 x15 x16 r

end Cert.Proof.SampPostBlock

end
-- ==== Proof.SampPostLay.lean ====
/-
  THE ATTENTION'S OUTPUT WITH BOTH KEY HEADS' HALVES. The sample group's attention leaves, for each of the 8 query heads, one row of
  64 for each of the 2 key heads; only the head's own key head (the first for heads 0 to 3, the second for the rest) is wanted. The
  kernel multiplies all 1024 numbers with a matrix whose unwanted rows are zero, so the product is the one over the 512 wanted.
-/
module

public import proofs.«01_k».proof.Proof.SampLay

@[expose] public section

noncomputable section

namespace Cert.Proof.SampPostLay

open Idealize.ShloMosaic Cert.Rows

/-- Every head's own key head's row, one after the other. -/
def attn (x : FVec Ideal ⟨5, ![128, 4, 8, 2, 64]⟩ .f32) (b : Fin 128) (s : Fin 4) : Fin 512 → EReal := fun j =>
  x (ValueIdx.ix5 b s ⟨j.val / 64, by omega⟩ ⟨j.val / 64 / 4, by omega⟩ ⟨j.val % 64, by omega⟩)

/-- All heads' rows for both key heads. -/
def wide (x : FVec Ideal ⟨5, ![128, 4, 8, 2, 64]⟩ .f32) (b : Fin 128) (s : Fin 4) : Fin 1024 → EReal := fun J =>
  x (ValueIdx.ix5 b s ⟨J.val / 128, by omega⟩ ⟨J.val / 64 % 2, by omega⟩ ⟨J.val % 64, by omega⟩)

/-- The weights' rows for both key heads, zero where the key head is not the head's own. -/
def padded (w : Fin 512 → Fin 1024 → EReal) : Fin 1024 → Fin 1024 → EReal := fun J k =>
  w ⟨J.val / 128 * 64 + J.val % 64, by omega⟩ k * (if J.val / 64 % 2 = J.val / 128 / 4 then 1 else 0)

/-- Where a head's own row lies among all heads' rows for both key heads. -/
theorem place (a p : ℕ) (ha : a < 8) (hp : p < 64) :
    (a * 128 + a / 4 * 64 + p) / 128 = a ∧ (a * 128 + a / 4 * 64 + p) / 64 % 2 = a / 4 ∧ (a * 128 + a / 4 * 64 + p) % 64 = p := by
  interval_cases a <;> omega

/-- The product over both key heads is the product over each head's own. -/
theorem mv_padded (x : FVec Ideal ⟨5, ![128, 4, 8, 2, 64]⟩ .f32) (b : Fin 128) (s : Fin 4) (w : Fin 512 → Fin 1024 → EReal) :
    mv (wide x b s) (padded w) = mv (attn x b s) w := by
  funext k
  show ∑ J : Fin 1024, wide x b s J * (w _ k * (if J.val / 64 % 2 = J.val / 128 / 4 then 1 else 0)) = ∑ j : Fin 512, attn x b s j * w j k
  simp only [mul_ite, mul_one, mul_zero]
  rw [← Finset.sum_filter]
  refine Finset.sum_bij' (fun J _ => (⟨J.val / 128 * 64 + J.val % 64, by omega⟩ : Fin 512))
    (fun j _ => (⟨j.val / 64 * 128 + j.val / 64 / 4 * 64 + j.val % 64, by omega⟩ : Fin 1024)) (fun _ _ => Finset.mem_univ _) (fun j _ => ?_)
    (fun J hJ => ?_) (fun j _ => ?_) (fun J hJ => ?_)
  · simp only [Finset.mem_filter, Finset.mem_univ, true_and]
    obtain ⟨h1, h2, -⟩ := place (j.val / 64) (j.val % 64) (by omega) (by omega)
    rw [h1, h2]
  · simp only [Finset.mem_filter, Finset.mem_univ, true_and] at hJ
    have e : (J.val / 128 * 64 + J.val % 64) / 64 = J.val / 128 := by omega
    have e' : (J.val / 128 * 64 + J.val % 64) % 64 = J.val % 64 := by omega
    refine Fin.ext ?_
    show (J.val / 128 * 64 + J.val % 64) / 64 * 128 + (J.val / 128 * 64 + J.val % 64) / 64 / 4 * 64 + (J.val / 128 * 64 + J.val % 64) % 64 = J.val
    rw [e, e', ← hJ]
    omega
  · obtain ⟨h1, -, h3⟩ := place (j.val / 64) (j.val % 64) (by omega) (by omega)
    refine Fin.ext ?_
    show (j.val / 64 * 128 + j.val / 64 / 4 * 64 + j.val % 64) / 128 * 64 + (j.val / 64 * 128 + j.val / 64 / 4 * 64 + j.val % 64) % 64 = j.val
    rw [h1, h3]
    omega
  · simp only [Finset.mem_filter, Finset.mem_univ, true_and] at hJ
    refine congrArg (· * _) (congrArg x ?_)
    have e : (J.val / 128 * 64 + J.val % 64) / 64 = J.val / 128 := by omega
    have e' : (J.val / 128 * 64 + J.val % 64) % 64 = J.val % 64 := by omega
    simp only [e, e', hJ]

/-- The host's reshape of the attention's output, one row for each token. -/
theorem wide_at (x : FVec Ideal ⟨5, ![128, 4, 8, 2, 64]⟩ .f32) (h : (⟨5, ![128, 4, 8, 2, 64]⟩ : Shape).ShapeCasts ⟨2, ![512, 1024]⟩)
    (i : (⟨2, ![512, 1024]⟩ : Shape).Idx) (b : Fin 128) (s : Fin 4) (J : Fin 1024) (h0 : (i 0).val = b.val * 4 + s.val) (h1 : (i 1).val = J.val) :
    shapeCast ⟨2, ![512, 1024]⟩ x h i = wide x b s J := by
  refine shapeCast_apply x h i _ ?_
  rw [Shape.rowMajor_val_five, Shape.rowMajor_val_two, h0, h1]
  show (((b.val * 4 + s.val) * 8 + J.val / 128) * 2 + J.val / 64 % 2) * 64 + J.val % 64 = (b.val * 4 + s.val) * 1024 + J.val
  omega

/-- The host's padding of the weights by the table of the heads' key heads. -/
theorem padded_at (w : FVec Ideal ⟨2, ![512, 1024]⟩ .f32) (e : FVec Ideal ⟨2, ![8, 2]⟩ .f32) (h1 h2 h3 h4 h5) (hb : FTy.bits .bf16 < FTy.bits .f32)
    (he : ∀ (h : Fin 8) (q : Fin 2), e (ValueIdx.ix2 h q) = if q.val = h.val / 4 then 1 else 0)
    (i : (⟨2, ![1024, 1024]⟩ : Shape).Idx) (J k : Fin 1024) (i0 : (i 0).val = J.val) (i1 : (i 1).val = k.val) :
    truncf (F := Ideal) .bf16 (shapeCast (⟨2, ![1024, 1024]⟩ : Shape) (mulf (broadcastInDim (⟨4, ![8, 2, 64, 1024]⟩ : Shape) ![0, 1, 2, 3] h2
        (shapeCast (⟨4, ![8, 1, 64, 1024]⟩ : Shape) w h1))
      (broadcastInDim (⟨4, ![8, 2, 64, 1024]⟩ : Shape) ![0, 1, 2, 3] h4 (broadcastInDim (⟨4, ![8, 2, 1, 1]⟩ : Shape) ![0, 1] h3 e))) h5 : FVec Ideal ⟨2, ![1024, 1024]⟩ .f32) hb i
      = padded (mat w) J k := by
  let h : Fin 8 := ⟨J.val / 128, by omega⟩
  let q : Fin 2 := ⟨J.val / 64 % 2, by omega⟩
  let p : Fin 64 := ⟨J.val % 64, by omega⟩
  refine (InIn.truncf_at _ hb i).trans ?_
  refine (shapeCast_apply _ h5 i (ValueIdx.ix4 h q p k) ?_).trans (congrArg₂ (· * ·) ?_ ?_)
  · rw [Shape.rowMajor_val_four, Shape.rowMajor_val_two, i0, i1]
    show ((J.val / 128 * 2 + J.val / 64 % 2) * 64 + J.val % 64) * 1024 + k.val = J.val * 1024 + k.val
    omega
  · refine (broadcastInDim_apply _ h2 _ (ValueIdx.ix4 h q p k) (ValueIdx.ix4 h 0 p k) fun a => ?_).trans (shapeCast_apply _ h1 (ValueIdx.ix4 h 0 p k) (ValueIdx.ix2 ⟨J.val / 128 * 64 + J.val % 64, by omega⟩ k) ?_)
    · match a with
      | ⟨0, _⟩ => rfl
      | ⟨1, _⟩ => rfl
      | ⟨2, _⟩ => rfl
      | ⟨3, _⟩ => rfl
    · rw [Shape.rowMajor_val_four, Shape.rowMajor_val_two]
      show (J.val / 128 * 64 + J.val % 64) * 1024 + k.val = ((J.val / 128 * 1 + 0) * 64 + J.val % 64) * 1024 + k.val
      omega
  · refine ((broadcastInDim_apply _ h4 _ (ValueIdx.ix4 h q p k) (ValueIdx.ix4 h q 0 0) fun a => ?_).trans (broadcastInDim_apply _ h3 e _ (ValueIdx.ix2 h q) fun a => ?_)).trans (he h q)
    · match a with
      | ⟨0, _⟩ => rfl
      | ⟨1, _⟩ => rfl
      | ⟨2, _⟩ => rfl
      | ⟨3, _⟩ => rfl
    · match a with
      | ⟨0, _⟩ => rfl
      | ⟨1, _⟩ => rfl

/-! ## The layer's function of a token -/

variable (x0 : FVec Ideal ⟨3, ![128, 4, 1024]⟩ .f32) (x1 : FVec Ideal ⟨5, ![128, 4, 8, 2, 64]⟩ .f32) (x2 : FVec Ideal ⟨3, ![128, 4, 512]⟩ .f32)
  (x3 : FVec Ideal ⟨3, ![128, 4, 256]⟩ .f32) (x4 : FVec Ideal ⟨1, ![1024]⟩ .f32) (x5 : FVec Ideal ⟨2, ![1024, 3864]⟩ .f32)
  (x6 x7 : FVec Ideal ⟨2, ![512, 1024]⟩ .f32) (x8 : FVec Ideal ⟨2, ![1024, 1024]⟩ .f32) (x9 : FVec Ideal ⟨1, ![1024]⟩ .f32)
  (x10 x11 : FVec Ideal ⟨2, ![1024, 2816]⟩ .f32) (x12 : FVec Ideal ⟨2, ![2816, 1024]⟩ .f32) (x13 : FVec Ideal ⟨1, ![1024]⟩ .f32)
  (x14 : FVec Ideal ⟨2, ![1024, 1024]⟩ .f32) (x15 : FVec Ideal ⟨2, ![256, 1024]⟩ .f32) (x16 : FVec Ideal ⟨1, ![1024]⟩ .f32) (b : Fin 128) (s : Fin 4)

/-- The second half of the layer at a token. -/
def postR : Fin 1024 → EReal :=
  postRow (row3 x0 b s) (attn x1 b s) (row3 x2 b s) (row3 x3 b s) (vec x4) (cols 1816 (by decide) (mat x5)) (mat x6) (mat x7) (mat x8) (vec x9)
    (mat x10) (mat x11) (mat x12) (vec x13) (mat x14) (mat x15) (vec x16)

end Cert.Proof.SampPostLay

end
-- ==== Proof.SampPostIn.lean ====
/-
  THE SECOND HALF OF THE SAMPLE GROUP'S LAYER: ITS BLOCKS READ OFF ITS ARGUMENTS. The grid is one point: every window is a whole
  array. The attention's output reaches the kernel with both key heads' rows, and its weights with zero rows for the unwanted ones.
-/
module

public import proofs.«01_k».proof.Proof.SampPostBlock
public import proofs.«01_k».proof.Proof.SampPostLay
public import Idealize.ShloMosaic.Lib.Pipeline.ValueKit
public import Idealize.ShloMosaic.Lib.StableHlo.RunRead

@[expose] public section

noncomputable section

namespace Cert.Proof.SampPostIn

open Idealize.ShloMosaic Idealize.SL.Sem Cert.Rows Cert.Kernel5Ideal Cert.Kernel5Ideal.Gen
open Idealize.ShloMosaic.TcCoe Cert.Proof.SampPostLay

variable (m : (ℓ : Loc nD τ sig) → Buf (Elt Ideal) ℓ) (c : Dev nD)

/-- Every window's one block starts at the origin. -/
theorem idx_facts : ∀ t : Fin cfg0.N,
    (win0_0.index t (0 : Fin 2) = 0 ∧ win0_0.index t (1 : Fin 2) = 0) ∧
    (win0_1.index t (0 : Fin 2) = 0 ∧ win0_1.index t (1 : Fin 2) = 0) ∧
    (win0_2.index t (0 : Fin 2) = 0 ∧ win0_2.index t (1 : Fin 2) = 0) ∧
    (win0_3.index t (0 : Fin 2) = 0 ∧ win0_3.index t (1 : Fin 2) = 0) ∧
    (win0_4.index t (0 : Fin 2) = 0 ∧ win0_4.index t (1 : Fin 2) = 0) ∧
    (win0_5.index t (0 : Fin 2) = 0 ∧ win0_5.index t (1 : Fin 2) = 0) ∧
    (win0_6.index t (0 : Fin 2) = 0 ∧ win0_6.index t (1 : Fin 2) = 0) ∧
    (win0_7.index t (0 : Fin 2) = 0 ∧ win0_7.index t (1 : Fin 2) = 0) ∧
    (win0_8.index t (0 : Fin 2) = 0 ∧ win0_8.index t (1 : Fin 2) = 0) ∧
    (win0_9.index t (0 : Fin 2) = 0 ∧ win0_9.index t (1 : Fin 2) = 0) ∧
    (win0_10.index t (0 : Fin 2) = 0 ∧ win0_10.index t (1 : Fin 2) = 0) ∧
    (win0_11.index t (0 : Fin 2) = 0 ∧ win0_11.index t (1 : Fin 2) = 0) ∧
    (win0_12.index t (0 : Fin 2) = 0 ∧ win0_12.index t (1 : Fin 2) = 0) ∧
    (win0_13.index t (0 : Fin 2) = 0 ∧ win0_13.index t (1 : Fin 2) = 0) ∧
    (win0_14.index t (0 : Fin 2) = 0 ∧ win0_14.index t (1 : Fin 2) = 0) ∧
    (win0_15.index t (0 : Fin 2) = 0 ∧ win0_15.index t (1 : Fin 2) = 0) ∧
    (win0_16.index t (0 : Fin 2) = 0 ∧ win0_16.index t (1 : Fin 2) = 0) ∧
    (win0_17.index t (0 : Fin 2) = 0 ∧ win0_17.index t (1 : Fin 2) = 0) :=
  (by decide +kernel : ∀ t : Fin grid0.N, _)

/-! ## The tokens' rows -/

section Tokens

variable (t : Fin cfg0.N) (r : Fin 512) (b : Fin 128) (s : Fin 4) (h : b.val * 4 + s.val = r.val)

include h in
theorem iblk0 : row (M := 512) (N := 1024) (φ := .f32) (iblk m c 0 t) r = row3 (B := 128) (T := 4) (N := 1024) (φ := .f32) (m ((c : Thread nD τ).loc main_arg0)) b s := by
  obtain ⟨⟨h0, h1⟩, -⟩ := idx_facts t
  funext j
  unfold row row3
  blk_simp [iblk]
  entry_read
  exact shapeCast_flat _ _ _ b s j (by blk_simp [h0]; exact h.symm) (by blk_simp [h1])

include h in
theorem iblk2 : row (M := 512) (N := 512) (φ := .f32) (iblk m c 2 t) r = row3 (B := 128) (T := 4) (N := 512) (φ := .f32) (m ((c : Thread nD τ).loc main_arg2)) b s := by
  obtain ⟨-, -, ⟨h0, h1⟩, -⟩ := idx_facts t
  funext j
  unfold row row3
  blk_simp [iblk]
  entry_read
  exact shapeCast_flat _ _ _ b s j (by blk_simp [h0]; exact h.symm) (by blk_simp [h1])

include h in
theorem iblk3 : row (M := 512) (N := 256) (φ := .f32) (iblk m c 3 t) r = row3 (B := 128) (T := 4) (N := 256) (φ := .f32) (m ((c : Thread nD τ).loc main_arg3)) b s := by
  obtain ⟨-, -, -, ⟨h0, h1⟩, -⟩ := idx_facts t
  funext j
  unfold row row3
  blk_simp [iblk]
  entry_read
  exact shapeCast_flat _ _ _ b s j (by blk_simp [h0]; exact h.symm) (by blk_simp [h1])

include h in
theorem iblk1 : row (M := 512) (N := 1024) (φ := .bf16) (iblk m c 1 t) r = wide (m ((c : Thread nD τ).loc main_arg1)) b s := by
  obtain ⟨-, ⟨h0, h1⟩, -⟩ := idx_facts t
  funext j
  unfold row
  blk_simp [iblk]
  entry_read
  exact wide_at _ _ _ b s j (by blk_simp [h0]; exact h.symm) (by blk_simp [h1])

end Tokens

/-! ## The weights -/

variable (t : Fin cfg0.N)

theorem iblk4 : row (M := 1) (N := 1024) (φ := .f32) (iblk m c 4 t) 0 = vec (N := 1024) (φ := .f32) (m ((c : Thread nD τ).loc main_arg4)) := by
  obtain ⟨-, -, -, -, ⟨h0, h1⟩, -⟩ := idx_facts t
  funext j
  unfold row vec
  blk_simp [iblk]
  entry_read
  exact shapeCast_vec _ _ _ j (by blk_simp [h1])

theorem iblk9 : row (M := 1) (N := 1024) (φ := .f32) (iblk m c 9 t) 0 = vec (N := 1024) (φ := .f32) (m ((c : Thread nD τ).loc main_arg9)) := by
  obtain ⟨-, -, -, -, -, -, -, -, -, ⟨h0, h1⟩, -⟩ := idx_facts t
  funext j
  unfold row vec
  blk_simp [iblk]
  entry_read
  exact shapeCast_vec _ _ _ j (by blk_simp [h1])

theorem iblk13 : row (M := 1) (N := 1024) (φ := .f32) (iblk m c 13 t) 0 = vec (N := 1024) (φ := .f32) (m ((c : Thread nD τ).loc main_arg13)) := by
  obtain ⟨-, -, -, -, -, -, -, -, -, -, -, -, -, ⟨h0, h1⟩, -⟩ := idx_facts t
  funext j
  unfold row vec
  blk_simp [iblk]
  entry_read
  exact shapeCast_vec _ _ _ j (by blk_simp [h1])

theorem iblk16 : row (M := 1) (N := 1024) (φ := .f32) (iblk m c 16 t) 0 = vec (N := 1024) (φ := .f32) (m ((c : Thread nD τ).loc main_arg16)) := by
  obtain ⟨-, -, -, -, -, -, -, -, -, -, -, -, -, -, -, -, ⟨h0, h1⟩, -⟩ := idx_facts t
  funext j
  unfold row vec
  blk_simp [iblk]
  entry_read
  exact shapeCast_vec _ _ _ j (by blk_simp [h1])

theorem iblk7 : mat (M := 512) (N := 1024) (φ := .bf16) (iblk m c 7 t) = mat (M := 512) (N := 1024) (φ := .f32) (m ((c : Thread nD τ).loc main_arg7)) := by
  obtain ⟨-, -, -, -, -, -, -, ⟨h0, h1⟩, -⟩ := idx_facts t
  funext i j
  unfold mat
  blk_simp [iblk]
  entry_read
  exact congrArg (m ((c : Thread nD τ).loc main_arg7)) (by blk_ext [h0, h1])

theorem iblk8 : mat (M := 1024) (N := 1024) (φ := .bf16) (iblk m c 8 t) = mat (M := 1024) (N := 1024) (φ := .f32) (m ((c : Thread nD τ).loc main_arg8)) := by
  obtain ⟨-, -, -, -, -, -, -, -, ⟨h0, h1⟩, -⟩ := idx_facts t
  funext i j
  unfold mat
  blk_simp [iblk]
  entry_read
  exact congrArg (m ((c : Thread nD τ).loc main_arg8)) (by blk_ext [h0, h1])

theorem iblk10 : mat (M := 1024) (N := 2816) (φ := .bf16) (iblk m c 10 t) = mat (M := 1024) (N := 2816) (φ := .f32) (m ((c : Thread nD τ).loc main_arg10)) := by
  obtain ⟨-, -, -, -, -, -, -, -, -, -, ⟨h0, h1⟩, -⟩ := idx_facts t
  funext i j
  unfold mat
  blk_simp [iblk]
  entry_read
  exact congrArg (m ((c : Thread nD τ).loc main_arg10)) (by blk_ext [h0, h1])

theorem iblk11 : mat (M := 1024) (N := 2816) (φ := .bf16) (iblk m c 11 t) = mat (M := 1024) (N := 2816) (φ := .f32) (m ((c : Thread nD τ).loc main_arg11)) := by
  obtain ⟨-, -, -, -, -, -, -, -, -, -, -, ⟨h0, h1⟩, -⟩ := idx_facts t
  funext i j
  unfold mat
  blk_simp [iblk]
  entry_read
  exact congrArg (m ((c : Thread nD τ).loc main_arg11)) (by blk_ext [h0, h1])

theorem iblk12 : mat (M := 2816) (N := 1024) (φ := .bf16) (iblk m c 12 t) = mat (M := 2816) (N := 1024) (φ := .f32) (m ((c : Thread nD τ).loc main_arg12)) := by
  obtain ⟨-, -, -, -, -, -, -, -, -, -, -, -, ⟨h0, h1⟩, -⟩ := idx_facts t
  funext i j
  unfold mat
  blk_simp [iblk]
  entry_read
  exact congrArg (m ((c : Thread nD τ).loc main_arg12)) (by blk_ext [h0, h1])

theorem iblk14 : mat (M := 1024) (N := 1024) (φ := .bf16) (iblk m c 14 t) = mat (M := 1024) (N := 1024) (φ := .f32) (m ((c : Thread nD τ).loc main_arg14)) := by
  obtain ⟨-, -, -, -, -, -, -, -, -, -, -, -, -, -, ⟨h0, h1⟩, -⟩ := idx_facts t
  funext i j
  unfold mat
  blk_simp [iblk]
  entry_read
  exact congrArg (m ((c : Thread nD τ).loc main_arg14)) (by blk_ext [h0, h1])

theorem iblk15 : mat (M := 256) (N := 1024) (φ := .bf16) (iblk m c 15 t) = mat (M := 256) (N := 1024) (φ := .f32) (m ((c : Thread nD τ).loc main_arg15)) := by
  obtain ⟨-, -, -, -, -, -, -, -, -, -, -, -, -, -, -, ⟨h0, h1⟩, -⟩ := idx_facts t
  funext i j
  unfold mat
  blk_simp [iblk]
  entry_read
  exact congrArg (m ((c : Thread nD τ).loc main_arg15)) (by blk_ext [h0, h1])

theorem iblk5 : mat (M := 1024) (N := 2048) (φ := .bf16) (iblk m c 5 t) = cols 1816 (by decide) (mat (M := 1024) (N := 3864) (φ := .f32) (m ((c : Thread nD τ).loc main_arg5))) := by
  obtain ⟨-, -, -, -, -, ⟨h0, h1⟩, -⟩ := idx_facts t
  funext i j
  unfold mat cols
  blk_simp [iblk]
  entry_read
  exact slice_at 1816 _ slices_S1024x3864_S1024x2048_0_1816 _ i ⟨1816 + j.val, by omega⟩ (by blk_simp [h0]) (by blk_simp [h1])

/-- The table's words: one where the key head is the head's own. -/
theorem table (h : Fin 8) (q : Fin 2) : Ideal.ofBits .f32 (lit0 (S8x2.rowMajor (ValueIdx.ix2 h q))) = if q.val = h.val / 4 then 1 else 0 := by
  have e : lit0 (S8x2.rowMajor (ValueIdx.ix2 h q)) = if q.val = h.val / 4 then 0x3F800000#32 else 0#32 := by
    revert h q
    decide +kernel
  rw [e]
  split <;> simp

theorem iblk6 : mat (M := 1024) (N := 1024) (φ := .bf16) (iblk m c 6 t) = padded (mat (M := 512) (N := 1024) (φ := .f32) (m ((c : Thread nD τ).loc main_arg6))) := by
  obtain ⟨-, -, -, -, -, -, ⟨h0, h1⟩, -⟩ := idx_facts t
  funext i j
  unfold mat
  blk_simp [iblk]
  entry_read
  exact padded_at _ _ _ _ _ _ _ _ table _ i j (by blk_simp [h0]) (by blk_simp [h1])

end Cert.Proof.SampPostIn

end
-- ==== Proof.SampPostArray.lean ====
/-
  THE SECOND HALF OF THE SAMPLE GROUP'S LAYER: ITS RESULT ARRAY. The one point stores the result whole, one row for each token.
-/
module

public import proofs.«01_k».proof.Proof.SampPostIn
public import proofs.«01_k».proof.Proof.Gen.Kernel5Ideal.Value
public import Idealize.ShloMosaic.Lib.Pipeline.ValueKit

@[expose] public section

noncomputable section

namespace Cert.Proof.SampPostArray

open Idealize.ShloMosaic Idealize.SL.Sem Cert.Rows Cert.Kernel5Ideal Cert.Kernel5Ideal.Gen
open Idealize.ShloMosaic.TcCoe Cert.Proof.SampPostIn Cert.Proof.SampPostLay Cert.Proof.SampLay

variable (m : (ℓ : Loc nD τ sig) → Buf (Elt Ideal) ℓ) (c : Dev nD)

/-- Each token after the second half of the layer. -/
def outF : Fin 128 → Fin 4 → Fin 1024 → EReal :=
  postR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))

/-- A token's row of the layout. -/
theorem row_few {N : ℕ} (f : Fin 128 → Fin 4 → Fin N → EReal) (r : Fin 512) (b : Fin 128) (s : Fin 4) (h : b.val * 4 + s.val = r.val) :
    row (M := 512) (N := N) (φ := .bf16) (few f) r = f b s := by
  have e : (⟨r.val / 4, by omega⟩ : Fin 128) = b := Fin.ext (by show r.val / 4 = b.val; omega)
  have e' : (⟨r.val % 4, by omega⟩ : Fin 4) = s := Fin.ext (by show r.val % 4 = s.val; omega)
  exact congrArg₂ f e e'

/-- The attention's product at each token: over both key heads in the kernel, over each head's own in the layer. -/
theorem attention (t : Fin cfg0.N) (r : Fin 512) :
    mv (row (M := 512) (N := 1024) (φ := .bf16) (iblk m c 1 t) r) (mat (M := 1024) (N := 1024) (φ := .bf16) (iblk m c 6 t))
      = mv (row (M := 512) (N := 512) (φ := .bf16) (few (attn (m ((c : Thread nD τ).loc main_arg1)))) r) (mat (M := 512) (N := 1024) (φ := .bf16) (m ((c : Thread nD τ).loc main_arg6))) := by
  have e : (⟨r.val / 4, by omega⟩ : Fin 128).val * 4 + (⟨r.val % 4, by omega⟩ : Fin 4).val = r.val := by show r.val / 4 * 4 + r.val % 4 = r.val; omega
  rw [iblk1 m c t r _ _ e, iblk6, row_few _ r _ _ e, mv_padded]
  rfl

/-- A row of the block is the function of its token. -/
theorem block_out (t : Fin cfg0.N) (r : Fin 512) (b : Fin 128) (s : Fin 4) (e : b.val * 4 + s.val = r.val) :
    row (M := 512) (N := 1024) (φ := .f32) (out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) r = outF m c b s := by
  refine (SampPostBlock.block_row (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (few (attn (m ((c : Thread nD τ).loc main_arg1)))) (m ((c : Thread nD τ).loc main_arg6)) (attention m c t) r).trans ?_
  rw [iblk0 m c t r b s e, iblk2 m c t r b s e, iblk3 m c t r b s e, iblk4, iblk5, iblk7, iblk8, iblk9, iblk10, iblk11, iblk12, iblk13, iblk14, iblk15,
    iblk16, row_few _ r b s e]
  rfl

theorem final_out : (dats m 0 c).arrAt 17 cfg0.N = few (outF m c) := by
  refine (dats m 0 c).arrAt_eq_of_covers 17 _ (by decide +kernel) fun t hf y => ?_
  obtain ⟨-, -, -, -, -, -, -, -, -, -, -, -, -, -, -, -, -, ⟨h0, h1⟩⟩ := idx_facts t
  blk_simp
  rw [after0_17]
  have key := block_out m c t
  generalize out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) = X at key ⊢
  exact few_at X key y _ (by blk_simp [h0]) (by blk_simp [h1])

/-- The run: the result array holds its function of the tokens row under row, and the arguments end unchanged. -/
theorem run (ρ : Dev nD → PrngReg) : θ_run (defs (F := Ideal)) (onTc (τ := τ) (main (F := Ideal))) ⟨m, fun _ => 0, ρ⟩ (fun r => ∀ c : Dev nD,
    r.2.mem ((c : Thread nD τ).loc main_v25) = few (outF m c)
    ∧ r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) ∧ r.2.mem ((c : Thread nD τ).loc main_arg3) = m ((c : Thread nD τ).loc main_arg3) ∧ r.2.mem ((c : Thread nD τ).loc main_arg4) = m ((c : Thread nD τ).loc main_arg4) ∧ r.2.mem ((c : Thread nD τ).loc main_arg5) = m ((c : Thread nD τ).loc main_arg5) ∧ r.2.mem ((c : Thread nD τ).loc main_arg6) = m ((c : Thread nD τ).loc main_arg6) ∧ r.2.mem ((c : Thread nD τ).loc main_arg7) = m ((c : Thread nD τ).loc main_arg7) ∧ r.2.mem ((c : Thread nD τ).loc main_arg8) = m ((c : Thread nD τ).loc main_arg8) ∧ r.2.mem ((c : Thread nD τ).loc main_arg9) = m ((c : Thread nD τ).loc main_arg9) ∧ r.2.mem ((c : Thread nD τ).loc main_arg10) = m ((c : Thread nD τ).loc main_arg10) ∧ r.2.mem ((c : Thread nD τ).loc main_arg11) = m ((c : Thread nD τ).loc main_arg11) ∧ r.2.mem ((c : Thread nD τ).loc main_arg12) = m ((c : Thread nD τ).loc main_arg12) ∧ r.2.mem ((c : Thread nD τ).loc main_arg13) = m ((c : Thread nD τ).loc main_arg13) ∧ r.2.mem ((c : Thread nD τ).loc main_arg14) = m ((c : Thread nD τ).loc main_arg14) ∧ r.2.mem ((c : Thread nD τ).loc main_arg15) = m ((c : Thread nD τ).loc main_arg15) ∧ r.2.mem ((c : Thread nD τ).loc main_arg16) = m ((c : Thread nD τ).loc main_arg16)) :=
  (θ_run defs _ _).mono (fun r h c => ⟨(h c).1.trans (final_out m c), (h c).2⟩) (Value.run_blocks m ρ)

end Cert.Proof.SampPostArray

end
-- ==== Proof.SampPostRef.lean ====
/-
  THE SAMPLE GROUP'S REFERENCE SECOND HALF AT A TOKEN. Every array the reference forms holds, in each token's row, a function of that
  token's rows of the arguments; composed, they are `postRow`.
-/
module

public import proofs.«01_k».proof.Proof.HostRows
public import proofs.«01_k».proof.Proof.SampPostLay
public import proofs.«01_k».proof.Proof.Gen.Reference5Ideal.Read

@[expose] public section

noncomputable section

namespace Cert.Proof.SampPostRef

open Idealize.ShloMosaic Cert.Rows Cert.Reference5Ideal Cert.Reference5Ideal.Gen Cert.Reference5Ideal.Read Cert.Proof.SampLay Cert.Proof.SampPostLay

variable (x0 : (⟨S128x4x1024, .f32⟩ : BufTy).Contents (Elt Ideal)) (x1 : (⟨S128x4x8x2x64, .f32⟩ : BufTy).Contents (Elt Ideal))
  (x2 : (⟨S128x4x512, .f32⟩ : BufTy).Contents (Elt Ideal)) (x3 : (⟨S128x4x256, .f32⟩ : BufTy).Contents (Elt Ideal))
  (x4 : (⟨S1024, .f32⟩ : BufTy).Contents (Elt Ideal)) (x5 : (⟨S1024x3864, .f32⟩ : BufTy).Contents (Elt Ideal))
  (x6 x7 : (⟨S512x1024, .f32⟩ : BufTy).Contents (Elt Ideal)) (x8 : (⟨S1024x1024, .f32⟩ : BufTy).Contents (Elt Ideal))
  (x9 : (⟨S1024, .f32⟩ : BufTy).Contents (Elt Ideal)) (x10 x11 : (⟨S1024x2816, .f32⟩ : BufTy).Contents (Elt Ideal))
  (x12 : (⟨S2816x1024, .f32⟩ : BufTy).Contents (Elt Ideal)) (x13 : (⟨S1024, .f32⟩ : BufTy).Contents (Elt Ideal))
  (x14 : (⟨S1024x1024, .f32⟩ : BufTy).Contents (Elt Ideal)) (x15 : (⟨S256x1024, .f32⟩ : BufTy).Contents (Elt Ideal))
  (x16 : (⟨S1024, .f32⟩ : BufTy).Contents (Elt Ideal)) (b : Fin 128) (t : Fin 4)

/-- A token's row of an array with one row for each. -/
abbrev at3 {N : ℕ} (x : (⟨3, ![128, 4, N]⟩ : Shape).Idx → EReal) (b : Fin 128) (t : Fin 4) : Fin N → EReal :=
  row3 (B := 128) (T := 4) (N := N) (φ := .f32) x b t

/-! ## The attention's output -/

/-- Four query heads' rows of one key head. -/
theorem heads_at (o q : ℕ) (h1 : S128x4x8x2x64.Slices ![0, 0, o, q, 0] S128x4x4x1x64) (h2 : S128x4x4x1x64.ShapeCasts S128x4x4x64)
    (g : Fin 4) (p : Fin 64) (h : Fin 8) (k : Fin 2) (hg : h.val = o + g.val) (hk : k.val = q) :
    shapeCast S128x4x4x64 (extractStridedSlice S128x4x4x1x64 ![0, 0, o, q, 0] x1 h1) h2 (ValueIdx.ix4 b t g p) = x1 (ValueIdx.ix5 b t h k p) := by
  refine (shapeCast_apply _ h2 (ValueIdx.ix4 b t g p) (ValueIdx.ix5 b t g 0 p) ?_).trans
    (extractStridedSlice_apply _ x1 h1 (ValueIdx.ix5 b t g 0 p) (ValueIdx.ix5 b t h k p) fun a => ?_)
  · rw [Shape.rowMajor_val_four, Shape.rowMajor_val_five]
    show (((b.val * 4 + t.val) * 4 + g.val) * 1 + 0) * 64 + p.val = ((b.val * 4 + t.val) * 4 + g.val) * 64 + p.val
    omega
  · match a with
    | ⟨0, _⟩ => exact (Nat.zero_add _).symm
    | ⟨1, _⟩ => exact (Nat.zero_add _).symm
    | ⟨2, _⟩ => exact hg
    | ⟨3, _⟩ => exact hk
    | ⟨4, _⟩ => exact (Nat.zero_add _).symm

/-- The heads' rows, four of each key head. -/
theorem both_at (h : Fin 8) (p : Fin 64) : val_main_v4 (F := Ideal) x1 (ValueIdx.ix4 b t h p) = x1 (ValueIdx.ix5 b t h ⟨h.val / 4, by omega⟩ p) := by
  by_cases hh : h.val < 4
  · refine (concatenate_apply_piece (t := S128x4x8x64) (2 : Fin 4) [⟨S128x4x4x64, val_main_v1 (F := Ideal) x1⟩, ⟨S128x4x4x64, val_main_v3 (F := Ideal) x1⟩]
      concatenates_S128x4x4x64_S128x4x4x64_S128x4x8x64_d2 (ValueIdx.ix4 b t h p) 0 (by decide : 0 < 2) S128x4x4x64 (val_main_v1 (F := Ideal) x1) rfl rfl 0 rfl
      (ValueIdx.ix4 b t ⟨h.val, by omega⟩ p) (fun a ha => ?_) ?_).trans
      (heads_at x1 b t 0 0 _ _ ⟨h.val, by omega⟩ p h ⟨h.val / 4, by omega⟩ (by show h.val = 0 + (h.val); omega) (by show h.val / 4 = 0; omega))
    · match a with
      | ⟨0, _⟩ => rfl
      | ⟨1, _⟩ => rfl
      | ⟨2, _⟩ => exact absurd rfl ha
      | ⟨3, _⟩ => rfl
    · show 0 + (h.val) = h.val
      omega
  · refine (concatenate_apply_piece (t := S128x4x8x64) (2 : Fin 4) [⟨S128x4x4x64, val_main_v1 (F := Ideal) x1⟩, ⟨S128x4x4x64, val_main_v3 (F := Ideal) x1⟩]
      concatenates_S128x4x4x64_S128x4x4x64_S128x4x8x64_d2 (ValueIdx.ix4 b t h p) 1 (by decide : 1 < 2) S128x4x4x64 (val_main_v3 (F := Ideal) x1) rfl rfl 4 rfl
      (ValueIdx.ix4 b t ⟨h.val - 4, by omega⟩ p) (fun a ha => ?_) ?_).trans
      (heads_at x1 b t 4 1 _ _ ⟨h.val - 4, by omega⟩ p h ⟨h.val / 4, by omega⟩ (by show h.val = 4 + (h.val - 4); omega) (by show h.val / 4 = 1; omega))
    · match a with
      | ⟨0, _⟩ => rfl
      | ⟨1, _⟩ => rfl
      | ⟨2, _⟩ => exact absurd rfl ha
      | ⟨3, _⟩ => rfl
    · show 4 + (h.val - 4) = h.val
      omega

/-- The attention's output at a token. -/
theorem r5 : at3 (val_main_v5 (F := Ideal) x1) b t = attn x1 b t := by
  funext j
  refine (shapeCast_apply (val_main_v4 (F := Ideal) x1) shapeCasts_S128x4x8x64_S128x4x512 (ValueIdx.ix3 b t j)
    (ValueIdx.ix4 b t ⟨j.val / 64, by omega⟩ ⟨j.val % 64, by omega⟩) ?_).trans (both_at x1 b t _ _)
  rw [Shape.rowMajor_val_four, Shape.rowMajor_val_three]
  show ((b.val * 4 + t.val) * 8 + j.val / 64) * 64 + j.val % 64 = (b.val * 4 + t.val) * 512 + j.val
  omega

/-! ## The mix of the two branches -/

/-- The merge gates. -/
theorem r26 : at3 (val_main_v26 (F := Ideal) x0 x4 x5) b t
    = sig (mv (rms (at3 x0 b t) (vec (N := 1024) (φ := .f32) x4)) (cols 1816 (L := 2048) (by decide) (mat (M := 1024) (N := 3864) (φ := .f32) x5))) := by
  have e18 : at3 (val_main_v18 (F := Ideal) x0 x4) b t = rms (at3 x0 b t) (vec (N := 1024) (φ := .f32) x4) := row3_rms _ _ (by decide) _ _ _ _ _ _ _ _ b t
  have e19 : at3 (val_main_v19 (F := Ideal) x0 x4 x5) b t = mv (at3 (val_main_v18 (F := Ideal) x0 x4) b t) (mat (M := 1024) (N := 3864) (φ := .f32) x5) :=
    row3_dot _ _ rfl _ _ _ b t
  have e20 : at3 (val_main_v20 (F := Ideal) x0 x4 x5) b t = part 1816 (L := 2048) (by decide) (at3 (val_main_v19 (F := Ideal) x0 x4 x5) b t) := row3_slice _ _ _ b t
  refine (row3_sigmoid (val_main_v20 (F := Ideal) x0 x4 x5) _ _ b t).trans ?_
  refine congrArg Rows.sig (e20.trans ?_)
  rw [e19, e18]
  rfl

/-- The gated mix. -/
abbrev mixR : Fin 1024 → EReal :=
  mixRow (at3 x0 b t) (vec (N := 1024) (φ := .f32) x4) (cols 1816 (by decide) (mat (M := 1024) (N := 3864) (φ := .f32) x5)) (attn x1 b t)
    (mat (M := 512) (N := 1024) (φ := .f32) x6) (at3 x2 b t) (mat (M := 512) (N := 1024) (φ := .f32) x7)

theorem r33 : at3 (val_main_v33 (F := Ideal) x0 x1 x2 x4 x5 x6 x7) b t = mixR x0 x1 x2 x4 x5 x6 x7 b t := by
  have e27 : at3 (val_main_v27 (F := Ideal) x0 x4 x5) b t = part 0 (L := 1024) (by decide) (at3 (val_main_v26 (F := Ideal) x0 x4 x5) b t) := row3_slice _ _ _ b t
  have e28 : at3 (val_main_v28 (F := Ideal) x0 x4 x5) b t = part 1024 (L := 1024) (by decide) (at3 (val_main_v26 (F := Ideal) x0 x4 x5) b t) := row3_slice _ _ _ b t
  have e29 : at3 (val_main_v29 (F := Ideal) x1 x6) b t = mv (at3 (val_main_v5 (F := Ideal) x1) b t) (mat (M := 512) (N := 1024) (φ := .f32) x6) :=
    row3_dot _ _ rfl _ _ _ b t
  have e31 : at3 (val_main_v31 (F := Ideal) x2 x7) b t = mv (at3 x2 b t) (mat (M := 512) (N := 1024) (φ := .f32) x7) := row3_dot _ _ rfl _ _ _ b t
  show add (mul (at3 (val_main_v27 (F := Ideal) x0 x4 x5) b t) (at3 (val_main_v29 (F := Ideal) x1 x6) b t))
    (mul (at3 (val_main_v28 (F := Ideal) x0 x4 x5) b t) (at3 (val_main_v31 (F := Ideal) x2 x7) b t)) = _
  rw [e27, e28, e29, e31, r26, r5]
  rfl

/-- The mix added to the token. -/
abbrev mixedR : Fin 1024 → EReal := add (at3 x0 b t) (mv (mixR x0 x1 x2 x4 x5 x6 x7 b t) (mat (M := 1024) (N := 1024) (φ := .f32) x8))

theorem r35 : at3 (val_main_v35 (F := Ideal) x0 x1 x2 x4 x5 x6 x7 x8) b t = mixedR x0 x1 x2 x4 x5 x6 x7 x8 b t := by
  have e34 : at3 (val_main_v34 (F := Ideal) x0 x1 x2 x4 x5 x6 x7 x8) b t
      = mv (at3 (val_main_v33 (F := Ideal) x0 x1 x2 x4 x5 x6 x7) b t) (mat (M := 1024) (N := 1024) (φ := .f32) x8) := row3_dot _ _ rfl _ _ _ b t
  show add (at3 x0 b t) (at3 (val_main_v34 (F := Ideal) x0 x1 x2 x4 x5 x6 x7 x8) b t) = _
  rw [e34, r33]

/-! ## The feed-forward and the embedding -/

/-- Half the feed-forward block added. -/
abbrev ffnR : Fin 1024 → EReal :=
  halfFfn (mixedR x0 x1 x2 x4 x5 x6 x7 x8 b t) (vec (N := 1024) (φ := .f32) x9) (mat (M := 1024) (N := 2816) (φ := .f32) x10)
    (mat (M := 1024) (N := 2816) (φ := .f32) x11) (mat (M := 2816) (N := 1024) (φ := .f32) x12)

theorem r56 : at3 (val_main_v56 (F := Ideal) x0 x1 x2 x4 x5 x6 x7 x8 x9 x10 x11 x12) b t = ffnR x0 x1 x2 x4 x5 x6 x7 x8 x9 x10 x11 x12 b t := by
  have e48 : at3 (val_main_v48 (F := Ideal) x0 x1 x2 x4 x5 x6 x7 x8 x9) b t
      = rms (at3 (val_main_v35 (F := Ideal) x0 x1 x2 x4 x5 x6 x7 x8) b t) (vec (N := 1024) (φ := .f32) x9) := row3_rms _ _ (by decide) _ _ _ _ _ _ _ _ b t
  have e49 : at3 (val_main_v49 (F := Ideal) x0 x1 x2 x4 x5 x6 x7 x8 x9 x10) b t
      = mv (at3 (val_main_v48 (F := Ideal) x0 x1 x2 x4 x5 x6 x7 x8 x9) b t) (mat (M := 1024) (N := 2816) (φ := .f32) x10) := row3_dot _ _ rfl _ _ _ b t
  have e51 : at3 (val_main_v51 (F := Ideal) x0 x1 x2 x4 x5 x6 x7 x8 x9 x11) b t
      = mv (at3 (val_main_v48 (F := Ideal) x0 x1 x2 x4 x5 x6 x7 x8 x9) b t) (mat (M := 1024) (N := 2816) (φ := .f32) x11) := row3_dot _ _ rfl _ _ _ b t
  have ec : at3 (val_main_call0_v5 (F := Ideal) x0 x1 x2 x4 x5 x6 x7 x8 x9 x10) b t
      = sig (at3 (val_main_v49 (F := Ideal) x0 x1 x2 x4 x5 x6 x7 x8 x9 x10) b t) := row3_sigmoid _ _ _ b t
  have e52 : at3 (val_main_v52 (F := Ideal) x0 x1 x2 x4 x5 x6 x7 x8 x9 x10 x11) b t
      = mul (mul (at3 (val_main_v49 (F := Ideal) x0 x1 x2 x4 x5 x6 x7 x8 x9 x10) b t) (at3 (val_main_call0_v5 (F := Ideal) x0 x1 x2 x4 x5 x6 x7 x8 x9 x10) b t))
          (at3 (val_main_v51 (F := Ideal) x0 x1 x2 x4 x5 x6 x7 x8 x9 x11) b t) := rfl
  have e53 : at3 (val_main_v53 (F := Ideal) x0 x1 x2 x4 x5 x6 x7 x8 x9 x10 x11 x12) b t
      = mv (at3 (val_main_v52 (F := Ideal) x0 x1 x2 x4 x5 x6 x7 x8 x9 x10 x11) b t) (mat (M := 2816) (N := 1024) (φ := .f32) x12) := row3_dot _ _ rfl _ _ _ b t
  show add (at3 (val_main_v35 (F := Ideal) x0 x1 x2 x4 x5 x6 x7 x8) b t)
    (scale (Ideal.ofBits .f32 0x3F000000#32) (at3 (val_main_v53 (F := Ideal) x0 x1 x2 x4 x5 x6 x7 x8 x9 x10 x11 x12) b t)) = _
  rw [e53, e52, ec, e49, e51, e48, r35]
  rfl

theorem r79 : at3 (val_main_v79 (F := Ideal) x0 x1 x2 x3 x4 x5 x6 x7 x8 x9 x10 x11 x12 x13 x14 x15) b t
    = pleRow (ffnR x0 x1 x2 x4 x5 x6 x7 x8 x9 x10 x11 x12 b t) (vec (N := 1024) (φ := .f32) x13) (mat (M := 1024) (N := 1024) (φ := .f32) x14) (at3 x3 b t)
        (mat (M := 256) (N := 1024) (φ := .f32) x15) := by
  have e69 : at3 (val_main_v69 (F := Ideal) x0 x1 x2 x4 x5 x6 x7 x8 x9 x10 x11 x12 x13) b t
      = rms (at3 (val_main_v56 (F := Ideal) x0 x1 x2 x4 x5 x6 x7 x8 x9 x10 x11 x12) b t) (vec (N := 1024) (φ := .f32) x13) :=
    row3_rms _ _ (by decide) _ _ _ _ _ _ _ _ b t
  have e70 : at3 (val_main_v70 (F := Ideal) x0 x1 x2 x4 x5 x6 x7 x8 x9 x10 x11 x12 x13 x14) b t
      = mv (at3 (val_main_v69 (F := Ideal) x0 x1 x2 x4 x5 x6 x7 x8 x9 x10 x11 x12 x13) b t) (mat (M := 1024) (N := 1024) (φ := .f32) x14) := row3_dot _ _ rfl _ _ _ b t
  have e76 : at3 (val_main_v76 (F := Ideal) x0 x1 x2 x4 x5 x6 x7 x8 x9 x10 x11 x12 x13 x14) b t
      = sig (at3 (val_main_v70 (F := Ideal) x0 x1 x2 x4 x5 x6 x7 x8 x9 x10 x11 x12 x13 x14) b t) := row3_sigmoid _ _ _ b t
  have e77 : at3 (val_main_v77 (F := Ideal) x3 x15) b t = mv (at3 x3 b t) (mat (M := 256) (N := 1024) (φ := .f32) x15) := row3_dot _ _ rfl _ _ _ b t
  show add (at3 (val_main_v56 (F := Ideal) x0 x1 x2 x4 x5 x6 x7 x8 x9 x10 x11 x12) b t)
    (mul (at3 (val_main_v76 (F := Ideal) x0 x1 x2 x4 x5 x6 x7 x8 x9 x10 x11 x12 x13 x14) b t) (at3 (val_main_v77 (F := Ideal) x3 x15) b t)) = _
  rw [e76, e70, e69, e77, r56]
  rfl

theorem r92 : at3 (val_main_v92 (F := Ideal) x0 x1 x2 x3 x4 x5 x6 x7 x8 x9 x10 x11 x12 x13 x14 x15 x16) b t
    = postR x0 x1 x2 x3 x4 x5 x6 x7 x8 x9 x10 x11 x12 x13 x14 x15 x16 b t := by
  refine (row3_rms (val_main_v79 (F := Ideal) x0 x1 x2 x3 x4 x5 x6 x7 x8 x9 x10 x11 x12 x13 x14 x15) x16 (by decide) _ _ _ _ _ _ _ _ b t).trans ?_
  refine congrArg (fun v => rms v _) ((r79 x0 x1 x2 x3 x4 x5 x6 x7 x8 x9 x10 x11 x12 x13 x14 x15 b t).trans ?_)
  rfl

/-- The result. -/
theorem out : val_main_v93 (F := Ideal) x0 x1 x2 x3 x4 x5 x6 x7 x8 x9 x10 x11 x12 x13 x14 x15 x16
    = few (postR x0 x1 x2 x3 x4 x5 x6 x7 x8 x9 x10 x11 x12 x13 x14 x15 x16) :=
  few_host _ (r92 x0 x1 x2 x3 x4 x5 x6 x7 x8 x9 x10 x11 x12 x13 x14 x15 x16) _

end Cert.Proof.SampPostRef

end
-- ==== Proof.SampPostAgree.lean ====
/-
  THE SECOND HALF OF THE SAMPLE GROUP'S LAYER: ITS TWO PROGRAMS AGREE. From equal arguments the result array of the kernel and of the
  reference holds the same function of the tokens, row under row.
-/
module

public import proofs.«01_k».proof.Defs
public import Idealize.ShloMosaic.Lib.Claim
public import proofs.«01_k».proof.Proof.SampPostArray
public import proofs.«01_k».proof.Proof.SampPostRef
public import proofs.«01_k».proof.Proof.Gen.Reference5Ideal.Run

@[expose] public section

noncomputable section

namespace Cert.Proof.SampPostAgree

open Idealize.ShloMosaic Idealize.SL.Sem Cert.Rows

theorem algebraic : Cert.algebraic_Kernel5Ideal_Reference5Ideal (hKernel5Ideal := Cert.Kernel5Ideal.Gen.facts)
    (hReference5Ideal := Cert.Reference5Ideal.Gen.facts) := by
  intro m g m' g' _ hargs
  refine ⟨_, SampPostArray.run m g, ?_⟩
  refine (θ_run (Cert.Reference5Ideal.defs (F := Ideal)) _ _).mono (fun r h c => ?_) (Cert.Reference5Ideal.Value.run (F := Ideal) m' g')
  obtain ⟨hv, rest⟩ := h c
  obtain ⟨a0, a1, a2, a3, a4, a5, a6, a7, a8, a9, a10, a11, a12, a13, a14, a15, a16⟩ := hargs c
  refine ⟨(hv.trans (Cert.Reference5Ideal.Read.val_main_v93_eq _)).trans ((SampPostRef.out _ _ _ _ _ _ _ _ _ _ _ _ _ _ _ _ _).trans ?_), rest⟩
  simp only [StableHlo.launchContents_devRef, a0, a1, a2, a3, a4, a5, a6, a7, a8, a9, a10, a11, a12, a13, a14, a15, a16]
  rfl

end Cert.Proof.SampPostAgree

end
-- ==== Proof.lean ====
module

public import proofs.«01_k».proof.Defs
public import Idealize.ShloMosaic.Adequacy
public import Idealize.ShloMosaic.Init
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.PostAgree
public import proofs.«01_k».proof.Proof.ScanAgree
public import proofs.«01_k».proof.Proof.InAgree
public import proofs.«01_k».proof.Proof.SampAgree
public import proofs.«01_k».proof.Proof.SampPostAgree

@[expose] public section

noncomputable section

namespace Cert.Proof

open Idealize.ShloMosaic Idealize.SL.Sem Cert.Kernel

/-- The recurrence's reference leaves its arguments unchanged; it declares no semaphore. -/
theorem frame_reference : Cert.quiescent_ReferenceIdeal (hReferenceIdeal := Cert.ReferenceIdeal.Gen.facts) := fun m ρ _ =>
  (θ_run (Cert.ReferenceIdeal.defs (F := Ideal)) _ _).mono (fun r h => ⟨fun c => (h c).2.2.2, sem_eq_zero_of_no_sems (by decide) r.2⟩)
    (Cert.ReferenceIdeal.Value.run (F := Ideal) m ρ)

/-- The post-mixer's reference leaves its arguments unchanged; it declares no semaphore. -/
theorem frame_reference2 : Cert.quiescent_Reference2Ideal (hReference2Ideal := Cert.Reference2Ideal.Gen.facts) := fun m ρ _ =>
  (θ_run (Cert.Reference2Ideal.defs (F := Ideal)) _ _).mono (fun r h => ⟨fun c => (h c).2, sem_eq_zero_of_no_sems (by decide) r.2⟩)
    (Cert.Reference2Ideal.Value.run (F := Ideal) m ρ)

/-- The in-projection's reference leaves its arguments unchanged; it declares no semaphore. -/
theorem frame_reference3 : Cert.quiescent_Reference3Ideal (hReference3Ideal := Cert.Reference3Ideal.Gen.facts) := fun m ρ _ =>
  (θ_run (Cert.Reference3Ideal.defs (F := Ideal)) _ _).mono (fun r h => ⟨fun c => (h c).2.2.2.2.2.2.2, sem_eq_zero_of_no_sems (by decide) r.2⟩)
    (Cert.Reference3Ideal.Value.run (F := Ideal) m ρ)

/-- The sample group's in-projection's reference leaves its arguments unchanged; it declares no semaphore. -/
theorem frame_reference4 : Cert.quiescent_Reference4Ideal (hReference4Ideal := Cert.Reference4Ideal.Gen.facts) := fun m ρ _ =>
  (θ_run (Cert.Reference4Ideal.defs (F := Ideal)) _ _).mono (fun r h => ⟨fun c => (h c).2.2.2.2.2.2, sem_eq_zero_of_no_sems (by decide) r.2⟩)
    (Cert.Reference4Ideal.Value.run (F := Ideal) m ρ)

/-- The reference of the sample group's second half leaves its arguments unchanged; it declares no semaphore. -/
theorem frame_reference5 : Cert.quiescent_Reference5Ideal (hReference5Ideal := Cert.Reference5Ideal.Gen.facts) := fun m ρ _ =>
  (θ_run (Cert.Reference5Ideal.defs (F := Ideal)) _ _).mono (fun r h => ⟨fun c => (h c).2, sem_eq_zero_of_no_sems (by decide) r.2⟩)
    (Cert.Reference5Ideal.Value.run (F := Ideal) m ρ)

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts,
  fun m ρ _ => Cert.Kernel.Gen.frame m ρ, fun m ρ _ => Cert.KernelIdeal.Gen.frame m ρ, frame_reference,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, frame_reference5,
  trivial, ScanAgree.algebraic, trivial, PostAgree.algebraic, trivial, InAgree.algebraic, trivial, SampAgree.algebraic, trivial, SampPostAgree.algebraic⟩

end Cert.Proof

end
